-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_input [hPre_finite_input : Cert.Pre_finite_input.Facts] (m : (ℓ : Loc Cert.KernelIdeal.nD Cert.KernelIdeal.τ Cert.KernelIdeal.sig) → Buf (Elt Ideal) ℓ) : Prop :=
  ∀ c : Dev Cert.KernelIdeal.nD,
    (Cert.Pre_finite_input.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_input [hPre_finite_input : Cert.Pre_finite_input.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_input.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_input [hKernelIdeal : Cert.KernelIdeal.Facts] [hPre_finite_input : Cert.Pre_finite_input.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_input m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_input [hReferenceIdeal : Cert.ReferenceIdeal.Facts] [hPre_finite_input : Cert.Pre_finite_input.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_input m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_finite_input [hKernelIdeal : Cert.KernelIdeal.Facts] [hReferenceIdeal : Cert.ReferenceIdeal.Facts] [hPre_finite_input : Cert.Pre_finite_input.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_input m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_v17) = v2 c
          ∧ r.2.mem ((c.tc : Thread Cert.ReferenceIdeal.nD Cert.ReferenceIdeal.τ).loc Cert.ReferenceIdeal.main_v29) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_input : Cert.Pre_finite_input.Facts),
    quiescent_Kernel (hKernel := hKernel)
    ∧ quiescent_KernelIdeal (hKernelIdeal := hKernelIdeal)
    ∧ quiescent_KernelIdeal_pre_finite_input (hKernelIdeal := hKernelIdeal) (hPre_finite_input := hPre_finite_input)
    ∧ quiescent_ReferenceIdeal (hReferenceIdeal := hReferenceIdeal)
    ∧ quiescent_ReferenceIdeal_pre_finite_input (hReferenceIdeal := hReferenceIdeal) (hPre_finite_input := hPre_finite_input)
    ∧ preserves_Kernel_KernelIdeal
    ∧ algebraic_KernelIdeal_ReferenceIdeal_pre_finite_input (hKernelIdeal := hKernelIdeal) (hReferenceIdeal := hReferenceIdeal) (hPre_finite_input := hPre_finite_input)
-- ==== Pre_finite_input.lean ====
abbrev S3x640x10240 : Shape := ⟨3, ![3, 640, 10240]⟩
abbrev S1 : Shape := ⟨1, ![1]⟩
abbrev S1x3x640 : Shape := ⟨3, ![1, 3, 640]⟩
abbrev S10240 : Shape := ⟨1, ![10240]⟩
abbrev S_ : Shape := ⟨0, ![]⟩

class Facts : Prop where
  bcast_S_S3x640x10240 : S_.BroadcastsInDim S3x640x10240 (![] : Fin 0 → Fin S3x640x10240.rank)
  reducesTo_S3x640x10240_S_d0_1_2 : S3x640x10240.ReducesTo [0, 1, 2] S_
  h_S_ : 0 < S_.numel
  shapeCasts_S1_S_ : S1.ShapeCasts S_

variable [Facts]

def fn {F : FTy → Type} [FloatOps F] (main_arg0 : FVec F S3x640x10240 .bf16) (main_arg1 : FVec F S1 .f32) (main_arg2 : FVec F S1x3x640 .f32) (main_arg3 : FVec F S1x3x640 .f32) (main_arg4 : FVec F S10240 .f32) (main_arg5 : FVec F S10240 .f32) (main_arg6 : FVec F S1 .f32) : IVec S_ 1 :=
  let main_v0 : FVec F S3x640x10240 .bf16 := Host.absf main_arg0
  let main_cst : FVec F S_ .bf16 := constant S_ .bf16 0x7F80#16
  let main_v1 : FVec F S3x640x10240 .bf16 := broadcastInDim S3x640x10240 ![] bcast_S_S3x640x10240 main_cst
  let main_v2 : IVec S3x640x10240 1 := cmpf .olt main_v0 main_v1
  let main_c : IVec S_ 1 := constantI S_ 1 1#1
  let main_v3 : IVec S_ 1 := (fun x v => Host.reduce IntOp.andi x v reducesTo_S3x640x10240_S_d0_1_2 h_S_) main_v2 main_c
  let main_v4 : FVec F S_ .f32 := shapeCast S_ main_arg6 shapeCasts_S1_S_
  let main_cst_0 : FVec F S_ .f32 := constant S_ .f32 0x00000000#32
  let main_v5 : IVec S_ 1 := cmpf .ogt main_v4 main_cst_0
  let main_v6 : IVec S_ 1 := andi main_v3 main_v5
  let main_v7 : FVec F S_ .f32 := shapeCast S_ main_arg6 shapeCasts_S1_S_
  let main_cst_1 : FVec F S_ .f32 := constant S_ .f32 0x7F800000#32
  let main_v8 : IVec S_ 1 := cmpf .olt main_v7 main_cst_1
  let main_v9 : IVec S_ 1 := andi main_v6 main_v8
  main_v9
-- ==== Kernel.lean ====
abbrev S3x640x10240 : Shape := ⟨3, ![3, 640, 10240]⟩
abbrev S1 : Shape := ⟨1, ![1]⟩
abbrev S1x3x640 : Shape := ⟨3, ![1, 3, 640]⟩
abbrev S10240 : Shape := ⟨1, ![10240]⟩
abbrev S_ : Shape := ⟨0, ![]⟩
abbrev S16x128 : Shape := ⟨2, ![16, 128]⟩
abbrev S1x10240 : Shape := ⟨2, ![1, 10240]⟩
abbrev S3x640 : Shape := ⟨2, ![3, 640]⟩
abbrev S1x128x10240 : Shape := ⟨3, ![1, 128, 10240]⟩
abbrev S128x128 : Shape := ⟨2, ![128, 128]⟩
abbrev S1x1x128 : Shape := ⟨3, ![1, 1, 128]⟩
abbrev S1x128 : Shape := ⟨2, ![1, 128]⟩
abbrev S1x16x128 : Shape := ⟨3, ![1, 16, 128]⟩
abbrev S128 : Shape := ⟨1, ![128]⟩
abbrev S32x128 : Shape := ⟨2, ![32, 128]⟩
abbrev S1x32x128 : Shape := ⟨3, ![1, 32, 128]⟩

abbrev nBuf : Space → Nat
  | .hbm => 15
  | .vmem => 24
  | .smem => 2
  | _ => 0

abbrev bufTy : (tb : Table) → Fin (tcTables nBuf tb) → BufTy
  | .hbm, ⟨0, _⟩ => ⟨S3x640x10240, .bf16⟩
  | .hbm, ⟨1, _⟩ => ⟨S1, .f32⟩
  | .hbm, ⟨2, _⟩ => ⟨S1x3x640, .f32⟩
  | .hbm, ⟨3, _⟩ => ⟨S1x3x640, .f32⟩
  | .hbm, ⟨4, _⟩ => ⟨S10240, .f32⟩
  | .hbm, ⟨5, _⟩ => ⟨S10240, .f32⟩
  | .hbm, ⟨6, _⟩ => ⟨S1, .f32⟩
  | .hbm, ⟨7, _⟩ => ⟨S_, .bf16⟩
  | .hbm, ⟨8, _⟩ => ⟨S16x128, .bf16⟩
  | .hbm, ⟨9, _⟩ => ⟨S1x10240, .f32⟩
  | .hbm, ⟨10, _⟩ => ⟨S1x10240, .f32⟩
  | .hbm, ⟨11, _⟩ => ⟨S3x640x10240, .fp8e4m3⟩
  | .hbm, ⟨12, _⟩ => ⟨S3x640, .f32⟩
  | .hbm, ⟨13, _⟩ => ⟨S3x640, .f32⟩
  | .hbm, ⟨14, _⟩ => ⟨S3x640, .f32⟩
  | .local _ .vmem, ⟨0, _⟩ => ⟨S1x128x10240, .bf16⟩
  | .local _ .vmem, ⟨1, _⟩ => ⟨S1x128x10240, .bf16⟩
  | .local _ .vmem, ⟨2, _⟩ => ⟨S1x3x640, .f32⟩
  | .local _ .vmem, ⟨3, _⟩ => ⟨S1x3x640, .f32⟩
  | .local _ .vmem, ⟨4, _⟩ => ⟨S1x10240, .f32⟩
  | .local _ .vmem, ⟨5, _⟩ => ⟨S1x10240, .f32⟩
  | .local _ .vmem, ⟨6, _⟩ => ⟨S16x128, .bf16⟩
  | .local _ .vmem, ⟨7, _⟩ => ⟨S1x128x10240, .fp8e4m3⟩
  | .local _ .vmem, ⟨8, _⟩ => ⟨S1x128x10240, .fp8e4m3⟩
  | .local _ .vmem, ⟨9, _⟩ => ⟨S3x640, .f32⟩
  | .local _ .vmem, ⟨10, _⟩ => ⟨S3x640, .f32⟩
  | .local _ .vmem, ⟨11, _⟩ => ⟨S3x640, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S1x10240, .f32⟩
  | .local _ .vmem, ⟨18, _⟩ => ⟨S1x10240, .f32⟩
  | .local _ .vmem, ⟨19, _⟩ => ⟨S16x128, .f32⟩
  | .local _ .vmem, ⟨20, _⟩ => ⟨S16x128, .f32⟩
  | .local _ .vmem, ⟨21, _⟩ => ⟨S16x128, .f32⟩
  | .local _ .vmem, ⟨22, _⟩ => ⟨S16x128, .f32⟩
  | .local _ .vmem, ⟨23, _⟩ => ⟨S16x128, .f32⟩
  | .local _ .smem, ⟨0, _⟩ => ⟨S1, .f32⟩
  | .local _ .smem, ⟨1, _⟩ => ⟨S1, .f32⟩
  | _, _ => ⟨S3x640x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg8_1 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_scratch7 : Ref sig .tc := ⟨.vmem, 19, rfl⟩
abbrev cc0_scratch8 : Ref sig .tc := ⟨.vmem, 20, rfl⟩
abbrev cc0_scratch9 : Ref sig .tc := ⟨.vmem, 21, rfl⟩
abbrev cc0_scratch10 : Ref sig .tc := ⟨.vmem, 22, rfl⟩
abbrev cc0_scratch11 : Ref sig .tc := ⟨.vmem, 23, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem10_0 : DmaSem sig := 12
abbrev cc0_sem11_0 : DmaSem sig := 13

abbrev nD : Nat := 1
abbrev τ : Topo := Topo.v7x

variable {F : FTy → Type} [FloatOps F]

abbrev grid0 : Pipeline.Grid := ⟨2, ![3, 5], ![false, false]⟩

@[reducible] def k0_t1_loop : Scf.Loop 32 :=
  let c0_i32_3 : BitVec 32 := 0#32
  let c8_i32 : BitVec 32 := 8#32
  let v9 : BitVec 32 := Scalar.addi c0_i32_3 c8_i32
  let c1_i32 : BitVec 32 := 1#32
  ⟨c0_i32_3, v9, c1_i32⟩
def k0_mult1 (k0_t1 : Fin k0_t1_loop.trips) : BitVec 32 :=
  let c0_i32_3 : BitVec 32 := 0#32
  let c1_i32 : BitVec 32 := 1#32
  let arg26 : BitVec 32 := Scf.iv c0_i32_3 c1_i32 k0_t1
  let c16_i32 : BitVec 32 := 16#32
  let v110 : BitVec 32 := Scalar.muli arg26 c16_i32
  v110
def k0_off1 (k0_t1 : Fin k0_t1_loop.trips) : Fin 3 → Nat :=
  let c0_69 : Index := 0#32
  let c0_i32_3 : BitVec 32 := 0#32
  let c1_i32 : BitVec 32 := 1#32
  let arg26 : BitVec 32 := Scf.iv c0_i32_3 c1_i32 k0_t1
  let c16_i32 : BitVec 32 := 16#32
  let v110 : BitVec 32 := Scalar.muli arg26 c16_i32
  let v111 : BitVec 32 := v110
  let v112 : Index := Scalar.indexCast v111
  let c0_70 : Index := 0#32
  ![0, v112.toNat, 0]
def k0_off2 (k0_t1 : Fin k0_t1_loop.trips) : Fin 3 → Nat :=
  let c0_71 : Index := 0#32
  let c0_i32_3 : BitVec 32 := 0#32
  let c1_i32 : BitVec 32 := 1#32
  let arg26 : BitVec 32 := Scf.iv c0_i32_3 c1_i32 k0_t1
  let c16_i32 : BitVec 32 := 16#32
  let v110 : BitVec 32 := Scalar.muli arg26 c16_i32
  let v111 : BitVec 32 := v110
  let v119 : Index := Scalar.indexCast v111
  let c128 : Index := 128#32
  ![0, v119.toNat, 128]
def k0_off3 (k0_t1 : Fin k0_t1_loop.trips) : Fin 3 → Nat :=
  let c0_72 : Index := 0#32
  let c0_i32_3 : BitVec 32 := 0#32
  let c1_i32 : BitVec 32 := 1#32
  let arg26 : BitVec 32 := Scf.iv c0_i32_3 c1_i32 k0_t1
  let c16_i32 : BitVec 32 := 16#32
  let v110 : BitVec 32 := Scalar.muli arg26 c16_i32
  let v111 : BitVec 32 := v110
  let v128 : Index := Scalar.indexCast v111
  let c256 : Index := 256#32
  ![0, v128.toNat, 256]
def k0_off4 (k0_t1 : Fin k0_t1_loop.trips) : Fin 3 → Nat :=
  let c0_73 : Index := 0#32
  let c0_i32_3 : BitVec 32 := 0#32
  let c1_i32 : BitVec 32 := 1#32
  let arg26 : BitVec 32 := Scf.iv c0_i32_3 c1_i32 k0_t1
  let c16_i32 : BitVec 32 := 16#32
  let v110 : BitVec 32 := Scalar.muli arg26 c16_i32
  let v111 : BitVec 32 := v110
  let v137 : Index := Scalar.indexCast v111
  let c384 : Index := 384#32
  ![0, v137.toNat, 384]
def k0_off5 (k0_t1 : Fin k0_t1_loop.trips) : Fin 3 → Nat :=
  let c0_74 : Index := 0#32
  let c0_i32_3 : BitVec 32 := 0#32
  let c1_i32 : BitVec 32 := 1#32
  let arg26 : BitVec 32 := Scf.iv c0_i32_3 c1_i32 k0_t1
  let c16_i32 : BitVec 32 := 16#32
  let v110 : BitVec 32 := Scalar.muli arg26 c16_i32
  let v111 : BitVec 32 := v110
  let v146 : Index := Scalar.indexCast v111
  let c512 : Index := 512#32
  ![0, v146.toNat, 512]
def k0_off6 (k0_t1 : Fin k0_t1_loop.trips) : Fin 3 → Nat :=
  let c0_75 : Index := 0#32
  let c0_i32_3 : BitVec 32 := 0#32
  let c1_i32 : BitVec 32 := 1#32
  let arg26 : BitVec 32 := Scf.iv c0_i32_3 c1_i32 k0_t1
  let c16_i32 : BitVec 32 := 16#32
  let v110 : BitVec 32 := Scalar.muli arg26 c16_i32
  let v111 : BitVec 32 := v110
  let v155 : Index := Scalar.indexCast v111
  let c640 : Index := 640#32
  ![0, v155.toNat, 640]
def k0_off7 (k0_t1 : Fin k0_t1_loop.trips) : Fin 3 → Nat :=
  let c0_76 : Index := 0#32
  let c0_i32_3 : BitVec 32 := 0#32
  let c1_i32 : BitVec 32 := 1#32
  let arg26 : BitVec 32 := Scf.iv c0_i32_3 c1_i32 k0_t1
  let c16_i32 : BitVec 32 := 16#32
  let v110 : BitVec 32 := Scalar.muli arg26 c16_i32
  let v111 : BitVec 32 := v110
  let v164 : Index := Scalar.indexCast v111
  let c768 : Index := 768#32
  ![0, v164.toNat, 768]
def k0_off8 (k0_t1 : Fin k0_t1_loop.trips) : Fin 3 → Nat :=
  let c0_77 : Index := 0#32
  let c0_i32_3 : BitVec 32 := 0#32
  let c1_i32 : BitVec 32 := 1#32
  let arg26 : BitVec 32 := Scf.iv c0_i32_3 c1_i32 k0_t1
  let c16_i32 : BitVec 32 := 16#32
  let v110 : BitVec 32 := Scalar.muli arg26 c16_i32
  let v111 : BitVec 32 := v110
  let v173 : Index := Scalar.indexCast v111
  let c896 : Index := 896#32
  ![0, v173.toNat, 896]
def k0_off9 (k0_t1 : Fin k0_t1_loop.trips) : Fin 3 → Nat :=
  let c0_78 : Index := 0#32
  let c0_i32_3 : BitVec 32 := 0#32
  let c1_i32 : BitVec 32 := 1#32
  let arg26 : BitVec 32 := Scf.iv c0_i32_3 c1_i32 k0_t1
  let c16_i32 : BitVec 32 := 16#32
  let v110 : BitVec 32 := Scalar.muli arg26 c16_i32
  let v111 : BitVec 32 := v110
  let v182 : Index := Scalar.indexCast v111
  let c1024 : Index := 1024#32
  ![0, v182.toNat, 1024]
def k0_off10 (k0_t1 : Fin k0_t1_loop.trips) : Fin 3 → Nat :=
  let c0_79 : Index := 0#32
  let c0_i32_3 : BitVec 32 := 0#32
  let c1_i32 : BitVec 32 := 1#32
  let arg26 : BitVec 32 := Scf.iv c0_i32_3 c1_i32 k0_t1
  let c16_i32 : BitVec 32 := 16#32
  let v110 : BitVec 32 := Scalar.muli arg26 c16_i32
  let v111 : BitVec 32 := v110
  let v191 : Index := Scalar.indexCast v111
  let c1152 : Index := 1152#32
  ![0, v191.toNat, 1152]
def k0_off11 (k0_t1 : Fin k0_t1_loop.trips) : Fin 3 → Nat :=
  let c0_80 : Index := 0#32
  let c0_i32_3 : BitVec 32 := 0#32
  let c1_i32 : BitVec 32 := 1#32
  let arg26 : BitVec 32 := Scf.iv c0_i32_3 c1_i32 k0_t1
  let c16_i32 : BitVec 32 := 16#32
  let v110 : BitVec 32 := Scalar.muli arg26 c16_i32
  let v111 : BitVec 32 := v110
  let v200 : Index := Scalar.indexCast v111
  let c1280 : Index := 1280#32
  ![0, v200.toNat, 1280]
def k0_off12 (k0_t1 : Fin k0_t1_loop.trips) : Fin 3 → Nat :=
  let c0_81 : Index := 0#32
  let c0_i32_3 : BitVec 32 := 0#32
  let c1_i32 : BitVec 32 := 1#32
  let arg26 : BitVec 32 := Scf.iv c0_i32_3 c1_i32 k0_t1
  let c16_i32 : BitVec 32 := 16#32
  let v110 : BitVec 32 := Scalar.muli arg26 c16_i32
  let v111 : BitVec 32 := v110
  let v209 : Index := Scalar.indexCast v111
  let c1408 : Index := 1408#32
  ![0, v209.toNat, 1408]
def k0_off13 (k0_t1 : Fin k0_t1_loop.trips) : Fin 3 → Nat :=
  let c0_82 : Index := 0#32
  let c0_i32_3 : BitVec 32 := 0#32
  let c1_i32 : BitVec 32 := 1#32
  let arg26 : BitVec 32 := Scf.iv c0_i32_3 c1_i32 k0_t1
  let c16_i32 : BitVec 32 := 16#32
  let v110 : BitVec 32 := Scalar.muli arg26 c16_i32
  let v111 : BitVec 32 := v110
  let v218 : Index := Scalar.indexCast v111
  let c1536 : Index := 1536#32
  ![0, v218.toNat, 1536]
def k0_off14 (k0_t1 : Fin k0_t1_loop.trips) : Fin 3 → Nat :=
  let c0_83 : Index := 0#32
  let c0_i32_3 : BitVec 32 := 0#32
  let c1_i32 : BitVec 32 := 1#32
  let arg26 : BitVec 32 := Scf.iv c0_i32_3 c1_i32 k0_t1
  let c16_i32 : BitVec 32 := 16#32
  let v110 : BitVec 32 := Scalar.muli arg26 c16_i32
  let v111 : BitVec 32 := v110
  let v227 : Index := Scalar.indexCast v111
  let c1664 : Index := 1664#32
  ![0, v227.toNat, 1664]
def k0_off15 (k0_t1 : Fin k0_t1_loop.trips) : Fin 3 → Nat :=
  let c0_84 : Index := 0#32
  let c0_i32_3 : BitVec 32 := 0#32
  let c1_i32 : BitVec 32 := 1#32
  let arg26 : BitVec 32 := Scf.iv c0_i32_3 c1_i32 k0_t1
  let c16_i32 : BitVec 32 := 16#32
  let v110 : BitVec 32 := Scalar.muli arg26 c16_i32
  let v111 : BitVec 32 := v110
  let v236 : Index := Scalar.indexCast v111
  let c1792 : Index := 1792#32
  ![0, v236.toNat, 1792]
def k0_off16 (k0_t1 : Fin k0_t1_loop.trips) : Fin 3 → Nat :=
  let c0_85 : Index := 0#32
  let c0_i32_3 : BitVec 32 := 0#32
  let c1_i32 : BitVec 32 := 1#32
  let arg26 : BitVec 32 := Scf.iv c0_i32_3 c1_i32 k0_t1
  let c16_i32 : BitVec 32 := 16#32
  let v110 : BitVec 32 := Scalar.muli arg26 c16_i32
  let v111 : BitVec 32 := v110
  let v245 : Index := Scalar.indexCast v111
  let c1920 : Index := 1920#32
  ![0, v245.toNat, 1920]
def k0_off17 (k0_t1 : Fin k0_t1_loop.trips) : Fin 3 → Nat :=
  let c0_86 : Index := 0#32
  let c0_i32_3 : BitVec 32 := 0#32
  let c1_i32 : BitVec 32 := 1#32
  let arg26 : BitVec 32 := Scf.iv c0_i32_3 c1_i32 k0_t1
  let c16_i32 : BitVec 32 := 16#32
  let v110 : BitVec 32 := Scalar.muli arg26 c16_i32
  let v111 : BitVec 32 := v110
  let v254 : Index := Scalar.indexCast v111
  let c2048 : Index := 2048#32
  ![0, v254.toNat, 2048]
def k0_off18 (k0_t1 : Fin k0_t1_loop.trips) : Fin 3 → Nat :=
  let c0_87 : Index := 0#32
  let c0_i32_3 : BitVec 32 := 0#32
  let c1_i32 : BitVec 32 := 1#32
  let arg26 : BitVec 32 := Scf.iv c0_i32_3 c1_i32 k0_t1
  let c16_i32 : BitVec 32 := 16#32
  let v110 : BitVec 32 := Scalar.muli arg26 c16_i32
  let v111 : BitVec 32 := v110
  let v263 : Index := Scalar.indexCast v111
  let c2176 : Index := 2176#32
  ![0, v263.toNat, 2176]
def k0_off19 (k0_t1 : Fin k0_t1_loop.trips) : Fin 3 → Nat :=
  let c0_88 : Index := 0#32
  let c0_i32_3 : BitVec 32 := 0#32
  let c1_i32 : BitVec 32 := 1#32
  let arg26 : BitVec 32 := Scf.iv c0_i32_3 c1_i32 k0_t1
  let c16_i32 : BitVec 32 := 16#32
  let v110 : BitVec 32 := Scalar.muli arg26 c16_i32
  let v111 : BitVec 32 := v110
  let v272 : Index := Scalar.indexCast v111
  let c2304 : Index := 2304#32
  ![0, v272.toNat, 2304]
def k0_off20 (k0_t1 : Fin k0_t1_loop.trips) : Fin 3 → Nat :=
  let c0_89 : Index := 0#32
  let c0_i32_3 : BitVec 32 := 0#32
  let c1_i32 : BitVec 32 := 1#32
  let arg26 : BitVec 32 := Scf.iv c0_i32_3 c1_i32 k0_t1
  let c16_i32 : BitVec 32 := 16#32
  let v110 : BitVec 32 := Scalar.muli arg26 c16_i32
  let v111 : BitVec 32 := v110
  let v281 : Index := Scalar.indexCast v111
  let c2432 : Index := 2432#32
  ![0, v281.toNat, 2432]
def k0_off21 (k0_t1 : Fin k0_t1_loop.trips) : Fin 3 → Nat :=
  let c0_90 : Index := 0#32
  let c0_i32_3 : BitVec 32 := 0#32
  let c1_i32 : BitVec 32 := 1#32
  let arg26 : BitVec 32 := Scf.iv c0_i32_3 c1_i32 k0_t1
  let c16_i32 : BitVec 32 := 16#32
  let v110 : BitVec 32 := Scalar.muli arg26 c16_i32
  let v111 : BitVec 32 := v110
  let v290 : Index := Scalar.indexCast v111
  let c2560 : Index := 2560#32
  ![0, v290.toNat, 2560]
def k0_off22 (k0_t1 : Fin k0_t1_loop.trips) : Fin 3 → Nat :=
  let c0_91 : Index := 0#32
  let c0_i32_3 : BitVec 32 := 0#32
  let c1_i32 : BitVec 32 := 1#32
  let arg26 : BitVec 32 := Scf.iv c0_i32_3 c1_i32 k0_t1
  let c16_i32 : BitVec 32 := 16#32
  let v110 : BitVec 32 := Scalar.muli arg26 c16_i32
  let v111 : BitVec 32 := v110
  let v299 : Index := Scalar.indexCast v111
  let c2688 : Index := 2688#32
  ![0, v299.toNat, 2688]
def k0_off23 (k0_t1 : Fin k0_t1_loop.trips) : Fin 3 → Nat :=
  let c0_92 : Index := 0#32
  let c0_i32_3 : BitVec 32 := 0#32
  let c1_i32 : BitVec 32 := 1#32
  let arg26 : BitVec 32 := Scf.iv c0_i32_3 c1_i32 k0_t1
  let c16_i32 : BitVec 32 := 16#32
  let v110 : BitVec 32 := Scalar.muli arg26 c16_i32
  let v111 : BitVec 32 := v110
  let v308 : Index := Scalar.indexCast v111
  let c2816 : Index := 2816#32
  ![0, v308.toNat, 2816]
def k0_off24 (k0_t1 : Fin k0_t1_loop.trips) : Fin 3 → Nat :=
  let c0_93 : Index := 0#32
  let c0_i32_3 : BitVec 32 := 0#32
  let c1_i32 : BitVec 32 := 1#32
  let arg26 : BitVec 32 := Scf.iv c0_i32_3 c1_i32 k0_t1
  let c16_i32 : BitVec 32 := 16#32
  let v110 : BitVec 32 := Scalar.muli arg26 c16_i32
  let v111 : BitVec 32 := v110
  let v317 : Index := Scalar.indexCast v111
  let c2944 : Index := 2944#32
  ![0, v317.toNat, 2944]
def k0_off25 (k0_t1 : Fin k0_t1_loop.trips) : Fin 3 → Nat :=
  let c0_94 : Index := 0#32
  let c0_i32_3 : BitVec 32 := 0#32
  let c1_i32 : BitVec 32 := 1#32
  let arg26 : BitVec 32 := Scf.iv c0_i32_3 c1_i32 k0_t1
  let c16_i32 : BitVec 32 := 16#32
  let v110 : BitVec 32 := Scalar.muli arg26 c16_i32
  let v111 : BitVec 32 := v110
  let v326 : Index := Scalar.indexCast v111
  let c3072 : Index := 3072#32
  ![0, v326.toNat, 3072]
def k0_off26 (k0_t1 : Fin k0_t1_loop.trips) : Fin 3 → Nat :=
  let c0_95 : Index := 0#32
  let c0_i32_3 : BitVec 32 := 0#32
  let c1_i32 : BitVec 32 := 1#32
  let arg26 : BitVec 32 := Scf.iv c0_i32_3 c1_i32 k0_t1
  let c16_i32 : BitVec 32 := 16#32
  let v110 : BitVec 32 := Scalar.muli arg26 c16_i32
  let v111 : BitVec 32 := v110
  let v335 : Index := Scalar.indexCast v111
  let c3200 : Index := 3200#32
  ![0, v335.toNat, 3200]
def k0_off27 (k0_t1 : Fin k0_t1_loop.trips) : Fin 3 → Nat :=
  let c0_96 : Index := 0#32
  let c0_i32_3 : BitVec 32 := 0#32
  let c1_i32 : BitVec 32 := 1#32
  let arg26 : BitVec 32 := Scf.iv c0_i32_3 c1_i32 k0_t1
  let c16_i32 : BitVec 32 := 16#32
  let v110 : BitVec 32 := Scalar.muli arg26 c16_i32
  let v111 : BitVec 32 := v110
  let v344 : Index := Scalar.indexCast v111
  let c3328 : Index := 3328#32
  ![0, v344.toNat, 3328]
def k0_off28 (k0_t1 : Fin k0_t1_loop.trips) : Fin 3 → Nat :=
  let c0_97 : Index := 0#32
  let c0_i32_3 : BitVec 32 := 0#32
  let c1_i32 : BitVec 32 := 1#32
  let arg26 : BitVec 32 := Scf.iv c0_i32_3 c1_i32 k0_t1
  let c16_i32 : BitVec 32 := 16#32
  let v110 : BitVec 32 := Scalar.muli arg26 c16_i32
  let v111 : BitVec 32 := v110
  let v353 : Index := Scalar.indexCast v111
  let c3456 : Index := 3456#32
  ![0, v353.toNat, 3456]
def k0_off29 (k0_t1 : Fin k0_t1_loop.trips) : Fin 3 → Nat :=
  let c0_98 : Index := 0#32
  let c0_i32_3 : BitVec 32 := 0#32
  let c1_i32 : BitVec 32 := 1#32
  let arg26 : BitVec 32 := Scf.iv c0_i32_3 c1_i32 k0_t1
  let c16_i32 : BitVec 32 := 16#32
  let v110 : BitVec 32 := Scalar.muli arg26 c16_i32
  let v111 : BitVec 32 := v110
  let v362 : Index := Scalar.indexCast v111
  let c3584 : Index := 3584#32
  ![0, v362.toNat, 3584]
def k0_off30 (k0_t1 : Fin k0_t1_loop.trips) : Fin 3 → Nat :=
  let c0_99 : Index := 0#32
  let c0_i32_3 : BitVec 32 := 0#32
  let c1_i32 : BitVec 32 := 1#32
  let arg26 : BitVec 32 := Scf.iv c0_i32_3 c1_i32 k0_t1
  let c16_i32 : BitVec 32 := 16#32
  let v110 : BitVec 32 := Scalar.muli arg26 c16_i32
  let v111 : BitVec 32 := v110
  let v371 : Index := Scalar.indexCast v111
  let c3712 : Index := 3712#32
  ![0, v371.toNat, 3712]
def k0_off31 (k0_t1 : Fin k0_t1_loop.trips) : Fin 3 → Nat :=
  let c0_100 : Index := 0#32
  let c0_i32_3 : BitVec 32 := 0#32
  let c1_i32 : BitVec 32 := 1#32
  let arg26 : BitVec 32 := Scf.iv c0_i32_3 c1_i32 k0_t1
  let c16_i32 : BitVec 32 := 16#32
  let v110 : BitVec 32 := Scalar.muli arg26 c16_i32
  let v111 : BitVec 32 := v110
  let v380 : Index := Scalar.indexCast v111
  let c3840 : Index := 3840#32
  ![0, v380.toNat, 3840]
def k0_off32 (k0_t1 : Fin k0_t1_loop.trips) : Fin 3 → Nat :=
  let c0_101 : Index := 0#32
  let c0_i32_3 : BitVec 32 := 0#32
  let c1_i32 : BitVec 32 := 1#32
  let arg26 : BitVec 32 := Scf.iv c0_i32_3 c1_i32 k0_t1
  let c16_i32 : BitVec 32 := 16#32
  let v110 : BitVec 32 := Scalar.muli arg26 c16_i32
  let v111 : BitVec 32 := v110
  let v389 : Index := Scalar.indexCast v111
  let c3968 : Index := 3968#32
  ![0, v389.toNat, 3968]
def k0_off33 (k0_t1 : Fin k0_t1_loop.trips) : Fin 3 → Nat :=
  let c0_102 : Index := 0#32
  let c0_i32_3 : BitVec 32 := 0#32
  let c1_i32 : BitVec 32 := 1#32
  let arg26 : BitVec 32 := Scf.iv c0_i32_3 c1_i32 k0_t1
  let c16_i32 : BitVec 32 := 16#32
  let v110 : BitVec 32 := Scalar.muli arg26 c16_i32
  let v111 : BitVec 32 := v110
  let v398 : Index := Scalar.indexCast v111
  let c4096 : Index := 4096#32
  ![0, v398.toNat, 4096]
def k0_off34 (k0_t1 : Fin k0_t1_loop.trips) : Fin 3 → Nat :=
  let c0_103 : Index := 0#32
  let c0_i32_3 : BitVec 32 := 0#32
  let c1_i32 : BitVec 32 := 1#32
  let arg26 : BitVec 32 := Scf.iv c0_i32_3 c1_i32 k0_t1
  let c16_i32 : BitVec 32 := 16#32
  let v110 : BitVec 32 := Scalar.muli arg26 c16_i32
  let v111 : BitVec 32 := v110
  let v407 : Index := Scalar.indexCast v111
  let c4224 : Index := 4224#32
  ![0, v407.toNat, 4224]
def k0_off35 (k0_t1 : Fin k0_t1_loop.trips) : Fin 3 → Nat :=
  let c0_104 : Index := 0#32
  let c0_i32_3 : BitVec 32 := 0#32
  let c1_i32 : BitVec 32 := 1#32
  let arg26 : BitVec 32 := Scf.iv c0_i32_3 c1_i32 k0_t1
  let c16_i32 : BitVec 32 := 16#32
  let v110 : BitVec 32 := Scalar.muli arg26 c16_i32
  let v111 : BitVec 32 := v110
  let v416 : Index := Scalar.indexCast v111
  let c4352 : Index := 4352#32
  ![0, v416.toNat, 4352]
def k0_off36 (k0_t1 : Fin k0_t1_loop.trips) : Fin 3 → Nat :=
  let c0_105 : Index := 0#32
  let c0_i32_3 : BitVec 32 := 0#32
  let c1_i32 : BitVec 32 := 1#32
  let arg26 : BitVec 32 := Scf.iv c0_i32_3 c1_i32 k0_t1
  let c16_i32 : BitVec 32 := 16#32
  let v110 : BitVec 32 := Scalar.muli arg26 c16_i32
  let v111 : BitVec 32 := v110
  let v425 : Index := Scalar.indexCast v111
  let c4480 : Index := 4480#32
  ![0, v425.toNat, 4480]
def k0_off37 (k0_t1 : Fin k0_t1_loop.trips) : Fin 3 → Nat :=
  let c0_106 : Index := 0#32
  let c0_i32_3 : BitVec 32 := 0#32
  let c1_i32 : BitVec 32 := 1#32
  let arg26 : BitVec 32 := Scf.iv c0_i32_3 c1_i32 k0_t1
  let c16_i32 : BitVec 32 := 16#32
  let v110 : BitVec 32 := Scalar.muli arg26 c16_i32
  let v111 : BitVec 32 := v110
  let v434 : Index := Scalar.indexCast v111
  let c4608 : Index := 4608#32
  ![0, v434.toNat, 4608]
def k0_off38 (k0_t1 : Fin k0_t1_loop.trips) : Fin 3 → Nat :=
  let c0_107 : Index := 0#32
  let c0_i32_3 : BitVec 32 := 0#32
  let c1_i32 : BitVec 32 := 1#32
  let arg26 : BitVec 32 := Scf.iv c0_i32_3 c1_i32 k0_t1
  let c16_i32 : BitVec 32 := 16#32
  let v110 : BitVec 32 := Scalar.muli arg26 c16_i32
  let v111 : BitVec 32 := v110
  let v443 : Index := Scalar.indexCast v111
  let c4736 : Index := 4736#32
  ![0, v443.toNat, 4736]
def k0_off39 (k0_t1 : Fin k0_t1_loop.trips) : Fin 3 → Nat :=
  let c0_108 : Index := 0#32
  let c0_i32_3 : BitVec 32 := 0#32
  let c1_i32 : BitVec 32 := 1#32
  let arg26 : BitVec 32 := Scf.iv c0_i32_3 c1_i32 k0_t1
  let c16_i32 : BitVec 32 := 16#32
  let v110 : BitVec 32 := Scalar.muli arg26 c16_i32
  let v111 : BitVec 32 := v110
  let v452 : Index := Scalar.indexCast v111
  let c4864 : Index := 4864#32
  ![0, v452.toNat, 4864]
def k0_off40 (k0_t1 : Fin k0_t1_loop.trips) : Fin 3 → Nat :=
  let c0_109 : Index := 0#32
  let c0_i32_3 : BitVec 32 := 0#32
  let c1_i32 : BitVec 32 := 1#32
  let arg26 : BitVec 32 := Scf.iv c0_i32_3 c1_i32 k0_t1
  let c16_i32 : BitVec 32 := 16#32
  let v110 : BitVec 32 := Scalar.muli arg26 c16_i32
  let v111 : BitVec 32 := v110
  let v461 : Index := Scalar.indexCast v111
  let c4992 : Index := 4992#32
  ![0, v461.toNat, 4992]
def k0_off41 (k0_t1 : Fin k0_t1_loop.trips) : Fin 3 → Nat :=
  let c0_110 : Index := 0#32
  let c0_i32_3 : BitVec 32 := 0#32
  let c1_i32 : BitVec 32 := 1#32
  let arg26 : BitVec 32 := Scf.iv c0_i32_3 c1_i32 k0_t1
  let c16_i32 : BitVec 32 := 16#32
  let v110 : BitVec 32 := Scalar.muli arg26 c16_i32
  let v111 : BitVec 32 := v110
  let v470 : Index := Scalar.indexCast v111
  let c5120 : Index := 5120#32
  ![0, v470.toNat, 5120]
def k0_off42 (k0_t1 : Fin k0_t1_loop.trips) : Fin 3 → Nat :=
  let c0_111 : Index := 0#32
  let c0_i32_3 : BitVec 32 := 0#32
  let c1_i32 : BitVec 32 := 1#32
  let arg26 : BitVec 32 := Scf.iv c0_i32_3 c1_i32 k0_t1
  let c16_i32 : BitVec 32 := 16#32
  let v110 : BitVec 32 := Scalar.muli arg26 c16_i32
  let v111 : BitVec 32 := v110
  let v479 : Index := Scalar.indexCast v111
  let c5248 : Index := 5248#32
  ![0, v479.toNat, 5248]
def k0_off43 (k0_t1 : Fin k0_t1_loop.trips) : Fin 3 → Nat :=
  let c0_112 : Index := 0#32
  let c0_i32_3 : BitVec 32 := 0#32
  let c1_i32 : BitVec 32 := 1#32
  let arg26 : BitVec 32 := Scf.iv c0_i32_3 c1_i32 k0_t1
  let c16_i32 : BitVec 32 := 16#32
  let v110 : BitVec 32 := Scalar.muli arg26 c16_i32
  let v111 : BitVec 32 := v110
  let v488 : Index := Scalar.indexCast v111
  let c5376 : Index := 5376#32
  ![0, v488.toNat, 5376]
def k0_off44 (k0_t1 : Fin k0_t1_loop.trips) : Fin 3 → Nat :=
  let c0_113 : Index := 0#32
  let c0_i32_3 : BitVec 32 := 0#32
  let c1_i32 : BitVec 32 := 1#32
  let arg26 : BitVec 32 := Scf.iv c0_i32_3 c1_i32 k0_t1
  let c16_i32 : BitVec 32 := 16#32
  let v110 : BitVec 32 := Scalar.muli arg26 c16_i32
  let v111 : BitVec 32 := v110
  let v497 : Index := Scalar.indexCast v111
  let c5504 : Index := 5504#32
  ![0, v497.toNat, 5504]
def k0_off45 (k0_t1 : Fin k0_t1_loop.trips) : Fin 3 → Nat :=
  let c0_114 : Index := 0#32
  let c0_i32_3 : BitVec 32 := 0#32
  let c1_i32 : BitVec 32 := 1#32
  let arg26 : BitVec 32 := Scf.iv c0_i32_3 c1_i32 k0_t1
  let c16_i32 : BitVec 32 := 16#32
  let v110 : BitVec 32 := Scalar.muli arg26 c16_i32
  let v111 : BitVec 32 := v110
  let v506 : Index := Scalar.indexCast v111
  let c5632 : Index := 5632#32
  ![0, v506.toNat, 5632]
def k0_off46 (k0_t1 : Fin k0_t1_loop.trips) : Fin 3 → Nat :=
  let c0_115 : Index := 0#32
  let c0_i32_3 : BitVec 32 := 0#32
  let c1_i32 : BitVec 32 := 1#32
  let arg26 : BitVec 32 := Scf.iv c0_i32_3 c1_i32 k0_t1
  let c16_i32 : BitVec 32 := 16#32
  let v110 : BitVec 32 := Scalar.muli arg26 c16_i32
  let v111 : BitVec 32 := v110
  let v515 : Index := Scalar.indexCast v111
  let c5760 : Index := 5760#32
  ![0, v515.toNat, 5760]
def k0_off47 (k0_t1 : Fin k0_t1_loop.trips) : Fin 3 → Nat :=
  let c0_116 : Index := 0#32
  let c0_i32_3 : BitVec 32 := 0#32
  let c1_i32 : BitVec 32 := 1#32
  let arg26 : BitVec 32 := Scf.iv c0_i32_3 c1_i32 k0_t1
  let c16_i32 : BitVec 32 := 16#32
  let v110 : BitVec 32 := Scalar.muli arg26 c16_i32
  let v111 : BitVec 32 := v110
  let v524 : Index := Scalar.indexCast v111
  let c5888 : Index := 5888#32
  ![0, v524.toNat, 5888]
def k0_off48 (k0_t1 : Fin k0_t1_loop.trips) : Fin 3 → Nat :=
  let c0_117 : Index := 0#32
  let c0_i32_3 : BitVec 32 := 0#32
  let c1_i32 : BitVec 32 := 1#32
  let arg26 : BitVec 32 := Scf.iv c0_i32_3 c1_i32 k0_t1
  let c16_i32 : BitVec 32 := 16#32
  let v110 : BitVec 32 := Scalar.muli arg26 c16_i32
  let v111 : BitVec 32 := v110
  let v533 : Index := Scalar.indexCast v111
  let c6016 : Index := 6016#32
  ![0, v533.toNat, 6016]
def k0_off49 (k0_t1 : Fin k0_t1_loop.trips) : Fin 3 → Nat :=
  let c0_118 : Index := 0#32
  let c0_i32_3 : BitVec 32 := 0#32
  let c1_i32 : BitVec 32 := 1#32
  let arg26 : BitVec 32 := Scf.iv c0_i32_3 c1_i32 k0_t1
  let c16_i32 : BitVec 32 := 16#32
  let v110 : BitVec 32 := Scalar.muli arg26 c16_i32
  let v111 : BitVec 32 := v110
  let v542 : Index := Scalar.indexCast v111
  let c6144 : Index := 6144#32
  ![0, v542.toNat, 6144]
def k0_off50 (k0_t1 : Fin k0_t1_loop.trips) : Fin 3 → Nat :=
  let c0_119 : Index := 0#32
  let c0_i32_3 : BitVec 32 := 0#32
  let c1_i32 : BitVec 32 := 1#32
  let arg26 : BitVec 32 := Scf.iv c0_i32_3 c1_i32 k0_t1
  let c16_i32 : BitVec 32 := 16#32
  let v110 : BitVec 32 := Scalar.muli arg26 c16_i32
  let v111 : BitVec 32 := v110
  let v551 : Index := Scalar.indexCast v111
  let c6272 : Index := 6272#32
  ![0, v551.toNat, 6272]
def k0_off51 (k0_t1 : Fin k0_t1_loop.trips) : Fin 3 → Nat :=
  let c0_120 : Index := 0#32
  let c0_i32_3 : BitVec 32 := 0#32
  let c1_i32 : BitVec 32 := 1#32
  let arg26 : BitVec 32 := Scf.iv c0_i32_3 c1_i32 k0_t1
  let c16_i32 : BitVec 32 := 16#32
  let v110 : BitVec 32 := Scalar.muli arg26 c16_i32
  let v111 : BitVec 32 := v110
  let v560 : Index := Scalar.indexCast v111
  let c6400 : Index := 6400#32
  ![0, v560.toNat, 6400]
def k0_off52 (k0_t1 : Fin k0_t1_loop.trips) : Fin 3 → Nat :=
  let c0_121 : Index := 0#32
  let c0_i32_3 : BitVec 32 := 0#32
  let c1_i32 : BitVec 32 := 1#32
  let arg26 : BitVec 32 := Scf.iv c0_i32_3 c1_i32 k0_t1
  let c16_i32 : BitVec 32 := 16#32
  let v110 : BitVec 32 := Scalar.muli arg26 c16_i32
  let v111 : BitVec 32 := v110
  let v569 : Index := Scalar.indexCast v111
  let c6528 : Index := 6528#32
  ![0, v569.toNat, 6528]
def k0_off53 (k0_t1 : Fin k0_t1_loop.trips) : Fin 3 → Nat :=
  let c0_122 : Index := 0#32
  let c0_i32_3 : BitVec 32 := 0#32
  let c1_i32 : BitVec 32 := 1#32
  let arg26 : BitVec 32 := Scf.iv c0_i32_3 c1_i32 k0_t1
  let c16_i32 : BitVec 32 := 16#32
  let v110 : BitVec 32 := Scalar.muli arg26 c16_i32
  let v111 : BitVec 32 := v110
  let v578 : Index := Scalar.indexCast v111
  let c6656 : Index := 6656#32
  ![0, v578.toNat, 6656]
def k0_off54 (k0_t1 : Fin k0_t1_loop.trips) : Fin 3 → Nat :=
  let c0_123 : Index := 0#32
  let c0_i32_3 : BitVec 32 := 0#32
  let c1_i32 : BitVec 32 := 1#32
  let arg26 : BitVec 32 := Scf.iv c0_i32_3 c1_i32 k0_t1
  let c16_i32 : BitVec 32 := 16#32
  let v110 : BitVec 32 := Scalar.muli arg26 c16_i32
  let v111 : BitVec 32 := v110
  let v587 : Index := Scalar.indexCast v111
  let c6784 : Index := 6784#32
  ![0, v587.toNat, 6784]
def k0_off55 (k0_t1 : Fin k0_t1_loop.trips) : Fin 3 → Nat :=
  let c0_124 : Index := 0#32
  let c0_i32_3 : BitVec 32 := 0#32
  let c1_i32 : BitVec 32 := 1#32
  let arg26 : BitVec 32 := Scf.iv c0_i32_3 c1_i32 k0_t1
  let c16_i32 : BitVec 32 := 16#32
  let v110 : BitVec 32 := Scalar.muli arg26 c16_i32
  let v111 : BitVec 32 := v110
  let v596 : Index := Scalar.indexCast v111
  let c6912 : Index := 6912#32
  ![0, v596.toNat, 6912]
def k0_off56 (k0_t1 : Fin k0_t1_loop.trips) : Fin 3 → Nat :=
  let c0_125 : Index := 0#32
  let c0_i32_3 : BitVec 32 := 0#32
  let c1_i32 : BitVec 32 := 1#32
  let arg26 : BitVec 32 := Scf.iv c0_i32_3 c1_i32 k0_t1
  let c16_i32 : BitVec 32 := 16#32
  let v110 : BitVec 32 := Scalar.muli arg26 c16_i32
  let v111 : BitVec 32 := v110
  let v605 : Index := Scalar.indexCast v111
  let c7040 : Index := 7040#32
  ![0, v605.toNat, 7040]
def k0_off57 (k0_t1 : Fin k0_t1_loop.trips) : Fin 3 → Nat :=
  let c0_126 : Index := 0#32
  let c0_i32_3 : BitVec 32 := 0#32
  let c1_i32 : BitVec 32 := 1#32
  let arg26 : BitVec 32 := Scf.iv c0_i32_3 c1_i32 k0_t1
  let c16_i32 : BitVec 32 := 16#32
  let v110 : BitVec 32 := Scalar.muli arg26 c16_i32
  let v111 : BitVec 32 := v110
  let v614 : Index := Scalar.indexCast v111
  let c7168 : Index := 7168#32
  ![0, v614.toNat, 7168]
def k0_off58 (k0_t1 : Fin k0_t1_loop.trips) : Fin 3 → Nat :=
  let c0_127 : Index := 0#32
  let c0_i32_3 : BitVec 32 := 0#32
  let c1_i32 : BitVec 32 := 1#32
  let arg26 : BitVec 32 := Scf.iv c0_i32_3 c1_i32 k0_t1
  let c16_i32 : BitVec 32 := 16#32
  let v110 : BitVec 32 := Scalar.muli arg26 c16_i32
  let v111 : BitVec 32 := v110
  let v623 : Index := Scalar.indexCast v111
  let c7296 : Index := 7296#32
  ![0, v623.toNat, 7296]
def k0_off59 (k0_t1 : Fin k0_t1_loop.trips) : Fin 3 → Nat :=
  let c0_128 : Index := 0#32
  let c0_i32_3 : BitVec 32 := 0#32
  let c1_i32 : BitVec 32 := 1#32
  let arg26 : BitVec 32 := Scf.iv c0_i32_3 c1_i32 k0_t1
  let c16_i32 : BitVec 32 := 16#32
  let v110 : BitVec 32 := Scalar.muli arg26 c16_i32
  let v111 : BitVec 32 := v110
  let v632 : Index := Scalar.indexCast v111
  let c7424 : Index := 7424#32
  ![0, v632.toNat, 7424]
def k0_off60 (k0_t1 : Fin k0_t1_loop.trips) : Fin 3 → Nat :=
  let c0_129 : Index := 0#32
  let c0_i32_3 : BitVec 32 := 0#32
  let c1_i32 : BitVec 32 := 1#32
  let arg26 : BitVec 32 := Scf.iv c0_i32_3 c1_i32 k0_t1
  let c16_i32 : BitVec 32 := 16#32
  let v110 : BitVec 32 := Scalar.muli arg26 c16_i32
  let v111 : BitVec 32 := v110
  let v641 : Index := Scalar.indexCast v111
  let c7552 : Index := 7552#32
  ![0, v641.toNat, 7552]
def k0_off61 (k0_t1 : Fin k0_t1_loop.trips) : Fin 3 → Nat :=
  let c0_130 : Index := 0#32
  let c0_i32_3 : BitVec 32 := 0#32
  let c1_i32 : BitVec 32 := 1#32
  let arg26 : BitVec 32 := Scf.iv c0_i32_3 c1_i32 k0_t1
  let c16_i32 : BitVec 32 := 16#32
  let v110 : BitVec 32 := Scalar.muli arg26 c16_i32
  let v111 : BitVec 32 := v110
  let v650 : Index := Scalar.indexCast v111
  let c7680 : Index := 7680#32
  ![0, v650.toNat, 7680]
def k0_off62 (k0_t1 : Fin k0_t1_loop.trips) : Fin 3 → Nat :=
  let c0_131 : Index := 0#32
  let c0_i32_3 : BitVec 32 := 0#32
  let c1_i32 : BitVec 32 := 1#32
  let arg26 : BitVec 32 := Scf.iv c0_i32_3 c1_i32 k0_t1
  let c16_i32 : BitVec 32 := 16#32
  let v110 : BitVec 32 := Scalar.muli arg26 c16_i32
  let v111 : BitVec 32 := v110
  let v659 : Index := Scalar.indexCast v111
  let c7808 : Index := 7808#32
  ![0, v659.toNat, 7808]
def k0_off63 (k0_t1 : Fin k0_t1_loop.trips) : Fin 3 → Nat :=
  let c0_132 : Index := 0#32
  let c0_i32_3 : BitVec 32 := 0#32
  let c1_i32 : BitVec 32 := 1#32
  let arg26 : BitVec 32 := Scf.iv c0_i32_3 c1_i32 k0_t1
  let c16_i32 : BitVec 32 := 16#32
  let v110 : BitVec 32 := Scalar.muli arg26 c16_i32
  let v111 : BitVec 32 := v110
  let v668 : Index := Scalar.indexCast v111
  let c7936 : Index := 7936#32
  ![0, v668.toNat, 7936]
def k0_off64 (k0_t1 : Fin k0_t1_loop.trips) : Fin 3 → Nat :=
  let c0_133 : Index := 0#32
  let c0_i32_3 : BitVec 32 := 0#32
  let c1_i32 : BitVec 32 := 1#32
  let arg26 : BitVec 32 := Scf.iv c0_i32_3 c1_i32 k0_t1
  let c16_i32 : BitVec 32 := 16#32
  let v110 : BitVec 32 := Scalar.muli arg26 c16_i32
  let v111 : BitVec 32 := v110
  let v677 : Index := Scalar.indexCast v111
  let c8064 : Index := 8064#32
  ![0, v677.toNat, 8064]
def k0_off65 (k0_t1 : Fin k0_t1_loop.trips) : Fin 3 → Nat :=
  let c0_134 : Index := 0#32
  let c0_i32_3 : BitVec 32 := 0#32
  let c1_i32 : BitVec 32 := 1#32
  let arg26 : BitVec 32 := Scf.iv c0_i32_3 c1_i32 k0_t1
  let c16_i32 : BitVec 32 := 16#32
  let v110 : BitVec 32 := Scalar.muli arg26 c16_i32
  let v111 : BitVec 32 := v110
  let v686 : Index := Scalar.indexCast v111
  let c8192 : Index := 8192#32
  ![0, v686.toNat, 8192]
def k0_off66 (k0_t1 : Fin k0_t1_loop.trips) : Fin 3 → Nat :=
  let c0_135 : Index := 0#32
  let c0_i32_3 : BitVec 32 := 0#32
  let c1_i32 : BitVec 32 := 1#32
  let arg26 : BitVec 32 := Scf.iv c0_i32_3 c1_i32 k0_t1
  let c16_i32 : BitVec 32 := 16#32
  let v110 : BitVec 32 := Scalar.muli arg26 c16_i32
  let v111 : BitVec 32 := v110
  let v695 : Index := Scalar.indexCast v111
  let c8320 : Index := 8320#32
  ![0, v695.toNat, 8320]
def k0_off67 (k0_t1 : Fin k0_t1_loop.trips) : Fin 3 → Nat :=
  let c0_136 : Index := 0#32
  let c0_i32_3 : BitVec 32 := 0#32
  let c1_i32 : BitVec 32 := 1#32
  let arg26 : BitVec 32 := Scf.iv c0_i32_3 c1_i32 k0_t1
  let c16_i32 : BitVec 32 := 16#32
  let v110 : BitVec 32 := Scalar.muli arg26 c16_i32
  let v111 : BitVec 32 := v110
  let v704 : Index := Scalar.indexCast v111
  let c8448 : Index := 8448#32
  ![0, v704.toNat, 8448]
def k0_off68 (k0_t1 : Fin k0_t1_loop.trips) : Fin 3 → Nat :=
  let c0_137 : Index := 0#32
  let c0_i32_3 : BitVec 32 := 0#32
  let c1_i32 : BitVec 32 := 1#32
  let arg26 : BitVec 32 := Scf.iv c0_i32_3 c1_i32 k0_t1
  let c16_i32 : BitVec 32 := 16#32
  let v110 : BitVec 32 := Scalar.muli arg26 c16_i32
  let v111 : BitVec 32 := v110
  let v713 : Index := Scalar.indexCast v111
  let c8576 : Index := 8576#32
  ![0, v713.toNat, 8576]
def k0_off69 (k0_t1 : Fin k0_t1_loop.trips) : Fin 3 → Nat :=
  let c0_138 : Index := 0#32
  let c0_i32_3 : BitVec 32 := 0#32
  let c1_i32 : BitVec 32 := 1#32
  let arg26 : BitVec 32 := Scf.iv c0_i32_3 c1_i32 k0_t1
  let c16_i32 : BitVec 32 := 16#32
  let v110 : BitVec 32 := Scalar.muli arg26 c16_i32
  let v111 : BitVec 32 := v110
  let v722 : Index := Scalar.indexCast v111
  let c8704 : Index := 8704#32
  ![0, v722.toNat, 8704]
def k0_off70 (k0_t1 : Fin k0_t1_loop.trips) : Fin 3 → Nat :=
  let c0_139 : Index := 0#32
  let c0_i32_3 : BitVec 32 := 0#32
  let c1_i32 : BitVec 32 := 1#32
  let arg26 : BitVec 32 := Scf.iv c0_i32_3 c1_i32 k0_t1
  let c16_i32 : BitVec 32 := 16#32
  let v110 : BitVec 32 := Scalar.muli arg26 c16_i32
  let v111 : BitVec 32 := v110
  let v731 : Index := Scalar.indexCast v111
  let c8832 : Index := 8832#32
  ![0, v731.toNat, 8832]
def k0_off71 (k0_t1 : Fin k0_t1_loop.trips) : Fin 3 → Nat :=
  let c0_140 : Index := 0#32
  let c0_i32_3 : BitVec 32 := 0#32
  let c1_i32 : BitVec 32 := 1#32
  let arg26 : BitVec 32 := Scf.iv c0_i32_3 c1_i32 k0_t1
  let c16_i32 : BitVec 32 := 16#32
  let v110 : BitVec 32 := Scalar.muli arg26 c16_i32
  let v111 : BitVec 32 := v110
  let v740 : Index := Scalar.indexCast v111
  let c8960 : Index := 8960#32
  ![0, v740.toNat, 8960]
def k0_off72 (k0_t1 : Fin k0_t1_loop.trips) : Fin 3 → Nat :=
  let c0_141 : Index := 0#32
  let c0_i32_3 : BitVec 32 := 0#32
  let c1_i32 : BitVec 32 := 1#32
  let arg26 : BitVec 32 := Scf.iv c0_i32_3 c1_i32 k0_t1
  let c16_i32 : BitVec 32 := 16#32
  let v110 : BitVec 32 := Scalar.muli arg26 c16_i32
  let v111 : BitVec 32 := v110
  let v749 : Index := Scalar.indexCast v111
  let c9088 : Index := 9088#32
  ![0, v749.toNat, 9088]
def k0_off73 (k0_t1 : Fin k0_t1_loop.trips) : Fin 3 → Nat :=
  let c0_142 : Index := 0#32
  let c0_i32_3 : BitVec 32 := 0#32
  let c1_i32 : BitVec 32 := 1#32
  let arg26 : BitVec 32 := Scf.iv c0_i32_3 c1_i32 k0_t1
  let c16_i32 : BitVec 32 := 16#32
  let v110 : BitVec 32 := Scalar.muli arg26 c16_i32
  let v111 : BitVec 32 := v110
  let v758 : Index := Scalar.indexCast v111
  let c9216 : Index := 9216#32
  ![0, v758.toNat, 9216]
def k0_off74 (k0_t1 : Fin k0_t1_loop.trips) : Fin 3 → Nat :=
  let c0_143 : Index := 0#32
  let c0_i32_3 : BitVec 32 := 0#32
  let c1_i32 : BitVec 32 := 1#32
  let arg26 : BitVec 32 := Scf.iv c0_i32_3 c1_i32 k0_t1
  let c16_i32 : BitVec 32 := 16#32
  let v110 : BitVec 32 := Scalar.muli arg26 c16_i32
  let v111 : BitVec 32 := v110
  let v767 : Index := Scalar.indexCast v111
  let c9344 : Index := 9344#32
  ![0, v767.toNat, 9344]
def k0_off75 (k0_t1 : Fin k0_t1_loop.trips) : Fin 3 → Nat :=
  let c0_144 : Index := 0#32
  let c0_i32_3 : BitVec 32 := 0#32
  let c1_i32 : BitVec 32 := 1#32
  let arg26 : BitVec 32 := Scf.iv c0_i32_3 c1_i32 k0_t1
  let c16_i32 : BitVec 32 := 16#32
  let v110 : BitVec 32 := Scalar.muli arg26 c16_i32
  let v111 : BitVec 32 := v110
  let v776 : Index := Scalar.indexCast v111
  let c9472 : Index := 9472#32
  ![0, v776.toNat, 9472]
def k0_off76 (k0_t1 : Fin k0_t1_loop.trips) : Fin 3 → Nat :=
  let c0_145 : Index := 0#32
  let c0_i32_3 : BitVec 32 := 0#32
  let c1_i32 : BitVec 32 := 1#32
  let arg26 : BitVec 32 := Scf.iv c0_i32_3 c1_i32 k0_t1
  let c16_i32 : BitVec 32 := 16#32
  let v110 : BitVec 32 := Scalar.muli arg26 c16_i32
  let v111 : BitVec 32 := v110
  let v785 : Index := Scalar.indexCast v111
  let c9600 : Index := 9600#32
  ![0, v785.toNat, 9600]
def k0_off77 (k0_t1 : Fin k0_t1_loop.trips) : Fin 3 → Nat :=
  let c0_146 : Index := 0#32
  let c0_i32_3 : BitVec 32 := 0#32
  let c1_i32 : BitVec 32 := 1#32
  let arg26 : BitVec 32 := Scf.iv c0_i32_3 c1_i32 k0_t1
  let c16_i32 : BitVec 32 := 16#32
  let v110 : BitVec 32 := Scalar.muli arg26 c16_i32
  let v111 : BitVec 32 := v110
  let v794 : Index := Scalar.indexCast v111
  let c9728 : Index := 9728#32
  ![0, v794.toNat, 9728]
def k0_off78 (k0_t1 : Fin k0_t1_loop.trips) : Fin 3 → Nat :=
  let c0_147 : Index := 0#32
  let c0_i32_3 : BitVec 32 := 0#32
  let c1_i32 : BitVec 32 := 1#32
  let arg26 : BitVec 32 := Scf.iv c0_i32_3 c1_i32 k0_t1
  let c16_i32 : BitVec 32 := 16#32
  let v110 : BitVec 32 := Scalar.muli arg26 c16_i32
  let v111 : BitVec 32 := v110
  let v803 : Index := Scalar.indexCast v111
  let c9856 : Index := 9856#32
  ![0, v803.toNat, 9856]
def k0_off79 (k0_t1 : Fin k0_t1_loop.trips) : Fin 3 → Nat :=
  let c0_148 : Index := 0#32
  let c0_i32_3 : BitVec 32 := 0#32
  let c1_i32 : BitVec 32 := 1#32
  let arg26 : BitVec 32 := Scf.iv c0_i32_3 c1_i32 k0_t1
  let c16_i32 : BitVec 32 := 16#32
  let v110 : BitVec 32 := Scalar.muli arg26 c16_i32
  let v111 : BitVec 32 := v110
  let v812 : Index := Scalar.indexCast v111
  let c9984 : Index := 9984#32
  ![0, v812.toNat, 9984]
def k0_off80 (k0_t1 : Fin k0_t1_loop.trips) : Fin 3 → Nat :=
  let c0_149 : Index := 0#32
  let c0_i32_3 : BitVec 32 := 0#32
  let c1_i32 : BitVec 32 := 1#32
  let arg26 : BitVec 32 := Scf.iv c0_i32_3 c1_i32 k0_t1
  let c16_i32 : BitVec 32 := 16#32
  let v110 : BitVec 32 := Scalar.muli arg26 c16_i32
  let v111 : BitVec 32 := v110
  let v821 : Index := Scalar.indexCast v111
  let c10112 : Index := 10112#32
  ![0, v821.toNat, 10112]
def k0_off81 (k0_t1 : Fin k0_t1_loop.trips) : Fin 2 → Nat :=
  let c0_i32_3 : BitVec 32 := 0#32
  let c1_i32 : BitVec 32 := 1#32
  let arg26 : BitVec 32 := Scf.iv c0_i32_3 c1_i32 k0_t1
  let c16_i32 : BitVec 32 := 16#32
  let v110 : BitVec 32 := Scalar.muli arg26 c16_i32
  let v111 : BitVec 32 := v110
  let v830 : Index := Scalar.indexCast v111
  let c0_150 : Index := 0#32
  ![v830.toNat, 0]
def k0_off82 (i : grid0.Coords) : Fin 2 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let v24 : Index := Scalar.indexCast v1
  let c0_14 : Index := 0#32
  ![v24.toNat, 0]
@[reducible] def k0_t2_loop : Scf.Loop 32 :=
  let c0_i32_29 : BitVec 32 := 0#32
  let c10_i32 : BitVec 32 := 10#32
  let v68 : BitVec 32 := Scalar.addi c0_i32_29 c10_i32
  let c1_i32_30 : BitVec 32 := 1#32
  ⟨c0_i32_29, v68, c1_i32_30⟩
def k0_mult2 (k0_t2 : Fin k0_t2_loop.trips) : BitVec 32 :=
  let c0_i32_29 : BitVec 32 := 0#32
  let c1_i32_30 : BitVec 32 := 1#32
  let arg26 : BitVec 32 := Scf.iv c0_i32_29 c1_i32_30 k0_t2
  let c1024_i32 : BitVec 32 := 1024#32
  let v110 : BitVec 32 := Scalar.muli arg26 c1024_i32
  v110
def k0_off83 (k0_t2 : Fin k0_t2_loop.trips) (c0_i32_69 : BitVec 32) : Fin 3 → Nat :=
  let c0_70 : Index := 0#32
  let c0_71 : Index := 0#32
  let c0_i32_29 : BitVec 32 := 0#32
  let c1_i32_30 : BitVec 32 := 1#32
  let arg26 : BitVec 32 := Scf.iv c0_i32_29 c1_i32_30 k0_t2
  let c1024_i32 : BitVec 32 := 1024#32
  let v110 : BitVec 32 := Scalar.muli arg26 c1024_i32
  let v111 : BitVec 32 := v110
  let v112 : BitVec 32 := Scalar.addi v111 c0_i32_69
  let v113 : Index := Scalar.indexCast v112
  ![0, 0, v113.toNat]
def k0_off84 (k0_t2 : Fin k0_t2_loop.trips) (c0_i32_69 : BitVec 32) : Fin 2 → Nat :=
  let c0_72 : Index := 0#32
  let c0_i32_29 : BitVec 32 := 0#32
  let c1_i32_30 : BitVec 32 := 1#32
  let arg26 : BitVec 32 := Scf.iv c0_i32_29 c1_i32_30 k0_t2
  let c1024_i32 : BitVec 32 := 1024#32
  let v110 : BitVec 32 := Scalar.muli arg26 c1024_i32
  let v111 : BitVec 32 := v110
  let v112 : BitVec 32 := Scalar.addi v111 c0_i32_69
  let v117 : Index := Scalar.indexCast v112
  ![0, v117.toNat]
def k0_mult3 (k0_t2 : Fin k0_t2_loop.trips) : BitVec 32 :=
  let c0_i32_29 : BitVec 32 := 0#32
  let c1_i32_30 : BitVec 32 := 1#32
  let arg26 : BitVec 32 := Scf.iv c0_i32_29 c1_i32_30 k0_t2
  let c1024_i32_78 : BitVec 32 := 1024#32
  let v138 : BitVec 32 := Scalar.muli arg26 c1024_i32_78
  v138
def k0_mult4 (k0_t2 : Fin k0_t2_loop.trips) : BitVec 32 :=
  let c0_i32_29 : BitVec 32 := 0#32
  let c1_i32_30 : BitVec 32 := 1#32
  let arg26 : BitVec 32 := Scf.iv c0_i32_29 c1_i32_30 k0_t2
  let c1024_i32_87 : BitVec 32 := 1024#32
  let v166 : BitVec 32 := Scalar.muli arg26 c1024_i32_87
  v166
def k0_mult5 (k0_t2 : Fin k0_t2_loop.trips) : BitVec 32 :=
  let c0_i32_29 : BitVec 32 := 0#32
  let c1_i32_30 : BitVec 32 := 1#32
  let arg26 : BitVec 32 := Scf.iv c0_i32_29 c1_i32_30 k0_t2
  let c1024_i32_96 : BitVec 32 := 1024#32
  let v194 : BitVec 32 := Scalar.muli arg26 c1024_i32_96
  v194
def k0_mult6 (k0_t2 : Fin k0_t2_loop.trips) : BitVec 32 :=
  let c0_i32_29 : BitVec 32 := 0#32
  let c1_i32_30 : BitVec 32 := 1#32
  let arg26 : BitVec 32 := Scf.iv c0_i32_29 c1_i32_30 k0_t2
  let c1024_i32_105 : BitVec 32 := 1024#32
  let v222 : BitVec 32 := Scalar.muli arg26 c1024_i32_105
  v222
def k0_mult7 (k0_t2 : Fin k0_t2_loop.trips) : BitVec 32 :=
  let c0_i32_29 : BitVec 32 := 0#32
  let c1_i32_30 : BitVec 32 := 1#32
  let arg26 : BitVec 32 := Scf.iv c0_i32_29 c1_i32_30 k0_t2
  let c1024_i32_114 : BitVec 32 := 1024#32
  let v250 : BitVec 32 := Scalar.muli arg26 c1024_i32_114
  v250
def k0_mult8 (k0_t2 : Fin k0_t2_loop.trips) : BitVec 32 :=
  let c0_i32_29 : BitVec 32 := 0#32
  let c1_i32_30 : BitVec 32 := 1#32
  let arg26 : BitVec 32 := Scf.iv c0_i32_29 c1_i32_30 k0_t2
  let c1024_i32_123 : BitVec 32 := 1024#32
  let v278 : BitVec 32 := Scalar.muli arg26 c1024_i32_123
  v278
def k0_mult9 (k0_t2 : Fin k0_t2_loop.trips) : BitVec 32 :=
  let c0_i32_29 : BitVec 32 := 0#32
  let c1_i32_30 : BitVec 32 := 1#32
  let arg26 : BitVec 32 := Scf.iv c0_i32_29 c1_i32_30 k0_t2
  let c1024_i32_132 : BitVec 32 := 1024#32
  let v306 : BitVec 32 := Scalar.muli arg26 c1024_i32_132
  v306
@[reducible] def k0_t3_loop : Scf.Loop 32 :=
  let c0_i32_38 : BitVec 32 := 0#32
  let c10_i32_39 : BitVec 32 := 10#32
  let v76 : BitVec 32 := Scalar.addi c0_i32_38 c10_i32_39
  let c1_i32_40 : BitVec 32 := 1#32
  ⟨c0_i32_38, v76, c1_i32_40⟩
def k0_mult10 (k0_t3 : Fin k0_t3_loop.trips) : BitVec 32 :=
  let c0_i32_38 : BitVec 32 := 0#32
  let c1_i32_40 : BitVec 32 := 1#32
  let arg26 : BitVec 32 := Scf.iv c0_i32_38 c1_i32_40 k0_t3
  let c1024_i32 : BitVec 32 := 1024#32
  let v110 : BitVec 32 := Scalar.muli arg26 c1024_i32
  v110
def k0_off85 (k0_t3 : Fin k0_t3_loop.trips) (c0_i32_69 : BitVec 32) : Fin 3 → Nat :=
  let c0_70 : Index := 0#32
  let c32_71 : Index := 32#32
  let c0_i32_38 : BitVec 32 := 0#32
  let c1_i32_40 : BitVec 32 := 1#32
  let arg26 : BitVec 32 := Scf.iv c0_i32_38 c1_i32_40 k0_t3
  let c1024_i32 : BitVec 32 := 1024#32
  let v110 : BitVec 32 := Scalar.muli arg26 c1024_i32
  let v111 : BitVec 32 := v110
  let v112 : BitVec 32 := Scalar.addi v111 c0_i32_69
  let v113 : Index := Scalar.indexCast v112
  ![0, 32, v113.toNat]
def k0_off86 (k0_t3 : Fin k0_t3_loop.trips) (c0_i32_69 : BitVec 32) : Fin 2 → Nat :=
  let c0_72 : Index := 0#32
  let c0_i32_38 : BitVec 32 := 0#32
  let c1_i32_40 : BitVec 32 := 1#32
  let arg26 : BitVec 32 := Scf.iv c0_i32_38 c1_i32_40 k0_t3
  let c1024_i32 : BitVec 32 := 1024#32
  let v110 : BitVec 32 := Scalar.muli arg26 c1024_i32
  let v111 : BitVec 32 := v110
  let v112 : BitVec 32 := Scalar.addi v111 c0_i32_69
  let v117 : Index := Scalar.indexCast v112
  ![0, v117.toNat]
def k0_mult11 (k0_t3 : Fin k0_t3_loop.trips) : BitVec 32 :=
  let c0_i32_38 : BitVec 32 := 0#32
  let c1_i32_40 : BitVec 32 := 1#32
  let arg26 : BitVec 32 := Scf.iv c0_i32_38 c1_i32_40 k0_t3
  let c1024_i32_78 : BitVec 32 := 1024#32
  let v138 : BitVec 32 := Scalar.muli arg26 c1024_i32_78
  v138
def k0_mult12 (k0_t3 : Fin k0_t3_loop.trips) : BitVec 32 :=
  let c0_i32_38 : BitVec 32 := 0#32
  let c1_i32_40 : BitVec 32 := 1#32
  let arg26 : BitVec 32 := Scf.iv c0_i32_38 c1_i32_40 k0_t3
  let c1024_i32_87 : BitVec 32 := 1024#32
  let v166 : BitVec 32 := Scalar.muli arg26 c1024_i32_87
  v166
def k0_mult13 (k0_t3 : Fin k0_t3_loop.trips) : BitVec 32 :=
  let c0_i32_38 : BitVec 32 := 0#32
  let c1_i32_40 : BitVec 32 := 1#32
  let arg26 : BitVec 32 := Scf.iv c0_i32_38 c1_i32_40 k0_t3
  let c1024_i32_96 : BitVec 32 := 1024#32
  let v194 : BitVec 32 := Scalar.muli arg26 c1024_i32_96
  v194
def k0_mult14 (k0_t3 : Fin k0_t3_loop.trips) : BitVec 32 :=
  let c0_i32_38 : BitVec 32 := 0#32
  let c1_i32_40 : BitVec 32 := 1#32
  let arg26 : BitVec 32 := Scf.iv c0_i32_38 c1_i32_40 k0_t3
  let c1024_i32_105 : BitVec 32 := 1024#32
  let v222 : BitVec 32 := Scalar.muli arg26 c1024_i32_105
  v222
def k0_mult15 (k0_t3 : Fin k0_t3_loop.trips) : BitVec 32 :=
  let c0_i32_38 : BitVec 32 := 0#32
  let c1_i32_40 : BitVec 32 := 1#32
  let arg26 : BitVec 32 := Scf.iv c0_i32_38 c1_i32_40 k0_t3
  let c1024_i32_114 : BitVec 32 := 1024#32
  let v250 : BitVec 32 := Scalar.muli arg26 c1024_i32_114
  v250
def k0_mult16 (k0_t3 : Fin k0_t3_loop.trips) : BitVec 32 :=
  let c0_i32_38 : BitVec 32 := 0#32
  let c1_i32_40 : BitVec 32 := 1#32
  let arg26 : BitVec 32 := Scf.iv c0_i32_38 c1_i32_40 k0_t3
  let c1024_i32_123 : BitVec 32 := 1024#32
  let v278 : BitVec 32 := Scalar.muli arg26 c1024_i32_123
  v278
def k0_mult17 (k0_t3 : Fin k0_t3_loop.trips) : BitVec 32 :=
  let c0_i32_38 : BitVec 32 := 0#32
  let c1_i32_40 : BitVec 32 := 1#32
  let arg26 : BitVec 32 := Scf.iv c0_i32_38 c1_i32_40 k0_t3
  let c1024_i32_132 : BitVec 32 := 1024#32
  let v306 : BitVec 32 := Scalar.muli arg26 c1024_i32_132
  v306
@[reducible] def k0_t4_loop : Scf.Loop 32 :=
  let c0_i32_48 : BitVec 32 := 0#32
  let c10_i32_49 : BitVec 32 := 10#32
  let v84 : BitVec 32 := Scalar.addi c0_i32_48 c10_i32_49
  let c1_i32_50 : BitVec 32 := 1#32
  ⟨c0_i32_48, v84, c1_i32_50⟩
def k0_mult18 (k0_t4 : Fin k0_t4_loop.trips) : BitVec 32 :=
  let c0_i32_48 : BitVec 32 := 0#32
  let c1_i32_50 : BitVec 32 := 1#32
  let arg26 : BitVec 32 := Scf.iv c0_i32_48 c1_i32_50 k0_t4
  let c1024_i32 : BitVec 32 := 1024#32
  let v110 : BitVec 32 := Scalar.muli arg26 c1024_i32
  v110
def k0_off87 (k0_t4 : Fin k0_t4_loop.trips) (c0_i32_69 : BitVec 32) : Fin 3 → Nat :=
  let c0_70 : Index := 0#32
  let c64_71 : Index := 64#32
  let c0_i32_48 : BitVec 32 := 0#32
  let c1_i32_50 : BitVec 32 := 1#32
  let arg26 : BitVec 32 := Scf.iv c0_i32_48 c1_i32_50 k0_t4
  let c1024_i32 : BitVec 32 := 1024#32
  let v110 : BitVec 32 := Scalar.muli arg26 c1024_i32
  let v111 : BitVec 32 := v110
  let v112 : BitVec 32 := Scalar.addi v111 c0_i32_69
  let v113 : Index := Scalar.indexCast v112
  ![0, 64, v113.toNat]
def k0_off88 (k0_t4 : Fin k0_t4_loop.trips) (c0_i32_69 : BitVec 32) : Fin 2 → Nat :=
  let c0_72 : Index := 0#32
  let c0_i32_48 : BitVec 32 := 0#32
  let c1_i32_50 : BitVec 32 := 1#32
  let arg26 : BitVec 32 := Scf.iv c0_i32_48 c1_i32_50 k0_t4
  let c1024_i32 : BitVec 32 := 1024#32
  let v110 : BitVec 32 := Scalar.muli arg26 c1024_i32
  let v111 : BitVec 32 := v110
  let v112 : BitVec 32 := Scalar.addi v111 c0_i32_69
  let v117 : Index := Scalar.indexCast v112
  ![0, v117.toNat]
def k0_mult19 (k0_t4 : Fin k0_t4_loop.trips) : BitVec 32 :=
  let c0_i32_48 : BitVec 32 := 0#32
  let c1_i32_50 : BitVec 32 := 1#32
  let arg26 : BitVec 32 := Scf.iv c0_i32_48 c1_i32_50 k0_t4
  let c1024_i32_78 : BitVec 32 := 1024#32
  let v138 : BitVec 32 := Scalar.muli arg26 c1024_i32_78
  v138
def k0_mult20 (k0_t4 : Fin k0_t4_loop.trips) : BitVec 32 :=
  let c0_i32_48 : BitVec 32 := 0#32
  let c1_i32_50 : BitVec 32 := 1#32
  let arg26 : BitVec 32 := Scf.iv c0_i32_48 c1_i32_50 k0_t4
  let c1024_i32_87 : BitVec 32 := 1024#32
  let v166 : BitVec 32 := Scalar.muli arg26 c1024_i32_87
  v166
def k0_mult21 (k0_t4 : Fin k0_t4_loop.trips) : BitVec 32 :=
  let c0_i32_48 : BitVec 32 := 0#32
  let c1_i32_50 : BitVec 32 := 1#32
  let arg26 : BitVec 32 := Scf.iv c0_i32_48 c1_i32_50 k0_t4
  let c1024_i32_96 : BitVec 32 := 1024#32
  let v194 : BitVec 32 := Scalar.muli arg26 c1024_i32_96
  v194
def k0_mult22 (k0_t4 : Fin k0_t4_loop.trips) : BitVec 32 :=
  let c0_i32_48 : BitVec 32 := 0#32
  let c1_i32_50 : BitVec 32 := 1#32
  let arg26 : BitVec 32 := Scf.iv c0_i32_48 c1_i32_50 k0_t4
  let c1024_i32_105 : BitVec 32 := 1024#32
  let v222 : BitVec 32 := Scalar.muli arg26 c1024_i32_105
  v222
def k0_mult23 (k0_t4 : Fin k0_t4_loop.trips) : BitVec 32 :=
  let c0_i32_48 : BitVec 32 := 0#32
  let c1_i32_50 : BitVec 32 := 1#32
  let arg26 : BitVec 32 := Scf.iv c0_i32_48 c1_i32_50 k0_t4
  let c1024_i32_114 : BitVec 32 := 1024#32
  let v250 : BitVec 32 := Scalar.muli arg26 c1024_i32_114
  v250
def k0_mult24 (k0_t4 : Fin k0_t4_loop.trips) : BitVec 32 :=
  let c0_i32_48 : BitVec 32 := 0#32
  let c1_i32_50 : BitVec 32 := 1#32
  let arg26 : BitVec 32 := Scf.iv c0_i32_48 c1_i32_50 k0_t4
  let c1024_i32_123 : BitVec 32 := 1024#32
  let v278 : BitVec 32 := Scalar.muli arg26 c1024_i32_123
  v278
def k0_mult25 (k0_t4 : Fin k0_t4_loop.trips) : BitVec 32 :=
  let c0_i32_48 : BitVec 32 := 0#32
  let c1_i32_50 : BitVec 32 := 1#32
  let arg26 : BitVec 32 := Scf.iv c0_i32_48 c1_i32_50 k0_t4
  let c1024_i32_132 : BitVec 32 := 1024#32
  let v306 : BitVec 32 := Scalar.muli arg26 c1024_i32_132
  v306
@[reducible] def k0_t5_loop : Scf.Loop 32 :=
  let c0_i32_58 : BitVec 32 := 0#32
  let c10_i32_59 : BitVec 32 := 10#32
  let v92 : BitVec 32 := Scalar.addi c0_i32_58 c10_i32_59
  let c1_i32_60 : BitVec 32 := 1#32
  ⟨c0_i32_58, v92, c1_i32_60⟩
def k0_mult26 (k0_t5 : Fin k0_t5_loop.trips) : BitVec 32 :=
  let c0_i32_58 : BitVec 32 := 0#32
  let c1_i32_60 : BitVec 32 := 1#32
  let arg26 : BitVec 32 := Scf.iv c0_i32_58 c1_i32_60 k0_t5
  let c1024_i32 : BitVec 32 := 1024#32
  let v110 : BitVec 32 := Scalar.muli arg26 c1024_i32
  v110
def k0_off89 (k0_t5 : Fin k0_t5_loop.trips) (c0_i32_69 : BitVec 32) : Fin 3 → Nat :=
  let c0_70 : Index := 0#32
  let c96_71 : Index := 96#32
  let c0_i32_58 : BitVec 32 := 0#32
  let c1_i32_60 : BitVec 32 := 1#32
  let arg26 : BitVec 32 := Scf.iv c0_i32_58 c1_i32_60 k0_t5
  let c1024_i32 : BitVec 32 := 1024#32
  let v110 : BitVec 32 := Scalar.muli arg26 c1024_i32
  let v111 : BitVec 32 := v110
  let v112 : BitVec 32 := Scalar.addi v111 c0_i32_69
  let v113 : Index := Scalar.indexCast v112
  ![0, 96, v113.toNat]
def k0_off90 (k0_t5 : Fin k0_t5_loop.trips) (c0_i32_69 : BitVec 32) : Fin 2 → Nat :=
  let c0_72 : Index := 0#32
  let c0_i32_58 : BitVec 32 := 0#32
  let c1_i32_60 : BitVec 32 := 1#32
  let arg26 : BitVec 32 := Scf.iv c0_i32_58 c1_i32_60 k0_t5
  let c1024_i32 : BitVec 32 := 1024#32
  let v110 : BitVec 32 := Scalar.muli arg26 c1024_i32
  let v111 : BitVec 32 := v110
  let v112 : BitVec 32 := Scalar.addi v111 c0_i32_69
  let v117 : Index := Scalar.indexCast v112
  ![0, v117.toNat]
def k0_mult27 (k0_t5 : Fin k0_t5_loop.trips) : BitVec 32 :=
  let c0_i32_58 : BitVec 32 := 0#32
  let c1_i32_60 : BitVec 32 := 1#32
  let arg26 : BitVec 32 := Scf.iv c0_i32_58 c1_i32_60 k0_t5
  let c1024_i32_78 : BitVec 32 := 1024#32
  let v138 : BitVec 32 := Scalar.muli arg26 c1024_i32_78
  v138
def k0_mult28 (k0_t5 : Fin k0_t5_loop.trips) : BitVec 32 :=
  let c0_i32_58 : BitVec 32 := 0#32
  let c1_i32_60 : BitVec 32 := 1#32
  let arg26 : BitVec 32 := Scf.iv c0_i32_58 c1_i32_60 k0_t5
  let c1024_i32_87 : BitVec 32 := 1024#32
  let v166 : BitVec 32 := Scalar.muli arg26 c1024_i32_87
  v166
def k0_mult29 (k0_t5 : Fin k0_t5_loop.trips) : BitVec 32 :=
  let c0_i32_58 : BitVec 32 := 0#32
  let c1_i32_60 : BitVec 32 := 1#32
  let arg26 : BitVec 32 := Scf.iv c0_i32_58 c1_i32_60 k0_t5
  let c1024_i32_96 : BitVec 32 := 1024#32
  let v194 : BitVec 32 := Scalar.muli arg26 c1024_i32_96
  v194
def k0_mult30 (k0_t5 : Fin k0_t5_loop.trips) : BitVec 32 :=
  let c0_i32_58 : BitVec 32 := 0#32
  let c1_i32_60 : BitVec 32 := 1#32
  let arg26 : BitVec 32 := Scf.iv c0_i32_58 c1_i32_60 k0_t5
  let c1024_i32_105 : BitVec 32 := 1024#32
  let v222 : BitVec 32 := Scalar.muli arg26 c1024_i32_105
  v222
def k0_mult31 (k0_t5 : Fin k0_t5_loop.trips) : BitVec 32 :=
  let c0_i32_58 : BitVec 32 := 0#32
  let c1_i32_60 : BitVec 32 := 1#32
  let arg26 : BitVec 32 := Scf.iv c0_i32_58 c1_i32_60 k0_t5
  let c1024_i32_114 : BitVec 32 := 1024#32
  let v250 : BitVec 32 := Scalar.muli arg26 c1024_i32_114
  v250
def k0_mult32 (k0_t5 : Fin k0_t5_loop.trips) : BitVec 32 :=
  let c0_i32_58 : BitVec 32 := 0#32
  let c1_i32_60 : BitVec 32 := 1#32
  let arg26 : BitVec 32 := Scf.iv c0_i32_58 c1_i32_60 k0_t5
  let c1024_i32_123 : BitVec 32 := 1024#32
  let v278 : BitVec 32 := Scalar.muli arg26 c1024_i32_123
  v278
def k0_mult33 (k0_t5 : Fin k0_t5_loop.trips) : BitVec 32 :=
  let c0_i32_58 : BitVec 32 := 0#32
  let c1_i32_60 : BitVec 32 := 1#32
  let arg26 : BitVec 32 := Scf.iv c0_i32_58 c1_i32_60 k0_t5
  let c1024_i32_132 : BitVec 32 := 1024#32
  let v306 : BitVec 32 := Scalar.muli arg26 c1024_i32_132
  v306
def k0_cond2 (i : grid0.Coords) : BitVec 1 :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c14_i32 : BitVec 32 := 14#32
  let v107 : BitVec 1 := Scalar.cmpi .eq v1 c14_i32
  let v108 : BitVec 32 := Scalar.extui v107
  let c0_i32_68 : BitVec 32 := 0#32
  let v109 : BitVec 1 := Scalar.cmpi .ne v108 c0_i32_68
  v109

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x128x10240 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x3x640 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x3x640 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x10240 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x10240 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S16x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x128x10240 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S3x640 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S3x640 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S3x640 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== ReferenceIdeal.lean ====
abbrev S3x640x10240 : Shape := ⟨3, ![3, 640, 10240]⟩
abbrev S1 : Shape := ⟨1, ![1]⟩
abbrev S1x3x640 : Shape := ⟨3, ![1, 3, 640]⟩
abbrev S10240 : Shape := ⟨1, ![10240]⟩
abbrev S_ : Shape := ⟨0, ![]⟩
abbrev S3x640 : Shape := ⟨2, ![3, 640]⟩
abbrev S3x640x1 : Shape := ⟨3, ![3, 640, 1]⟩
abbrev S1x1x10240 : Shape := ⟨3, ![1, 1, 10240]⟩

abbrev nBuf : Space → Nat
  | .hbm => 68
  | .vmem => 0
  | .smem => 0
  | _ => 0

abbrev bufTy : (tb : Table) → Fin (tcTables nBuf tb) → BufTy
  | .hbm, ⟨0, _⟩ => ⟨S3x640x10240, .bf16⟩
  | .hbm, ⟨1, _⟩ => ⟨S1, .f32⟩
  | .hbm, ⟨2, _⟩ => ⟨S1x3x640, .f32⟩
  | .hbm, ⟨3, _⟩ => ⟨S1x3x640, .f32⟩
  | .hbm, ⟨4, _⟩ => ⟨S10240, .f32⟩
  | .hbm, ⟨5, _⟩ => ⟨S10240, .f32⟩
  | .hbm, ⟨6, _⟩ => ⟨S1, .f32⟩
  | .hbm, ⟨7, _⟩ => ⟨S3x640x10240, .f32⟩
  | .hbm, ⟨8, _⟩ => ⟨S_, .f32⟩
  | .hbm, ⟨9, _⟩ => ⟨S3x640, .f32⟩
  | .hbm, ⟨10, _⟩ => ⟨S_, .f32⟩
  | .hbm, ⟨11, _⟩ => ⟨S3x640, .f32⟩
  | .hbm, ⟨12, _⟩ => ⟨S3x640, .f32⟩
  | .hbm, ⟨13, _⟩ => ⟨S3x640x1, .f32⟩
  | .hbm, ⟨14, _⟩ => ⟨S3x640x10240, .f32⟩
  | .hbm, ⟨15, _⟩ => ⟨S3x640x10240, .f32⟩
  | .hbm, ⟨16, _⟩ => ⟨S3x640x10240, .f32⟩
  | .hbm, ⟨17, _⟩ => ⟨S_, .f32⟩
  | .hbm, ⟨18, _⟩ => ⟨S3x640, .f32⟩
  | .hbm, ⟨19, _⟩ => ⟨S_, .f32⟩
  | .hbm, ⟨20, _⟩ => ⟨S3x640, .f32⟩
  | .hbm, ⟨21, _⟩ => ⟨S3x640, .f32⟩
  | .hbm, ⟨22, _⟩ => ⟨S_, .f32⟩
  | .hbm, ⟨23, _⟩ => ⟨S_, .f32⟩
  | .hbm, ⟨24, _⟩ => ⟨S3x640, .f32⟩
  | .hbm, ⟨25, _⟩ => ⟨S_, .f32⟩
  | .hbm, ⟨26, _⟩ => ⟨S3x640, .f32⟩
  | .hbm, ⟨27, _⟩ => ⟨S3x640, .f32⟩
  | .hbm, ⟨28, _⟩ => ⟨S3x640, .f32⟩
  | .hbm, ⟨29, _⟩ => ⟨S3x640, .f32⟩
  | .hbm, ⟨30, _⟩ => ⟨S3x640, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S3x640, .f32⟩
  | .hbm, ⟨35, _⟩ => ⟨S3x640, .f32⟩
  | .hbm, ⟨36, _⟩ => ⟨S3x640, .f32⟩
  | .hbm, ⟨37, _⟩ => ⟨S3x640, .f32⟩
  | .hbm, ⟨38, _⟩ => ⟨S3x640, .f32⟩
  | .hbm, ⟨39, _⟩ => ⟨S_, .f32⟩
  | .hbm, ⟨40, _⟩ => ⟨S3x640, .f32⟩
  | .hbm, ⟨41, _⟩ => ⟨S3x640, .f32⟩
  | .hbm, ⟨42, _⟩ => ⟨S3x640, .f32⟩
  | .hbm, ⟨43, _⟩ => ⟨S3x640x1, .f32⟩
  | .hbm, ⟨44, _⟩ => ⟨S3x640x10240, .f32⟩
  | .hbm, ⟨45, _⟩ => ⟨S3x640x10240, .f32⟩
  | .hbm, ⟨46, _⟩ => ⟨S3x640x1, .f32⟩
  | .hbm, ⟨47, _⟩ => ⟨S3x640x10240, .f32⟩
  | .hbm, ⟨48, _⟩ => ⟨S3x640x10240, .f32⟩
  | .hbm, ⟨49, _⟩ => ⟨S1x1x10240, .f32⟩
  | .hbm, ⟨50, _⟩ => ⟨S3x640x10240, .f32⟩
  | .hbm, ⟨51, _⟩ => ⟨S3x640x10240, .f32⟩
  | .hbm, ⟨52, _⟩ => ⟨S1x1x10240, .f32⟩
  | .hbm, ⟨53, _⟩ => ⟨S3x640x10240, .f32⟩
  | .hbm, ⟨54, _⟩ => ⟨S3x640x10240, .f32⟩
  | .hbm, ⟨55, _⟩ => ⟨S3x640x10240, .f32⟩
  | .hbm, ⟨56, _⟩ => ⟨S_, .f32⟩
  | .hbm, ⟨57, _⟩ => ⟨S3x640, .f32⟩
  | .hbm, ⟨58, _⟩ => ⟨S_, .f32⟩
  | .hbm, ⟨59, _⟩ => ⟨S3x640x10240, .f32⟩
  | .hbm, ⟨60, _⟩ => ⟨S3x640x10240, .f32⟩
  | .hbm, ⟨61, _⟩ => ⟨S_, .f32⟩
  | .hbm, ⟨62, _⟩ => ⟨S3x640x10240, .f32⟩
  | .hbm, ⟨63, _⟩ => ⟨S3x640x10240, .f32⟩
  | .hbm, ⟨64, _⟩ => ⟨S_, .f32⟩
  | .hbm, ⟨65, _⟩ => ⟨S3x640x10240, .f32⟩
  | .hbm, ⟨66, _⟩ => ⟨S3x640x10240, .f32⟩
  | .hbm, ⟨67, _⟩ => ⟨S3x640x10240, .fp8e4m3⟩
  | _, _ => ⟨S3x640x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_5 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_6 : Ref sig .tc := ⟨.hbm, 61, rfl⟩
abbrev main_v47 : Ref sig .tc := ⟨.hbm, 62, rfl⟩
abbrev main_v48 : Ref sig .tc := ⟨.hbm, 63, rfl⟩
abbrev main_cst_7 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩

abbrev nD : Nat := 1
abbrev τ : Topo := Topo.v7x

variable {F : FTy → Type} [FloatOps F]
-- ==== Proof.KernelRunA.lean ====
/- One pass of the kernel's body, run symbolically. -/
module

public import proofs.«01_k».proof.Proof.Gen.Kernel.Frame
public import proofs.«01_k».proof.Proof.Gen.Kernel.Loops
public import Idealize.ShloMosaic.Lib.Pipeline.FrameBody
public import Idealize.ShloMosaic.Lib.Tactic

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

/-- The body is at the first grid point (spelt as the body spells it). -/
def k0_cond1 (i : grid0.Coords) : Prop :=
  Scalar.cmpi .ne (Scalar.extui (Scalar.cmpi .eq (Scalar.addi (Scalar.muli (BitVec.ofNat 32 (i 0).val) 5#32) (BitVec.ofNat 32 (i 1).val)) 0#32) : BitVec 32) 0#32 = 1#1

set_option maxHeartbeats 2000000 in
/-- What one pass of the kernel's body leaves in every buffer it writes, at a first grid point, with the proof that it does. -/
noncomputable def runA (c : Dev nD) (i : grid0.Coords) (arg2 : Memref sig .tc .smem S1 .f32) (harg2 : arg2.IsWhole) (arg3 : Memref sig .tc .smem S1 .f32) (harg3 : arg3.IsWhole) (arg4 : Memref sig .tc .vmem S1x128x10240 .bf16) (harg4 : arg4.IsWhole) (arg5 : Memref sig .tc .vmem S1x3x640 .f32) (harg5 : arg5.IsWhole) (arg6 : Memref sig .tc .vmem S1x3x640 .f32) (harg6 : arg6.IsWhole) (arg7 : Memref sig .tc .vmem S1x10240 .f32) (harg7 : arg7.IsWhole) (arg8 : Memref sig .tc .vmem S1x10240 .f32) (harg8 : arg8.IsWhole) (arg9 : Memref sig .tc .vmem S16x128 .bf16) (harg9 : arg9.IsWhole) (arg10 : Memref sig .tc .vmem S1x128x10240 .fp8e4m3) (harg10 : arg10.IsWhole) (arg11 : Memref sig .tc .vmem S3x640 .f32) (harg11 : arg11.IsWhole) (arg12 : Memref sig .tc .vmem S3x640 .f32) (harg12 : arg12.IsWhole) (arg13 : Memref sig .tc .vmem S3x640 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S1x10240 .f32) (harg19 : arg19.IsWhole) (arg20 : Memref sig .tc .vmem S1x10240 .f32) (harg20 : arg20.IsWhole) (arg21 : Memref sig .tc .vmem S16x128 .f32) (harg21 : arg21.IsWhole) (arg22 : Memref sig .tc .vmem S16x128 .f32) (harg22 : arg22.IsWhole) (arg23 : Memref sig .tc .vmem S16x128 .f32) (harg23 : arg23.IsWhole) (arg24 : Memref sig .tc .vmem S16x128 .f32) (harg24 : arg24.IsWhole) (arg25 : Memref sig .tc .vmem S16x128 .f32) (harg25 : arg25.IsWhole)
    (hc1 : k0_cond1 i) (hc2 : ¬ k0_cond2 i = 1#1)
    (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (f21 : BufTy.Contents (Elt F) arg21.view.ty) (f22 : BufTy.Contents (Elt F) arg22.view.ty) (f23 : BufTy.Contents (Elt F) arg23.view.ty) (f24 : BufTy.Contents (Elt F) arg24.view.ty) (f25 : BufTy.Contents (Elt F) arg25.view.ty) :
    Σ' (W10 : BufTy.Contents (Elt F) arg10.view.ty), Σ' (W14 : BufTy.Contents (Elt F) arg14.view.ty), Σ' (W15 : BufTy.Contents (Elt F) arg15.view.ty), Σ' (W16 : BufTy.Contents (Elt F) arg16.view.ty), Σ' (W17 : BufTy.Contents (Elt F) arg17.view.ty), Σ' (W18 : BufTy.Contents (Elt F) arg18.view.ty), Σ' (W19 : BufTy.Contents (Elt F) arg19.view.ty), Σ' (W20 : BufTy.Contents (Elt F) arg20.view.ty), Σ' (W21 : BufTy.Contents (Elt F) arg21.view.ty), Σ' (W22 : BufTy.Contents (Elt F) arg22.view.ty), Σ' (W23 : BufTy.Contents (Elt F) arg23.view.ty), Σ' (W24 : BufTy.Contents (Elt F) arg24.view.ty), { W25 : BufTy.Contents (Elt F) arg25.view.ty //
      ∀ (E : Set ℕ) (K : PUnit → sProp (MT nD τ sig Unit (Elt F) ℕ (UR sig nD τ) ℕ)),
        iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} f22) ∗ (arg23.view.loc (c : Thread nD τ) ↦[arg23.view.set]{fullShare} f23) ∗ (arg24.view.loc (c : Thread nD τ) ↦[arg24.view.set]{fullShare} f24) ∗ (arg25.view.loc (c : Thread nD τ) ↦[arg25.view.set]{fullShare} f25)
            ∗ (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} W10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} W14) ∗ (arg15.view.loc (c : Thread nD τ) ↦[arg15.view.set]{fullShare} W15) ∗ (arg16.view.loc (c : Thread nD τ) ↦[arg16.view.set]{fullShare} W16) ∗ (arg17.view.loc (c : Thread nD τ) ↦[arg17.view.set]{fullShare} W17) ∗ (arg18.view.loc (c : Thread nD τ) ↦[arg18.view.set]{fullShare} W18) ∗ (arg19.view.loc (c : Thread nD τ) ↦[arg19.view.set]{fullShare} W19) ∗ (arg20.view.loc (c : Thread nD τ) ↦[arg20.view.set]{fullShare} W20) ∗ (arg21.view.loc (c : Thread nD τ) ↦[arg21.view.set]{fullShare} W21) ∗ (arg22.view.loc (c : Thread nD τ) ↦[arg22.view.set]{fullShare} W22) ∗ (arg23.view.loc (c : Thread nD τ) ↦[arg23.view.set]{fullShare} W23) ∗ (arg24.view.loc (c : Thread nD τ) ↦[arg24.view.set]{fullShare} W24) ∗ (arg25.view.loc (c : Thread nD τ) ↦[arg25.view.set]{fullShare} W25)) -∗ K PUnit.unit))
          ⊢ wp frame (wpE (defs₀ (F := F)) Variants.none c none) E (cc0_tp_layernorm i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨?_, ?_, ?_, ?_, ?_, ?_, ?_, ?_, ?_, ?_, ?_, ?_, ?_, fun E K => ?run⟩
  case run =>
    unfold k0_cond1 at hc1
    simp only [cc0_tp_layernorm_eq_skeleton]; unfold cc0_tp_layernorm_skel
    iintro ⟨H2, H3, H4, H5, H6, H7, H8, H9, H10, H11, H12, H13, H14, H15, H16, H17, H18, H19, H20, H21, H22, H23, H24, H25, Hk⟩
    sl_exec
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    iexact H25

end Cert.Kernel.Body

end
-- ==== Proof.KernelRunB.lean ====
/- One pass of the kernel's body, run symbolically. -/
module

public import proofs.«01_k».proof.Proof.KernelRunA
public import proofs.«01_k».proof.Proof.Gen.Kernel.Loops
public import Idealize.ShloMosaic.Lib.Pipeline.FrameBody
public import Idealize.ShloMosaic.Lib.Tactic

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

set_option maxHeartbeats 2000000 in
/-- What one pass of the kernel's body leaves in every buffer it writes, at a middle grid point, with the proof that it does. -/
noncomputable def runB (c : Dev nD) (i : grid0.Coords) (arg2 : Memref sig .tc .smem S1 .f32) (harg2 : arg2.IsWhole) (arg3 : Memref sig .tc .smem S1 .f32) (harg3 : arg3.IsWhole) (arg4 : Memref sig .tc .vmem S1x128x10240 .bf16) (harg4 : arg4.IsWhole) (arg5 : Memref sig .tc .vmem S1x3x640 .f32) (harg5 : arg5.IsWhole) (arg6 : Memref sig .tc .vmem S1x3x640 .f32) (harg6 : arg6.IsWhole) (arg7 : Memref sig .tc .vmem S1x10240 .f32) (harg7 : arg7.IsWhole) (arg8 : Memref sig .tc .vmem S1x10240 .f32) (harg8 : arg8.IsWhole) (arg9 : Memref sig .tc .vmem S16x128 .bf16) (harg9 : arg9.IsWhole) (arg10 : Memref sig .tc .vmem S1x128x10240 .fp8e4m3) (harg10 : arg10.IsWhole) (arg11 : Memref sig .tc .vmem S3x640 .f32) (harg11 : arg11.IsWhole) (arg12 : Memref sig .tc .vmem S3x640 .f32) (harg12 : arg12.IsWhole) (arg13 : Memref sig .tc .vmem S3x640 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S1x10240 .f32) (harg19 : arg19.IsWhole) (arg20 : Memref sig .tc .vmem S1x10240 .f32) (harg20 : arg20.IsWhole) (arg21 : Memref sig .tc .vmem S16x128 .f32) (harg21 : arg21.IsWhole) (arg22 : Memref sig .tc .vmem S16x128 .f32) (harg22 : arg22.IsWhole) (arg23 : Memref sig .tc .vmem S16x128 .f32) (harg23 : arg23.IsWhole) (arg24 : Memref sig .tc .vmem S16x128 .f32) (harg24 : arg24.IsWhole) (arg25 : Memref sig .tc .vmem S16x128 .f32) (harg25 : arg25.IsWhole)
    (hc1 : ¬ k0_cond1 i) (hc2 : ¬ k0_cond2 i = 1#1)
    (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (f21 : BufTy.Contents (Elt F) arg21.view.ty) (f22 : BufTy.Contents (Elt F) arg22.view.ty) (f23 : BufTy.Contents (Elt F) arg23.view.ty) (f24 : BufTy.Contents (Elt F) arg24.view.ty) (f25 : BufTy.Contents (Elt F) arg25.view.ty) :
    Σ' (W10 : BufTy.Contents (Elt F) arg10.view.ty), Σ' (W14 : BufTy.Contents (Elt F) arg14.view.ty), Σ' (W15 : BufTy.Contents (Elt F) arg15.view.ty), Σ' (W16 : BufTy.Contents (Elt F) arg16.view.ty), Σ' (W17 : BufTy.Contents (Elt F) arg17.view.ty), Σ' (W18 : BufTy.Contents (Elt F) arg18.view.ty), Σ' (W23 : BufTy.Contents (Elt F) arg23.view.ty), Σ' (W24 : BufTy.Contents (Elt F) arg24.view.ty), { W25 : BufTy.Contents (Elt F) arg25.view.ty //
      ∀ (E : Set ℕ) (K : PUnit → sProp (MT nD τ sig Unit (Elt F) ℕ (UR sig nD τ) ℕ)),
        iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} f22) ∗ (arg23.view.loc (c : Thread nD τ) ↦[arg23.view.set]{fullShare} f23) ∗ (arg24.view.loc (c : Thread nD τ) ↦[arg24.view.set]{fullShare} f24) ∗ (arg25.view.loc (c : Thread nD τ) ↦[arg25.view.set]{fullShare} f25)
            ∗ (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} W10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} W14) ∗ (arg15.view.loc (c : Thread nD τ) ↦[arg15.view.set]{fullShare} W15) ∗ (arg16.view.loc (c : Thread nD τ) ↦[arg16.view.set]{fullShare} W16) ∗ (arg17.view.loc (c : Thread nD τ) ↦[arg17.view.set]{fullShare} W17) ∗ (arg18.view.loc (c : Thread nD τ) ↦[arg18.view.set]{fullShare} W18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} f22) ∗ (arg23.view.loc (c : Thread nD τ) ↦[arg23.view.set]{fullShare} W23) ∗ (arg24.view.loc (c : Thread nD τ) ↦[arg24.view.set]{fullShare} W24) ∗ (arg25.view.loc (c : Thread nD τ) ↦[arg25.view.set]{fullShare} W25)) -∗ K PUnit.unit))
          ⊢ wp frame (wpE (defs₀ (F := F)) Variants.none c none) E (cc0_tp_layernorm i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨?_, ?_, ?_, ?_, ?_, ?_, ?_, ?_, ?_, fun E K => ?run⟩
  case run =>
    unfold k0_cond1 at hc1
    simp only [cc0_tp_layernorm_eq_skeleton]; unfold cc0_tp_layernorm_skel
    iintro ⟨H2, H3, H4, H5, H6, H7, H8, H9, H10, H11, H12, H13, H14, H15, H16, H17, H18, H19, H20, H21, H22, H23, H24, H25, Hk⟩
    sl_exec
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    iexact H25

end Cert.Kernel.Body

end
-- ==== Proof.KernelRunC.lean ====
/- One pass of the kernel's body, run symbolically. -/
module

public import proofs.«01_k».proof.Proof.KernelRunB
public import proofs.«01_k».proof.Proof.Gen.Kernel.Loops
public import Idealize.ShloMosaic.Lib.Pipeline.FrameBody
public import Idealize.ShloMosaic.Lib.Tactic

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

set_option maxHeartbeats 2000000 in
/-- What one pass of the kernel's body leaves in every buffer it writes, at a last grid point, with the proof that it does. -/
noncomputable def runC (c : Dev nD) (i : grid0.Coords) (arg2 : Memref sig .tc .smem S1 .f32) (harg2 : arg2.IsWhole) (arg3 : Memref sig .tc .smem S1 .f32) (harg3 : arg3.IsWhole) (arg4 : Memref sig .tc .vmem S1x128x10240 .bf16) (harg4 : arg4.IsWhole) (arg5 : Memref sig .tc .vmem S1x3x640 .f32) (harg5 : arg5.IsWhole) (arg6 : Memref sig .tc .vmem S1x3x640 .f32) (harg6 : arg6.IsWhole) (arg7 : Memref sig .tc .vmem S1x10240 .f32) (harg7 : arg7.IsWhole) (arg8 : Memref sig .tc .vmem S1x10240 .f32) (harg8 : arg8.IsWhole) (arg9 : Memref sig .tc .vmem S16x128 .bf16) (harg9 : arg9.IsWhole) (arg10 : Memref sig .tc .vmem S1x128x10240 .fp8e4m3) (harg10 : arg10.IsWhole) (arg11 : Memref sig .tc .vmem S3x640 .f32) (harg11 : arg11.IsWhole) (arg12 : Memref sig .tc .vmem S3x640 .f32) (harg12 : arg12.IsWhole) (arg13 : Memref sig .tc .vmem S3x640 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S1x10240 .f32) (harg19 : arg19.IsWhole) (arg20 : Memref sig .tc .vmem S1x10240 .f32) (harg20 : arg20.IsWhole) (arg21 : Memref sig .tc .vmem S16x128 .f32) (harg21 : arg21.IsWhole) (arg22 : Memref sig .tc .vmem S16x128 .f32) (harg22 : arg22.IsWhole) (arg23 : Memref sig .tc .vmem S16x128 .f32) (harg23 : arg23.IsWhole) (arg24 : Memref sig .tc .vmem S16x128 .f32) (harg24 : arg24.IsWhole) (arg25 : Memref sig .tc .vmem S16x128 .f32) (harg25 : arg25.IsWhole)
    (hc1 : ¬ k0_cond1 i) (hc2 : k0_cond2 i = 1#1)
    (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (f21 : BufTy.Contents (Elt F) arg21.view.ty) (f22 : BufTy.Contents (Elt F) arg22.view.ty) (f23 : BufTy.Contents (Elt F) arg23.view.ty) (f24 : BufTy.Contents (Elt F) arg24.view.ty) (f25 : BufTy.Contents (Elt F) arg25.view.ty) :
    Σ' (W10 : BufTy.Contents (Elt F) arg10.view.ty), Σ' (W11 : BufTy.Contents (Elt F) arg11.view.ty), Σ' (W12 : BufTy.Contents (Elt F) arg12.view.ty), Σ' (W13 : BufTy.Contents (Elt F) arg13.view.ty), Σ' (W14 : BufTy.Contents (Elt F) arg14.view.ty), Σ' (W15 : BufTy.Contents (Elt F) arg15.view.ty), Σ' (W16 : BufTy.Contents (Elt F) arg16.view.ty), Σ' (W17 : BufTy.Contents (Elt F) arg17.view.ty), Σ' (W18 : BufTy.Contents (Elt F) arg18.view.ty), Σ' (W23 : BufTy.Contents (Elt F) arg23.view.ty), Σ' (W24 : BufTy.Contents (Elt F) arg24.view.ty), { W25 : BufTy.Contents (Elt F) arg25.view.ty //
      ∀ (E : Set ℕ) (K : PUnit → sProp (MT nD τ sig Unit (Elt F) ℕ (UR sig nD τ) ℕ)),
        iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} f22) ∗ (arg23.view.loc (c : Thread nD τ) ↦[arg23.view.set]{fullShare} f23) ∗ (arg24.view.loc (c : Thread nD τ) ↦[arg24.view.set]{fullShare} f24) ∗ (arg25.view.loc (c : Thread nD τ) ↦[arg25.view.set]{fullShare} f25)
            ∗ (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} W10) ∗ (arg11.view.loc (c : Thread nD τ) ↦[arg11.view.set]{fullShare} W11) ∗ (arg12.view.loc (c : Thread nD τ) ↦[arg12.view.set]{fullShare} W12) ∗ (arg13.view.loc (c : Thread nD τ) ↦[arg13.view.set]{fullShare} W13) ∗ (arg14.view.loc (c : Thread nD τ) ↦[arg14.view.set]{fullShare} W14) ∗ (arg15.view.loc (c : Thread nD τ) ↦[arg15.view.set]{fullShare} W15) ∗ (arg16.view.loc (c : Thread nD τ) ↦[arg16.view.set]{fullShare} W16) ∗ (arg17.view.loc (c : Thread nD τ) ↦[arg17.view.set]{fullShare} W17) ∗ (arg18.view.loc (c : Thread nD τ) ↦[arg18.view.set]{fullShare} W18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} f22) ∗ (arg23.view.loc (c : Thread nD τ) ↦[arg23.view.set]{fullShare} W23) ∗ (arg24.view.loc (c : Thread nD τ) ↦[arg24.view.set]{fullShare} W24) ∗ (arg25.view.loc (c : Thread nD τ) ↦[arg25.view.set]{fullShare} W25)) -∗ K PUnit.unit))
          ⊢ wp frame (wpE (defs₀ (F := F)) Variants.none c none) E (cc0_tp_layernorm i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨?_, ?_, ?_, ?_, ?_, ?_, ?_, ?_, ?_, ?_, ?_, ?_, fun E K => ?run⟩
  case run =>
    unfold k0_cond1 at hc1
    simp only [cc0_tp_layernorm_eq_skeleton]; unfold cc0_tp_layernorm_skel
    iintro ⟨H2, H3, H4, H5, H6, H7, H8, H9, H10, H11, H12, H13, H14, H15, H16, H17, H18, H19, H20, H21, H22, H23, H24, H25, Hk⟩
    sl_exec
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    iexact H25

end Cert.Kernel.Body

end
-- ==== Proof.KernelFrame.lean ====
/- The frame of the program: every run ends and the arguments are unchanged. -/
module

public import proofs.«01_k».proof.Proof.KernelRunC
public import Idealize.ShloMosaic.Lib.Claim

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

/-- The body is at the first grid point exactly at point 0, -/
theorem cond1_iff : ∀ t : Fin cfg0.N, k0_cond1 (grid0.coords t) ↔ t.val = 0 :=
  (by unfold k0_cond1; decide +kernel : ∀ t : Fin 15, k0_cond1 (grid0.coords t) ↔ t.val = 0)

/-- and at the last exactly at point 14. -/
theorem cond2_iff : ∀ t : Fin cfg0.N, k0_cond2 (grid0.coords t) = 1#1 ↔ t.val = 14 :=
  (by decide +kernel : ∀ t : Fin 15, k0_cond2 (grid0.coords t) = 1#1 ↔ t.val = 14)

/-- The twelve scratch buffers, each whole at some contents. -/
def scr (c : Dev nD) : sProp (MT nD τ sig Unit (Elt F) ℕ (UR sig nD τ) ℕ) :=
  iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f) ∗ (∃ f : Buf (Elt F) ((c : Thread nD τ).loc cc0_scratch6), ((c : Thread nD τ).loc cc0_scratch6) ↦{fullShare} f) ∗ (∃ f : Buf (Elt F) ((c : Thread nD τ).loc cc0_scratch7), ((c : Thread nD τ).loc cc0_scratch7) ↦{fullShare} f) ∗ (∃ f : Buf (Elt F) ((c : Thread nD τ).loc cc0_scratch8), ((c : Thread nD τ).loc cc0_scratch8) ↦{fullShare} f) ∗ (∃ f : Buf (Elt F) ((c : Thread nD τ).loc cc0_scratch9), ((c : Thread nD τ).loc cc0_scratch9) ↦{fullShare} f) ∗ (∃ f : Buf (Elt F) ((c : Thread nD τ).loc cc0_scratch10), ((c : Thread nD τ).loc cc0_scratch10) ↦{fullShare} f) ∗ (∃ f : Buf (Elt F) ((c : Thread nD τ).loc cc0_scratch11), ((c : Thread nD τ).loc cc0_scratch11) ↦{fullShare} f))

/-- What the frame forgets: the four results. -/
def fgt : Fin cfg0.W → Bool := fun w => match w with
  | ⟨8, _⟩ | ⟨9, _⟩ | ⟨10, _⟩ | ⟨11, _⟩ => true
  | _ => false

/-- The frame's proof data: each input's buffer stays at its block; the results are not described. -/
def fdats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (constant S1x128x10240 .fp8e4m3 0#8 : Vec F S1x128x10240 .fp8e4m3)
    | ⟨9, _⟩ => (constant S3x640 .f32 0#32 : Vec F S3x640 .f32)
    | ⟨10, _⟩ => (constant S3x640 .f32 0#32 : Vec F S3x640 .f32)
    | ⟨11, _⟩ => (constant S3x640 .f32 0#32 : Vec F S3x640 .f32)
  Φ _ := Pipeline.ΦA spec0 c
  q _ := fullShare
  owed _ := 0

theorem fA_eq (c : Dev nD) (w : Fin cfg0.W) : (fdats m 0 c).A w = V m c (Pipeline.arrRef spec0 w) := by
  dsimp only [fdats]
theorem fafter_0 (c : Dev nD) (t : Fin cfg0.N) : (fdats m 0 c).after 0 t = iblk m c 0 t := by dsimp only [fdats]
theorem fafter_1 (c : Dev nD) (t : Fin cfg0.N) : (fdats m 0 c).after 1 t = iblk m c 1 t := by dsimp only [fdats]
theorem fafter_2 (c : Dev nD) (t : Fin cfg0.N) : (fdats m 0 c).after 2 t = iblk m c 2 t := by dsimp only [fdats]
theorem fafter_3 (c : Dev nD) (t : Fin cfg0.N) : (fdats m 0 c).after 3 t = iblk m c 3 t := by dsimp only [fdats]
theorem fafter_4 (c : Dev nD) (t : Fin cfg0.N) : (fdats m 0 c).after 4 t = iblk m c 4 t := by dsimp only [fdats]
theorem fafter_5 (c : Dev nD) (t : Fin cfg0.N) : (fdats m 0 c).after 5 t = iblk m c 5 t := by dsimp only [fdats]
theorem fafter_6 (c : Dev nD) (t : Fin cfg0.N) : (fdats m 0 c).after 6 t = iblk m c 6 t := by dsimp only [fdats]
theorem fafter_7 (c : Dev nD) (t : Fin cfg0.N) : (fdats m 0 c).after 7 t = iblk m c 7 t := by dsimp only [fdats]
theorem fbefore_0 (c : Dev nD) (t : Fin cfg0.N) (d) : (fdats m 0 c).before 0 t d = iblk m c 0 t :=
  before0_0_of m (fdats m 0 c) (fA_eq m c 0) (fafter_0 m c) t d
theorem fbefore_1 (c : Dev nD) (t : Fin cfg0.N) (d) : (fdats m 0 c).before 1 t d = iblk m c 1 t :=
  before0_1_of m (fdats m 0 c) (fA_eq m c 1) (fafter_1 m c) t d
theorem fbefore_2 (c : Dev nD) (t : Fin cfg0.N) (d) : (fdats m 0 c).before 2 t d = iblk m c 2 t :=
  before0_2_of m (fdats m 0 c) (fA_eq m c 2) (fafter_2 m c) t d
theorem fbefore_3 (c : Dev nD) (t : Fin cfg0.N) (d) : (fdats m 0 c).before 3 t d = iblk m c 3 t :=
  before0_3_of m (fdats m 0 c) (fA_eq m c 3) (fafter_3 m c) t d
theorem fbefore_4 (c : Dev nD) (t : Fin cfg0.N) (d) : (fdats m 0 c).before 4 t d = iblk m c 4 t :=
  before0_4_of m (fdats m 0 c) (fA_eq m c 4) (fafter_4 m c) t d
theorem fbefore_5 (c : Dev nD) (t : Fin cfg0.N) (d) : (fdats m 0 c).before 5 t d = iblk m c 5 t :=
  before0_5_of m (fdats m 0 c) (fA_eq m c 5) (fafter_5 m c) t d
theorem fbefore_6 (c : Dev nD) (t : Fin cfg0.N) (d) : (fdats m 0 c).before 6 t d = iblk m c 6 t :=
  before0_6_of m (fdats m 0 c) (fA_eq m c 6) (fafter_6 m c) t d
theorem fbefore_7 (c : Dev nD) (t : Fin cfg0.N) (d) : (fdats m 0 c).before 7 t d = iblk m c 7 t :=
  before0_7_of m (fdats m 0 c) (fA_eq m c 7) (fafter_7 m c) t d

set_option maxHeartbeats 1600000 in
/-- One pass of the body at any grid point: the inputs' buffers are read and stay, every other buffer ends at some contents. -/
theorem body_any (c : Dev nD) (t : Fin cfg0.N) (arg2 : Memref sig .tc .smem S1 .f32) (harg2 : arg2.IsWhole) (arg3 : Memref sig .tc .smem S1 .f32) (harg3 : arg3.IsWhole) (arg4 : Memref sig .tc .vmem S1x128x10240 .bf16) (harg4 : arg4.IsWhole) (arg5 : Memref sig .tc .vmem S1x3x640 .f32) (harg5 : arg5.IsWhole) (arg6 : Memref sig .tc .vmem S1x3x640 .f32) (harg6 : arg6.IsWhole) (arg7 : Memref sig .tc .vmem S1x10240 .f32) (harg7 : arg7.IsWhole) (arg8 : Memref sig .tc .vmem S1x10240 .f32) (harg8 : arg8.IsWhole) (arg9 : Memref sig .tc .vmem S16x128 .bf16) (harg9 : arg9.IsWhole) (arg10 : Memref sig .tc .vmem S1x128x10240 .fp8e4m3) (harg10 : arg10.IsWhole) (arg11 : Memref sig .tc .vmem S3x640 .f32) (harg11 : arg11.IsWhole) (arg12 : Memref sig .tc .vmem S3x640 .f32) (harg12 : arg12.IsWhole) (arg13 : Memref sig .tc .vmem S3x640 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S1x10240 .f32) (harg19 : arg19.IsWhole) (arg20 : Memref sig .tc .vmem S1x10240 .f32) (harg20 : arg20.IsWhole) (arg21 : Memref sig .tc .vmem S16x128 .f32) (harg21 : arg21.IsWhole) (arg22 : Memref sig .tc .vmem S16x128 .f32) (harg22 : arg22.IsWhole) (arg23 : Memref sig .tc .vmem S16x128 .f32) (harg23 : arg23.IsWhole) (arg24 : Memref sig .tc .vmem S16x128 .f32) (harg24 : arg24.IsWhole) (arg25 : Memref sig .tc .vmem S16x128 .f32) (harg25 : arg25.IsWhole) (x2 : Vec F S1 .f32) (x3 : Vec F S1 .f32) (x4 : Vec F S1x128x10240 .bf16) (x5 : Vec F S1x3x640 .f32) (x6 : Vec F S1x3x640 .f32) (x7 : Vec F S1x10240 .f32) (x8 : Vec F S1x10240 .f32) (x9 : Vec F S16x128 .bf16) (E : Set ℕ) (K : PUnit → sProp (MT nD τ sig Unit (Elt F) ℕ (UR sig nD τ) ℕ)) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ f, arg14.view.loc (c : Thread nD τ) ↦[arg14.view.set]{fullShare} f) ∗ (∃ f, arg15.view.loc (c : Thread nD τ) ↦[arg15.view.set]{fullShare} f) ∗ (∃ f, arg16.view.loc (c : Thread nD τ) ↦[arg16.view.set]{fullShare} f) ∗ (∃ f, arg17.view.loc (c : Thread nD τ) ↦[arg17.view.set]{fullShare} f) ∗ (∃ f, arg18.view.loc (c : Thread nD τ) ↦[arg18.view.set]{fullShare} f) ∗ (∃ f, arg19.view.loc (c : Thread nD τ) ↦[arg19.view.set]{fullShare} f) ∗ (∃ f, arg20.view.loc (c : Thread nD τ) ↦[arg20.view.set]{fullShare} f) ∗ (∃ f, arg21.view.loc (c : Thread nD τ) ↦[arg21.view.set]{fullShare} f) ∗ (∃ f, arg22.view.loc (c : Thread nD τ) ↦[arg22.view.set]{fullShare} f) ∗ (∃ f, arg23.view.loc (c : Thread nD τ) ↦[arg23.view.set]{fullShare} f) ∗ (∃ f, arg24.view.loc (c : Thread nD τ) ↦[arg24.view.set]{fullShare} f) ∗ (∃ f, arg25.view.loc (c : Thread nD τ) ↦[arg25.view.set]{fullShare} f) ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ f, arg14.view.loc (c : Thread nD τ) ↦[arg14.view.set]{fullShare} f) ∗ (∃ f, arg15.view.loc (c : Thread nD τ) ↦[arg15.view.set]{fullShare} f) ∗ (∃ f, arg16.view.loc (c : Thread nD τ) ↦[arg16.view.set]{fullShare} f) ∗ (∃ f, arg17.view.loc (c : Thread nD τ) ↦[arg17.view.set]{fullShare} f) ∗ (∃ f, arg18.view.loc (c : Thread nD τ) ↦[arg18.view.set]{fullShare} f) ∗ (∃ f, arg19.view.loc (c : Thread nD τ) ↦[arg19.view.set]{fullShare} f) ∗ (∃ f, arg20.view.loc (c : Thread nD τ) ↦[arg20.view.set]{fullShare} f) ∗ (∃ f, arg21.view.loc (c : Thread nD τ) ↦[arg21.view.set]{fullShare} f) ∗ (∃ f, arg22.view.loc (c : Thread nD τ) ↦[arg22.view.set]{fullShare} f) ∗ (∃ f, arg23.view.loc (c : Thread nD τ) ↦[arg23.view.set]{fullShare} f) ∗ (∃ f, arg24.view.loc (c : Thread nD τ) ↦[arg24.view.set]{fullShare} f) ∗ (∃ f, arg25.view.loc (c : Thread nD τ) ↦[arg25.view.set]{fullShare} f)) -∗ K PUnit.unit))
      ⊢ wp frame (wpE (defs₀ (F := F)) Variants.none c none) E (cc0_tp_layernorm (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩, Hk⟩
  by_cases hc1 : k0_cond1 (grid0.coords t)
  · have hc2 : ¬ k0_cond2 (grid0.coords t) = 1#1 := fun h => by
      have h1 := (cond1_iff t).mp hc1; have h2 := (cond2_iff t).mp h; omega
    iapply ((runA c (grid0.coords t) _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 hc1 hc2 f2 f3 f4 f5 f6 f7 f8 f9 f10 f11 f12 f13 f14 f15 f16 f17 f18 f19 f20 f21 f22 f23 f24 f25).2.2.2.2.2.2.2.2.2.2.2.2.2 E K)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    iintro ⟨H2, H3, H4, H5, H6, H7, H8, H9, H10, H11, H12, H13, H14, H15, H16, H17, H18, H19, H20, H21, H22, H23, H24, H25⟩
    iapply Hk
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; · ipureintro; exact hf6
      iexact H6
    isplitl [H7]
    · iexists _; isplitr; · ipureintro; exact hf7
      iexact H7
    isplitl [H8]
    · iexists _; isplitr; · ipureintro; exact hf8
      iexact H8
    isplitl [H9]
    · iexists _; isplitr; · ipureintro; exact hf9
      iexact H9
    isplitl [H10]
    · iexists _; iexists _; isplitr; swap; · iexact H10
      ipureintro; rfl
    isplitl [H11]
    · iexists _; iexists _; isplitr; swap; · iexact H11
      ipureintro; rfl
    isplitl [H12]
    · iexists _; iexists _; isplitr; swap; · iexact H12
      ipureintro; rfl
    isplitl [H13]
    · iexists _; iexists _; isplitr; swap; · iexact H13
      ipureintro; rfl
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    iexists _; iexact H25
  · by_cases hc2 : k0_cond2 (grid0.coords t) = 1#1
    · skip
      iapply ((runC c (grid0.coords t) _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 hc1 hc2 f2 f3 f4 f5 f6 f7 f8 f9 f10 f11 f12 f13 f14 f15 f16 f17 f18 f19 f20 f21 f22 f23 f24 f25).2.2.2.2.2.2.2.2.2.2.2.2 E K)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      iintro ⟨H2, H3, H4, H5, H6, H7, H8, H9, H10, H11, H12, H13, H14, H15, H16, H17, H18, H19, H20, H21, H22, H23, H24, H25⟩
      iapply Hk
      isplitl [H2]
      · iexists _; isplitr; · ipureintro; exact hf2
        iexact H2
      isplitl [H3]
      · iexists _; isplitr; · ipureintro; exact hf3
        iexact H3
      isplitl [H4]
      · iexists _; isplitr; · ipureintro; exact hf4
        iexact H4
      isplitl [H5]
      · iexists _; isplitr; · ipureintro; exact hf5
        iexact H5
      isplitl [H6]
      · iexists _; isplitr; · ipureintro; exact hf6
        iexact H6
      isplitl [H7]
      · iexists _; isplitr; · ipureintro; exact hf7
        iexact H7
      isplitl [H8]
      · iexists _; isplitr; · ipureintro; exact hf8
        iexact H8
      isplitl [H9]
      · iexists _; isplitr; · ipureintro; exact hf9
        iexact H9
      isplitl [H10]
      · iexists _; iexists _; isplitr; swap; · iexact H10
        ipureintro; rfl
      isplitl [H11]
      · iexists _; iexists _; isplitr; swap; · iexact H11
        ipureintro; rfl
      isplitl [H12]
      · iexists _; iexists _; isplitr; swap; · iexact H12
        ipureintro; rfl
      isplitl [H13]
      · iexists _; iexists _; isplitr; swap; · iexact H13
        ipureintro; rfl
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexists _; iexact H20
      isplitl [H21]; · iexists _; iexact H21
      isplitl [H22]; · iexists _; iexact H22
      isplitl [H23]; · iexists _; iexact H23
      isplitl [H24]; · iexists _; iexact H24
      iexists _; iexact H25
    · skip
      iapply ((runB c (grid0.coords t) _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 hc1 hc2 f2 f3 f4 f5 f6 f7 f8 f9 f10 f11 f12 f13 f14 f15 f16 f17 f18 f19 f20 f21 f22 f23 f24 f25).2.2.2.2.2.2.2.2.2 E K)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      iintro ⟨H2, H3, H4, H5, H6, H7, H8, H9, H10, H11, H12, H13, H14, H15, H16, H17, H18, H19, H20, H21, H22, H23, H24, H25⟩
      iapply Hk
      isplitl [H2]
      · iexists _; isplitr; · ipureintro; exact hf2
        iexact H2
      isplitl [H3]
      · iexists _; isplitr; · ipureintro; exact hf3
        iexact H3
      isplitl [H4]
      · iexists _; isplitr; · ipureintro; exact hf4
        iexact H4
      isplitl [H5]
      · iexists _; isplitr; · ipureintro; exact hf5
        iexact H5
      isplitl [H6]
      · iexists _; isplitr; · ipureintro; exact hf6
        iexact H6
      isplitl [H7]
      · iexists _; isplitr; · ipureintro; exact hf7
        iexact H7
      isplitl [H8]
      · iexists _; isplitr; · ipureintro; exact hf8
        iexact H8
      isplitl [H9]
      · iexists _; isplitr; · ipureintro; exact hf9
        iexact H9
      isplitl [H10]
      · iexists _; iexists _; isplitr; swap; · iexact H10
        ipureintro; rfl
      isplitl [H11]
      · iexists _; iexists _; isplitr; swap; · iexact H11
        ipureintro; rfl
      isplitl [H12]
      · iexists _; iexists _; isplitr; swap; · iexact H12
        ipureintro; rfl
      isplitl [H13]
      · iexists _; iexists _; isplitr; swap; · iexact H13
        ipureintro; rfl
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexists _; iexact H20
      isplitl [H21]; · iexists _; iexact H21
      isplitl [H22]; · iexists _; iexact H22
      isplitl [H23]; · iexists _; iexact H23
      isplitl [H24]; · iexists _; iexact H24
      iexists _; iexact H25

/-- What the body is called with at point `t`, -/
def fbodyPre (c : Dev nD) (t : Fin cfg0.N) : sProp (MT nD τ sig Unit (Elt F) ℕ (UR sig nD τ) ℕ) :=
  iprop((fdats m 0 c).Φ t.castSucc ∗ (fdats m 0 c).owesAt () t.castSucc
    ∗ (∃ d, owns (c : Thread nD τ) (st0_0 t) fullShare ((fdats m 0 c).before 0 t d))
    ∗ (∃ d, owns (c : Thread nD τ) (st0_1 t) fullShare ((fdats m 0 c).before 1 t d))
    ∗ (∃ d, owns (c : Thread nD τ) (st0_2 t) fullShare ((fdats m 0 c).before 2 t d))
    ∗ (∃ d, owns (c : Thread nD τ) (st0_3 t) fullShare ((fdats m 0 c).before 3 t d))
    ∗ (∃ d, owns (c : Thread nD τ) (st0_4 t) fullShare ((fdats m 0 c).before 4 t d))
    ∗ (∃ d, owns (c : Thread nD τ) (st0_5 t) fullShare ((fdats m 0 c).before 5 t d))
    ∗ (∃ d, owns (c : Thread nD τ) (st0_6 t) fullShare ((fdats m 0 c).before 6 t d))
    ∗ (∃ d, owns (c : Thread nD τ) (st0_7 t) fullShare ((fdats m 0 c).before 7 t d))
    ∗ (∃ d, owns (c : Thread nD τ) (st0_8 t) fullShare d)
    ∗ (∃ d, owns (c : Thread nD τ) (st0_9 t) fullShare d)
    ∗ (∃ d, owns (c : Thread nD τ) (st0_10 t) fullShare d)
    ∗ (∃ d, owns (c : Thread nD τ) (st0_11 t) fullShare d))

/-- and what it returns. -/
def fbodyPost (c : Dev nD) (t : Fin cfg0.N) : sProp (MT nD τ sig Unit (Elt F) ℕ (UR sig nD τ) ℕ) :=
  iprop((fdats m 0 c).Φ t.succ ∗ (fdats m 0 c).owesAt () t.succ
    ∗ owns (c : Thread nD τ) (st0_0 t) fullShare ((fdats m 0 c).after 0 t)
    ∗ owns (c : Thread nD τ) (st0_1 t) fullShare ((fdats m 0 c).after 1 t)
    ∗ owns (c : Thread nD τ) (st0_2 t) fullShare ((fdats m 0 c).after 2 t)
    ∗ owns (c : Thread nD τ) (st0_3 t) fullShare ((fdats m 0 c).after 3 t)
    ∗ owns (c : Thread nD τ) (st0_4 t) fullShare ((fdats m 0 c).after 4 t)
    ∗ owns (c : Thread nD τ) (st0_5 t) fullShare ((fdats m 0 c).after 5 t)
    ∗ owns (c : Thread nD τ) (st0_6 t) fullShare ((fdats m 0 c).after 6 t)
    ∗ owns (c : Thread nD τ) (st0_7 t) fullShare ((fdats m 0 c).after 7 t)
    ∗ (∃ d, owns (c : Thread nD τ) (st0_8 t) fullShare d)
    ∗ (∃ d, owns (c : Thread nD τ) (st0_9 t) fullShare d)
    ∗ (∃ d, owns (c : Thread nD τ) (st0_10 t) fullShare d)
    ∗ (∃ d, owns (c : Thread nD τ) (st0_11 t) fullShare d))

set_option maxHeartbeats 1600000 in
theorem fsound_body (c : Dev nD) (t : Fin cfg0.N) :
    fbodyPre m c t ⊢ wp frame (wpE (defs₀ (F := F)) Variants.none c none) Set.univ (bodyAt0 t) (fun _ => fbodyPost m c t) := by
  unfold fbodyPre fbodyPost bodyAt0
  simp only [fbefore_0, fbefore_1, fbefore_2, fbefore_3, fbefore_4, fbefore_5, fbefore_6, fbefore_7]
  rw [show (fdats m 0 c).owesAt () t.succ = (fdats m 0 c).owesAt () t.castSucc from rfl,
    show (fdats m 0 c).Φ t.castSucc = Pipeline.ΦA spec0 c from rfl, show (fdats m 0 c).Φ t.succ = Pipeline.ΦA spec0 c from rfl,
    fafter_0, fafter_1, fafter_2, fafter_3, fafter_4, fafter_5, fafter_6, fafter_7]
  unfold Pipeline.ΦA
  rw [scopedRest0_eq]
  iintro ⟨⟨⟨⟨%s0, S0⟩, ⟨%s1, S1⟩, ⟨%s2, S2⟩, ⟨%s3, S3⟩, ⟨%s4, S4⟩, ⟨%s5, S5⟩, ⟨%s6, S6⟩, ⟨%s7, S7⟩, ⟨%s8, S8⟩, ⟨%s9, S9⟩, ⟨%s10, S10⟩, ⟨%s11, S11⟩⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (body_any c t _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (hstage0_10 ((cfg0.slots t 10).cast nbuf0_10)) _ (hstage0_11 ((cfg0.slots t 11).cast nbuf0_11)) _ (Memref.isWhole_whole cc0_scratch0) _ (Memref.isWhole_whole cc0_scratch1) _ (Memref.isWhole_whole cc0_scratch2) _ (Memref.isWhole_whole cc0_scratch3) _ (Memref.isWhole_whole cc0_scratch4) _ (Memref.isWhole_whole cc0_scratch5) _ (Memref.isWhole_whole cc0_scratch6) _ (Memref.isWhole_whole cc0_scratch7) _ (Memref.isWhole_whole cc0_scratch8) _ (Memref.isWhole_whole cc0_scratch9) _ (Memref.isWhole_whole cc0_scratch10) _ (Memref.isWhole_whole cc0_scratch11) (iblk m c 0 t) (iblk m c 1 t) (iblk m c 2 t) (iblk m c 3 t) (iblk m c 4 t) (iblk m c 5 t) (iblk m c 6 t) (iblk m c 7 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [S0]
  · iexists _; rw [(Memref.isWhole_whole cc0_scratch0).set_eq_univ]; iexact S0
  isplitl [S1]
  · iexists _; rw [(Memref.isWhole_whole cc0_scratch1).set_eq_univ]; iexact S1
  isplitl [S2]
  · iexists _; rw [(Memref.isWhole_whole cc0_scratch2).set_eq_univ]; iexact S2
  isplitl [S3]
  · iexists _; rw [(Memref.isWhole_whole cc0_scratch3).set_eq_univ]; iexact S3
  isplitl [S4]
  · iexists _; rw [(Memref.isWhole_whole cc0_scratch4).set_eq_univ]; iexact S4
  isplitl [S5]
  · iexists _; rw [(Memref.isWhole_whole cc0_scratch5).set_eq_univ]; iexact S5
  isplitl [S6]
  · iexists _; rw [(Memref.isWhole_whole cc0_scratch6).set_eq_univ]; iexact S6
  isplitl [S7]
  · iexists _; rw [(Memref.isWhole_whole cc0_scratch7).set_eq_univ]; iexact S7
  isplitl [S8]
  · iexists _; rw [(Memref.isWhole_whole cc0_scratch8).set_eq_univ]; iexact S8
  isplitl [S9]
  · iexists _; rw [(Memref.isWhole_whole cc0_scratch9).set_eq_univ]; iexact S9
  isplitl [S10]
  · iexists _; rw [(Memref.isWhole_whole cc0_scratch10).set_eq_univ]; iexact S10
  isplitl [S11]
  · iexists _; rw [(Memref.isWhole_whole cc0_scratch11).set_eq_univ]; iexact S11
  iintro ⟨H0, H1, H2, H3, H4, H5, H6, H7, ⟨%e8, H8⟩, ⟨%e9, H9⟩, ⟨%e10, H10⟩, ⟨%e11, H11⟩, ⟨%s0, S0⟩, ⟨%s1, S1⟩, ⟨%s2, S2⟩, ⟨%s3, S3⟩, ⟨%s4, S4⟩, ⟨%s5, S5⟩, ⟨%s6, S6⟩, ⟨%s7, S7⟩, ⟨%s8, S8⟩, ⟨%s9, S9⟩, ⟨%s10, S10⟩, ⟨%s11, S11⟩⟩
  isplitl [S0 S1 S2 S3 S4 S5 S6 S7 S8 S9 S10 S11 HR]
  · isplitr [HR]
    · isplitl [S0]
      · iexists _; rw [← (Memref.isWhole_whole cc0_scratch0).set_eq_univ]; iexact S0
      isplitl [S1]
      · iexists _; rw [← (Memref.isWhole_whole cc0_scratch1).set_eq_univ]; iexact S1
      isplitl [S2]
      · iexists _; rw [← (Memref.isWhole_whole cc0_scratch2).set_eq_univ]; iexact S2
      isplitl [S3]
      · iexists _; rw [← (Memref.isWhole_whole cc0_scratch3).set_eq_univ]; iexact S3
      isplitl [S4]
      · iexists _; rw [← (Memref.isWhole_whole cc0_scratch4).set_eq_univ]; iexact S4
      isplitl [S5]
      · iexists _; rw [← (Memref.isWhole_whole cc0_scratch5).set_eq_univ]; iexact S5
      isplitl [S6]
      · iexists _; rw [← (Memref.isWhole_whole cc0_scratch6).set_eq_univ]; iexact S6
      isplitl [S7]
      · iexists _; rw [← (Memref.isWhole_whole cc0_scratch7).set_eq_univ]; iexact S7
      isplitl [S8]
      · iexists _; rw [← (Memref.isWhole_whole cc0_scratch8).set_eq_univ]; iexact S8
      isplitl [S9]
      · iexists _; rw [← (Memref.isWhole_whole cc0_scratch9).set_eq_univ]; iexact S9
      isplitl [S10]
      · iexists _; rw [← (Memref.isWhole_whole cc0_scratch10).set_eq_univ]; iexact S10
      iexists _; rw [← (Memref.isWhole_whole cc0_scratch11).set_eq_univ]; iexact S11
    · iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iexists _; iexact H11

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem fbody_obligation (c : Dev nD) : BodyObligation (fdats (F := F) m 0 c) (defs₀ (F := F)) Variants.none () Set.univ fgt := fun t => by
  rw [bigSep_W0, bigSep_W0, defs₀_row]
  exact triple_restated (fsound_body m c t) rfl .rfl fun _ => .rfl

set_option backward.isDefEq.respectTransparency.types false in
/-- The launch: every run ends, the arrays at what the proof data say, every semaphore counter at zero. -/
theorem frun_main : θ_run defs (onTc (τ := τ) (main (F := F))) (s₀ m ρ)
    (fun r => (Pipeline.RDat.FramePost cfg0 (fun c => (fdats m 0 c).toRForget fgt) (V m)) r ∧ r.2.sem = fun _ => 0) :=
  Pipeline.θ_run_frame_forget (Q' := _) cfgs (fdats m) (0 : Fin 1) launch0 defs₀ Variants.none fgt m ρ main
    (hbody := fun c => (fbody_obligation m c).loose) (hshare := fun c => (fdats m 0 c).share_full fun _ => rfl)
    (howed := fun _ _ => rfl) (V := V m) (hmain := hmain m Variants.none) (hA := fA_eq m) (hΦ := fun _ _ => rfl)

/-- The frame: every run ends, the arguments unchanged, every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨
      (h.1.arr_in c 2 rfl).trans ((fA_eq m c 2).trans (V_main_arg0 m c)),
      (h.1.arr_in c 1 rfl).trans ((fA_eq m c 1).trans (V_main_arg1 m c)),
      (h.1.arr_in c 3 rfl).trans ((fA_eq m c 3).trans (V_main_arg2 m c)),
      (h.1.arr_in c 4 rfl).trans ((fA_eq m c 4).trans (V_main_arg3 m c)),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      (h.1.arr_in c 0 rfl).trans ((fA_eq m c 0).trans (V_main_arg6 m c))⟩, h.2⟩) (frun_main m ρ)

end Cert.Kernel.Body

end
-- ==== Proof.KernelIdealRunA.lean ====
/- One pass of the kernel's body, run symbolically. -/
module

public import proofs.«01_k».proof.Proof.Gen.KernelIdeal.Frame
public import proofs.«01_k».proof.Proof.Gen.KernelIdeal.Loops
public import Idealize.ShloMosaic.Lib.Pipeline.FrameBody
public import Idealize.ShloMosaic.Lib.Tactic

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The body is at the first grid point (spelt as the body spells it). -/
def k0_cond1 (i : grid0.Coords) : Prop :=
  Scalar.cmpi .ne (Scalar.extui (Scalar.cmpi .eq (Scalar.addi (Scalar.muli (BitVec.ofNat 32 (i 0).val) 5#32) (BitVec.ofNat 32 (i 1).val)) 0#32) : BitVec 32) 0#32 = 1#1

set_option maxHeartbeats 2000000 in
/-- What one pass of the kernel's body leaves in every buffer it writes, at a first grid point, with the proof that it does. -/
noncomputable def runA (c : Dev nD) (i : grid0.Coords) (arg2 : Memref sig .tc .smem S1 .f32) (harg2 : arg2.IsWhole) (arg3 : Memref sig .tc .smem S1 .f32) (harg3 : arg3.IsWhole) (arg4 : Memref sig .tc .vmem S1x128x10240 .bf16) (harg4 : arg4.IsWhole) (arg5 : Memref sig .tc .vmem S1x3x640 .f32) (harg5 : arg5.IsWhole) (arg6 : Memref sig .tc .vmem S1x3x640 .f32) (harg6 : arg6.IsWhole) (arg7 : Memref sig .tc .vmem S1x10240 .f32) (harg7 : arg7.IsWhole) (arg8 : Memref sig .tc .vmem S1x10240 .f32) (harg8 : arg8.IsWhole) (arg9 : Memref sig .tc .vmem S16x128 .bf16) (harg9 : arg9.IsWhole) (arg10 : Memref sig .tc .vmem S1x128x10240 .fp8e4m3) (harg10 : arg10.IsWhole) (arg11 : Memref sig .tc .vmem S3x640 .f32) (harg11 : arg11.IsWhole) (arg12 : Memref sig .tc .vmem S3x640 .f32) (harg12 : arg12.IsWhole) (arg13 : Memref sig .tc .vmem S3x640 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S1x10240 .f32) (harg19 : arg19.IsWhole) (arg20 : Memref sig .tc .vmem S1x10240 .f32) (harg20 : arg20.IsWhole) (arg21 : Memref sig .tc .vmem S16x128 .f32) (harg21 : arg21.IsWhole) (arg22 : Memref sig .tc .vmem S16x128 .f32) (harg22 : arg22.IsWhole) (arg23 : Memref sig .tc .vmem S16x128 .f32) (harg23 : arg23.IsWhole) (arg24 : Memref sig .tc .vmem S16x128 .f32) (harg24 : arg24.IsWhole) (arg25 : Memref sig .tc .vmem S16x128 .f32) (harg25 : arg25.IsWhole)
    (hc1 : k0_cond1 i) (hc2 : ¬ k0_cond2 i = 1#1)
    (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (f21 : BufTy.Contents (Elt F) arg21.view.ty) (f22 : BufTy.Contents (Elt F) arg22.view.ty) (f23 : BufTy.Contents (Elt F) arg23.view.ty) (f24 : BufTy.Contents (Elt F) arg24.view.ty) (f25 : BufTy.Contents (Elt F) arg25.view.ty) :
    Σ' (W10 : BufTy.Contents (Elt F) arg10.view.ty), Σ' (W14 : BufTy.Contents (Elt F) arg14.view.ty), Σ' (W15 : BufTy.Contents (Elt F) arg15.view.ty), Σ' (W16 : BufTy.Contents (Elt F) arg16.view.ty), Σ' (W17 : BufTy.Contents (Elt F) arg17.view.ty), Σ' (W18 : BufTy.Contents (Elt F) arg18.view.ty), Σ' (W19 : BufTy.Contents (Elt F) arg19.view.ty), Σ' (W20 : BufTy.Contents (Elt F) arg20.view.ty), Σ' (W21 : BufTy.Contents (Elt F) arg21.view.ty), Σ' (W22 : BufTy.Contents (Elt F) arg22.view.ty), Σ' (W23 : BufTy.Contents (Elt F) arg23.view.ty), Σ' (W24 : BufTy.Contents (Elt F) arg24.view.ty), { W25 : BufTy.Contents (Elt F) arg25.view.ty //
      ∀ (E : Set ℕ) (K : PUnit → sProp (MT nD τ sig Unit (Elt F) ℕ (UR sig nD τ) ℕ)),
        iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} f22) ∗ (arg23.view.loc (c : Thread nD τ) ↦[arg23.view.set]{fullShare} f23) ∗ (arg24.view.loc (c : Thread nD τ) ↦[arg24.view.set]{fullShare} f24) ∗ (arg25.view.loc (c : Thread nD τ) ↦[arg25.view.set]{fullShare} f25)
            ∗ (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} W10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} W14) ∗ (arg15.view.loc (c : Thread nD τ) ↦[arg15.view.set]{fullShare} W15) ∗ (arg16.view.loc (c : Thread nD τ) ↦[arg16.view.set]{fullShare} W16) ∗ (arg17.view.loc (c : Thread nD τ) ↦[arg17.view.set]{fullShare} W17) ∗ (arg18.view.loc (c : Thread nD τ) ↦[arg18.view.set]{fullShare} W18) ∗ (arg19.view.loc (c : Thread nD τ) ↦[arg19.view.set]{fullShare} W19) ∗ (arg20.view.loc (c : Thread nD τ) ↦[arg20.view.set]{fullShare} W20) ∗ (arg21.view.loc (c : Thread nD τ) ↦[arg21.view.set]{fullShare} W21) ∗ (arg22.view.loc (c : Thread nD τ) ↦[arg22.view.set]{fullShare} W22) ∗ (arg23.view.loc (c : Thread nD τ) ↦[arg23.view.set]{fullShare} W23) ∗ (arg24.view.loc (c : Thread nD τ) ↦[arg24.view.set]{fullShare} W24) ∗ (arg25.view.loc (c : Thread nD τ) ↦[arg25.view.set]{fullShare} W25)) -∗ K PUnit.unit))
          ⊢ wp frame (wpE (defs₀ (F := F)) Variants.none c none) E (cc0_tp_layernorm i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨?_, ?_, ?_, ?_, ?_, ?_, ?_, ?_, ?_, ?_, ?_, ?_, ?_, fun E K => ?run⟩
  case run =>
    unfold k0_cond1 at hc1
    simp only [cc0_tp_layernorm_eq_skeleton]; unfold cc0_tp_layernorm_skel
    iintro ⟨H2, H3, H4, H5, H6, H7, H8, H9, H10, H11, H12, H13, H14, H15, H16, H17, H18, H19, H20, H21, H22, H23, H24, H25, Hk⟩
    sl_exec
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    iexact H25

end Cert.KernelIdeal.Body

end
-- ==== Proof.KernelIdealRunB.lean ====
/- One pass of the kernel's body, run symbolically. -/
module

public import proofs.«01_k».proof.Proof.KernelIdealRunA
public import proofs.«01_k».proof.Proof.Gen.KernelIdeal.Loops
public import Idealize.ShloMosaic.Lib.Pipeline.FrameBody
public import Idealize.ShloMosaic.Lib.Tactic

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

set_option maxHeartbeats 2000000 in
/-- What one pass of the kernel's body leaves in every buffer it writes, at a middle grid point, with the proof that it does. -/
noncomputable def runB (c : Dev nD) (i : grid0.Coords) (arg2 : Memref sig .tc .smem S1 .f32) (harg2 : arg2.IsWhole) (arg3 : Memref sig .tc .smem S1 .f32) (harg3 : arg3.IsWhole) (arg4 : Memref sig .tc .vmem S1x128x10240 .bf16) (harg4 : arg4.IsWhole) (arg5 : Memref sig .tc .vmem S1x3x640 .f32) (harg5 : arg5.IsWhole) (arg6 : Memref sig .tc .vmem S1x3x640 .f32) (harg6 : arg6.IsWhole) (arg7 : Memref sig .tc .vmem S1x10240 .f32) (harg7 : arg7.IsWhole) (arg8 : Memref sig .tc .vmem S1x10240 .f32) (harg8 : arg8.IsWhole) (arg9 : Memref sig .tc .vmem S16x128 .bf16) (harg9 : arg9.IsWhole) (arg10 : Memref sig .tc .vmem S1x128x10240 .fp8e4m3) (harg10 : arg10.IsWhole) (arg11 : Memref sig .tc .vmem S3x640 .f32) (harg11 : arg11.IsWhole) (arg12 : Memref sig .tc .vmem S3x640 .f32) (harg12 : arg12.IsWhole) (arg13 : Memref sig .tc .vmem S3x640 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S1x10240 .f32) (harg19 : arg19.IsWhole) (arg20 : Memref sig .tc .vmem S1x10240 .f32) (harg20 : arg20.IsWhole) (arg21 : Memref sig .tc .vmem S16x128 .f32) (harg21 : arg21.IsWhole) (arg22 : Memref sig .tc .vmem S16x128 .f32) (harg22 : arg22.IsWhole) (arg23 : Memref sig .tc .vmem S16x128 .f32) (harg23 : arg23.IsWhole) (arg24 : Memref sig .tc .vmem S16x128 .f32) (harg24 : arg24.IsWhole) (arg25 : Memref sig .tc .vmem S16x128 .f32) (harg25 : arg25.IsWhole)
    (hc1 : ¬ k0_cond1 i) (hc2 : ¬ k0_cond2 i = 1#1)
    (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (f21 : BufTy.Contents (Elt F) arg21.view.ty) (f22 : BufTy.Contents (Elt F) arg22.view.ty) (f23 : BufTy.Contents (Elt F) arg23.view.ty) (f24 : BufTy.Contents (Elt F) arg24.view.ty) (f25 : BufTy.Contents (Elt F) arg25.view.ty) :
    Σ' (W10 : BufTy.Contents (Elt F) arg10.view.ty), Σ' (W14 : BufTy.Contents (Elt F) arg14.view.ty), Σ' (W15 : BufTy.Contents (Elt F) arg15.view.ty), Σ' (W16 : BufTy.Contents (Elt F) arg16.view.ty), Σ' (W17 : BufTy.Contents (Elt F) arg17.view.ty), Σ' (W18 : BufTy.Contents (Elt F) arg18.view.ty), Σ' (W23 : BufTy.Contents (Elt F) arg23.view.ty), Σ' (W24 : BufTy.Contents (Elt F) arg24.view.ty), { W25 : BufTy.Contents (Elt F) arg25.view.ty //
      ∀ (E : Set ℕ) (K : PUnit → sProp (MT nD τ sig Unit (Elt F) ℕ (UR sig nD τ) ℕ)),
        iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} f22) ∗ (arg23.view.loc (c : Thread nD τ) ↦[arg23.view.set]{fullShare} f23) ∗ (arg24.view.loc (c : Thread nD τ) ↦[arg24.view.set]{fullShare} f24) ∗ (arg25.view.loc (c : Thread nD τ) ↦[arg25.view.set]{fullShare} f25)
            ∗ (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} W10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} W14) ∗ (arg15.view.loc (c : Thread nD τ) ↦[arg15.view.set]{fullShare} W15) ∗ (arg16.view.loc (c : Thread nD τ) ↦[arg16.view.set]{fullShare} W16) ∗ (arg17.view.loc (c : Thread nD τ) ↦[arg17.view.set]{fullShare} W17) ∗ (arg18.view.loc (c : Thread nD τ) ↦[arg18.view.set]{fullShare} W18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} f22) ∗ (arg23.view.loc (c : Thread nD τ) ↦[arg23.view.set]{fullShare} W23) ∗ (arg24.view.loc (c : Thread nD τ) ↦[arg24.view.set]{fullShare} W24) ∗ (arg25.view.loc (c : Thread nD τ) ↦[arg25.view.set]{fullShare} W25)) -∗ K PUnit.unit))
          ⊢ wp frame (wpE (defs₀ (F := F)) Variants.none c none) E (cc0_tp_layernorm i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨?_, ?_, ?_, ?_, ?_, ?_, ?_, ?_, ?_, fun E K => ?run⟩
  case run =>
    unfold k0_cond1 at hc1
    simp only [cc0_tp_layernorm_eq_skeleton]; unfold cc0_tp_layernorm_skel
    iintro ⟨H2, H3, H4, H5, H6, H7, H8, H9, H10, H11, H12, H13, H14, H15, H16, H17, H18, H19, H20, H21, H22, H23, H24, H25, Hk⟩
    sl_exec
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    iexact H25

end Cert.KernelIdeal.Body

end
-- ==== Proof.KernelIdealRunC.lean ====
/- One pass of the kernel's body, run symbolically. -/
module

public import proofs.«01_k».proof.Proof.KernelIdealRunB
public import proofs.«01_k».proof.Proof.Gen.KernelIdeal.Loops
public import Idealize.ShloMosaic.Lib.Pipeline.FrameBody
public import Idealize.ShloMosaic.Lib.Tactic

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

set_option maxHeartbeats 2000000 in
/-- What one pass of the kernel's body leaves in every buffer it writes, at a last grid point, with the proof that it does. -/
noncomputable def runC (c : Dev nD) (i : grid0.Coords) (arg2 : Memref sig .tc .smem S1 .f32) (harg2 : arg2.IsWhole) (arg3 : Memref sig .tc .smem S1 .f32) (harg3 : arg3.IsWhole) (arg4 : Memref sig .tc .vmem S1x128x10240 .bf16) (harg4 : arg4.IsWhole) (arg5 : Memref sig .tc .vmem S1x3x640 .f32) (harg5 : arg5.IsWhole) (arg6 : Memref sig .tc .vmem S1x3x640 .f32) (harg6 : arg6.IsWhole) (arg7 : Memref sig .tc .vmem S1x10240 .f32) (harg7 : arg7.IsWhole) (arg8 : Memref sig .tc .vmem S1x10240 .f32) (harg8 : arg8.IsWhole) (arg9 : Memref sig .tc .vmem S16x128 .bf16) (harg9 : arg9.IsWhole) (arg10 : Memref sig .tc .vmem S1x128x10240 .fp8e4m3) (harg10 : arg10.IsWhole) (arg11 : Memref sig .tc .vmem S3x640 .f32) (harg11 : arg11.IsWhole) (arg12 : Memref sig .tc .vmem S3x640 .f32) (harg12 : arg12.IsWhole) (arg13 : Memref sig .tc .vmem S3x640 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S1x10240 .f32) (harg19 : arg19.IsWhole) (arg20 : Memref sig .tc .vmem S1x10240 .f32) (harg20 : arg20.IsWhole) (arg21 : Memref sig .tc .vmem S16x128 .f32) (harg21 : arg21.IsWhole) (arg22 : Memref sig .tc .vmem S16x128 .f32) (harg22 : arg22.IsWhole) (arg23 : Memref sig .tc .vmem S16x128 .f32) (harg23 : arg23.IsWhole) (arg24 : Memref sig .tc .vmem S16x128 .f32) (harg24 : arg24.IsWhole) (arg25 : Memref sig .tc .vmem S16x128 .f32) (harg25 : arg25.IsWhole)
    (hc1 : ¬ k0_cond1 i) (hc2 : k0_cond2 i = 1#1)
    (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (f21 : BufTy.Contents (Elt F) arg21.view.ty) (f22 : BufTy.Contents (Elt F) arg22.view.ty) (f23 : BufTy.Contents (Elt F) arg23.view.ty) (f24 : BufTy.Contents (Elt F) arg24.view.ty) (f25 : BufTy.Contents (Elt F) arg25.view.ty) :
    Σ' (W10 : BufTy.Contents (Elt F) arg10.view.ty), Σ' (W11 : BufTy.Contents (Elt F) arg11.view.ty), Σ' (W12 : BufTy.Contents (Elt F) arg12.view.ty), Σ' (W13 : BufTy.Contents (Elt F) arg13.view.ty), Σ' (W14 : BufTy.Contents (Elt F) arg14.view.ty), Σ' (W15 : BufTy.Contents (Elt F) arg15.view.ty), Σ' (W16 : BufTy.Contents (Elt F) arg16.view.ty), Σ' (W17 : BufTy.Contents (Elt F) arg17.view.ty), Σ' (W18 : BufTy.Contents (Elt F) arg18.view.ty), Σ' (W23 : BufTy.Contents (Elt F) arg23.view.ty), Σ' (W24 : BufTy.Contents (Elt F) arg24.view.ty), { W25 : BufTy.Contents (Elt F) arg25.view.ty //
      ∀ (E : Set ℕ) (K : PUnit → sProp (MT nD τ sig Unit (Elt F) ℕ (UR sig nD τ) ℕ)),
        iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} f22) ∗ (arg23.view.loc (c : Thread nD τ) ↦[arg23.view.set]{fullShare} f23) ∗ (arg24.view.loc (c : Thread nD τ) ↦[arg24.view.set]{fullShare} f24) ∗ (arg25.view.loc (c : Thread nD τ) ↦[arg25.view.set]{fullShare} f25)
            ∗ (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} W10) ∗ (arg11.view.loc (c : Thread nD τ) ↦[arg11.view.set]{fullShare} W11) ∗ (arg12.view.loc (c : Thread nD τ) ↦[arg12.view.set]{fullShare} W12) ∗ (arg13.view.loc (c : Thread nD τ) ↦[arg13.view.set]{fullShare} W13) ∗ (arg14.view.loc (c : Thread nD τ) ↦[arg14.view.set]{fullShare} W14) ∗ (arg15.view.loc (c : Thread nD τ) ↦[arg15.view.set]{fullShare} W15) ∗ (arg16.view.loc (c : Thread nD τ) ↦[arg16.view.set]{fullShare} W16) ∗ (arg17.view.loc (c : Thread nD τ) ↦[arg17.view.set]{fullShare} W17) ∗ (arg18.view.loc (c : Thread nD τ) ↦[arg18.view.set]{fullShare} W18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} f22) ∗ (arg23.view.loc (c : Thread nD τ) ↦[arg23.view.set]{fullShare} W23) ∗ (arg24.view.loc (c : Thread nD τ) ↦[arg24.view.set]{fullShare} W24) ∗ (arg25.view.loc (c : Thread nD τ) ↦[arg25.view.set]{fullShare} W25)) -∗ K PUnit.unit))
          ⊢ wp frame (wpE (defs₀ (F := F)) Variants.none c none) E (cc0_tp_layernorm i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨?_, ?_, ?_, ?_, ?_, ?_, ?_, ?_, ?_, ?_, ?_, ?_, fun E K => ?run⟩
  case run =>
    unfold k0_cond1 at hc1
    simp only [cc0_tp_layernorm_eq_skeleton]; unfold cc0_tp_layernorm_skel
    iintro ⟨H2, H3, H4, H5, H6, H7, H8, H9, H10, H11, H12, H13, H14, H15, H16, H17, H18, H19, H20, H21, H22, H23, H24, H25, Hk⟩
    sl_exec
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    iexact H25

end Cert.KernelIdeal.Body

end
-- ==== Proof.KernelIdealFrame.lean ====
/- The frame of the program: every run ends and the arguments are unchanged. -/
module

public import proofs.«01_k».proof.Proof.KernelIdealRunC
public import Idealize.ShloMosaic.Lib.Claim

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-- The body is at the first grid point exactly at point 0, -/
theorem cond1_iff : ∀ t : Fin cfg0.N, k0_cond1 (grid0.coords t) ↔ t.val = 0 :=
  (by unfold k0_cond1; decide +kernel : ∀ t : Fin 15, k0_cond1 (grid0.coords t) ↔ t.val = 0)

/-- and at the last exactly at point 14. -/
theorem cond2_iff : ∀ t : Fin cfg0.N, k0_cond2 (grid0.coords t) = 1#1 ↔ t.val = 14 :=
  (by decide +kernel : ∀ t : Fin 15, k0_cond2 (grid0.coords t) = 1#1 ↔ t.val = 14)

/-- The twelve scratch buffers, each whole at some contents. -/
def scr (c : Dev nD) : sProp (MT nD τ sig Unit (Elt F) ℕ (UR sig nD τ) ℕ) :=
  iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f) ∗ (∃ f : Buf (Elt F) ((c : Thread nD τ).loc cc0_scratch6), ((c : Thread nD τ).loc cc0_scratch6) ↦{fullShare} f) ∗ (∃ f : Buf (Elt F) ((c : Thread nD τ).loc cc0_scratch7), ((c : Thread nD τ).loc cc0_scratch7) ↦{fullShare} f) ∗ (∃ f : Buf (Elt F) ((c : Thread nD τ).loc cc0_scratch8), ((c : Thread nD τ).loc cc0_scratch8) ↦{fullShare} f) ∗ (∃ f : Buf (Elt F) ((c : Thread nD τ).loc cc0_scratch9), ((c : Thread nD τ).loc cc0_scratch9) ↦{fullShare} f) ∗ (∃ f : Buf (Elt F) ((c : Thread nD τ).loc cc0_scratch10), ((c : Thread nD τ).loc cc0_scratch10) ↦{fullShare} f) ∗ (∃ f : Buf (Elt F) ((c : Thread nD τ).loc cc0_scratch11), ((c : Thread nD τ).loc cc0_scratch11) ↦{fullShare} f))

/-- What the frame forgets: the four results. -/
def fgt : Fin cfg0.W → Bool := fun w => match w with
  | ⟨8, _⟩ | ⟨9, _⟩ | ⟨10, _⟩ | ⟨11, _⟩ => true
  | _ => false

/-- The frame's proof data: each input's buffer stays at its block; the results are not described. -/
def fdats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (constant S1x128x10240 .fp8e4m3 0#8 : Vec F S1x128x10240 .fp8e4m3)
    | ⟨9, _⟩ => (constant S3x640 .f32 0#32 : Vec F S3x640 .f32)
    | ⟨10, _⟩ => (constant S3x640 .f32 0#32 : Vec F S3x640 .f32)
    | ⟨11, _⟩ => (constant S3x640 .f32 0#32 : Vec F S3x640 .f32)
  Φ _ := Pipeline.ΦA spec0 c
  q _ := fullShare
  owed _ := 0

theorem fA_eq (c : Dev nD) (w : Fin cfg0.W) : (fdats m 0 c).A w = V m c (Pipeline.arrRef spec0 w) := by
  dsimp only [fdats]
theorem fafter_0 (c : Dev nD) (t : Fin cfg0.N) : (fdats m 0 c).after 0 t = iblk m c 0 t := by dsimp only [fdats]
theorem fafter_1 (c : Dev nD) (t : Fin cfg0.N) : (fdats m 0 c).after 1 t = iblk m c 1 t := by dsimp only [fdats]
theorem fafter_2 (c : Dev nD) (t : Fin cfg0.N) : (fdats m 0 c).after 2 t = iblk m c 2 t := by dsimp only [fdats]
theorem fafter_3 (c : Dev nD) (t : Fin cfg0.N) : (fdats m 0 c).after 3 t = iblk m c 3 t := by dsimp only [fdats]
theorem fafter_4 (c : Dev nD) (t : Fin cfg0.N) : (fdats m 0 c).after 4 t = iblk m c 4 t := by dsimp only [fdats]
theorem fafter_5 (c : Dev nD) (t : Fin cfg0.N) : (fdats m 0 c).after 5 t = iblk m c 5 t := by dsimp only [fdats]
theorem fafter_6 (c : Dev nD) (t : Fin cfg0.N) : (fdats m 0 c).after 6 t = iblk m c 6 t := by dsimp only [fdats]
theorem fafter_7 (c : Dev nD) (t : Fin cfg0.N) : (fdats m 0 c).after 7 t = iblk m c 7 t := by dsimp only [fdats]
theorem fbefore_0 (c : Dev nD) (t : Fin cfg0.N) (d) : (fdats m 0 c).before 0 t d = iblk m c 0 t :=
  before0_0_of m (fdats m 0 c) (fA_eq m c 0) (fafter_0 m c) t d
theorem fbefore_1 (c : Dev nD) (t : Fin cfg0.N) (d) : (fdats m 0 c).before 1 t d = iblk m c 1 t :=
  before0_1_of m (fdats m 0 c) (fA_eq m c 1) (fafter_1 m c) t d
theorem fbefore_2 (c : Dev nD) (t : Fin cfg0.N) (d) : (fdats m 0 c).before 2 t d = iblk m c 2 t :=
  before0_2_of m (fdats m 0 c) (fA_eq m c 2) (fafter_2 m c) t d
theorem fbefore_3 (c : Dev nD) (t : Fin cfg0.N) (d) : (fdats m 0 c).before 3 t d = iblk m c 3 t :=
  before0_3_of m (fdats m 0 c) (fA_eq m c 3) (fafter_3 m c) t d
theorem fbefore_4 (c : Dev nD) (t : Fin cfg0.N) (d) : (fdats m 0 c).before 4 t d = iblk m c 4 t :=
  before0_4_of m (fdats m 0 c) (fA_eq m c 4) (fafter_4 m c) t d
theorem fbefore_5 (c : Dev nD) (t : Fin cfg0.N) (d) : (fdats m 0 c).before 5 t d = iblk m c 5 t :=
  before0_5_of m (fdats m 0 c) (fA_eq m c 5) (fafter_5 m c) t d
theorem fbefore_6 (c : Dev nD) (t : Fin cfg0.N) (d) : (fdats m 0 c).before 6 t d = iblk m c 6 t :=
  before0_6_of m (fdats m 0 c) (fA_eq m c 6) (fafter_6 m c) t d
theorem fbefore_7 (c : Dev nD) (t : Fin cfg0.N) (d) : (fdats m 0 c).before 7 t d = iblk m c 7 t :=
  before0_7_of m (fdats m 0 c) (fA_eq m c 7) (fafter_7 m c) t d

set_option maxHeartbeats 1600000 in
/-- One pass of the body at any grid point: the inputs' buffers are read and stay, every other buffer ends at some contents. -/
theorem body_any (c : Dev nD) (t : Fin cfg0.N) (arg2 : Memref sig .tc .smem S1 .f32) (harg2 : arg2.IsWhole) (arg3 : Memref sig .tc .smem S1 .f32) (harg3 : arg3.IsWhole) (arg4 : Memref sig .tc .vmem S1x128x10240 .bf16) (harg4 : arg4.IsWhole) (arg5 : Memref sig .tc .vmem S1x3x640 .f32) (harg5 : arg5.IsWhole) (arg6 : Memref sig .tc .vmem S1x3x640 .f32) (harg6 : arg6.IsWhole) (arg7 : Memref sig .tc .vmem S1x10240 .f32) (harg7 : arg7.IsWhole) (arg8 : Memref sig .tc .vmem S1x10240 .f32) (harg8 : arg8.IsWhole) (arg9 : Memref sig .tc .vmem S16x128 .bf16) (harg9 : arg9.IsWhole) (arg10 : Memref sig .tc .vmem S1x128x10240 .fp8e4m3) (harg10 : arg10.IsWhole) (arg11 : Memref sig .tc .vmem S3x640 .f32) (harg11 : arg11.IsWhole) (arg12 : Memref sig .tc .vmem S3x640 .f32) (harg12 : arg12.IsWhole) (arg13 : Memref sig .tc .vmem S3x640 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S1x10240 .f32) (harg19 : arg19.IsWhole) (arg20 : Memref sig .tc .vmem S1x10240 .f32) (harg20 : arg20.IsWhole) (arg21 : Memref sig .tc .vmem S16x128 .f32) (harg21 : arg21.IsWhole) (arg22 : Memref sig .tc .vmem S16x128 .f32) (harg22 : arg22.IsWhole) (arg23 : Memref sig .tc .vmem S16x128 .f32) (harg23 : arg23.IsWhole) (arg24 : Memref sig .tc .vmem S16x128 .f32) (harg24 : arg24.IsWhole) (arg25 : Memref sig .tc .vmem S16x128 .f32) (harg25 : arg25.IsWhole) (x2 : Vec F S1 .f32) (x3 : Vec F S1 .f32) (x4 : Vec F S1x128x10240 .bf16) (x5 : Vec F S1x3x640 .f32) (x6 : Vec F S1x3x640 .f32) (x7 : Vec F S1x10240 .f32) (x8 : Vec F S1x10240 .f32) (x9 : Vec F S16x128 .bf16) (E : Set ℕ) (K : PUnit → sProp (MT nD τ sig Unit (Elt F) ℕ (UR sig nD τ) ℕ)) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ f, arg14.view.loc (c : Thread nD τ) ↦[arg14.view.set]{fullShare} f) ∗ (∃ f, arg15.view.loc (c : Thread nD τ) ↦[arg15.view.set]{fullShare} f) ∗ (∃ f, arg16.view.loc (c : Thread nD τ) ↦[arg16.view.set]{fullShare} f) ∗ (∃ f, arg17.view.loc (c : Thread nD τ) ↦[arg17.view.set]{fullShare} f) ∗ (∃ f, arg18.view.loc (c : Thread nD τ) ↦[arg18.view.set]{fullShare} f) ∗ (∃ f, arg19.view.loc (c : Thread nD τ) ↦[arg19.view.set]{fullShare} f) ∗ (∃ f, arg20.view.loc (c : Thread nD τ) ↦[arg20.view.set]{fullShare} f) ∗ (∃ f, arg21.view.loc (c : Thread nD τ) ↦[arg21.view.set]{fullShare} f) ∗ (∃ f, arg22.view.loc (c : Thread nD τ) ↦[arg22.view.set]{fullShare} f) ∗ (∃ f, arg23.view.loc (c : Thread nD τ) ↦[arg23.view.set]{fullShare} f) ∗ (∃ f, arg24.view.loc (c : Thread nD τ) ↦[arg24.view.set]{fullShare} f) ∗ (∃ f, arg25.view.loc (c : Thread nD τ) ↦[arg25.view.set]{fullShare} f) ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ f, arg14.view.loc (c : Thread nD τ) ↦[arg14.view.set]{fullShare} f) ∗ (∃ f, arg15.view.loc (c : Thread nD τ) ↦[arg15.view.set]{fullShare} f) ∗ (∃ f, arg16.view.loc (c : Thread nD τ) ↦[arg16.view.set]{fullShare} f) ∗ (∃ f, arg17.view.loc (c : Thread nD τ) ↦[arg17.view.set]{fullShare} f) ∗ (∃ f, arg18.view.loc (c : Thread nD τ) ↦[arg18.view.set]{fullShare} f) ∗ (∃ f, arg19.view.loc (c : Thread nD τ) ↦[arg19.view.set]{fullShare} f) ∗ (∃ f, arg20.view.loc (c : Thread nD τ) ↦[arg20.view.set]{fullShare} f) ∗ (∃ f, arg21.view.loc (c : Thread nD τ) ↦[arg21.view.set]{fullShare} f) ∗ (∃ f, arg22.view.loc (c : Thread nD τ) ↦[arg22.view.set]{fullShare} f) ∗ (∃ f, arg23.view.loc (c : Thread nD τ) ↦[arg23.view.set]{fullShare} f) ∗ (∃ f, arg24.view.loc (c : Thread nD τ) ↦[arg24.view.set]{fullShare} f) ∗ (∃ f, arg25.view.loc (c : Thread nD τ) ↦[arg25.view.set]{fullShare} f)) -∗ K PUnit.unit))
      ⊢ wp frame (wpE (defs₀ (F := F)) Variants.none c none) E (cc0_tp_layernorm (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩, Hk⟩
  by_cases hc1 : k0_cond1 (grid0.coords t)
  · have hc2 : ¬ k0_cond2 (grid0.coords t) = 1#1 := fun h => by
      have h1 := (cond1_iff t).mp hc1; have h2 := (cond2_iff t).mp h; omega
    iapply ((runA c (grid0.coords t) _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 hc1 hc2 f2 f3 f4 f5 f6 f7 f8 f9 f10 f11 f12 f13 f14 f15 f16 f17 f18 f19 f20 f21 f22 f23 f24 f25).2.2.2.2.2.2.2.2.2.2.2.2.2 E K)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    iintro ⟨H2, H3, H4, H5, H6, H7, H8, H9, H10, H11, H12, H13, H14, H15, H16, H17, H18, H19, H20, H21, H22, H23, H24, H25⟩
    iapply Hk
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; · ipureintro; exact hf6
      iexact H6
    isplitl [H7]
    · iexists _; isplitr; · ipureintro; exact hf7
      iexact H7
    isplitl [H8]
    · iexists _; isplitr; · ipureintro; exact hf8
      iexact H8
    isplitl [H9]
    · iexists _; isplitr; · ipureintro; exact hf9
      iexact H9
    isplitl [H10]
    · iexists _; iexists _; isplitr; swap; · iexact H10
      ipureintro; rfl
    isplitl [H11]
    · iexists _; iexists _; isplitr; swap; · iexact H11
      ipureintro; rfl
    isplitl [H12]
    · iexists _; iexists _; isplitr; swap; · iexact H12
      ipureintro; rfl
    isplitl [H13]
    · iexists _; iexists _; isplitr; swap; · iexact H13
      ipureintro; rfl
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    iexists _; iexact H25
  · by_cases hc2 : k0_cond2 (grid0.coords t) = 1#1
    · skip
      iapply ((runC c (grid0.coords t) _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 hc1 hc2 f2 f3 f4 f5 f6 f7 f8 f9 f10 f11 f12 f13 f14 f15 f16 f17 f18 f19 f20 f21 f22 f23 f24 f25).2.2.2.2.2.2.2.2.2.2.2.2 E K)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      iintro ⟨H2, H3, H4, H5, H6, H7, H8, H9, H10, H11, H12, H13, H14, H15, H16, H17, H18, H19, H20, H21, H22, H23, H24, H25⟩
      iapply Hk
      isplitl [H2]
      · iexists _; isplitr; · ipureintro; exact hf2
        iexact H2
      isplitl [H3]
      · iexists _; isplitr; · ipureintro; exact hf3
        iexact H3
      isplitl [H4]
      · iexists _; isplitr; · ipureintro; exact hf4
        iexact H4
      isplitl [H5]
      · iexists _; isplitr; · ipureintro; exact hf5
        iexact H5
      isplitl [H6]
      · iexists _; isplitr; · ipureintro; exact hf6
        iexact H6
      isplitl [H7]
      · iexists _; isplitr; · ipureintro; exact hf7
        iexact H7
      isplitl [H8]
      · iexists _; isplitr; · ipureintro; exact hf8
        iexact H8
      isplitl [H9]
      · iexists _; isplitr; · ipureintro; exact hf9
        iexact H9
      isplitl [H10]
      · iexists _; iexists _; isplitr; swap; · iexact H10
        ipureintro; rfl
      isplitl [H11]
      · iexists _; iexists _; isplitr; swap; · iexact H11
        ipureintro; rfl
      isplitl [H12]
      · iexists _; iexists _; isplitr; swap; · iexact H12
        ipureintro; rfl
      isplitl [H13]
      · iexists _; iexists _; isplitr; swap; · iexact H13
        ipureintro; rfl
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexists _; iexact H20
      isplitl [H21]; · iexists _; iexact H21
      isplitl [H22]; · iexists _; iexact H22
      isplitl [H23]; · iexists _; iexact H23
      isplitl [H24]; · iexists _; iexact H24
      iexists _; iexact H25
    · skip
      iapply ((runB c (grid0.coords t) _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 hc1 hc2 f2 f3 f4 f5 f6 f7 f8 f9 f10 f11 f12 f13 f14 f15 f16 f17 f18 f19 f20 f21 f22 f23 f24 f25).2.2.2.2.2.2.2.2.2 E K)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      iintro ⟨H2, H3, H4, H5, H6, H7, H8, H9, H10, H11, H12, H13, H14, H15, H16, H17, H18, H19, H20, H21, H22, H23, H24, H25⟩
      iapply Hk
      isplitl [H2]
      · iexists _; isplitr; · ipureintro; exact hf2
        iexact H2
      isplitl [H3]
      · iexists _; isplitr; · ipureintro; exact hf3
        iexact H3
      isplitl [H4]
      · iexists _; isplitr; · ipureintro; exact hf4
        iexact H4
      isplitl [H5]
      · iexists _; isplitr; · ipureintro; exact hf5
        iexact H5
      isplitl [H6]
      · iexists _; isplitr; · ipureintro; exact hf6
        iexact H6
      isplitl [H7]
      · iexists _; isplitr; · ipureintro; exact hf7
        iexact H7
      isplitl [H8]
      · iexists _; isplitr; · ipureintro; exact hf8
        iexact H8
      isplitl [H9]
      · iexists _; isplitr; · ipureintro; exact hf9
        iexact H9
      isplitl [H10]
      · iexists _; iexists _; isplitr; swap; · iexact H10
        ipureintro; rfl
      isplitl [H11]
      · iexists _; iexists _; isplitr; swap; · iexact H11
        ipureintro; rfl
      isplitl [H12]
      · iexists _; iexists _; isplitr; swap; · iexact H12
        ipureintro; rfl
      isplitl [H13]
      · iexists _; iexists _; isplitr; swap; · iexact H13
        ipureintro; rfl
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexists _; iexact H20
      isplitl [H21]; · iexists _; iexact H21
      isplitl [H22]; · iexists _; iexact H22
      isplitl [H23]; · iexists _; iexact H23
      isplitl [H24]; · iexists _; iexact H24
      iexists _; iexact H25

/-- What the body is called with at point `t`, -/
def fbodyPre (c : Dev nD) (t : Fin cfg0.N) : sProp (MT nD τ sig Unit (Elt F) ℕ (UR sig nD τ) ℕ) :=
  iprop((fdats m 0 c).Φ t.castSucc ∗ (fdats m 0 c).owesAt () t.castSucc
    ∗ (∃ d, owns (c : Thread nD τ) (st0_0 t) fullShare ((fdats m 0 c).before 0 t d))
    ∗ (∃ d, owns (c : Thread nD τ) (st0_1 t) fullShare ((fdats m 0 c).before 1 t d))
    ∗ (∃ d, owns (c : Thread nD τ) (st0_2 t) fullShare ((fdats m 0 c).before 2 t d))
    ∗ (∃ d, owns (c : Thread nD τ) (st0_3 t) fullShare ((fdats m 0 c).before 3 t d))
    ∗ (∃ d, owns (c : Thread nD τ) (st0_4 t) fullShare ((fdats m 0 c).before 4 t d))
    ∗ (∃ d, owns (c : Thread nD τ) (st0_5 t) fullShare ((fdats m 0 c).before 5 t d))
    ∗ (∃ d, owns (c : Thread nD τ) (st0_6 t) fullShare ((fdats m 0 c).before 6 t d))
    ∗ (∃ d, owns (c : Thread nD τ) (st0_7 t) fullShare ((fdats m 0 c).before 7 t d))
    ∗ (∃ d, owns (c : Thread nD τ) (st0_8 t) fullShare d)
    ∗ (∃ d, owns (c : Thread nD τ) (st0_9 t) fullShare d)
    ∗ (∃ d, owns (c : Thread nD τ) (st0_10 t) fullShare d)
    ∗ (∃ d, owns (c : Thread nD τ) (st0_11 t) fullShare d))

/-- and what it returns. -/
def fbodyPost (c : Dev nD) (t : Fin cfg0.N) : sProp (MT nD τ sig Unit (Elt F) ℕ (UR sig nD τ) ℕ) :=
  iprop((fdats m 0 c).Φ t.succ ∗ (fdats m 0 c).owesAt () t.succ
    ∗ owns (c : Thread nD τ) (st0_0 t) fullShare ((fdats m 0 c).after 0 t)
    ∗ owns (c : Thread nD τ) (st0_1 t) fullShare ((fdats m 0 c).after 1 t)
    ∗ owns (c : Thread nD τ) (st0_2 t) fullShare ((fdats m 0 c).after 2 t)
    ∗ owns (c : Thread nD τ) (st0_3 t) fullShare ((fdats m 0 c).after 3 t)
    ∗ owns (c : Thread nD τ) (st0_4 t) fullShare ((fdats m 0 c).after 4 t)
    ∗ owns (c : Thread nD τ) (st0_5 t) fullShare ((fdats m 0 c).after 5 t)
    ∗ owns (c : Thread nD τ) (st0_6 t) fullShare ((fdats m 0 c).after 6 t)
    ∗ owns (c : Thread nD τ) (st0_7 t) fullShare ((fdats m 0 c).after 7 t)
    ∗ (∃ d, owns (c : Thread nD τ) (st0_8 t) fullShare d)
    ∗ (∃ d, owns (c : Thread nD τ) (st0_9 t) fullShare d)
    ∗ (∃ d, owns (c : Thread nD τ) (st0_10 t) fullShare d)
    ∗ (∃ d, owns (c : Thread nD τ) (st0_11 t) fullShare d))

set_option maxHeartbeats 1600000 in
theorem fsound_body (c : Dev nD) (t : Fin cfg0.N) :
    fbodyPre m c t ⊢ wp frame (wpE (defs₀ (F := F)) Variants.none c none) Set.univ (bodyAt0 t) (fun _ => fbodyPost m c t) := by
  unfold fbodyPre fbodyPost bodyAt0
  simp only [fbefore_0, fbefore_1, fbefore_2, fbefore_3, fbefore_4, fbefore_5, fbefore_6, fbefore_7]
  rw [show (fdats m 0 c).owesAt () t.succ = (fdats m 0 c).owesAt () t.castSucc from rfl,
    show (fdats m 0 c).Φ t.castSucc = Pipeline.ΦA spec0 c from rfl, show (fdats m 0 c).Φ t.succ = Pipeline.ΦA spec0 c from rfl,
    fafter_0, fafter_1, fafter_2, fafter_3, fafter_4, fafter_5, fafter_6, fafter_7]
  unfold Pipeline.ΦA
  rw [scopedRest0_eq]
  iintro ⟨⟨⟨⟨%s0, S0⟩, ⟨%s1, S1⟩, ⟨%s2, S2⟩, ⟨%s3, S3⟩, ⟨%s4, S4⟩, ⟨%s5, S5⟩, ⟨%s6, S6⟩, ⟨%s7, S7⟩, ⟨%s8, S8⟩, ⟨%s9, S9⟩, ⟨%s10, S10⟩, ⟨%s11, S11⟩⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (body_any c t _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (hstage0_10 ((cfg0.slots t 10).cast nbuf0_10)) _ (hstage0_11 ((cfg0.slots t 11).cast nbuf0_11)) _ (Memref.isWhole_whole cc0_scratch0) _ (Memref.isWhole_whole cc0_scratch1) _ (Memref.isWhole_whole cc0_scratch2) _ (Memref.isWhole_whole cc0_scratch3) _ (Memref.isWhole_whole cc0_scratch4) _ (Memref.isWhole_whole cc0_scratch5) _ (Memref.isWhole_whole cc0_scratch6) _ (Memref.isWhole_whole cc0_scratch7) _ (Memref.isWhole_whole cc0_scratch8) _ (Memref.isWhole_whole cc0_scratch9) _ (Memref.isWhole_whole cc0_scratch10) _ (Memref.isWhole_whole cc0_scratch11) (iblk m c 0 t) (iblk m c 1 t) (iblk m c 2 t) (iblk m c 3 t) (iblk m c 4 t) (iblk m c 5 t) (iblk m c 6 t) (iblk m c 7 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [S0]
  · iexists _; rw [(Memref.isWhole_whole cc0_scratch0).set_eq_univ]; iexact S0
  isplitl [S1]
  · iexists _; rw [(Memref.isWhole_whole cc0_scratch1).set_eq_univ]; iexact S1
  isplitl [S2]
  · iexists _; rw [(Memref.isWhole_whole cc0_scratch2).set_eq_univ]; iexact S2
  isplitl [S3]
  · iexists _; rw [(Memref.isWhole_whole cc0_scratch3).set_eq_univ]; iexact S3
  isplitl [S4]
  · iexists _; rw [(Memref.isWhole_whole cc0_scratch4).set_eq_univ]; iexact S4
  isplitl [S5]
  · iexists _; rw [(Memref.isWhole_whole cc0_scratch5).set_eq_univ]; iexact S5
  isplitl [S6]
  · iexists _; rw [(Memref.isWhole_whole cc0_scratch6).set_eq_univ]; iexact S6
  isplitl [S7]
  · iexists _; rw [(Memref.isWhole_whole cc0_scratch7).set_eq_univ]; iexact S7
  isplitl [S8]
  · iexists _; rw [(Memref.isWhole_whole cc0_scratch8).set_eq_univ]; iexact S8
  isplitl [S9]
  · iexists _; rw [(Memref.isWhole_whole cc0_scratch9).set_eq_univ]; iexact S9
  isplitl [S10]
  · iexists _; rw [(Memref.isWhole_whole cc0_scratch10).set_eq_univ]; iexact S10
  isplitl [S11]
  · iexists _; rw [(Memref.isWhole_whole cc0_scratch11).set_eq_univ]; iexact S11
  iintro ⟨H0, H1, H2, H3, H4, H5, H6, H7, ⟨%e8, H8⟩, ⟨%e9, H9⟩, ⟨%e10, H10⟩, ⟨%e11, H11⟩, ⟨%s0, S0⟩, ⟨%s1, S1⟩, ⟨%s2, S2⟩, ⟨%s3, S3⟩, ⟨%s4, S4⟩, ⟨%s5, S5⟩, ⟨%s6, S6⟩, ⟨%s7, S7⟩, ⟨%s8, S8⟩, ⟨%s9, S9⟩, ⟨%s10, S10⟩, ⟨%s11, S11⟩⟩
  isplitl [S0 S1 S2 S3 S4 S5 S6 S7 S8 S9 S10 S11 HR]
  · isplitr [HR]
    · isplitl [S0]
      · iexists _; rw [← (Memref.isWhole_whole cc0_scratch0).set_eq_univ]; iexact S0
      isplitl [S1]
      · iexists _; rw [← (Memref.isWhole_whole cc0_scratch1).set_eq_univ]; iexact S1
      isplitl [S2]
      · iexists _; rw [← (Memref.isWhole_whole cc0_scratch2).set_eq_univ]; iexact S2
      isplitl [S3]
      · iexists _; rw [← (Memref.isWhole_whole cc0_scratch3).set_eq_univ]; iexact S3
      isplitl [S4]
      · iexists _; rw [← (Memref.isWhole_whole cc0_scratch4).set_eq_univ]; iexact S4
      isplitl [S5]
      · iexists _; rw [← (Memref.isWhole_whole cc0_scratch5).set_eq_univ]; iexact S5
      isplitl [S6]
      · iexists _; rw [← (Memref.isWhole_whole cc0_scratch6).set_eq_univ]; iexact S6
      isplitl [S7]
      · iexists _; rw [← (Memref.isWhole_whole cc0_scratch7).set_eq_univ]; iexact S7
      isplitl [S8]
      · iexists _; rw [← (Memref.isWhole_whole cc0_scratch8).set_eq_univ]; iexact S8
      isplitl [S9]
      · iexists _; rw [← (Memref.isWhole_whole cc0_scratch9).set_eq_univ]; iexact S9
      isplitl [S10]
      · iexists _; rw [← (Memref.isWhole_whole cc0_scratch10).set_eq_univ]; iexact S10
      iexists _; rw [← (Memref.isWhole_whole cc0_scratch11).set_eq_univ]; iexact S11
    · iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iexists _; iexact H11

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem fbody_obligation (c : Dev nD) : BodyObligation (fdats (F := F) m 0 c) (defs₀ (F := F)) Variants.none () Set.univ fgt := fun t => by
  rw [bigSep_W0, bigSep_W0, defs₀_row]
  exact triple_restated (fsound_body m c t) rfl .rfl fun _ => .rfl

set_option backward.isDefEq.respectTransparency.types false in
/-- The launch: every run ends, the arrays at what the proof data say, every semaphore counter at zero. -/
theorem frun_main : θ_run defs (onTc (τ := τ) (main (F := F))) (s₀ m ρ)
    (fun r => (Pipeline.RDat.FramePost cfg0 (fun c => (fdats m 0 c).toRForget fgt) (V m)) r ∧ r.2.sem = fun _ => 0) :=
  Pipeline.θ_run_frame_forget (Q' := _) cfgs (fdats m) (0 : Fin 1) launch0 defs₀ Variants.none fgt m ρ main
    (hbody := fun c => (fbody_obligation m c).loose) (hshare := fun c => (fdats m 0 c).share_full fun _ => rfl)
    (howed := fun _ _ => rfl) (V := V m) (hmain := hmain m Variants.none) (hA := fA_eq m) (hΦ := fun _ _ => rfl)

/-- The frame: every run ends, the arguments unchanged, every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨
      (h.1.arr_in c 2 rfl).trans ((fA_eq m c 2).trans (V_main_arg0 m c)),
      (h.1.arr_in c 1 rfl).trans ((fA_eq m c 1).trans (V_main_arg1 m c)),
      (h.1.arr_in c 3 rfl).trans ((fA_eq m c 3).trans (V_main_arg2 m c)),
      (h.1.arr_in c 4 rfl).trans ((fA_eq m c 4).trans (V_main_arg3 m c)),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      (h.1.arr_in c 0 rfl).trans ((fA_eq m c 0).trans (V_main_arg6 m c))⟩, h.2⟩) (frun_main m ρ)

end Cert.KernelIdeal.Body

end
-- ==== Proof.Spec.lean ====
/- What the layer norm computes for one row, over the extended reals, and the algebra that joins the two ways of computing it. -/
module

public import Idealize.ShloMosaic.PureOps.Ideal
public import Idealize.ShloMosaic.Lib.Pointwise
public import Mathlib.Data.Finset.Fold
public import Mathlib.Tactic.Ring
public import Mathlib.Tactic.FieldSimp
public import Mathlib.Tactic.NormNum
public import Mathlib.Algebra.BigOperators.Ring.Finset
public import Mathlib.Algebra.BigOperators.Fin

@[expose] public section

noncomputable section

namespace Cert.Spec

open Idealize.ShloMosaic

/-- The number of elements of a row, as the programs write it. -/
def nLoc : EReal := Ideal.ofBits .f32 0x46200000#32
/-- The term that keeps the variance off zero. -/
def eps : EReal := Ideal.ofBits .f32 0x3727C5AC#32
/-- The two bounds of the quantiser. -/
def lo : EReal := Ideal.ofBits .f32 0xC3E00000#32
def hi : EReal := Ideal.ofBits .f32 0x43E00000#32

theorem nLoc_eq : nLoc = ((10240 : ℝ) : EReal) := by
  have h1 : (0x46200000#32 : BitVec 32).extractLsb' 23 8 = 140#8 := by decide
  have h2 : (0x46200000#32 : BitVec 32).extractLsb' 0 23 = 2097152#23 := by decide
  have h3 : (0x46200000#32 : BitVec 32).extractLsb' 31 1 = 0#1 := by decide
  unfold nLoc Ideal.ofBits Ideal.ieee
  simp [h1, h2, h3, BitVec.toNat_ofNat]
  rw [← EReal.coe_mul]
  norm_num

/-- A row's own mean. -/
def meanLoc (xs : Fin 10240 → EReal) : EReal := Ideal.div (∑ k, xs k) nLoc
/-- A row's own sum of squared deviations, as the deviations are squared and summed, -/
def m2Ref (xs : Fin 10240 → EReal) : EReal := ∑ k, (xs k - meanLoc xs) * (xs k - meanLoc xs)
/-- and by the sum of the squares. -/
def m2Ker (xs : Fin 10240 → EReal) : EReal := (∑ k, xs k * xs k) - (∑ k, xs k) * meanLoc xs
/-- The mean merged with the peer's. -/
def mean (a nb mb : EReal) : EReal := a + (mb - a) * Ideal.div nb (nLoc + nb)
/-- The reciprocal standard deviation of the merged statistics. -/
def rstd (a m2 nb mb qb : EReal) : EReal :=
  Ideal.rsqrt (Ideal.div (m2 + qb + (mb - a) * (mb - a) * Ideal.div (nLoc * nb) (nLoc + nb)) (nLoc + nb) + eps)

/-- One element normalised, scaled and shifted. -/
def norm (x mu r g b : EReal) : EReal := (x - mu) * r * g + b
/-- The quantiser's clip. -/
def clip (y : EReal) : EReal := min hi (max lo y)
/-- The absolute value. -/
def ab (y : EReal) : EReal := max y (-y)

theorem coe_sum {ι : Type} (s : Finset ι) (f : ι → ℝ) : ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

theorem div_nLoc (a : ℝ) : Ideal.div (a : EReal) nLoc = ((a / 10240 : ℝ) : EReal) := by
  unfold Ideal.div
  rw [nLoc_eq, if_neg (by norm_cast), div_eq_mul_inv, EReal.coe_mul, EReal.coe_inv]

/-- On finite rows the two sums of squared deviations are equal. -/
theorem m2_eq (xs : Fin 10240 → EReal) (h : ∀ k, xs k ≠ ⊤ ∧ xs k ≠ ⊥) : m2Ker xs = m2Ref xs := by
  obtain ⟨r, rfl⟩ : ∃ r : Fin 10240 → ℝ, xs = fun k => (r k : EReal) :=
    ⟨fun k => (xs k).toReal, funext fun k => (EReal.coe_toReal (h k).1 (h k).2).symm⟩
  unfold m2Ker m2Ref meanLoc
  simp only [← coe_sum, div_nLoc, ← EReal.coe_mul, ← EReal.coe_sub]
  refine congrArg _ ?_
  set S := ∑ k, r k with hS
  have e : ∀ k, (r k - S / 10240) * (r k - S / 10240) = r k * r k - (2 * (S / 10240)) * r k + (S / 10240) * (S / 10240) := fun k => by ring
  simp only [e]
  rw [Finset.sum_add_distrib, Finset.sum_sub_distrib, ← Finset.mul_sum, ← hS, Finset.sum_const, Finset.card_univ, Fintype.card_fin, nsmul_eq_mul]
  push_cast
  ring

/-- Division by a positive real is multiplication by its reciprocal. -/
theorem div_pos_eq {s : ℝ} (hs : 0 < s) (y : EReal) : Ideal.div y (s : EReal) = y * ((s⁻¹ : ℝ) : EReal) := by
  unfold Ideal.div
  rw [if_neg (by exact_mod_cast hs.ne'), EReal.coe_inv]

/-- Multiplication by a positive real goes over a sum. -/
theorem add_mul_pos {c : ℝ} (hc : 0 < c) (a b : EReal) : (a + b) * (c : EReal) = a * c + b * c := by
  induction a with
  | bot => rw [EReal.bot_add, EReal.bot_mul_coe_of_pos hc, EReal.bot_add]
  | top =>
    induction b with
    | bot => rw [EReal.add_bot, EReal.bot_mul_coe_of_pos hc, EReal.add_bot]
    | top => rw [EReal.top_add_top, EReal.top_mul_coe_of_pos hc, EReal.top_add_top]
    | coe b => rw [EReal.top_add_coe, EReal.top_mul_coe_of_pos hc, ← EReal.coe_mul, EReal.top_add_coe]
  | coe a =>
    induction b with
    | bot => rw [EReal.add_bot, EReal.bot_mul_coe_of_pos hc, EReal.add_bot]
    | top => rw [EReal.coe_add_top, EReal.top_mul_coe_of_pos hc, ← EReal.coe_mul, EReal.coe_add_top]
    | coe b => rw [← EReal.coe_add, ← EReal.coe_mul, ← EReal.coe_mul, ← EReal.coe_mul, ← EReal.coe_add]; congr 1; ring

/-- The scale folded into the gain and the shift is the division of the result. -/
theorem norm_scaled {s : ℝ} (hs : 0 < s) (x mu r g b : EReal) :
    norm x mu r (g * Ideal.div 1 (s : EReal)) (b * Ideal.div 1 (s : EReal)) = Ideal.div (norm x mu r g b) (s : EReal) := by
  unfold norm
  rw [div_pos_eq hs, div_pos_eq hs, one_mul, add_mul_pos (inv_pos.mpr hs), mul_assoc _ g]

theorem mul_le_iff {s : ℝ} (hs : 0 < s) (a z : EReal) : a * (s : EReal) ≤ z ↔ a ≤ z * ((s⁻¹ : ℝ) : EReal) := by
  have h1 : ((s : ℝ) : EReal) * ((s⁻¹ : ℝ) : EReal) = 1 := by rw [← EReal.coe_mul, mul_inv_cancel₀ hs.ne', EReal.coe_one]
  have h2 : ((s⁻¹ : ℝ) : EReal) * ((s : ℝ) : EReal) = 1 := by rw [mul_comm, h1]
  constructor
  · intro h
    have := mul_le_mul_of_nonneg_right h (EReal.coe_nonneg.mpr (inv_pos.mpr hs).le)
    rwa [mul_assoc, h1, mul_one] at this
  · intro h
    have := mul_le_mul_of_nonneg_right h (EReal.coe_nonneg.mpr hs.le)
    rwa [mul_assoc, h2, mul_one] at this

theorem ab_nonneg (y : EReal) : 0 ≤ ab y := by
  unfold ab
  rcases le_total 0 y with h | h
  · exact h.trans (le_max_left _ _)
  · exact (EReal.neg_nonneg.mpr h).trans (le_max_right _ _)

theorem ab_div {s : ℝ} (hs : 0 < s) (y : EReal) : ab (Ideal.div y (s : EReal)) * (s : EReal) = ab y := by
  have h2 : ((s⁻¹ : ℝ) : EReal) * ((s : ℝ) : EReal) = 1 := by rw [← EReal.coe_mul, inv_mul_cancel₀ hs.ne', EReal.coe_one]
  have hm : Monotone fun a : EReal => a * (s : EReal) := fun a b h => mul_le_mul_of_nonneg_right h (EReal.coe_nonneg.mpr hs.le)
  unfold ab
  rw [hm.map_max, div_pos_eq hs, EReal.neg_mul]
  simp only [EReal.neg_mul, mul_assoc, h2, mul_one]

/-- The greatest of the scaled absolute values, scaled back, is the greatest absolute value. -/
theorem amax_eq {s : ℝ} (hs : 0 < s) (y : Fin 10240 → EReal) (A : EReal)
    (hA : ∀ z, A ≤ z ↔ 0 ≤ z ∧ ∀ k, ab (Ideal.div (y k) (s : EReal)) ≤ z) :
    A * (s : EReal) = Finset.univ.fold max ⊥ fun k => ab (y k) := by
  refine eq_of_forall_ge_iff fun z => ?_
  rw [Finset.fold_max_le, mul_le_iff hs, hA]
  simp only [← ab_div hs (y _), mul_le_iff hs, Finset.mem_univ, true_imp_iff, bot_le, true_and]
  refine ⟨fun h => h.2, fun h => ⟨(ab_nonneg _).trans (h 0), h⟩⟩

/-- A row's sum, lane by lane over the 80 tiles. -/
theorem sum_tiles (f : Fin 10240 → EReal) :
    ∑ l : Fin 128, ∑ t : Fin 80, f ⟨128 * t.val + l.val, by omega⟩ = ∑ k, f k := by
  rw [Finset.sum_comm, ← Fintype.sum_prod_type' (f := fun (t : Fin 80) (l : Fin 128) => f ⟨128 * t.val + l.val, by omega⟩)]
  refine Fintype.sum_equiv (finProdFinEquiv (m := 80) (n := 128)) _ _ fun p => congrArg f (Fin.ext ?_)
  simp [finProdFinEquiv]; omega

/-! ## The four results as arrays over the arguments -/

/-- One row of the input. -/
def row (x : FVec Ideal ⟨3, ![3, 640, 10240]⟩ .bf16) (b : Fin 3) (s : Fin 640) : Fin 10240 → EReal := fun k => x (ix3 b s k)

/-- The merged mean of a row. -/
def MEAN (x : FVec Ideal ⟨3, ![3, 640, 10240]⟩ .bf16) (pc : FVec Ideal ⟨1, ![1]⟩ .f32) (pm : FVec Ideal ⟨3, ![1, 3, 640]⟩ .f32)
    (b : Fin 3) (s : Fin 640) : EReal := mean (meanLoc (row x b s)) (pc (ix1 0)) (pm (ix3 0 b s))

/-- The reciprocal standard deviation of a row. -/
def RSTD (x : FVec Ideal ⟨3, ![3, 640, 10240]⟩ .bf16) (pc : FVec Ideal ⟨1, ![1]⟩ .f32) (pm p2 : FVec Ideal ⟨3, ![1, 3, 640]⟩ .f32)
    (b : Fin 3) (s : Fin 640) : EReal := rstd (meanLoc (row x b s)) (m2Ref (row x b s)) (pc (ix1 0)) (pm (ix3 0 b s)) (p2 (ix3 0 b s))

/-- The normalised element. -/
def NORM (x : FVec Ideal ⟨3, ![3, 640, 10240]⟩ .bf16) (pc : FVec Ideal ⟨1, ![1]⟩ .f32) (pm p2 : FVec Ideal ⟨3, ![1, 3, 640]⟩ .f32)
    (g be : FVec Ideal ⟨1, ![10240]⟩ .f32) (b : Fin 3) (s : Fin 640) (k : Fin 10240) : EReal :=
  norm (row x b s k) (MEAN x pc pm b s) (RSTD x pc pm p2 b s) (g (ix1 k)) (be (ix1 k))

end Cert.Spec

end
-- ==== Proof.RefValue.lean ====
/- What the reference runs to: its four result arrays as terms over its arguments, read at an index. -/
module

public import proofs.«01_k».proof.Defs
public import proofs.«01_k».proof.Proof.Spec
public import Idealize.ShloMosaic.Lib.Claim
public import Idealize.ShloMosaic.Lib.Pointwise
public import Idealize.ShloMosaic.Lib.Quiescent
public import Idealize.ShloMosaic.Lib.Pipeline.Quiescent

@[expose] public section

set_option maxRecDepth 16384

noncomputable section

namespace Cert.ReferenceIdeal.Body

open Cert.ReferenceIdeal Cert.ReferenceIdeal.Facts₀ Idealize.ShloMosaic Idealize.ShloMosaic.TcCoe Idealize.ShloMosaic.Tactic Idealize.SL.Sem

/-- The shape relations the reference's operations take. -/
theorem facts : Facts where
  bitsLt_bf16_f32 := by decide
  reducesTo_S3x640x10240_S3x640_d2 := by decide
  h_S_ := by decide
  bcast_S_S3x640 := by decide
  bcast_S3x640_S3x640x1_0_1 := by decide
  bcast_S3x640x1_S3x640x10240_0_1_2 := by decide
  shapeCasts_S1_S_ := by decide
  shapeCasts_S1x3x640_S3x640 := by decide
  bcast_S10240_S1x1x10240_2 := by decide
  bcast_S1x1x10240_S3x640x10240_0_1_2 := by decide
  bcast_S_S3x640x10240 := by decide

section run
variable [Facts]

/-- The input widened. -/
def xf (x : FVec Ideal S3x640x10240 .bf16) : FVec Ideal S3x640x10240 .f32 := extf .f32 x bitsLt_bf16_f32
/-- A value for each row, repeated along the row. -/
def along (v : FVec Ideal S3x640 .f32) : FVec Ideal S3x640x10240 .f32 :=
  broadcastInDim S3x640x10240 ![0, 1, 2] bcast_S3x640x1_S3x640x10240_0_1_2 (broadcastInDim S3x640x1 ![0, 1] bcast_S3x640_S3x640x1_0_1 v)
/-- A value for each column, repeated down the rows. -/
def down (v : FVec Ideal S10240 .f32) : FVec Ideal S3x640x10240 .f32 :=
  broadcastInDim S3x640x10240 ![0, 1, 2] bcast_S1x1x10240_S3x640x10240_0_1_2 (broadcastInDim S1x1x10240 ![2] bcast_S10240_S1x1x10240_2 v)
/-- A scalar for every row. -/
def every (v : FVec Ideal S_ .f32) : FVec Ideal S3x640 .f32 := broadcastInDim S3x640 ![] bcast_S_S3x640 v
/-- The sum of each row. -/
def total (v : FVec Ideal S3x640x10240 .f32) : FVec Ideal S3x640 .f32 :=
  Host.reduceAdd v (constant S_ .f32 0x00000000#32) reducesTo_S3x640x10240_S3x640_d2 h_S_
/-- The number of elements of a row. -/
def len : FVec Ideal S_ .f32 := constant S_ .f32 0x46200000#32
/-- The one element of a vector of length one. -/
def one (v : FVec Ideal S1 .f32) : FVec Ideal S_ .f32 := fun i => shapeCast S_ v shapeCasts_S1_S_ i
/-- The peer's statistics. -/
def peer (v : FVec Ideal S1x3x640 .f32) : FVec Ideal S3x640 .f32 := fun i => shapeCast S3x640 v shapeCasts_S1x3x640_S3x640 i

variable (x : FVec Ideal S3x640x10240 .bf16) (pc : FVec Ideal S1 .f32) (pm p2 : FVec Ideal S1x3x640 .f32) (g be : FVec Ideal S10240 .f32)
  (ys : FVec Ideal S1 .f32)

/-- A row's own mean. -/
def tLoc : FVec Ideal S3x640 .f32 := Host.divf (total (xf x)) (every len)
/-- A row's own sum of squared deviations. -/
def tM2 : FVec Ideal S3x640 .f32 := total (mulf (subf (xf x) (along (tLoc x))) (subf (xf x) (along (tLoc x))))
/-- The merged number of elements. -/
def tN : FVec Ideal S_ .f32 := addf len (one pc)
/-- The merged mean. -/
def tMean : FVec Ideal S3x640 .f32 := addf (tLoc x) (mulf (subf (peer pm) (tLoc x)) (every (Host.divf (one pc) (tN pc))))
/-- The merged reciprocal standard deviation. -/
def tRstd : FVec Ideal S3x640 .f32 :=
  Host.rsqrt (addf (Host.divf (addf (addf (tM2 x) (peer p2)) (mulf (mulf (subf (peer pm) (tLoc x)) (subf (peer pm) (tLoc x)))
    (every (Host.divf (mulf len (one pc)) (tN pc))))) (every (tN pc))) (every (constant S_ .f32 0x3727C5AC#32)))
/-- The normalised values. -/
def tNorm : FVec Ideal S3x640x10240 .f32 :=
  addf (mulf (mulf (subf (xf x) (along (tMean x pc pm))) (along (tRstd x pc pm p2))) (down g)) (down be)
/-- The greatest absolute values. -/
def tAmax : FVec Ideal S3x640 .f32 :=
  Host.reduce FloatOps.maximumf (Host.absf (tNorm x pc pm p2 g be)) (constant S_ .f32 0xFF800000#32) reducesTo_S3x640x10240_S3x640_d2 h_S_
/-- The quantised values. -/
def tCodes : FVec Ideal S3x640x10240 .fp8e4m3 :=
  Host.convertf .fp8e4m3 (minimumf (maximumf (Host.divf (tNorm x pc pm p2 g be) (broadcastInDim S3x640x10240 ![] bcast_S_S3x640x10240 (one ys)))
    (broadcastInDim S3x640x10240 ![] bcast_S_S3x640x10240 (constant S_ .f32 0xC3E00000#32)))
    (broadcastInDim S3x640x10240 ![] bcast_S_S3x640x10240 (constant S_ .f32 0x43E00000#32)))

end run

open Cert.Spec in
theorem mean_apply [Facts] (x : FVec Ideal S3x640x10240 .bf16) (pc : FVec Ideal S1 .f32) (pm : FVec Ideal S1x3x640 .f32) (b : Fin 3) (s : Fin 640) :
    tMean x pc pm (ix2 b s) = MEAN x pc pm b s := by
  unfold MEAN Spec.mean meanLoc nLoc row
  pointwise [tMean, tLoc, total, xf, every, len, one, peer, tN]

open Cert.Spec in
theorem rstd_apply [Facts] (x : FVec Ideal S3x640x10240 .bf16) (pc : FVec Ideal S1 .f32) (pm p2 : FVec Ideal S1x3x640 .f32) (b : Fin 3) (s : Fin 640) :
    tRstd x pc pm p2 (ix2 b s) = RSTD x pc pm p2 b s := by
  unfold RSTD Spec.rstd m2Ref meanLoc nLoc row eps
  pointwise [tRstd, tM2, along, tLoc, total, xf, every, len, one, peer, tN]

open Cert.Spec in
theorem norm_apply [Facts] (x : FVec Ideal S3x640x10240 .bf16) (pc : FVec Ideal S1 .f32) (pm p2 : FVec Ideal S1x3x640 .f32) (g be : FVec Ideal S10240 .f32)
    (b : Fin 3) (s : Fin 640) (k : Fin 10240) : tNorm x pc pm p2 g be (ix3 b s k) = NORM x pc pm p2 g be b s k := by
  unfold NORM Spec.norm row
  rw [← mean_apply, ← rstd_apply]
  pointwise [tNorm, along, down, xf]

open Cert.Spec in
theorem amax_apply [Facts] (x : FVec Ideal S3x640x10240 .bf16) (pc : FVec Ideal S1 .f32) (pm p2 : FVec Ideal S1x3x640 .f32) (g be : FVec Ideal S10240 .f32)
    (b : Fin 3) (s : Fin 640) : tAmax x pc pm p2 g be (ix2 b s) = Finset.univ.fold max ⊥ fun k => ab (NORM x pc pm p2 g be b s k) := by
  simp only [← norm_apply]
  unfold ab
  have hb : Ideal.ofBits .f32 0xFF800000#32 = ⊥ := by
    unfold Ideal.ofBits Ideal.ieee
    simp [show (0xFF800000#32 : BitVec 32).extractLsb' 23 8 = 255#8 by decide, show (0xFF800000#32 : BitVec 32).extractLsb' 0 23 = 0#23 by decide,
      show (0xFF800000#32 : BitVec 32).extractLsb' 31 1 = 1#1 by decide]
  pointwise [tAmax]
  rw [hb]
  rfl

open Cert.Spec in
theorem codes_apply [Facts] (x : FVec Ideal S3x640x10240 .bf16) (pc : FVec Ideal S1 .f32) (pm p2 : FVec Ideal S1x3x640 .f32) (g be : FVec Ideal S10240 .f32)
    (ys : FVec Ideal S1 .f32) (b : Fin 3) (s : Fin 640) (k : Fin 10240) :
    tCodes x pc pm p2 g be ys (ix3 b s k) = clip (Ideal.div (NORM x pc pm p2 g be b s k) (ys (ix1 0))) := by
  rw [← norm_apply]
  unfold clip lo hi
  pointwise [tCodes, one]
  rw [min_comm, max_comm]

section launch
variable [Facts] (m : (ℓ : Loc nD τ sig) → Buf (Elt Ideal) ℓ) (ρ : Dev nD → PrngReg)

/-- The reference leaves its arguments unchanged. -/
theorem args_kept : θ_run (defs (F := Ideal)) (onTc (τ := τ) (main (F := Ideal))) ⟨m, fun _ => 0, ρ⟩ (fun r => ∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)) := by
  hlo_run

/-- It runs to its end, leaves its arguments unchanged and every counter at zero. -/
theorem frame : θ_run (defs (F := Ideal)) (onTc (τ := τ) (main (F := Ideal))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)) ∧ r.2.sem = fun _ => 0) :=
  (θ_run (defs (F := Ideal)) _ _).mono (fun r h => ⟨h, sem_eq_zero_of_no_sems (by decide) r.2⟩) (args_kept m ρ)

set_option maxHeartbeats 1600000 in
/-- Its four results. -/
theorem results : θ_run (defs (F := Ideal)) (onTc (τ := τ) (main (F := Ideal))) ⟨m, fun _ => 0, ρ⟩ (fun r => ∀ c : Dev nD,
    r.2.mem ((c.tc : Thread nD τ).loc main_v51) = tCodes (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6))
    ∧ r.2.mem ((c.tc : Thread nD τ).loc main_v43) = tAmax (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
    ∧ r.2.mem ((c.tc : Thread nD τ).loc main_v17) = tMean (m ((c.tc : Thread nD τ).loc main_arg0)) (m ((c.tc : Thread nD τ).loc main_arg1)) (m ((c.tc : Thread nD τ).loc main_arg2))
    ∧ r.2.mem ((c.tc : Thread nD τ).loc main_v29) = tRstd (m ((c.tc : Thread nD τ).loc main_arg0)) (m ((c.tc : Thread nD τ).loc main_arg1)) (m ((c.tc : Thread nD τ).loc main_arg2))
      (m ((c.tc : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)) := by
  hlo_run <;> rfl

end launch

end Cert.ReferenceIdeal.Body

end
-- ==== Proof.KernelIdealLoopT1.lean ====
module

public import proofs.«01_k».proof.Proof.Gen.KernelIdeal.Loops
public import Idealize.ShloMosaic.Lib.Pipeline.ValueKit
public import Idealize.ShloMosaic.Lib.Pipeline.ReadBack

@[expose] public section

set_option maxRecDepth 16384

noncomputable section

namespace Cert.KernelIdeal.Body

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable (𝒱 : Variants) (c : Dev nD) (bd : Option 𝒱.V) (i : grid0.Coords) (arg2 : Memref sig .tc .smem S1 .f32) (harg2 : arg2.IsWhole) (arg3 : Memref sig .tc .smem S1 .f32) (harg3 : arg3.IsWhole) (arg4 : Memref sig .tc .vmem S1x128x10240 .bf16) (harg4 : arg4.IsWhole) (arg5 : Memref sig .tc .vmem S1x3x640 .f32) (harg5 : arg5.IsWhole) (arg6 : Memref sig .tc .vmem S1x3x640 .f32) (harg6 : arg6.IsWhole) (arg7 : Memref sig .tc .vmem S1x10240 .f32) (harg7 : arg7.IsWhole) (arg8 : Memref sig .tc .vmem S1x10240 .f32) (harg8 : arg8.IsWhole) (arg9 : Memref sig .tc .vmem S16x128 .bf16) (harg9 : arg9.IsWhole) (arg10 : Memref sig .tc .vmem S1x128x10240 .fp8e4m3) (harg10 : arg10.IsWhole) (arg11 : Memref sig .tc .vmem S3x640 .f32) (harg11 : arg11.IsWhole) (arg12 : Memref sig .tc .vmem S3x640 .f32) (harg12 : arg12.IsWhole) (arg13 : Memref sig .tc .vmem S3x640 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S1x10240 .f32) (harg19 : arg19.IsWhole) (arg20 : Memref sig .tc .vmem S1x10240 .f32) (harg20 : arg20.IsWhole) (arg21 : Memref sig .tc .vmem S16x128 .f32) (harg21 : arg21.IsWhole) (arg22 : Memref sig .tc .vmem S16x128 .f32) (harg22 : arg22.IsWhole) (arg23 : Memref sig .tc .vmem S16x128 .f32) (harg23 : arg23.IsWhole) (arg24 : Memref sig .tc .vmem S16x128 .f32) (harg24 : arg24.IsWhole) (arg25 : Memref sig .tc .vmem S16x128 .f32) (harg25 : arg25.IsWhole)

set_option maxHeartbeats 2000000 in
/-- What one trip of the first loop stores: a lane's sum over the 80 tiles of its row, -/
theorem t1_sum (v7 : Vec Ideal S16x128 .bf16) (h7 : ∀ j, v7 j = (1 : EReal)) (X : BufTy.Contents (Elt Ideal) arg4.view.ty) (k : Fin k0_t1_loop.trips) (hk : k.val < 8) (a : Fin 16) (l : Fin 128) :
    k0_pay244 (trip_k0_t1.sl.r_40 (F := Ideal) arg4 v7 X k) (ix2 a l)
      = ∑ t ∈ Finset.range 80, (arg4.view.read (Elt Ideal) X : Vec Ideal S1x128x10240 .bf16) (ix3 0 ⟨16 * k.val + a.val, by omega⟩ ⟨(128 * t + l.val) % 10240, Nat.mod_lt _ (by norm_num)⟩) := by
  obtain ⟨f, hf⟩ : ∃ f : ℕ → EReal, ∀ o, (arg4.view.read (Elt Ideal) X : Vec Ideal S1x128x10240 .bf16)
      (ix3 0 ⟨16 * k.val + a.val, by omega⟩ ⟨(o + l.val) % 10240, Nat.mod_lt _ (by norm_num)⟩) = f o := ⟨_, fun _ => rfl⟩
  have key : ∀ (o : ℕ) (h0 : 0 < 1) (h1 : 16 * k.val + a.val < 128) (h2 : o + l.val < 10240),
      (arg4.view.read (Elt Ideal) X : Vec Ideal S1x128x10240 .bf16) (ix3 ⟨0, h0⟩ ⟨16 * k.val + a.val, h1⟩ ⟨o + l.val, h2⟩) = f o := by
    intro o h0 h1 h2
    rw [← hf]
    exact congrArg (fun z => (arg4.view.read (Elt Ideal) X : Vec Ideal S1x128x10240 .bf16) (ix3 (n0 := 1) (n1 := 128) (n2 := 10240) ⟨0, h0⟩ ⟨16 * k.val + a.val, h1⟩ z))
      (Fin.ext (Nat.mod_eq_of_lt h2).symm)
  simp only [hf]
  frame_out
  unfold_payloads
  pointwise
  simp only [h7, mul_one, k0_off1_eq, k0_off2_eq, k0_off3_eq, k0_off4_eq, k0_off5_eq, k0_off6_eq, k0_off7_eq, k0_off8_eq, k0_off9_eq, k0_off10_eq, k0_off11_eq, k0_off12_eq, k0_off13_eq, k0_off14_eq, k0_off15_eq, k0_off16_eq, k0_off17_eq, k0_off18_eq, k0_off19_eq, k0_off20_eq, k0_off21_eq, k0_off22_eq, k0_off23_eq, k0_off24_eq, k0_off25_eq, k0_off26_eq, k0_off27_eq, k0_off28_eq, k0_off29_eq, k0_off30_eq, k0_off31_eq, k0_off32_eq, k0_off33_eq, k0_off34_eq, k0_off35_eq, k0_off36_eq, k0_off37_eq, k0_off38_eq, k0_off39_eq, k0_off40_eq, k0_off41_eq, k0_off42_eq, k0_off43_eq, k0_off44_eq, k0_off45_eq, k0_off46_eq, k0_off47_eq, k0_off48_eq, k0_off49_eq, k0_off50_eq, k0_off51_eq, k0_off52_eq, k0_off53_eq, k0_off54_eq, k0_off55_eq, k0_off56_eq, k0_off57_eq, k0_off58_eq, k0_off59_eq, k0_off60_eq, k0_off61_eq, k0_off62_eq, k0_off63_eq, k0_off64_eq, k0_off65_eq, k0_off66_eq, k0_off67_eq, k0_off68_eq, k0_off69_eq, k0_off70_eq, k0_off71_eq, k0_off72_eq, k0_off73_eq, k0_off74_eq, k0_off75_eq, k0_off76_eq, k0_off77_eq, k0_off78_eq, k0_off79_eq, k0_off80_eq, Matrix.cons_val_zero, Matrix.cons_val_one, Matrix.cons_val_two, Matrix.cons_val, Matrix.head_cons, Matrix.tail_cons]
  have key0 : ∀ (h0 : 0 < 1) (h1 : 16 * k.val + a.val < 128) (h2 : l.val < 10240),
      (arg4.view.read (Elt Ideal) X : Vec Ideal S1x128x10240 .bf16) (ix3 ⟨0, h0⟩ ⟨16 * k.val + a.val, h1⟩ ⟨l.val, h2⟩) = f 0 := by
    intro h0 h1 h2
    rw [← key 0 h0 h1 (by omega)]
    exact congrArg (fun z => (arg4.view.read (Elt Ideal) X : Vec Ideal S1x128x10240 .bf16) (ix3 (n0 := 1) (n1 := 128) (n2 := 10240) ⟨0, h0⟩ ⟨16 * k.val + a.val, h1⟩ z))
      (Fin.ext (Nat.zero_add _).symm)
  simp only [Nat.zero_add, key0, key, Finset.sum_range_succ, Finset.sum_range_zero, zero_add, Nat.reduceMul]

set_option maxHeartbeats 2000000 in
/-- and its sum of squares. -/
theorem t1_sq (X : BufTy.Contents (Elt Ideal) arg4.view.ty) (k : Fin k0_t1_loop.trips) (hk : k.val < 8) (a : Fin 16) (l : Fin 128) :
    k0_pay245 (trip_k0_t1.sl.r_41 (F := Ideal) arg4 X k) (ix2 a l)
      = ∑ t ∈ Finset.range 80, ((arg4.view.read (Elt Ideal) X : Vec Ideal S1x128x10240 .bf16) (ix3 0 ⟨16 * k.val + a.val, by omega⟩ ⟨(128 * t + l.val) % 10240, Nat.mod_lt _ (by norm_num)⟩)
          * (arg4.view.read (Elt Ideal) X : Vec Ideal S1x128x10240 .bf16) (ix3 0 ⟨16 * k.val + a.val, by omega⟩ ⟨(128 * t + l.val) % 10240, Nat.mod_lt _ (by norm_num)⟩)) := by
  obtain ⟨f, hf⟩ : ∃ f : ℕ → EReal, ∀ o, (arg4.view.read (Elt Ideal) X : Vec Ideal S1x128x10240 .bf16)
      (ix3 0 ⟨16 * k.val + a.val, by omega⟩ ⟨(o + l.val) % 10240, Nat.mod_lt _ (by norm_num)⟩) = f o := ⟨_, fun _ => rfl⟩
  have key : ∀ (o : ℕ) (h0 : 0 < 1) (h1 : 16 * k.val + a.val < 128) (h2 : o + l.val < 10240),
      (arg4.view.read (Elt Ideal) X : Vec Ideal S1x128x10240 .bf16) (ix3 ⟨0, h0⟩ ⟨16 * k.val + a.val, h1⟩ ⟨o + l.val, h2⟩) = f o := by
    intro o h0 h1 h2
    rw [← hf]
    exact congrArg (fun z => (arg4.view.read (Elt Ideal) X : Vec Ideal S1x128x10240 .bf16) (ix3 (n0 := 1) (n1 := 128) (n2 := 10240) ⟨0, h0⟩ ⟨16 * k.val + a.val, h1⟩ z))
      (Fin.ext (Nat.mod_eq_of_lt h2).symm)
  simp only [hf]
  frame_out
  unfold_payloads
  pointwise
  simp only [k0_off1_eq, k0_off2_eq, k0_off3_eq, k0_off4_eq, k0_off5_eq, k0_off6_eq, k0_off7_eq, k0_off8_eq, k0_off9_eq, k0_off10_eq, k0_off11_eq, k0_off12_eq, k0_off13_eq, k0_off14_eq, k0_off15_eq, k0_off16_eq, k0_off17_eq, k0_off18_eq, k0_off19_eq, k0_off20_eq, k0_off21_eq, k0_off22_eq, k0_off23_eq, k0_off24_eq, k0_off25_eq, k0_off26_eq, k0_off27_eq, k0_off28_eq, k0_off29_eq, k0_off30_eq, k0_off31_eq, k0_off32_eq, k0_off33_eq, k0_off34_eq, k0_off35_eq, k0_off36_eq, k0_off37_eq, k0_off38_eq, k0_off39_eq, k0_off40_eq, k0_off41_eq, k0_off42_eq, k0_off43_eq, k0_off44_eq, k0_off45_eq, k0_off46_eq, k0_off47_eq, k0_off48_eq, k0_off49_eq, k0_off50_eq, k0_off51_eq, k0_off52_eq, k0_off53_eq, k0_off54_eq, k0_off55_eq, k0_off56_eq, k0_off57_eq, k0_off58_eq, k0_off59_eq, k0_off60_eq, k0_off61_eq, k0_off62_eq, k0_off63_eq, k0_off64_eq, k0_off65_eq, k0_off66_eq, k0_off67_eq, k0_off68_eq, k0_off69_eq, k0_off70_eq, k0_off71_eq, k0_off72_eq, k0_off73_eq, k0_off74_eq, k0_off75_eq, k0_off76_eq, k0_off77_eq, k0_off78_eq, k0_off79_eq, k0_off80_eq, Matrix.cons_val_zero, Matrix.cons_val_one, Matrix.cons_val_two, Matrix.cons_val, Matrix.head_cons, Matrix.tail_cons]
  have key0 : ∀ (h0 : 0 < 1) (h1 : 16 * k.val + a.val < 128) (h2 : l.val < 10240),
      (arg4.view.read (Elt Ideal) X : Vec Ideal S1x128x10240 .bf16) (ix3 ⟨0, h0⟩ ⟨16 * k.val + a.val, h1⟩ ⟨l.val, h2⟩) = f 0 := by
    intro h0 h1 h2
    rw [← key 0 h0 h1 (by omega)]
    exact congrArg (fun z => (arg4.view.read (Elt Ideal) X : Vec Ideal S1x128x10240 .bf16) (ix3 (n0 := 1) (n1 := 128) (n2 := 10240) ⟨0, h0⟩ ⟨16 * k.val + a.val, h1⟩ z))
      (Fin.ext (Nat.zero_add _).symm)
  simp only [Nat.zero_add, key0, key, Finset.sum_range_succ, Finset.sum_range_zero, zero_add, Nat.reduceMul]

theorem t1_pieces (v7 : Vec Ideal S16x128 .bf16) (X : BufTy.Contents (Elt Ideal) arg4.view.ty) (k : Fin k0_t1_loop.trips) :
    tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v7 X k
      = ([⟨Rect.unit (k0_off81 k) ![16, 128] (k0_off81_inb k), k0_pay244 (trip_k0_t1.sl.r_40 arg4 v7 X k)⟩],
        [⟨Rect.unit (k0_off81 k) ![16, 128] (k0_off81_inb k), k0_pay245 (trip_k0_t1.sl.r_41 arg4 X k)⟩]) := by
  unfold tripL_k0_t1 trip_k0_t1
  rfl

/-- A lane's sum over the tiles of a row of the block, -/
def LaneSum (x : Vec Ideal S1x128x10240 .bf16) : Vec Ideal S128x128 .f32 :=
  fun j => ∑ t ∈ Finset.range 80, x (ix3 0 (j 0) ⟨(128 * t + (j 1).val) % 10240, Nat.mod_lt _ (by norm_num)⟩)
/-- and of the squares. -/
def LaneSq (x : Vec Ideal S1x128x10240 .bf16) : Vec Ideal S128x128 .f32 :=
  fun j => ∑ t ∈ Finset.range 80, (x (ix3 0 (j 0) ⟨(128 * t + (j 1).val) % 10240, Nat.mod_lt _ (by norm_num)⟩)
    * x (ix3 0 (j 0) ⟨(128 * t + (j 1).val) % 10240, Nat.mod_lt _ (by norm_num)⟩) : EReal)

theorem trips1 (k : Fin k0_t1_loop.trips) : k.val < 8 := Nat.lt_of_lt_of_le k.isLt k0_t1_abs.2.1

/-- Sixteen more rows of an array of sums. -/
theorem step16 (G : S128x128.Idx → Elt Ideal .f32) (P : List (View.Piece (Elt Ideal) S128x128 .f32)) (k : Fin k0_t1_loop.trips) (hk : k.val < 8)
    (w : S16x128.Idx → Elt Ideal .f32) (hw : ∀ (a : Fin 16) (l : Fin 128), w (ix2 a l) = G (ix2 ⟨16 * k.val + a.val, by omega⟩ l))
    (h : (∀ p ∈ P, ∀ x, p.2 x = G (p.1.emb x)) ∧ (∀ y : S128x128.Idx, (y 0).val < 16 * k.val → ∃ p ∈ P, y ∈ p.1.set)) :
    (∀ p ∈ [(⟨Rect.unit (k0_off81 k) ![16, 128] (k0_off81_inb k), w⟩ : View.Piece (Elt Ideal) S128x128 .f32)] ++ P, ∀ x, p.2 x = G (p.1.emb x))
      ∧ (∀ y : S128x128.Idx, (y 0).val < 16 * (k.val + 1) → ∃ p ∈ [(⟨Rect.unit (k0_off81 k) ![16, 128] (k0_off81_inb k), w⟩ : View.Piece (Elt Ideal) S128x128 .f32)] ++ P, y ∈ p.1.set) := by
  constructor
  · intro p hp x
    rcases List.mem_append.mp hp with hp | hp
    · obtain rfl := List.mem_singleton.mp hp
      have e := hw (x 0) (x 1)
      have ex : (ix2 (x 0) (x 1) : S16x128.Idx) = x := (eq_ix2 x).symm
      rw [ex] at e
      refine e.trans (congrArg G ?_)
      funext a
      refine Fin.ext ?_
      refine Eq.trans ?_ (ValueKit.rect_emb_unit_val (s := S128x128) (k0_off81 k) ![16, 128] (k0_off81_inb k) x a).symm
      refine Eq.trans ?_ (congrArg (· + (x a).val) (congrFun (k0_off81_eq k) a).symm)
      fin_cases a
      · rfl
      · exact (Nat.zero_add _).symm
    · exact h.1 p hp x
  · intro y hy
    by_cases hl : (y 0).val < 16 * k.val
    · obtain ⟨p, hp, hm⟩ := h.2 y hl
      exact ⟨p, List.mem_append_right _ hp, hm⟩
    · refine ⟨_, List.mem_append_left _ (List.mem_singleton.mpr rfl), ?_⟩
      rw [Rect.mem_set_unit]
      have h1 : (y 1).val < 128 := (y 1).isLt
      intro a
      rw [congrFun (k0_off81_eq k) a]
      fin_cases a
      · show 16 * k.val ≤ (y 0).val ∧ (y 0).val < 16 * k.val + 16
        omega
      · show 0 ≤ (y 1).val ∧ (y 1).val < 0 + 128
        omega

/-- The pieces of the loop are blocks of the two arrays of sums, and they cover the rows the trips have reached. -/
theorem t1_all (v7 : Vec Ideal S16x128 .bf16) (h7 : ∀ j, v7 j = (1 : EReal)) (X : BufTy.Contents (Elt Ideal) arg4.view.ty) : ∀ n : ℕ, n ≤ k0_t1_loop.trips →
    ((∀ p ∈ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v7 X n).1, ∀ x, p.2 x = LaneSum (arg4.view.read (Elt Ideal) X) (p.1.emb x))
      ∧ (∀ y : S128x128.Idx, (y 0).val < 16 * n → ∃ p ∈ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v7 X n).1, y ∈ p.1.set))
    ∧ ((∀ p ∈ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v7 X n).2, ∀ x, p.2 x = LaneSq (arg4.view.read (Elt Ideal) X) (p.1.emb x))
      ∧ (∀ y : S128x128.Idx, (y 0).val < 16 * n → ∃ p ∈ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v7 X n).2, y ∈ p.1.set))
  | 0, _ => by
    refine ⟨⟨fun p hp => ?_, fun y hy => absurd hy (by omega)⟩, ⟨fun p hp => ?_, fun y hy => absurd hy (by omega)⟩⟩
    · exact absurd hp List.not_mem_nil
    · exact absurd hp List.not_mem_nil
  | n + 1, hn => by
    obtain ⟨h1, h2⟩ := t1_all v7 h7 X n (by omega)
    have hk := trips1 ⟨n, hn⟩
    have es := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v7 X ⟨n, hn⟩
    rw [t1_pieces] at es
    rw [show pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v7 X (n + 1) = _ from es]
    exact ⟨step16 _ _ ⟨n, hn⟩ hk _ (fun a l => t1_sum arg4 v7 h7 X ⟨n, hn⟩ hk a l) h1,
      step16 _ _ ⟨n, hn⟩ hk _ (fun a l => t1_sq arg4 X ⟨n, hn⟩ hk a l) h2⟩

theorem t1_cover : k0_t1_loop.trips = 8 := by decide +kernel

/-- After the loop the buffer of sums holds the array of sums, -/
theorem t1_read1 (v7 : Vec Ideal S16x128 .bf16) (h7 : ∀ j, v7 j = (1 : EReal)) (X : BufTy.Contents (Elt Ideal) arg4.view.ty) (y : S128x128.Idx) :
    View.canon (Val := Elt Ideal) (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v7 X k0_t1_loop.trips).1 y = LaneSum (arg4.view.read (Elt Ideal) X) y := by
  have h := (t1_all 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v7 h7 X k0_t1_loop.trips le_rfl).1
  refine View.canon_apply_of_pieces _ _ h.1 y (h.2 y ?_)
  rw [t1_cover]; exact (y 0).isLt

/-- and the other the squares. -/
theorem t1_read2 (v7 : Vec Ideal S16x128 .bf16) (h7 : ∀ j, v7 j = (1 : EReal)) (X : BufTy.Contents (Elt Ideal) arg4.view.ty) (y : S128x128.Idx) :
    View.canon (Val := Elt Ideal) (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v7 X k0_t1_loop.trips).2 y = LaneSq (arg4.view.read (Elt Ideal) X) y := by
  have h := (t1_all 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v7 h7 X k0_t1_loop.trips le_rfl).2
  refine View.canon_apply_of_pieces _ _ h.1 y (h.2 y ?_)
  rw [t1_cover]; exact (y 0).isLt

end Cert.KernelIdeal.Body

end
-- ==== Proof.KernelIdealLoopT2.lean ====
module

public import proofs.«01_k».proof.Proof.KernelIdealLoopT1
public import proofs.«01_k».proof.Proof.Spec

@[expose] public section

set_option maxRecDepth 16384

noncomputable section

namespace Cert.KernelIdeal.Body

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-- The normalised value of an element of the block. -/
def NV (x : Vec Ideal S1x128x10240 .bf16) (g b : Vec Ideal S1x10240 .f32) (A M : Fin 128 → EReal) (r : Fin 128) (q : Fin 10240) : EReal :=
  Spec.norm (x (ix3 ⟨0, Nat.one_pos⟩ r q)) (M r) (A r) (g (ix2 ⟨0, Nat.one_pos⟩ q)) (b (ix2 ⟨0, Nat.one_pos⟩ q))

/-- The clipped block. -/
def YV (x : Vec Ideal S1x128x10240 .bf16) (g b : Vec Ideal S1x10240 .f32) (A M : Fin 128 → EReal) : S1x128x10240.Idx → Elt Ideal .fp8e4m3 :=
  fun y => Spec.clip (NV x g b A M (y 1) (y 2))

/-- A piece of 32 rows and 128 columns is a block of an array when its elements are the array's. -/
theorem piece_of (G : S1x128x10240.Idx → Elt Ideal .fp8e4m3) (R C : ℕ) (off : Fin 3 → ℕ) (ho : off = ![0, R, C]) (inb : ∀ a, off a + (![1, 32, 128] : Fin 3 → ℕ) a ≤ S1x128x10240.size a)
    (hR : R + 32 ≤ 128) (hC : C + 128 ≤ 10240) (w : S1x32x128.Idx → Elt Ideal .fp8e4m3)
    (hw : ∀ (a : Fin 32) (l : Fin 128), w (ix3 0 a l) = G (ix3 0 ⟨R + a.val, by omega⟩ ⟨C + l.val, by omega⟩)) (x : (Rect.unit (s := S1x128x10240) off ![1, 32, 128] inb).shape.Idx) :
    w x = G ((Rect.unit (s := S1x128x10240) off ![1, 32, 128] inb).emb x) := by
  subst ho
  have hx : (ix3 (n0 := 1) 0 (x 1) (x 2) : S1x32x128.Idx) = x := by
    refine Eq.trans ?_ (eq_ix3 (n0 := 1) (n1 := 32) (n2 := 128) x).symm
    have h0 : (0 : Fin 1) = (x 0 : Fin 1) := Subsingleton.elim (α := Fin 1) _ _
    exact congrArg (fun z => (ix3 (n0 := 1) z (x 1) (x 2) : S1x32x128.Idx)) h0
  have e := hw (x 1) (x 2)
  rw [hx] at e
  refine e.trans (congrArg G ?_)
  funext a
  refine Fin.ext ?_
  refine Eq.trans ?_ (ValueKit.rect_emb_unit_val (s := S1x128x10240) _ ![1, 32, 128] inb x a).symm
  have h0 : (x 0).val < 1 := (x 0).isLt
  fin_cases a
  · show 0 = 0 + (x 0).val
    omega
  · rfl
  · rfl

/-- Where such a piece lies. -/
theorem mem_of (R C : ℕ) (off : Fin 3 → ℕ) (ho : off = ![0, R, C]) (inb : ∀ a, off a + (![1, 32, 128] : Fin 3 → ℕ) a ≤ S1x128x10240.size a)
    (y : S1x128x10240.Idx) (h1 : R ≤ (y 1).val) (h2 : (y 1).val < R + 32) (h3 : C ≤ (y 2).val) (h4 : (y 2).val < C + 128) :
    y ∈ (Rect.unit (s := S1x128x10240) off ![1, 32, 128] inb).set := by
  subst ho
  rw [Rect.mem_set_unit]
  have h0 : (y 0).val < 1 := (y 0).isLt
  intro a
  fin_cases a
  · show 0 ≤ (y 0).val ∧ (y 0).val < 0 + 1
    omega
  · exact ⟨h1, h2⟩
  · exact ⟨h3, h4⟩

/-- The absolute value as the float operations write it. -/
theorem absf_eq (x : EReal) : (FloatOps.absf (F := Ideal) (φ := .f32) x : EReal) = Spec.ab x := rfl

/-- Raising a maximum over the tiles before `8 k` by eight more. -/
theorem step8 (F : Fin 10240 → EReal) (k : ℕ) (hk : k < 10) (l : Fin 128) (s s' i z : EReal)
    (hs : s ≤ z ↔ i ≤ z ∧ ∀ t : Fin 80, t.val < 8 * k → F ⟨128 * t.val + l.val, by omega⟩ ≤ z)
    (hs' : s' = (max (max (max (max (max (max (max (max s (F ⟨1024 * k + 0 + l.val, by omega⟩)) (F ⟨1024 * k + 128 + l.val, by omega⟩)) (F ⟨1024 * k + 256 + l.val, by omega⟩)) (F ⟨1024 * k + 384 + l.val, by omega⟩)) (F ⟨1024 * k + 512 + l.val, by omega⟩)) (F ⟨1024 * k + 640 + l.val, by omega⟩)) (F ⟨1024 * k + 768 + l.val, by omega⟩)) (F ⟨1024 * k + 896 + l.val, by omega⟩))) :
    s' ≤ z ↔ i ≤ z ∧ ∀ t : Fin 80, t.val < 8 * (k + 1) → F ⟨128 * t.val + l.val, by omega⟩ ≤ z := by
  subst hs'
  simp only [max_le_iff, hs]
  constructor
  · rintro ⟨⟨⟨⟨⟨⟨⟨⟨⟨hi, hl⟩, h0⟩, h1⟩, h2⟩, h3⟩, h4⟩, h5⟩, h6⟩, h7⟩
    refine ⟨hi, fun t ht => ?_⟩
    by_cases hlt : t.val < 8 * k
    · exact hl t hlt
    · obtain ⟨r, hr⟩ : ∃ r : ℕ, r = t.val - 8 * k := ⟨_, rfl⟩
      have hr8 : r < 8 := by omega
      interval_cases r
      · rw [show (⟨128 * t.val + l.val, by omega⟩ : Fin 10240) = ⟨1024 * k + 0 + l.val, by omega⟩ from Fin.ext (by show _ = _; dsimp only; omega)]; exact h0
      · rw [show (⟨128 * t.val + l.val, by omega⟩ : Fin 10240) = ⟨1024 * k + 128 + l.val, by omega⟩ from Fin.ext (by show _ = _; dsimp only; omega)]; exact h1
      · rw [show (⟨128 * t.val + l.val, by omega⟩ : Fin 10240) = ⟨1024 * k + 256 + l.val, by omega⟩ from Fin.ext (by show _ = _; dsimp only; omega)]; exact h2
      · rw [show (⟨128 * t.val + l.val, by omega⟩ : Fin 10240) = ⟨1024 * k + 384 + l.val, by omega⟩ from Fin.ext (by show _ = _; dsimp only; omega)]; exact h3
      · rw [show (⟨128 * t.val + l.val, by omega⟩ : Fin 10240) = ⟨1024 * k + 512 + l.val, by omega⟩ from Fin.ext (by show _ = _; dsimp only; omega)]; exact h4
      · rw [show (⟨128 * t.val + l.val, by omega⟩ : Fin 10240) = ⟨1024 * k + 640 + l.val, by omega⟩ from Fin.ext (by show _ = _; dsimp only; omega)]; exact h5
      · rw [show (⟨128 * t.val + l.val, by omega⟩ : Fin 10240) = ⟨1024 * k + 768 + l.val, by omega⟩ from Fin.ext (by show _ = _; dsimp only; omega)]; exact h6
      · rw [show (⟨128 * t.val + l.val, by omega⟩ : Fin 10240) = ⟨1024 * k + 896 + l.val, by omega⟩ from Fin.ext (by show _ = _; dsimp only; omega)]; exact h7
  · rintro ⟨hi, h⟩
    have e : ∀ r (hr : r < 8), F ⟨1024 * k + 128 * r + l.val, by omega⟩ ≤ z := fun r hr => by
      have e0 := h ⟨8 * k + r, by omega⟩ (by show 8 * k + r < 8 * (k + 1); omega)
      rwa [show (⟨1024 * k + 128 * r + l.val, by omega⟩ : Fin 10240) = ⟨128 * (8 * k + r) + l.val, by omega⟩ from Fin.ext (by show _ = _; dsimp only; omega)]
    exact ⟨⟨⟨⟨⟨⟨⟨⟨⟨hi, fun t ht => h t (by omega)⟩, e 0 (by omega)⟩, e 1 (by omega)⟩, e 2 (by omega)⟩, e 3 (by omega)⟩, e 4 (by omega)⟩, e 5 (by omega)⟩, e 6 (by omega)⟩, e 7 (by omega)⟩

variable (𝒱 : Variants) (c : Dev nD) (bd : Option 𝒱.V) (i : grid0.Coords) (arg2 : Memref sig .tc .smem S1 .f32) (harg2 : arg2.IsWhole) (arg3 : Memref sig .tc .smem S1 .f32) (harg3 : arg3.IsWhole) (arg4 : Memref sig .tc .vmem S1x128x10240 .bf16) (harg4 : arg4.IsWhole) (arg5 : Memref sig .tc .vmem S1x3x640 .f32) (harg5 : arg5.IsWhole) (arg6 : Memref sig .tc .vmem S1x3x640 .f32) (harg6 : arg6.IsWhole) (arg7 : Memref sig .tc .vmem S1x10240 .f32) (harg7 : arg7.IsWhole) (arg8 : Memref sig .tc .vmem S1x10240 .f32) (harg8 : arg8.IsWhole) (arg9 : Memref sig .tc .vmem S16x128 .bf16) (harg9 : arg9.IsWhole) (arg10 : Memref sig .tc .vmem S1x128x10240 .fp8e4m3) (harg10 : arg10.IsWhole) (arg11 : Memref sig .tc .vmem S3x640 .f32) (harg11 : arg11.IsWhole) (arg12 : Memref sig .tc .vmem S3x640 .f32) (harg12 : arg12.IsWhole) (arg13 : Memref sig .tc .vmem S3x640 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S1x10240 .f32) (harg19 : arg19.IsWhole) (arg20 : Memref sig .tc .vmem S1x10240 .f32) (harg20 : arg20.IsWhole) (arg21 : Memref sig .tc .vmem S16x128 .f32) (harg21 : arg21.IsWhole) (arg22 : Memref sig .tc .vmem S16x128 .f32) (harg22 : arg22.IsWhole) (arg23 : Memref sig .tc .vmem S16x128 .f32) (harg23 : arg23.IsWhole) (arg24 : Memref sig .tc .vmem S16x128 .f32) (harg24 : arg24.IsWhole) (arg25 : Memref sig .tc .vmem S16x128 .f32) (harg25 : arg25.IsWhole)

set_option maxHeartbeats 2000000 in
/-- A trip of loop 2 raises the carried maxima by the eight tiles it visits. -/
theorem t2_max (v1 : BitVec 32) (v22 : Elt Ideal .f32) (v23 : Elt Ideal .f32) (v28 v32 v33 : FVec Ideal S1x128 .f32) (v65 v66 : Vec Ideal S32x128 .f32) (X : BufTy.Contents (Elt Ideal) arg4.view.ty) (g : BufTy.Contents (Elt Ideal) arg19.view.ty) (b : BufTy.Contents (Elt Ideal) arg20.view.ty) (A M : Fin 128 → EReal) (hA : ∀ (a : Fin 32) (l : Fin 128), v65 (ix2 a l) = A ⟨0 + a.val, by omega⟩) (hM : ∀ (a : Fin 32) (l : Fin 128), v66 (ix2 a l) = M ⟨0 + a.val, by omega⟩) (k : Fin k0_t2_loop.trips) (hk : k.val < 10) (acc : FVec Ideal S32x128 .f32) (a : Fin 32) (l : Fin 128) :
    tripR_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v1 v22 v23 v28 v32 v33 v65 v66 X g b k acc (ix2 a l)
      = (max (max (max (max (max (max (max (max (acc (ix2 a l)) (Spec.ab (NV (arg4.view.read (Elt Ideal) X) (arg19.view.read (Elt Ideal) g) (arg20.view.read (Elt Ideal) b) A M ⟨0 + a.val, by omega⟩ ⟨1024 * k.val + 0 + l.val, by omega⟩))) (Spec.ab (NV (arg4.view.read (Elt Ideal) X) (arg19.view.read (Elt Ideal) g) (arg20.view.read (Elt Ideal) b) A M ⟨0 + a.val, by omega⟩ ⟨1024 * k.val + 128 + l.val, by omega⟩))) (Spec.ab (NV (arg4.view.read (Elt Ideal) X) (arg19.view.read (Elt Ideal) g) (arg20.view.read (Elt Ideal) b) A M ⟨0 + a.val, by omega⟩ ⟨1024 * k.val + 256 + l.val, by omega⟩))) (Spec.ab (NV (arg4.view.read (Elt Ideal) X) (arg19.view.read (Elt Ideal) g) (arg20.view.read (Elt Ideal) b) A M ⟨0 + a.val, by omega⟩ ⟨1024 * k.val + 384 + l.val, by omega⟩))) (Spec.ab (NV (arg4.view.read (Elt Ideal) X) (arg19.view.read (Elt Ideal) g) (arg20.view.read (Elt Ideal) b) A M ⟨0 + a.val, by omega⟩ ⟨1024 * k.val + 512 + l.val, by omega⟩))) (Spec.ab (NV (arg4.view.read (Elt Ideal) X) (arg19.view.read (Elt Ideal) g) (arg20.view.read (Elt Ideal) b) A M ⟨0 + a.val, by omega⟩ ⟨1024 * k.val + 640 + l.val, by omega⟩))) (Spec.ab (NV (arg4.view.read (Elt Ideal) X) (arg19.view.read (Elt Ideal) g) (arg20.view.read (Elt Ideal) b) A M ⟨0 + a.val, by omega⟩ ⟨1024 * k.val + 768 + l.val, by omega⟩))) (Spec.ab (NV (arg4.view.read (Elt Ideal) X) (arg19.view.read (Elt Ideal) g) (arg20.view.read (Elt Ideal) b) A M ⟨0 + a.val, by omega⟩ ⟨1024 * k.val + 896 + l.val, by omega⟩))) := by
  have o0 : k0_off83 k 0#32 = ![0, 0, 1024 * k.val + 0] := k0_off83_eq k 0
  have q0 : k0_off84 k 0#32 = ![0, 1024 * k.val + 0] := k0_off84_eq k 0
  have o1 : k0_off83 k 128#32 = ![0, 0, 1024 * k.val + 128] := k0_off83_eq k 1
  have q1 : k0_off84 k 128#32 = ![0, 1024 * k.val + 128] := k0_off84_eq k 1
  have o2 : k0_off83 k 256#32 = ![0, 0, 1024 * k.val + 256] := k0_off83_eq k 2
  have q2 : k0_off84 k 256#32 = ![0, 1024 * k.val + 256] := k0_off84_eq k 2
  have o3 : k0_off83 k 384#32 = ![0, 0, 1024 * k.val + 384] := k0_off83_eq k 3
  have q3 : k0_off84 k 384#32 = ![0, 1024 * k.val + 384] := k0_off84_eq k 3
  have o4 : k0_off83 k 512#32 = ![0, 0, 1024 * k.val + 512] := k0_off83_eq k 4
  have q4 : k0_off84 k 512#32 = ![0, 1024 * k.val + 512] := k0_off84_eq k 4
  have o5 : k0_off83 k 640#32 = ![0, 0, 1024 * k.val + 640] := k0_off83_eq k 5
  have q5 : k0_off84 k 640#32 = ![0, 1024 * k.val + 640] := k0_off84_eq k 5
  have o6 : k0_off83 k 768#32 = ![0, 0, 1024 * k.val + 768] := k0_off83_eq k 6
  have q6 : k0_off84 k 768#32 = ![0, 1024 * k.val + 768] := k0_off84_eq k 6
  have o7 : k0_off83 k 896#32 = ![0, 0, 1024 * k.val + 896] := k0_off83_eq k 7
  have q7 : k0_off84 k 896#32 = ![0, 1024 * k.val + 896] := k0_off84_eq k 7
  unfold tripR_k0_t2 trip_k0_t2
  dsimp only
  refine (?_ : ∀ z : EReal, z = _ → _ = z) _ rfl
  intro z hz
  frame_out
  unfold_payloads
  pointwise
  simp only [hA, hM, o0, q0, o1, q1, o2, q2, o3, q3, o4, q4, o5, q5, o6, q6, o7, q7, Matrix.cons_val_zero, Matrix.cons_val_one, Matrix.cons_val_two, Matrix.cons_val, Matrix.head_cons, Matrix.tail_cons]
  simp only [NV, Spec.norm] at hz
  simp only [absf_eq]
  exact hz.symm

set_option maxHeartbeats 2000000 in
/-- What it stores is the clipped value of the tiles it visits. -/
theorem t2_pieces (v1 : BitVec 32) (v22 : Elt Ideal .f32) (v23 : Elt Ideal .f32) (v28 v32 v33 : FVec Ideal S1x128 .f32) (v65 v66 : Vec Ideal S32x128 .f32) (X : BufTy.Contents (Elt Ideal) arg4.view.ty) (g : BufTy.Contents (Elt Ideal) arg19.view.ty) (b : BufTy.Contents (Elt Ideal) arg20.view.ty) (A M : Fin 128 → EReal) (hA : ∀ (a : Fin 32) (l : Fin 128), v65 (ix2 a l) = A ⟨0 + a.val, by omega⟩) (hM : ∀ (a : Fin 32) (l : Fin 128), v66 (ix2 a l) = M ⟨0 + a.val, by omega⟩) (k : Fin k0_t2_loop.trips) (hk : k.val < 10) (acc : FVec Ideal S32x128 .f32) :
    (∀ p ∈ tripL_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v1 v22 v23 v28 v32 v33 v65 v66 X g b k acc, ∀ x, p.2 x = YV (arg4.view.read (Elt Ideal) X) (arg19.view.read (Elt Ideal) g) (arg20.view.read (Elt Ideal) b) A M (p.1.emb x))
      ∧ (∀ y : S1x128x10240.Idx, 0 ≤ (y 1).val → (y 1).val < 32 → 1024 * k.val ≤ (y 2).val → (y 2).val < 1024 * (k.val + 1) → ∃ p ∈ tripL_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v1 v22 v23 v28 v32 v33 v65 v66 X g b k acc, y ∈ p.1.set) := by
  have o0 : k0_off83 k 0#32 = ![0, 0, 1024 * k.val + 0] := k0_off83_eq k 0
  have q0 : k0_off84 k 0#32 = ![0, 1024 * k.val + 0] := k0_off84_eq k 0
  have o1 : k0_off83 k 128#32 = ![0, 0, 1024 * k.val + 128] := k0_off83_eq k 1
  have q1 : k0_off84 k 128#32 = ![0, 1024 * k.val + 128] := k0_off84_eq k 1
  have o2 : k0_off83 k 256#32 = ![0, 0, 1024 * k.val + 256] := k0_off83_eq k 2
  have q2 : k0_off84 k 256#32 = ![0, 1024 * k.val + 256] := k0_off84_eq k 2
  have o3 : k0_off83 k 384#32 = ![0, 0, 1024 * k.val + 384] := k0_off83_eq k 3
  have q3 : k0_off84 k 384#32 = ![0, 1024 * k.val + 384] := k0_off84_eq k 3
  have o4 : k0_off83 k 512#32 = ![0, 0, 1024 * k.val + 512] := k0_off83_eq k 4
  have q4 : k0_off84 k 512#32 = ![0, 1024 * k.val + 512] := k0_off84_eq k 4
  have o5 : k0_off83 k 640#32 = ![0, 0, 1024 * k.val + 640] := k0_off83_eq k 5
  have q5 : k0_off84 k 640#32 = ![0, 1024 * k.val + 640] := k0_off84_eq k 5
  have o6 : k0_off83 k 768#32 = ![0, 0, 1024 * k.val + 768] := k0_off83_eq k 6
  have q6 : k0_off84 k 768#32 = ![0, 1024 * k.val + 768] := k0_off84_eq k 6
  have o7 : k0_off83 k 896#32 = ![0, 0, 1024 * k.val + 896] := k0_off83_eq k 7
  have q7 : k0_off84 k 896#32 = ![0, 1024 * k.val + 896] := k0_off84_eq k 7
  unfold tripL_k0_t2 trip_k0_t2
  dsimp only
  constructor
  · intro p hp
    simp only [List.mem_cons, List.not_mem_nil, _root_.or_false] at hp
    rcases hp with rfl | rfl | rfl | rfl | rfl | rfl | rfl | rfl
    · refine piece_of _ 0 (1024 * k.val + 896) _ o7 (k0_off83_inb k 7) (by norm_num) (by omega) _ (fun a l => ?_)
      refine (?_ : ∀ z : EReal, z = _ → _ = z) _ rfl
      intro z hz
      frame_out
      unfold_payloads
      pointwise
      simp only [hA, hM, o0, q0, o1, q1, o2, q2, o3, q3, o4, q4, o5, q5, o6, q6, o7, q7, Matrix.cons_val_zero, Matrix.cons_val_one, Matrix.cons_val_two, Matrix.cons_val, Matrix.head_cons, Matrix.tail_cons]
      simp only [YV, NV, Spec.norm, Spec.clip, Spec.lo, Spec.hi] at hz
      exact hz.symm
    · refine piece_of _ 0 (1024 * k.val + 768) _ o6 (k0_off83_inb k 6) (by norm_num) (by omega) _ (fun a l => ?_)
      refine (?_ : ∀ z : EReal, z = _ → _ = z) _ rfl
      intro z hz
      frame_out
      unfold_payloads
      pointwise
      simp only [hA, hM, o0, q0, o1, q1, o2, q2, o3, q3, o4, q4, o5, q5, o6, q6, o7, q7, Matrix.cons_val_zero, Matrix.cons_val_one, Matrix.cons_val_two, Matrix.cons_val, Matrix.head_cons, Matrix.tail_cons]
      simp only [YV, NV, Spec.norm, Spec.clip, Spec.lo, Spec.hi] at hz
      exact hz.symm
    · refine piece_of _ 0 (1024 * k.val + 640) _ o5 (k0_off83_inb k 5) (by norm_num) (by omega) _ (fun a l => ?_)
      refine (?_ : ∀ z : EReal, z = _ → _ = z) _ rfl
      intro z hz
      frame_out
      unfold_payloads
      pointwise
      simp only [hA, hM, o0, q0, o1, q1, o2, q2, o3, q3, o4, q4, o5, q5, o6, q6, o7, q7, Matrix.cons_val_zero, Matrix.cons_val_one, Matrix.cons_val_two, Matrix.cons_val, Matrix.head_cons, Matrix.tail_cons]
      simp only [YV, NV, Spec.norm, Spec.clip, Spec.lo, Spec.hi] at hz
      exact hz.symm
    · refine piece_of _ 0 (1024 * k.val + 512) _ o4 (k0_off83_inb k 4) (by norm_num) (by omega) _ (fun a l => ?_)
      refine (?_ : ∀ z : EReal, z = _ → _ = z) _ rfl
      intro z hz
      frame_out
      unfold_payloads
      pointwise
      simp only [hA, hM, o0, q0, o1, q1, o2, q2, o3, q3, o4, q4, o5, q5, o6, q6, o7, q7, Matrix.cons_val_zero, Matrix.cons_val_one, Matrix.cons_val_two, Matrix.cons_val, Matrix.head_cons, Matrix.tail_cons]
      simp only [YV, NV, Spec.norm, Spec.clip, Spec.lo, Spec.hi] at hz
      exact hz.symm
    · refine piece_of _ 0 (1024 * k.val + 384) _ o3 (k0_off83_inb k 3) (by norm_num) (by omega) _ (fun a l => ?_)
      refine (?_ : ∀ z : EReal, z = _ → _ = z) _ rfl
      intro z hz
      frame_out
      unfold_payloads
      pointwise
      simp only [hA, hM, o0, q0, o1, q1, o2, q2, o3, q3, o4, q4, o5, q5, o6, q6, o7, q7, Matrix.cons_val_zero, Matrix.cons_val_one, Matrix.cons_val_two, Matrix.cons_val, Matrix.head_cons, Matrix.tail_cons]
      simp only [YV, NV, Spec.norm, Spec.clip, Spec.lo, Spec.hi] at hz
      exact hz.symm
    · refine piece_of _ 0 (1024 * k.val + 256) _ o2 (k0_off83_inb k 2) (by norm_num) (by omega) _ (fun a l => ?_)
      refine (?_ : ∀ z : EReal, z = _ → _ = z) _ rfl
      intro z hz
      frame_out
      unfold_payloads
      pointwise
      simp only [hA, hM, o0, q0, o1, q1, o2, q2, o3, q3, o4, q4, o5, q5, o6, q6, o7, q7, Matrix.cons_val_zero, Matrix.cons_val_one, Matrix.cons_val_two, Matrix.cons_val, Matrix.head_cons, Matrix.tail_cons]
      simp only [YV, NV, Spec.norm, Spec.clip, Spec.lo, Spec.hi] at hz
      exact hz.symm
    · refine piece_of _ 0 (1024 * k.val + 128) _ o1 (k0_off83_inb k 1) (by norm_num) (by omega) _ (fun a l => ?_)
      refine (?_ : ∀ z : EReal, z = _ → _ = z) _ rfl
      intro z hz
      frame_out
      unfold_payloads
      pointwise
      simp only [hA, hM, o0, q0, o1, q1, o2, q2, o3, q3, o4, q4, o5, q5, o6, q6, o7, q7, Matrix.cons_val_zero, Matrix.cons_val_one, Matrix.cons_val_two, Matrix.cons_val, Matrix.head_cons, Matrix.tail_cons]
      simp only [YV, NV, Spec.norm, Spec.clip, Spec.lo, Spec.hi] at hz
      exact hz.symm
    · refine piece_of _ 0 (1024 * k.val + 0) _ o0 (k0_off83_inb k 0) (by norm_num) (by omega) _ (fun a l => ?_)
      refine (?_ : ∀ z : EReal, z = _ → _ = z) _ rfl
      intro z hz
      frame_out
      unfold_payloads
      pointwise
      simp only [hA, hM, o0, q0, o1, q1, o2, q2, o3, q3, o4, q4, o5, q5, o6, q6, o7, q7, Matrix.cons_val_zero, Matrix.cons_val_one, Matrix.cons_val_two, Matrix.cons_val, Matrix.head_cons, Matrix.tail_cons]
      simp only [YV, NV, Spec.norm, Spec.clip, Spec.lo, Spec.hi] at hz
      exact hz.symm
  · intro y h1 h2 h3 h4
    obtain ⟨r, hr⟩ : ∃ r : ℕ, r = ((y 2).val - 1024 * k.val) / 128 := ⟨_, rfl⟩
    have hr8 : r < 8 := by omega
    interval_cases r
    · refine ⟨_, (List.mem_cons_of_mem _ (List.mem_cons_of_mem _ (List.mem_cons_of_mem _ (List.mem_cons_of_mem _ (List.mem_cons_of_mem _ (List.mem_cons_of_mem _ (List.mem_cons_of_mem _ List.mem_cons_self))))))), ?_⟩
      exact mem_of 0 (1024 * k.val + 0) _ o0 (k0_off83_inb k 0) y h1 h2 (by omega) (by omega)
    · refine ⟨_, (List.mem_cons_of_mem _ (List.mem_cons_of_mem _ (List.mem_cons_of_mem _ (List.mem_cons_of_mem _ (List.mem_cons_of_mem _ (List.mem_cons_of_mem _ List.mem_cons_self)))))), ?_⟩
      exact mem_of 0 (1024 * k.val + 128) _ o1 (k0_off83_inb k 1) y h1 h2 (by omega) (by omega)
    · refine ⟨_, (List.mem_cons_of_mem _ (List.mem_cons_of_mem _ (List.mem_cons_of_mem _ (List.mem_cons_of_mem _ (List.mem_cons_of_mem _ List.mem_cons_self))))), ?_⟩
      exact mem_of 0 (1024 * k.val + 256) _ o2 (k0_off83_inb k 2) y h1 h2 (by omega) (by omega)
    · refine ⟨_, (List.mem_cons_of_mem _ (List.mem_cons_of_mem _ (List.mem_cons_of_mem _ (List.mem_cons_of_mem _ List.mem_cons_self)))), ?_⟩
      exact mem_of 0 (1024 * k.val + 384) _ o3 (k0_off83_inb k 3) y h1 h2 (by omega) (by omega)
    · refine ⟨_, (List.mem_cons_of_mem _ (List.mem_cons_of_mem _ (List.mem_cons_of_mem _ List.mem_cons_self))), ?_⟩
      exact mem_of 0 (1024 * k.val + 512) _ o4 (k0_off83_inb k 4) y h1 h2 (by omega) (by omega)
    · refine ⟨_, (List.mem_cons_of_mem _ (List.mem_cons_of_mem _ List.mem_cons_self)), ?_⟩
      exact mem_of 0 (1024 * k.val + 640) _ o5 (k0_off83_inb k 5) y h1 h2 (by omega) (by omega)
    · refine ⟨_, (List.mem_cons_of_mem _ List.mem_cons_self), ?_⟩
      exact mem_of 0 (1024 * k.val + 768) _ o6 (k0_off83_inb k 6) y h1 h2 (by omega) (by omega)
    · refine ⟨_, List.mem_cons_self, ?_⟩
      exact mem_of 0 (1024 * k.val + 896) _ o7 (k0_off83_inb k 7) y h1 h2 (by omega) (by omega)

/-- The state of loop 2 before a trip. -/
theorem t2_all (v1 : BitVec 32) (v22 : Elt Ideal .f32) (v23 : Elt Ideal .f32) (v28 v32 v33 : FVec Ideal S1x128 .f32) (v65 v66 : Vec Ideal S32x128 .f32) (X : BufTy.Contents (Elt Ideal) arg4.view.ty) (g : BufTy.Contents (Elt Ideal) arg19.view.ty) (b : BufTy.Contents (Elt Ideal) arg20.view.ty) (A M : Fin 128 → EReal) (hA : ∀ (a : Fin 32) (l : Fin 128), v65 (ix2 a l) = A ⟨0 + a.val, by omega⟩) (hM : ∀ (a : Fin 32) (l : Fin 128), v66 (ix2 a l) = M ⟨0 + a.val, by omega⟩) (init : FVec Ideal S32x128 .f32) : ∀ n : ℕ, n ≤ k0_t2_loop.trips →
    (∀ (a : Fin 32) (l : Fin 128) (z : EReal), (st_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v1 v22 v23 v28 v32 v33 v65 v66 X g b init n).1 (ix2 a l) ≤ z
        ↔ init (ix2 a l) ≤ z ∧ ∀ t : Fin 80, t.val < 8 * n → Spec.ab (NV (arg4.view.read (Elt Ideal) X) (arg19.view.read (Elt Ideal) g) (arg20.view.read (Elt Ideal) b) A M ⟨0 + a.val, by omega⟩ ⟨128 * t.val + l.val, by omega⟩) ≤ z)
    ∧ (∀ p ∈ (st_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v1 v22 v23 v28 v32 v33 v65 v66 X g b init n).2, ∀ x, p.2 x = YV (arg4.view.read (Elt Ideal) X) (arg19.view.read (Elt Ideal) g) (arg20.view.read (Elt Ideal) b) A M (p.1.emb x))
    ∧ (∀ y : S1x128x10240.Idx, 0 ≤ (y 1).val → (y 1).val < 32 → (y 2).val < 1024 * n → ∃ p ∈ (st_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v1 v22 v23 v28 v32 v33 v65 v66 X g b init n).2, y ∈ p.1.set)
  | 0, _ => by
    refine ⟨fun a l z => ⟨fun h => ⟨h, fun t ht => absurd ht (by omega)⟩, fun h => h.1⟩, fun p hp => ?_, fun y _ _ hy => absurd hy (by omega)⟩
    exact absurd hp List.not_mem_nil
  | n + 1, hn => by
    obtain ⟨h1, h2, h3⟩ := t2_all v1 v22 v23 v28 v32 v33 v65 v66 X g b A M hA hM init n (by omega)
    have hk : n < 10 := Nat.lt_of_lt_of_le hn k0_t2_abs.2.1
    have es := st_k0_t2_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v1 v22 v23 v28 v32 v33 v65 v66 X g b init ⟨n, hn⟩
    rw [show st_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v1 v22 v23 v28 v32 v33 v65 v66 X g b init (n + 1) = _ from es]
    obtain ⟨p1, p2⟩ := t2_pieces 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v1 v22 v23 v28 v32 v33 v65 v66 X g b A M hA hM ⟨n, hn⟩ hk (st_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v1 v22 v23 v28 v32 v33 v65 v66 X g b init n).1
    refine ⟨fun a l z => ?_, fun p hp => ?_, fun y y1 y2 y3 => ?_⟩
    · exact step8 (fun q => Spec.ab (NV (arg4.view.read (Elt Ideal) X) (arg19.view.read (Elt Ideal) g) (arg20.view.read (Elt Ideal) b) A M ⟨0 + a.val, by omega⟩ q)) n hk l _ _ _ z (h1 a l z)
        (t2_max 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v1 v22 v23 v28 v32 v33 v65 v66 X g b A M hA hM ⟨n, hn⟩ hk (st_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v1 v22 v23 v28 v32 v33 v65 v66 X g b init n).1 a l)
    · rcases List.mem_append.mp hp with hp | hp
      · exact p1 p hp
      · exact h2 p hp
    · by_cases hy : (y 2).val < 1024 * n
      · obtain ⟨p, hp, hm⟩ := h3 y y1 y2 hy
        exact ⟨p, List.mem_append_right _ hp, hm⟩
      · obtain ⟨p, hp, hm⟩ := p2 y y1 y2 (by show 1024 * n ≤ _; omega) y3
        exact ⟨p, List.mem_append_left _ hp, hm⟩

theorem t2_trips : k0_t2_loop.trips = 10 := by decide +kernel

end Cert.KernelIdeal.Body

end
-- ==== Proof.KernelIdealLoopT5.lean ====
module

public import proofs.«01_k».proof.Proof.KernelIdealLoopT2

@[expose] public section

set_option maxRecDepth 16384

noncomputable section

namespace Cert.KernelIdeal.Body

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable (𝒱 : Variants) (c : Dev nD) (bd : Option 𝒱.V) (i : grid0.Coords) (arg2 : Memref sig .tc .smem S1 .f32) (harg2 : arg2.IsWhole) (arg3 : Memref sig .tc .smem S1 .f32) (harg3 : arg3.IsWhole) (arg4 : Memref sig .tc .vmem S1x128x10240 .bf16) (harg4 : arg4.IsWhole) (arg5 : Memref sig .tc .vmem S1x3x640 .f32) (harg5 : arg5.IsWhole) (arg6 : Memref sig .tc .vmem S1x3x640 .f32) (harg6 : arg6.IsWhole) (arg7 : Memref sig .tc .vmem S1x10240 .f32) (harg7 : arg7.IsWhole) (arg8 : Memref sig .tc .vmem S1x10240 .f32) (harg8 : arg8.IsWhole) (arg9 : Memref sig .tc .vmem S16x128 .bf16) (harg9 : arg9.IsWhole) (arg10 : Memref sig .tc .vmem S1x128x10240 .fp8e4m3) (harg10 : arg10.IsWhole) (arg11 : Memref sig .tc .vmem S3x640 .f32) (harg11 : arg11.IsWhole) (arg12 : Memref sig .tc .vmem S3x640 .f32) (harg12 : arg12.IsWhole) (arg13 : Memref sig .tc .vmem S3x640 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S1x10240 .f32) (harg19 : arg19.IsWhole) (arg20 : Memref sig .tc .vmem S1x10240 .f32) (harg20 : arg20.IsWhole) (arg21 : Memref sig .tc .vmem S16x128 .f32) (harg21 : arg21.IsWhole) (arg22 : Memref sig .tc .vmem S16x128 .f32) (harg22 : arg22.IsWhole) (arg23 : Memref sig .tc .vmem S16x128 .f32) (harg23 : arg23.IsWhole) (arg24 : Memref sig .tc .vmem S16x128 .f32) (harg24 : arg24.IsWhole) (arg25 : Memref sig .tc .vmem S16x128 .f32) (harg25 : arg25.IsWhole)

set_option maxHeartbeats 2000000 in
/-- A trip of loop 5 raises the carried maxima by the eight tiles it visits. -/
theorem t5_max (v69 : FVec Ideal S32x128 .f32) (v70 : Vec Ideal S32x128 .f32) (v89 v90 : Vec Ideal S32x128 .f32) (X : BufTy.Contents (Elt Ideal) arg4.view.ty) (g : BufTy.Contents (Elt Ideal) arg19.view.ty) (b : BufTy.Contents (Elt Ideal) arg20.view.ty) (A M : Fin 128 → EReal) (hA : ∀ (a : Fin 32) (l : Fin 128), v89 (ix2 a l) = A ⟨96 + a.val, by omega⟩) (hM : ∀ (a : Fin 32) (l : Fin 128), v90 (ix2 a l) = M ⟨96 + a.val, by omega⟩) (k : Fin k0_t5_loop.trips) (hk : k.val < 10) (acc : FVec Ideal S32x128 .f32) (a : Fin 32) (l : Fin 128) :
    tripR_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v69 v70 v89 v90 X g b k acc (ix2 a l)
      = (max (max (max (max (max (max (max (max (acc (ix2 a l)) (Spec.ab (NV (arg4.view.read (Elt Ideal) X) (arg19.view.read (Elt Ideal) g) (arg20.view.read (Elt Ideal) b) A M ⟨96 + a.val, by omega⟩ ⟨1024 * k.val + 0 + l.val, by omega⟩))) (Spec.ab (NV (arg4.view.read (Elt Ideal) X) (arg19.view.read (Elt Ideal) g) (arg20.view.read (Elt Ideal) b) A M ⟨96 + a.val, by omega⟩ ⟨1024 * k.val + 128 + l.val, by omega⟩))) (Spec.ab (NV (arg4.view.read (Elt Ideal) X) (arg19.view.read (Elt Ideal) g) (arg20.view.read (Elt Ideal) b) A M ⟨96 + a.val, by omega⟩ ⟨1024 * k.val + 256 + l.val, by omega⟩))) (Spec.ab (NV (arg4.view.read (Elt Ideal) X) (arg19.view.read (Elt Ideal) g) (arg20.view.read (Elt Ideal) b) A M ⟨96 + a.val, by omega⟩ ⟨1024 * k.val + 384 + l.val, by omega⟩))) (Spec.ab (NV (arg4.view.read (Elt Ideal) X) (arg19.view.read (Elt Ideal) g) (arg20.view.read (Elt Ideal) b) A M ⟨96 + a.val, by omega⟩ ⟨1024 * k.val + 512 + l.val, by omega⟩))) (Spec.ab (NV (arg4.view.read (Elt Ideal) X) (arg19.view.read (Elt Ideal) g) (arg20.view.read (Elt Ideal) b) A M ⟨96 + a.val, by omega⟩ ⟨1024 * k.val + 640 + l.val, by omega⟩))) (Spec.ab (NV (arg4.view.read (Elt Ideal) X) (arg19.view.read (Elt Ideal) g) (arg20.view.read (Elt Ideal) b) A M ⟨96 + a.val, by omega⟩ ⟨1024 * k.val + 768 + l.val, by omega⟩))) (Spec.ab (NV (arg4.view.read (Elt Ideal) X) (arg19.view.read (Elt Ideal) g) (arg20.view.read (Elt Ideal) b) A M ⟨96 + a.val, by omega⟩ ⟨1024 * k.val + 896 + l.val, by omega⟩))) := by
  have o0 : k0_off89 k 0#32 = ![0, 96, 1024 * k.val + 0] := k0_off89_eq k 0
  have q0 : k0_off90 k 0#32 = ![0, 1024 * k.val + 0] := k0_off90_eq k 0
  have o1 : k0_off89 k 128#32 = ![0, 96, 1024 * k.val + 128] := k0_off89_eq k 1
  have q1 : k0_off90 k 128#32 = ![0, 1024 * k.val + 128] := k0_off90_eq k 1
  have o2 : k0_off89 k 256#32 = ![0, 96, 1024 * k.val + 256] := k0_off89_eq k 2
  have q2 : k0_off90 k 256#32 = ![0, 1024 * k.val + 256] := k0_off90_eq k 2
  have o3 : k0_off89 k 384#32 = ![0, 96, 1024 * k.val + 384] := k0_off89_eq k 3
  have q3 : k0_off90 k 384#32 = ![0, 1024 * k.val + 384] := k0_off90_eq k 3
  have o4 : k0_off89 k 512#32 = ![0, 96, 1024 * k.val + 512] := k0_off89_eq k 4
  have q4 : k0_off90 k 512#32 = ![0, 1024 * k.val + 512] := k0_off90_eq k 4
  have o5 : k0_off89 k 640#32 = ![0, 96, 1024 * k.val + 640] := k0_off89_eq k 5
  have q5 : k0_off90 k 640#32 = ![0, 1024 * k.val + 640] := k0_off90_eq k 5
  have o6 : k0_off89 k 768#32 = ![0, 96, 1024 * k.val + 768] := k0_off89_eq k 6
  have q6 : k0_off90 k 768#32 = ![0, 1024 * k.val + 768] := k0_off90_eq k 6
  have o7 : k0_off89 k 896#32 = ![0, 96, 1024 * k.val + 896] := k0_off89_eq k 7
  have q7 : k0_off90 k 896#32 = ![0, 1024 * k.val + 896] := k0_off90_eq k 7
  unfold tripR_k0_t5 trip_k0_t5
  dsimp only
  refine (?_ : ∀ z : EReal, z = _ → _ = z) _ rfl
  intro z hz
  frame_out
  unfold_payloads
  pointwise
  simp only [hA, hM, o0, q0, o1, q1, o2, q2, o3, q3, o4, q4, o5, q5, o6, q6, o7, q7, Matrix.cons_val_zero, Matrix.cons_val_one, Matrix.cons_val_two, Matrix.cons_val, Matrix.head_cons, Matrix.tail_cons]
  simp only [NV, Spec.norm] at hz
  simp only [absf_eq]
  exact hz.symm

set_option maxHeartbeats 2000000 in
/-- What it stores is the clipped value of the tiles it visits. -/
theorem t5_pieces (v69 : FVec Ideal S32x128 .f32) (v70 : Vec Ideal S32x128 .f32) (v89 v90 : Vec Ideal S32x128 .f32) (X : BufTy.Contents (Elt Ideal) arg4.view.ty) (g : BufTy.Contents (Elt Ideal) arg19.view.ty) (b : BufTy.Contents (Elt Ideal) arg20.view.ty) (A M : Fin 128 → EReal) (hA : ∀ (a : Fin 32) (l : Fin 128), v89 (ix2 a l) = A ⟨96 + a.val, by omega⟩) (hM : ∀ (a : Fin 32) (l : Fin 128), v90 (ix2 a l) = M ⟨96 + a.val, by omega⟩) (k : Fin k0_t5_loop.trips) (hk : k.val < 10) (acc : FVec Ideal S32x128 .f32) :
    (∀ p ∈ tripL_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v69 v70 v89 v90 X g b k acc, ∀ x, p.2 x = YV (arg4.view.read (Elt Ideal) X) (arg19.view.read (Elt Ideal) g) (arg20.view.read (Elt Ideal) b) A M (p.1.emb x))
      ∧ (∀ y : S1x128x10240.Idx, 96 ≤ (y 1).val → (y 1).val < 128 → 1024 * k.val ≤ (y 2).val → (y 2).val < 1024 * (k.val + 1) → ∃ p ∈ tripL_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v69 v70 v89 v90 X g b k acc, y ∈ p.1.set) := by
  have o0 : k0_off89 k 0#32 = ![0, 96, 1024 * k.val + 0] := k0_off89_eq k 0
  have q0 : k0_off90 k 0#32 = ![0, 1024 * k.val + 0] := k0_off90_eq k 0
  have o1 : k0_off89 k 128#32 = ![0, 96, 1024 * k.val + 128] := k0_off89_eq k 1
  have q1 : k0_off90 k 128#32 = ![0, 1024 * k.val + 128] := k0_off90_eq k 1
  have o2 : k0_off89 k 256#32 = ![0, 96, 1024 * k.val + 256] := k0_off89_eq k 2
  have q2 : k0_off90 k 256#32 = ![0, 1024 * k.val + 256] := k0_off90_eq k 2
  have o3 : k0_off89 k 384#32 = ![0, 96, 1024 * k.val + 384] := k0_off89_eq k 3
  have q3 : k0_off90 k 384#32 = ![0, 1024 * k.val + 384] := k0_off90_eq k 3
  have o4 : k0_off89 k 512#32 = ![0, 96, 1024 * k.val + 512] := k0_off89_eq k 4
  have q4 : k0_off90 k 512#32 = ![0, 1024 * k.val + 512] := k0_off90_eq k 4
  have o5 : k0_off89 k 640#32 = ![0, 96, 1024 * k.val + 640] := k0_off89_eq k 5
  have q5 : k0_off90 k 640#32 = ![0, 1024 * k.val + 640] := k0_off90_eq k 5
  have o6 : k0_off89 k 768#32 = ![0, 96, 1024 * k.val + 768] := k0_off89_eq k 6
  have q6 : k0_off90 k 768#32 = ![0, 1024 * k.val + 768] := k0_off90_eq k 6
  have o7 : k0_off89 k 896#32 = ![0, 96, 1024 * k.val + 896] := k0_off89_eq k 7
  have q7 : k0_off90 k 896#32 = ![0, 1024 * k.val + 896] := k0_off90_eq k 7
  unfold tripL_k0_t5 trip_k0_t5
  dsimp only
  constructor
  · intro p hp
    simp only [List.mem_cons, List.not_mem_nil, _root_.or_false] at hp
    rcases hp with rfl | rfl | rfl | rfl | rfl | rfl | rfl | rfl
    · refine piece_of _ 96 (1024 * k.val + 896) _ o7 (k0_off89_inb k 7) (by norm_num) (by omega) _ (fun a l => ?_)
      refine (?_ : ∀ z : EReal, z = _ → _ = z) _ rfl
      intro z hz
      frame_out
      unfold_payloads
      pointwise
      simp only [hA, hM, o0, q0, o1, q1, o2, q2, o3, q3, o4, q4, o5, q5, o6, q6, o7, q7, Matrix.cons_val_zero, Matrix.cons_val_one, Matrix.cons_val_two, Matrix.cons_val, Matrix.head_cons, Matrix.tail_cons]
      simp only [YV, NV, Spec.norm, Spec.clip, Spec.lo, Spec.hi] at hz
      exact hz.symm
    · refine piece_of _ 96 (1024 * k.val + 768) _ o6 (k0_off89_inb k 6) (by norm_num) (by omega) _ (fun a l => ?_)
      refine (?_ : ∀ z : EReal, z = _ → _ = z) _ rfl
      intro z hz
      frame_out
      unfold_payloads
      pointwise
      simp only [hA, hM, o0, q0, o1, q1, o2, q2, o3, q3, o4, q4, o5, q5, o6, q6, o7, q7, Matrix.cons_val_zero, Matrix.cons_val_one, Matrix.cons_val_two, Matrix.cons_val, Matrix.head_cons, Matrix.tail_cons]
      simp only [YV, NV, Spec.norm, Spec.clip, Spec.lo, Spec.hi] at hz
      exact hz.symm
    · refine piece_of _ 96 (1024 * k.val + 640) _ o5 (k0_off89_inb k 5) (by norm_num) (by omega) _ (fun a l => ?_)
      refine (?_ : ∀ z : EReal, z = _ → _ = z) _ rfl
      intro z hz
      frame_out
      unfold_payloads
      pointwise
      simp only [hA, hM, o0, q0, o1, q1, o2, q2, o3, q3, o4, q4, o5, q5, o6, q6, o7, q7, Matrix.cons_val_zero, Matrix.cons_val_one, Matrix.cons_val_two, Matrix.cons_val, Matrix.head_cons, Matrix.tail_cons]
      simp only [YV, NV, Spec.norm, Spec.clip, Spec.lo, Spec.hi] at hz
      exact hz.symm
    · refine piece_of _ 96 (1024 * k.val + 512) _ o4 (k0_off89_inb k 4) (by norm_num) (by omega) _ (fun a l => ?_)
      refine (?_ : ∀ z : EReal, z = _ → _ = z) _ rfl
      intro z hz
      frame_out
      unfold_payloads
      pointwise
      simp only [hA, hM, o0, q0, o1, q1, o2, q2, o3, q3, o4, q4, o5, q5, o6, q6, o7, q7, Matrix.cons_val_zero, Matrix.cons_val_one, Matrix.cons_val_two, Matrix.cons_val, Matrix.head_cons, Matrix.tail_cons]
      simp only [YV, NV, Spec.norm, Spec.clip, Spec.lo, Spec.hi] at hz
      exact hz.symm
    · refine piece_of _ 96 (1024 * k.val + 384) _ o3 (k0_off89_inb k 3) (by norm_num) (by omega) _ (fun a l => ?_)
      refine (?_ : ∀ z : EReal, z = _ → _ = z) _ rfl
      intro z hz
      frame_out
      unfold_payloads
      pointwise
      simp only [hA, hM, o0, q0, o1, q1, o2, q2, o3, q3, o4, q4, o5, q5, o6, q6, o7, q7, Matrix.cons_val_zero, Matrix.cons_val_one, Matrix.cons_val_two, Matrix.cons_val, Matrix.head_cons, Matrix.tail_cons]
      simp only [YV, NV, Spec.norm, Spec.clip, Spec.lo, Spec.hi] at hz
      exact hz.symm
    · refine piece_of _ 96 (1024 * k.val + 256) _ o2 (k0_off89_inb k 2) (by norm_num) (by omega) _ (fun a l => ?_)
      refine (?_ : ∀ z : EReal, z = _ → _ = z) _ rfl
      intro z hz
      frame_out
      unfold_payloads
      pointwise
      simp only [hA, hM, o0, q0, o1, q1, o2, q2, o3, q3, o4, q4, o5, q5, o6, q6, o7, q7, Matrix.cons_val_zero, Matrix.cons_val_one, Matrix.cons_val_two, Matrix.cons_val, Matrix.head_cons, Matrix.tail_cons]
      simp only [YV, NV, Spec.norm, Spec.clip, Spec.lo, Spec.hi] at hz
      exact hz.symm
    · refine piece_of _ 96 (1024 * k.val + 128) _ o1 (k0_off89_inb k 1) (by norm_num) (by omega) _ (fun a l => ?_)
      refine (?_ : ∀ z : EReal, z = _ → _ = z) _ rfl
      intro z hz
      frame_out
      unfold_payloads
      pointwise
      simp only [hA, hM, o0, q0, o1, q1, o2, q2, o3, q3, o4, q4, o5, q5, o6, q6, o7, q7, Matrix.cons_val_zero, Matrix.cons_val_one, Matrix.cons_val_two, Matrix.cons_val, Matrix.head_cons, Matrix.tail_cons]
      simp only [YV, NV, Spec.norm, Spec.clip, Spec.lo, Spec.hi] at hz
      exact hz.symm
    · refine piece_of _ 96 (1024 * k.val + 0) _ o0 (k0_off89_inb k 0) (by norm_num) (by omega) _ (fun a l => ?_)
      refine (?_ : ∀ z : EReal, z = _ → _ = z) _ rfl
      intro z hz
      frame_out
      unfold_payloads
      pointwise
      simp only [hA, hM, o0, q0, o1, q1, o2, q2, o3, q3, o4, q4, o5, q5, o6, q6, o7, q7, Matrix.cons_val_zero, Matrix.cons_val_one, Matrix.cons_val_two, Matrix.cons_val, Matrix.head_cons, Matrix.tail_cons]
      simp only [YV, NV, Spec.norm, Spec.clip, Spec.lo, Spec.hi] at hz
      exact hz.symm
  · intro y h1 h2 h3 h4
    obtain ⟨r, hr⟩ : ∃ r : ℕ, r = ((y 2).val - 1024 * k.val) / 128 := ⟨_, rfl⟩
    have hr8 : r < 8 := by omega
    interval_cases r
    · refine ⟨_, (List.mem_cons_of_mem _ (List.mem_cons_of_mem _ (List.mem_cons_of_mem _ (List.mem_cons_of_mem _ (List.mem_cons_of_mem _ (List.mem_cons_of_mem _ (List.mem_cons_of_mem _ List.mem_cons_self))))))), ?_⟩
      exact mem_of 96 (1024 * k.val + 0) _ o0 (k0_off89_inb k 0) y h1 h2 (by omega) (by omega)
    · refine ⟨_, (List.mem_cons_of_mem _ (List.mem_cons_of_mem _ (List.mem_cons_of_mem _ (List.mem_cons_of_mem _ (List.mem_cons_of_mem _ (List.mem_cons_of_mem _ List.mem_cons_self)))))), ?_⟩
      exact mem_of 96 (1024 * k.val + 128) _ o1 (k0_off89_inb k 1) y h1 h2 (by omega) (by omega)
    · refine ⟨_, (List.mem_cons_of_mem _ (List.mem_cons_of_mem _ (List.mem_cons_of_mem _ (List.mem_cons_of_mem _ (List.mem_cons_of_mem _ List.mem_cons_self))))), ?_⟩
      exact mem_of 96 (1024 * k.val + 256) _ o2 (k0_off89_inb k 2) y h1 h2 (by omega) (by omega)
    · refine ⟨_, (List.mem_cons_of_mem _ (List.mem_cons_of_mem _ (List.mem_cons_of_mem _ (List.mem_cons_of_mem _ List.mem_cons_self)))), ?_⟩
      exact mem_of 96 (1024 * k.val + 384) _ o3 (k0_off89_inb k 3) y h1 h2 (by omega) (by omega)
    · refine ⟨_, (List.mem_cons_of_mem _ (List.mem_cons_of_mem _ (List.mem_cons_of_mem _ List.mem_cons_self))), ?_⟩
      exact mem_of 96 (1024 * k.val + 512) _ o4 (k0_off89_inb k 4) y h1 h2 (by omega) (by omega)
    · refine ⟨_, (List.mem_cons_of_mem _ (List.mem_cons_of_mem _ List.mem_cons_self)), ?_⟩
      exact mem_of 96 (1024 * k.val + 640) _ o5 (k0_off89_inb k 5) y h1 h2 (by omega) (by omega)
    · refine ⟨_, (List.mem_cons_of_mem _ List.mem_cons_self), ?_⟩
      exact mem_of 96 (1024 * k.val + 768) _ o6 (k0_off89_inb k 6) y h1 h2 (by omega) (by omega)
    · refine ⟨_, List.mem_cons_self, ?_⟩
      exact mem_of 96 (1024 * k.val + 896) _ o7 (k0_off89_inb k 7) y h1 h2 (by omega) (by omega)

/-- The state of loop 5 before a trip. -/
theorem t5_all (v69 : FVec Ideal S32x128 .f32) (v70 : Vec Ideal S32x128 .f32) (v89 v90 : Vec Ideal S32x128 .f32) (X : BufTy.Contents (Elt Ideal) arg4.view.ty) (g : BufTy.Contents (Elt Ideal) arg19.view.ty) (b : BufTy.Contents (Elt Ideal) arg20.view.ty) (A M : Fin 128 → EReal) (hA : ∀ (a : Fin 32) (l : Fin 128), v89 (ix2 a l) = A ⟨96 + a.val, by omega⟩) (hM : ∀ (a : Fin 32) (l : Fin 128), v90 (ix2 a l) = M ⟨96 + a.val, by omega⟩) (init : FVec Ideal S32x128 .f32) : ∀ n : ℕ, n ≤ k0_t5_loop.trips →
    (∀ (a : Fin 32) (l : Fin 128) (z : EReal), (st_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v69 v70 v89 v90 X g b init n).1 (ix2 a l) ≤ z
        ↔ init (ix2 a l) ≤ z ∧ ∀ t : Fin 80, t.val < 8 * n → Spec.ab (NV (arg4.view.read (Elt Ideal) X) (arg19.view.read (Elt Ideal) g) (arg20.view.read (Elt Ideal) b) A M ⟨96 + a.val, by omega⟩ ⟨128 * t.val + l.val, by omega⟩) ≤ z)
    ∧ (∀ p ∈ (st_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v69 v70 v89 v90 X g b init n).2, ∀ x, p.2 x = YV (arg4.view.read (Elt Ideal) X) (arg19.view.read (Elt Ideal) g) (arg20.view.read (Elt Ideal) b) A M (p.1.emb x))
    ∧ (∀ y : S1x128x10240.Idx, 96 ≤ (y 1).val → (y 1).val < 128 → (y 2).val < 1024 * n → ∃ p ∈ (st_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v69 v70 v89 v90 X g b init n).2, y ∈ p.1.set)
  | 0, _ => by
    refine ⟨fun a l z => ⟨fun h => ⟨h, fun t ht => absurd ht (by omega)⟩, fun h => h.1⟩, fun p hp => ?_, fun y _ _ hy => absurd hy (by omega)⟩
    exact absurd hp List.not_mem_nil
  | n + 1, hn => by
    obtain ⟨h1, h2, h3⟩ := t5_all v69 v70 v89 v90 X g b A M hA hM init n (by omega)
    have hk : n < 10 := Nat.lt_of_lt_of_le hn k0_t5_abs.2.1
    have es := st_k0_t5_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v69 v70 v89 v90 X g b init ⟨n, hn⟩
    rw [show st_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v69 v70 v89 v90 X g b init (n + 1) = _ from es]
    obtain ⟨p1, p2⟩ := t5_pieces 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v69 v70 v89 v90 X g b A M hA hM ⟨n, hn⟩ hk (st_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v69 v70 v89 v90 X g b init n).1
    refine ⟨fun a l z => ?_, fun p hp => ?_, fun y y1 y2 y3 => ?_⟩
    · exact step8 (fun q => Spec.ab (NV (arg4.view.read (Elt Ideal) X) (arg19.view.read (Elt Ideal) g) (arg20.view.read (Elt Ideal) b) A M ⟨96 + a.val, by omega⟩ q)) n hk l _ _ _ z (h1 a l z)
        (t5_max 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v69 v70 v89 v90 X g b A M hA hM ⟨n, hn⟩ hk (st_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v69 v70 v89 v90 X g b init n).1 a l)
    · rcases List.mem_append.mp hp with hp | hp
      · exact p1 p hp
      · exact h2 p hp
    · by_cases hy : (y 2).val < 1024 * n
      · obtain ⟨p, hp, hm⟩ := h3 y y1 y2 hy
        exact ⟨p, List.mem_append_right _ hp, hm⟩
      · obtain ⟨p, hp, hm⟩ := p2 y y1 y2 (by show 1024 * n ≤ _; omega) y3
        exact ⟨p, List.mem_append_left _ hp, hm⟩

theorem t5_trips : k0_t5_loop.trips = 10 := by decide +kernel

end Cert.KernelIdeal.Body

end
-- ==== Proof.KernelIdealLoopT3.lean ====
module

public import proofs.«01_k».proof.Proof.KernelIdealLoopT2

@[expose] public section

set_option maxRecDepth 16384

noncomputable section

namespace Cert.KernelIdeal.Body

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable (𝒱 : Variants) (c : Dev nD) (bd : Option 𝒱.V) (i : grid0.Coords) (arg2 : Memref sig .tc .smem S1 .f32) (harg2 : arg2.IsWhole) (arg3 : Memref sig .tc .smem S1 .f32) (harg3 : arg3.IsWhole) (arg4 : Memref sig .tc .vmem S1x128x10240 .bf16) (harg4 : arg4.IsWhole) (arg5 : Memref sig .tc .vmem S1x3x640 .f32) (harg5 : arg5.IsWhole) (arg6 : Memref sig .tc .vmem S1x3x640 .f32) (harg6 : arg6.IsWhole) (arg7 : Memref sig .tc .vmem S1x10240 .f32) (harg7 : arg7.IsWhole) (arg8 : Memref sig .tc .vmem S1x10240 .f32) (harg8 : arg8.IsWhole) (arg9 : Memref sig .tc .vmem S16x128 .bf16) (harg9 : arg9.IsWhole) (arg10 : Memref sig .tc .vmem S1x128x10240 .fp8e4m3) (harg10 : arg10.IsWhole) (arg11 : Memref sig .tc .vmem S3x640 .f32) (harg11 : arg11.IsWhole) (arg12 : Memref sig .tc .vmem S3x640 .f32) (harg12 : arg12.IsWhole) (arg13 : Memref sig .tc .vmem S3x640 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S1x10240 .f32) (harg19 : arg19.IsWhole) (arg20 : Memref sig .tc .vmem S1x10240 .f32) (harg20 : arg20.IsWhole) (arg21 : Memref sig .tc .vmem S16x128 .f32) (harg21 : arg21.IsWhole) (arg22 : Memref sig .tc .vmem S16x128 .f32) (harg22 : arg22.IsWhole) (arg23 : Memref sig .tc .vmem S16x128 .f32) (harg23 : arg23.IsWhole) (arg24 : Memref sig .tc .vmem S16x128 .f32) (harg24 : arg24.IsWhole) (arg25 : Memref sig .tc .vmem S16x128 .f32) (harg25 : arg25.IsWhole)

set_option maxHeartbeats 2000000 in
/-- A trip of loop 3 raises the carried maxima by the eight tiles it visits. -/
theorem t3_max (v69 : FVec Ideal S32x128 .f32) (v70 : Vec Ideal S32x128 .f32) (v73 v74 : Vec Ideal S32x128 .f32) (X : BufTy.Contents (Elt Ideal) arg4.view.ty) (g : BufTy.Contents (Elt Ideal) arg19.view.ty) (b : BufTy.Contents (Elt Ideal) arg20.view.ty) (A M : Fin 128 → EReal) (hA : ∀ (a : Fin 32) (l : Fin 128), v73 (ix2 a l) = A ⟨32 + a.val, by omega⟩) (hM : ∀ (a : Fin 32) (l : Fin 128), v74 (ix2 a l) = M ⟨32 + a.val, by omega⟩) (k : Fin k0_t3_loop.trips) (hk : k.val < 10) (acc : FVec Ideal S32x128 .f32) (a : Fin 32) (l : Fin 128) :
    tripR_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v69 v70 v73 v74 X g b k acc (ix2 a l)
      = (max (max (max (max (max (max (max (max (acc (ix2 a l)) (Spec.ab (NV (arg4.view.read (Elt Ideal) X) (arg19.view.read (Elt Ideal) g) (arg20.view.read (Elt Ideal) b) A M ⟨32 + a.val, by omega⟩ ⟨1024 * k.val + 0 + l.val, by omega⟩))) (Spec.ab (NV (arg4.view.read (Elt Ideal) X) (arg19.view.read (Elt Ideal) g) (arg20.view.read (Elt Ideal) b) A M ⟨32 + a.val, by omega⟩ ⟨1024 * k.val + 128 + l.val, by omega⟩))) (Spec.ab (NV (arg4.view.read (Elt Ideal) X) (arg19.view.read (Elt Ideal) g) (arg20.view.read (Elt Ideal) b) A M ⟨32 + a.val, by omega⟩ ⟨1024 * k.val + 256 + l.val, by omega⟩))) (Spec.ab (NV (arg4.view.read (Elt Ideal) X) (arg19.view.read (Elt Ideal) g) (arg20.view.read (Elt Ideal) b) A M ⟨32 + a.val, by omega⟩ ⟨1024 * k.val + 384 + l.val, by omega⟩))) (Spec.ab (NV (arg4.view.read (Elt Ideal) X) (arg19.view.read (Elt Ideal) g) (arg20.view.read (Elt Ideal) b) A M ⟨32 + a.val, by omega⟩ ⟨1024 * k.val + 512 + l.val, by omega⟩))) (Spec.ab (NV (arg4.view.read (Elt Ideal) X) (arg19.view.read (Elt Ideal) g) (arg20.view.read (Elt Ideal) b) A M ⟨32 + a.val, by omega⟩ ⟨1024 * k.val + 640 + l.val, by omega⟩))) (Spec.ab (NV (arg4.view.read (Elt Ideal) X) (arg19.view.read (Elt Ideal) g) (arg20.view.read (Elt Ideal) b) A M ⟨32 + a.val, by omega⟩ ⟨1024 * k.val + 768 + l.val, by omega⟩))) (Spec.ab (NV (arg4.view.read (Elt Ideal) X) (arg19.view.read (Elt Ideal) g) (arg20.view.read (Elt Ideal) b) A M ⟨32 + a.val, by omega⟩ ⟨1024 * k.val + 896 + l.val, by omega⟩))) := by
  have o0 : k0_off85 k 0#32 = ![0, 32, 1024 * k.val + 0] := k0_off85_eq k 0
  have q0 : k0_off86 k 0#32 = ![0, 1024 * k.val + 0] := k0_off86_eq k 0
  have o1 : k0_off85 k 128#32 = ![0, 32, 1024 * k.val + 128] := k0_off85_eq k 1
  have q1 : k0_off86 k 128#32 = ![0, 1024 * k.val + 128] := k0_off86_eq k 1
  have o2 : k0_off85 k 256#32 = ![0, 32, 1024 * k.val + 256] := k0_off85_eq k 2
  have q2 : k0_off86 k 256#32 = ![0, 1024 * k.val + 256] := k0_off86_eq k 2
  have o3 : k0_off85 k 384#32 = ![0, 32, 1024 * k.val + 384] := k0_off85_eq k 3
  have q3 : k0_off86 k 384#32 = ![0, 1024 * k.val + 384] := k0_off86_eq k 3
  have o4 : k0_off85 k 512#32 = ![0, 32, 1024 * k.val + 512] := k0_off85_eq k 4
  have q4 : k0_off86 k 512#32 = ![0, 1024 * k.val + 512] := k0_off86_eq k 4
  have o5 : k0_off85 k 640#32 = ![0, 32, 1024 * k.val + 640] := k0_off85_eq k 5
  have q5 : k0_off86 k 640#32 = ![0, 1024 * k.val + 640] := k0_off86_eq k 5
  have o6 : k0_off85 k 768#32 = ![0, 32, 1024 * k.val + 768] := k0_off85_eq k 6
  have q6 : k0_off86 k 768#32 = ![0, 1024 * k.val + 768] := k0_off86_eq k 6
  have o7 : k0_off85 k 896#32 = ![0, 32, 1024 * k.val + 896] := k0_off85_eq k 7
  have q7 : k0_off86 k 896#32 = ![0, 1024 * k.val + 896] := k0_off86_eq k 7
  unfold tripR_k0_t3 trip_k0_t3
  dsimp only
  refine (?_ : ∀ z : EReal, z = _ → _ = z) _ rfl
  intro z hz
  frame_out
  unfold_payloads
  pointwise
  simp only [hA, hM, o0, q0, o1, q1, o2, q2, o3, q3, o4, q4, o5, q5, o6, q6, o7, q7, Matrix.cons_val_zero, Matrix.cons_val_one, Matrix.cons_val_two, Matrix.cons_val, Matrix.head_cons, Matrix.tail_cons]
  simp only [NV, Spec.norm] at hz
  simp only [absf_eq]
  exact hz.symm

set_option maxHeartbeats 2000000 in
/-- What it stores is the clipped value of the tiles it visits. -/
theorem t3_pieces (v69 : FVec Ideal S32x128 .f32) (v70 : Vec Ideal S32x128 .f32) (v73 v74 : Vec Ideal S32x128 .f32) (X : BufTy.Contents (Elt Ideal) arg4.view.ty) (g : BufTy.Contents (Elt Ideal) arg19.view.ty) (b : BufTy.Contents (Elt Ideal) arg20.view.ty) (A M : Fin 128 → EReal) (hA : ∀ (a : Fin 32) (l : Fin 128), v73 (ix2 a l) = A ⟨32 + a.val, by omega⟩) (hM : ∀ (a : Fin 32) (l : Fin 128), v74 (ix2 a l) = M ⟨32 + a.val, by omega⟩) (k : Fin k0_t3_loop.trips) (hk : k.val < 10) (acc : FVec Ideal S32x128 .f32) :
    (∀ p ∈ tripL_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v69 v70 v73 v74 X g b k acc, ∀ x, p.2 x = YV (arg4.view.read (Elt Ideal) X) (arg19.view.read (Elt Ideal) g) (arg20.view.read (Elt Ideal) b) A M (p.1.emb x))
      ∧ (∀ y : S1x128x10240.Idx, 32 ≤ (y 1).val → (y 1).val < 64 → 1024 * k.val ≤ (y 2).val → (y 2).val < 1024 * (k.val + 1) → ∃ p ∈ tripL_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v69 v70 v73 v74 X g b k acc, y ∈ p.1.set) := by
  have o0 : k0_off85 k 0#32 = ![0, 32, 1024 * k.val + 0] := k0_off85_eq k 0
  have q0 : k0_off86 k 0#32 = ![0, 1024 * k.val + 0] := k0_off86_eq k 0
  have o1 : k0_off85 k 128#32 = ![0, 32, 1024 * k.val + 128] := k0_off85_eq k 1
  have q1 : k0_off86 k 128#32 = ![0, 1024 * k.val + 128] := k0_off86_eq k 1
  have o2 : k0_off85 k 256#32 = ![0, 32, 1024 * k.val + 256] := k0_off85_eq k 2
  have q2 : k0_off86 k 256#32 = ![0, 1024 * k.val + 256] := k0_off86_eq k 2
  have o3 : k0_off85 k 384#32 = ![0, 32, 1024 * k.val + 384] := k0_off85_eq k 3
  have q3 : k0_off86 k 384#32 = ![0, 1024 * k.val + 384] := k0_off86_eq k 3
  have o4 : k0_off85 k 512#32 = ![0, 32, 1024 * k.val + 512] := k0_off85_eq k 4
  have q4 : k0_off86 k 512#32 = ![0, 1024 * k.val + 512] := k0_off86_eq k 4
  have o5 : k0_off85 k 640#32 = ![0, 32, 1024 * k.val + 640] := k0_off85_eq k 5
  have q5 : k0_off86 k 640#32 = ![0, 1024 * k.val + 640] := k0_off86_eq k 5
  have o6 : k0_off85 k 768#32 = ![0, 32, 1024 * k.val + 768] := k0_off85_eq k 6
  have q6 : k0_off86 k 768#32 = ![0, 1024 * k.val + 768] := k0_off86_eq k 6
  have o7 : k0_off85 k 896#32 = ![0, 32, 1024 * k.val + 896] := k0_off85_eq k 7
  have q7 : k0_off86 k 896#32 = ![0, 1024 * k.val + 896] := k0_off86_eq k 7
  unfold tripL_k0_t3 trip_k0_t3
  dsimp only
  constructor
  · intro p hp
    simp only [List.mem_cons, List.not_mem_nil, _root_.or_false] at hp
    rcases hp with rfl | rfl | rfl | rfl | rfl | rfl | rfl | rfl
    · refine piece_of _ 32 (1024 * k.val + 896) _ o7 (k0_off85_inb k 7) (by norm_num) (by omega) _ (fun a l => ?_)
      refine (?_ : ∀ z : EReal, z = _ → _ = z) _ rfl
      intro z hz
      frame_out
      unfold_payloads
      pointwise
      simp only [hA, hM, o0, q0, o1, q1, o2, q2, o3, q3, o4, q4, o5, q5, o6, q6, o7, q7, Matrix.cons_val_zero, Matrix.cons_val_one, Matrix.cons_val_two, Matrix.cons_val, Matrix.head_cons, Matrix.tail_cons]
      simp only [YV, NV, Spec.norm, Spec.clip, Spec.lo, Spec.hi] at hz
      exact hz.symm
    · refine piece_of _ 32 (1024 * k.val + 768) _ o6 (k0_off85_inb k 6) (by norm_num) (by omega) _ (fun a l => ?_)
      refine (?_ : ∀ z : EReal, z = _ → _ = z) _ rfl
      intro z hz
      frame_out
      unfold_payloads
      pointwise
      simp only [hA, hM, o0, q0, o1, q1, o2, q2, o3, q3, o4, q4, o5, q5, o6, q6, o7, q7, Matrix.cons_val_zero, Matrix.cons_val_one, Matrix.cons_val_two, Matrix.cons_val, Matrix.head_cons, Matrix.tail_cons]
      simp only [YV, NV, Spec.norm, Spec.clip, Spec.lo, Spec.hi] at hz
      exact hz.symm
    · refine piece_of _ 32 (1024 * k.val + 640) _ o5 (k0_off85_inb k 5) (by norm_num) (by omega) _ (fun a l => ?_)
      refine (?_ : ∀ z : EReal, z = _ → _ = z) _ rfl
      intro z hz
      frame_out
      unfold_payloads
      pointwise
      simp only [hA, hM, o0, q0, o1, q1, o2, q2, o3, q3, o4, q4, o5, q5, o6, q6, o7, q7, Matrix.cons_val_zero, Matrix.cons_val_one, Matrix.cons_val_two, Matrix.cons_val, Matrix.head_cons, Matrix.tail_cons]
      simp only [YV, NV, Spec.norm, Spec.clip, Spec.lo, Spec.hi] at hz
      exact hz.symm
    · refine piece_of _ 32 (1024 * k.val + 512) _ o4 (k0_off85_inb k 4) (by norm_num) (by omega) _ (fun a l => ?_)
      refine (?_ : ∀ z : EReal, z = _ → _ = z) _ rfl
      intro z hz
      frame_out
      unfold_payloads
      pointwise
      simp only [hA, hM, o0, q0, o1, q1, o2, q2, o3, q3, o4, q4, o5, q5, o6, q6, o7, q7, Matrix.cons_val_zero, Matrix.cons_val_one, Matrix.cons_val_two, Matrix.cons_val, Matrix.head_cons, Matrix.tail_cons]
      simp only [YV, NV, Spec.norm, Spec.clip, Spec.lo, Spec.hi] at hz
      exact hz.symm
    · refine piece_of _ 32 (1024 * k.val + 384) _ o3 (k0_off85_inb k 3) (by norm_num) (by omega) _ (fun a l => ?_)
      refine (?_ : ∀ z : EReal, z = _ → _ = z) _ rfl
      intro z hz
      frame_out
      unfold_payloads
      pointwise
      simp only [hA, hM, o0, q0, o1, q1, o2, q2, o3, q3, o4, q4, o5, q5, o6, q6, o7, q7, Matrix.cons_val_zero, Matrix.cons_val_one, Matrix.cons_val_two, Matrix.cons_val, Matrix.head_cons, Matrix.tail_cons]
      simp only [YV, NV, Spec.norm, Spec.clip, Spec.lo, Spec.hi] at hz
      exact hz.symm
    · refine piece_of _ 32 (1024 * k.val + 256) _ o2 (k0_off85_inb k 2) (by norm_num) (by omega) _ (fun a l => ?_)
      refine (?_ : ∀ z : EReal, z = _ → _ = z) _ rfl
      intro z hz
      frame_out
      unfold_payloads
      pointwise
      simp only [hA, hM, o0, q0, o1, q1, o2, q2, o3, q3, o4, q4, o5, q5, o6, q6, o7, q7, Matrix.cons_val_zero, Matrix.cons_val_one, Matrix.cons_val_two, Matrix.cons_val, Matrix.head_cons, Matrix.tail_cons]
      simp only [YV, NV, Spec.norm, Spec.clip, Spec.lo, Spec.hi] at hz
      exact hz.symm
    · refine piece_of _ 32 (1024 * k.val + 128) _ o1 (k0_off85_inb k 1) (by norm_num) (by omega) _ (fun a l => ?_)
      refine (?_ : ∀ z : EReal, z = _ → _ = z) _ rfl
      intro z hz
      frame_out
      unfold_payloads
      pointwise
      simp only [hA, hM, o0, q0, o1, q1, o2, q2, o3, q3, o4, q4, o5, q5, o6, q6, o7, q7, Matrix.cons_val_zero, Matrix.cons_val_one, Matrix.cons_val_two, Matrix.cons_val, Matrix.head_cons, Matrix.tail_cons]
      simp only [YV, NV, Spec.norm, Spec.clip, Spec.lo, Spec.hi] at hz
      exact hz.symm
    · refine piece_of _ 32 (1024 * k.val + 0) _ o0 (k0_off85_inb k 0) (by norm_num) (by omega) _ (fun a l => ?_)
      refine (?_ : ∀ z : EReal, z = _ → _ = z) _ rfl
      intro z hz
      frame_out
      unfold_payloads
      pointwise
      simp only [hA, hM, o0, q0, o1, q1, o2, q2, o3, q3, o4, q4, o5, q5, o6, q6, o7, q7, Matrix.cons_val_zero, Matrix.cons_val_one, Matrix.cons_val_two, Matrix.cons_val, Matrix.head_cons, Matrix.tail_cons]
      simp only [YV, NV, Spec.norm, Spec.clip, Spec.lo, Spec.hi] at hz
      exact hz.symm
  · intro y h1 h2 h3 h4
    obtain ⟨r, hr⟩ : ∃ r : ℕ, r = ((y 2).val - 1024 * k.val) / 128 := ⟨_, rfl⟩
    have hr8 : r < 8 := by omega
    interval_cases r
    · refine ⟨_, (List.mem_cons_of_mem _ (List.mem_cons_of_mem _ (List.mem_cons_of_mem _ (List.mem_cons_of_mem _ (List.mem_cons_of_mem _ (List.mem_cons_of_mem _ (List.mem_cons_of_mem _ List.mem_cons_self))))))), ?_⟩
      exact mem_of 32 (1024 * k.val + 0) _ o0 (k0_off85_inb k 0) y h1 h2 (by omega) (by omega)
    · refine ⟨_, (List.mem_cons_of_mem _ (List.mem_cons_of_mem _ (List.mem_cons_of_mem _ (List.mem_cons_of_mem _ (List.mem_cons_of_mem _ (List.mem_cons_of_mem _ List.mem_cons_self)))))), ?_⟩
      exact mem_of 32 (1024 * k.val + 128) _ o1 (k0_off85_inb k 1) y h1 h2 (by omega) (by omega)
    · refine ⟨_, (List.mem_cons_of_mem _ (List.mem_cons_of_mem _ (List.mem_cons_of_mem _ (List.mem_cons_of_mem _ (List.mem_cons_of_mem _ List.mem_cons_self))))), ?_⟩
      exact mem_of 32 (1024 * k.val + 256) _ o2 (k0_off85_inb k 2) y h1 h2 (by omega) (by omega)
    · refine ⟨_, (List.mem_cons_of_mem _ (List.mem_cons_of_mem _ (List.mem_cons_of_mem _ (List.mem_cons_of_mem _ List.mem_cons_self)))), ?_⟩
      exact mem_of 32 (1024 * k.val + 384) _ o3 (k0_off85_inb k 3) y h1 h2 (by omega) (by omega)
    · refine ⟨_, (List.mem_cons_of_mem _ (List.mem_cons_of_mem _ (List.mem_cons_of_mem _ List.mem_cons_self))), ?_⟩
      exact mem_of 32 (1024 * k.val + 512) _ o4 (k0_off85_inb k 4) y h1 h2 (by omega) (by omega)
    · refine ⟨_, (List.mem_cons_of_mem _ (List.mem_cons_of_mem _ List.mem_cons_self)), ?_⟩
      exact mem_of 32 (1024 * k.val + 640) _ o5 (k0_off85_inb k 5) y h1 h2 (by omega) (by omega)
    · refine ⟨_, (List.mem_cons_of_mem _ List.mem_cons_self), ?_⟩
      exact mem_of 32 (1024 * k.val + 768) _ o6 (k0_off85_inb k 6) y h1 h2 (by omega) (by omega)
    · refine ⟨_, List.mem_cons_self, ?_⟩
      exact mem_of 32 (1024 * k.val + 896) _ o7 (k0_off85_inb k 7) y h1 h2 (by omega) (by omega)

/-- The state of loop 3 before a trip. -/
theorem t3_all (v69 : FVec Ideal S32x128 .f32) (v70 : Vec Ideal S32x128 .f32) (v73 v74 : Vec Ideal S32x128 .f32) (X : BufTy.Contents (Elt Ideal) arg4.view.ty) (g : BufTy.Contents (Elt Ideal) arg19.view.ty) (b : BufTy.Contents (Elt Ideal) arg20.view.ty) (A M : Fin 128 → EReal) (hA : ∀ (a : Fin 32) (l : Fin 128), v73 (ix2 a l) = A ⟨32 + a.val, by omega⟩) (hM : ∀ (a : Fin 32) (l : Fin 128), v74 (ix2 a l) = M ⟨32 + a.val, by omega⟩) (init : FVec Ideal S32x128 .f32) : ∀ n : ℕ, n ≤ k0_t3_loop.trips →
    (∀ (a : Fin 32) (l : Fin 128) (z : EReal), (st_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v69 v70 v73 v74 X g b init n).1 (ix2 a l) ≤ z
        ↔ init (ix2 a l) ≤ z ∧ ∀ t : Fin 80, t.val < 8 * n → Spec.ab (NV (arg4.view.read (Elt Ideal) X) (arg19.view.read (Elt Ideal) g) (arg20.view.read (Elt Ideal) b) A M ⟨32 + a.val, by omega⟩ ⟨128 * t.val + l.val, by omega⟩) ≤ z)
    ∧ (∀ p ∈ (st_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v69 v70 v73 v74 X g b init n).2, ∀ x, p.2 x = YV (arg4.view.read (Elt Ideal) X) (arg19.view.read (Elt Ideal) g) (arg20.view.read (Elt Ideal) b) A M (p.1.emb x))
    ∧ (∀ y : S1x128x10240.Idx, 32 ≤ (y 1).val → (y 1).val < 64 → (y 2).val < 1024 * n → ∃ p ∈ (st_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v69 v70 v73 v74 X g b init n).2, y ∈ p.1.set)
  | 0, _ => by
    refine ⟨fun a l z => ⟨fun h => ⟨h, fun t ht => absurd ht (by omega)⟩, fun h => h.1⟩, fun p hp => ?_, fun y _ _ hy => absurd hy (by omega)⟩
    exact absurd hp List.not_mem_nil
  | n + 1, hn => by
    obtain ⟨h1, h2, h3⟩ := t3_all v69 v70 v73 v74 X g b A M hA hM init n (by omega)
    have hk : n < 10 := Nat.lt_of_lt_of_le hn k0_t3_abs.2.1
    have es := st_k0_t3_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v69 v70 v73 v74 X g b init ⟨n, hn⟩
    rw [show st_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v69 v70 v73 v74 X g b init (n + 1) = _ from es]
    obtain ⟨p1, p2⟩ := t3_pieces 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v69 v70 v73 v74 X g b A M hA hM ⟨n, hn⟩ hk (st_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v69 v70 v73 v74 X g b init n).1
    refine ⟨fun a l z => ?_, fun p hp => ?_, fun y y1 y2 y3 => ?_⟩
    · exact step8 (fun q => Spec.ab (NV (arg4.view.read (Elt Ideal) X) (arg19.view.read (Elt Ideal) g) (arg20.view.read (Elt Ideal) b) A M ⟨32 + a.val, by omega⟩ q)) n hk l _ _ _ z (h1 a l z)
        (t3_max 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v69 v70 v73 v74 X g b A M hA hM ⟨n, hn⟩ hk (st_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v69 v70 v73 v74 X g b init n).1 a l)
    · rcases List.mem_append.mp hp with hp | hp
      · exact p1 p hp
      · exact h2 p hp
    · by_cases hy : (y 2).val < 1024 * n
      · obtain ⟨p, hp, hm⟩ := h3 y y1 y2 hy
        exact ⟨p, List.mem_append_right _ hp, hm⟩
      · obtain ⟨p, hp, hm⟩ := p2 y y1 y2 (by show 1024 * n ≤ _; omega) y3
        exact ⟨p, List.mem_append_left _ hp, hm⟩

theorem t3_trips : k0_t3_loop.trips = 10 := by decide +kernel

end Cert.KernelIdeal.Body

end
-- ==== Proof.KernelIdealLoopT4.lean ====
module

public import proofs.«01_k».proof.Proof.KernelIdealLoopT2

@[expose] public section

set_option maxRecDepth 16384

noncomputable section

namespace Cert.KernelIdeal.Body

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable (𝒱 : Variants) (c : Dev nD) (bd : Option 𝒱.V) (i : grid0.Coords) (arg2 : Memref sig .tc .smem S1 .f32) (harg2 : arg2.IsWhole) (arg3 : Memref sig .tc .smem S1 .f32) (harg3 : arg3.IsWhole) (arg4 : Memref sig .tc .vmem S1x128x10240 .bf16) (harg4 : arg4.IsWhole) (arg5 : Memref sig .tc .vmem S1x3x640 .f32) (harg5 : arg5.IsWhole) (arg6 : Memref sig .tc .vmem S1x3x640 .f32) (harg6 : arg6.IsWhole) (arg7 : Memref sig .tc .vmem S1x10240 .f32) (harg7 : arg7.IsWhole) (arg8 : Memref sig .tc .vmem S1x10240 .f32) (harg8 : arg8.IsWhole) (arg9 : Memref sig .tc .vmem S16x128 .bf16) (harg9 : arg9.IsWhole) (arg10 : Memref sig .tc .vmem S1x128x10240 .fp8e4m3) (harg10 : arg10.IsWhole) (arg11 : Memref sig .tc .vmem S3x640 .f32) (harg11 : arg11.IsWhole) (arg12 : Memref sig .tc .vmem S3x640 .f32) (harg12 : arg12.IsWhole) (arg13 : Memref sig .tc .vmem S3x640 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S1x10240 .f32) (harg19 : arg19.IsWhole) (arg20 : Memref sig .tc .vmem S1x10240 .f32) (harg20 : arg20.IsWhole) (arg21 : Memref sig .tc .vmem S16x128 .f32) (harg21 : arg21.IsWhole) (arg22 : Memref sig .tc .vmem S16x128 .f32) (harg22 : arg22.IsWhole) (arg23 : Memref sig .tc .vmem S16x128 .f32) (harg23 : arg23.IsWhole) (arg24 : Memref sig .tc .vmem S16x128 .f32) (harg24 : arg24.IsWhole) (arg25 : Memref sig .tc .vmem S16x128 .f32) (harg25 : arg25.IsWhole)

set_option maxHeartbeats 2000000 in
/-- A trip of loop 4 raises the carried maxima by the eight tiles it visits. -/
theorem t4_max (v69 : FVec Ideal S32x128 .f32) (v70 : Vec Ideal S32x128 .f32) (v81 v82 : Vec Ideal S32x128 .f32) (X : BufTy.Contents (Elt Ideal) arg4.view.ty) (g : BufTy.Contents (Elt Ideal) arg19.view.ty) (b : BufTy.Contents (Elt Ideal) arg20.view.ty) (A M : Fin 128 → EReal) (hA : ∀ (a : Fin 32) (l : Fin 128), v81 (ix2 a l) = A ⟨64 + a.val, by omega⟩) (hM : ∀ (a : Fin 32) (l : Fin 128), v82 (ix2 a l) = M ⟨64 + a.val, by omega⟩) (k : Fin k0_t4_loop.trips) (hk : k.val < 10) (acc : FVec Ideal S32x128 .f32) (a : Fin 32) (l : Fin 128) :
    tripR_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v69 v70 v81 v82 X g b k acc (ix2 a l)
      = (max (max (max (max (max (max (max (max (acc (ix2 a l)) (Spec.ab (NV (arg4.view.read (Elt Ideal) X) (arg19.view.read (Elt Ideal) g) (arg20.view.read (Elt Ideal) b) A M ⟨64 + a.val, by omega⟩ ⟨1024 * k.val + 0 + l.val, by omega⟩))) (Spec.ab (NV (arg4.view.read (Elt Ideal) X) (arg19.view.read (Elt Ideal) g) (arg20.view.read (Elt Ideal) b) A M ⟨64 + a.val, by omega⟩ ⟨1024 * k.val + 128 + l.val, by omega⟩))) (Spec.ab (NV (arg4.view.read (Elt Ideal) X) (arg19.view.read (Elt Ideal) g) (arg20.view.read (Elt Ideal) b) A M ⟨64 + a.val, by omega⟩ ⟨1024 * k.val + 256 + l.val, by omega⟩))) (Spec.ab (NV (arg4.view.read (Elt Ideal) X) (arg19.view.read (Elt Ideal) g) (arg20.view.read (Elt Ideal) b) A M ⟨64 + a.val, by omega⟩ ⟨1024 * k.val + 384 + l.val, by omega⟩))) (Spec.ab (NV (arg4.view.read (Elt Ideal) X) (arg19.view.read (Elt Ideal) g) (arg20.view.read (Elt Ideal) b) A M ⟨64 + a.val, by omega⟩ ⟨1024 * k.val + 512 + l.val, by omega⟩))) (Spec.ab (NV (arg4.view.read (Elt Ideal) X) (arg19.view.read (Elt Ideal) g) (arg20.view.read (Elt Ideal) b) A M ⟨64 + a.val, by omega⟩ ⟨1024 * k.val + 640 + l.val, by omega⟩))) (Spec.ab (NV (arg4.view.read (Elt Ideal) X) (arg19.view.read (Elt Ideal) g) (arg20.view.read (Elt Ideal) b) A M ⟨64 + a.val, by omega⟩ ⟨1024 * k.val + 768 + l.val, by omega⟩))) (Spec.ab (NV (arg4.view.read (Elt Ideal) X) (arg19.view.read (Elt Ideal) g) (arg20.view.read (Elt Ideal) b) A M ⟨64 + a.val, by omega⟩ ⟨1024 * k.val + 896 + l.val, by omega⟩))) := by
  have o0 : k0_off87 k 0#32 = ![0, 64, 1024 * k.val + 0] := k0_off87_eq k 0
  have q0 : k0_off88 k 0#32 = ![0, 1024 * k.val + 0] := k0_off88_eq k 0
  have o1 : k0_off87 k 128#32 = ![0, 64, 1024 * k.val + 128] := k0_off87_eq k 1
  have q1 : k0_off88 k 128#32 = ![0, 1024 * k.val + 128] := k0_off88_eq k 1
  have o2 : k0_off87 k 256#32 = ![0, 64, 1024 * k.val + 256] := k0_off87_eq k 2
  have q2 : k0_off88 k 256#32 = ![0, 1024 * k.val + 256] := k0_off88_eq k 2
  have o3 : k0_off87 k 384#32 = ![0, 64, 1024 * k.val + 384] := k0_off87_eq k 3
  have q3 : k0_off88 k 384#32 = ![0, 1024 * k.val + 384] := k0_off88_eq k 3
  have o4 : k0_off87 k 512#32 = ![0, 64, 1024 * k.val + 512] := k0_off87_eq k 4
  have q4 : k0_off88 k 512#32 = ![0, 1024 * k.val + 512] := k0_off88_eq k 4
  have o5 : k0_off87 k 640#32 = ![0, 64, 1024 * k.val + 640] := k0_off87_eq k 5
  have q5 : k0_off88 k 640#32 = ![0, 1024 * k.val + 640] := k0_off88_eq k 5
  have o6 : k0_off87 k 768#32 = ![0, 64, 1024 * k.val + 768] := k0_off87_eq k 6
  have q6 : k0_off88 k 768#32 = ![0, 1024 * k.val + 768] := k0_off88_eq k 6
  have o7 : k0_off87 k 896#32 = ![0, 64, 1024 * k.val + 896] := k0_off87_eq k 7
  have q7 : k0_off88 k 896#32 = ![0, 1024 * k.val + 896] := k0_off88_eq k 7
  unfold tripR_k0_t4 trip_k0_t4
  dsimp only
  refine (?_ : ∀ z : EReal, z = _ → _ = z) _ rfl
  intro z hz
  frame_out
  unfold_payloads
  pointwise
  simp only [hA, hM, o0, q0, o1, q1, o2, q2, o3, q3, o4, q4, o5, q5, o6, q6, o7, q7, Matrix.cons_val_zero, Matrix.cons_val_one, Matrix.cons_val_two, Matrix.cons_val, Matrix.head_cons, Matrix.tail_cons]
  simp only [NV, Spec.norm] at hz
  simp only [absf_eq]
  exact hz.symm

set_option maxHeartbeats 2000000 in
/-- What it stores is the clipped value of the tiles it visits. -/
theorem t4_pieces (v69 : FVec Ideal S32x128 .f32) (v70 : Vec Ideal S32x128 .f32) (v81 v82 : Vec Ideal S32x128 .f32) (X : BufTy.Contents (Elt Ideal) arg4.view.ty) (g : BufTy.Contents (Elt Ideal) arg19.view.ty) (b : BufTy.Contents (Elt Ideal) arg20.view.ty) (A M : Fin 128 → EReal) (hA : ∀ (a : Fin 32) (l : Fin 128), v81 (ix2 a l) = A ⟨64 + a.val, by omega⟩) (hM : ∀ (a : Fin 32) (l : Fin 128), v82 (ix2 a l) = M ⟨64 + a.val, by omega⟩) (k : Fin k0_t4_loop.trips) (hk : k.val < 10) (acc : FVec Ideal S32x128 .f32) :
    (∀ p ∈ tripL_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v69 v70 v81 v82 X g b k acc, ∀ x, p.2 x = YV (arg4.view.read (Elt Ideal) X) (arg19.view.read (Elt Ideal) g) (arg20.view.read (Elt Ideal) b) A M (p.1.emb x))
      ∧ (∀ y : S1x128x10240.Idx, 64 ≤ (y 1).val → (y 1).val < 96 → 1024 * k.val ≤ (y 2).val → (y 2).val < 1024 * (k.val + 1) → ∃ p ∈ tripL_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v69 v70 v81 v82 X g b k acc, y ∈ p.1.set) := by
  have o0 : k0_off87 k 0#32 = ![0, 64, 1024 * k.val + 0] := k0_off87_eq k 0
  have q0 : k0_off88 k 0#32 = ![0, 1024 * k.val + 0] := k0_off88_eq k 0
  have o1 : k0_off87 k 128#32 = ![0, 64, 1024 * k.val + 128] := k0_off87_eq k 1
  have q1 : k0_off88 k 128#32 = ![0, 1024 * k.val + 128] := k0_off88_eq k 1
  have o2 : k0_off87 k 256#32 = ![0, 64, 1024 * k.val + 256] := k0_off87_eq k 2
  have q2 : k0_off88 k 256#32 = ![0, 1024 * k.val + 256] := k0_off88_eq k 2
  have o3 : k0_off87 k 384#32 = ![0, 64, 1024 * k.val + 384] := k0_off87_eq k 3
  have q3 : k0_off88 k 384#32 = ![0, 1024 * k.val + 384] := k0_off88_eq k 3
  have o4 : k0_off87 k 512#32 = ![0, 64, 1024 * k.val + 512] := k0_off87_eq k 4
  have q4 : k0_off88 k 512#32 = ![0, 1024 * k.val + 512] := k0_off88_eq k 4
  have o5 : k0_off87 k 640#32 = ![0, 64, 1024 * k.val + 640] := k0_off87_eq k 5
  have q5 : k0_off88 k 640#32 = ![0, 1024 * k.val + 640] := k0_off88_eq k 5
  have o6 : k0_off87 k 768#32 = ![0, 64, 1024 * k.val + 768] := k0_off87_eq k 6
  have q6 : k0_off88 k 768#32 = ![0, 1024 * k.val + 768] := k0_off88_eq k 6
  have o7 : k0_off87 k 896#32 = ![0, 64, 1024 * k.val + 896] := k0_off87_eq k 7
  have q7 : k0_off88 k 896#32 = ![0, 1024 * k.val + 896] := k0_off88_eq k 7
  unfold tripL_k0_t4 trip_k0_t4
  dsimp only
  constructor
  · intro p hp
    simp only [List.mem_cons, List.not_mem_nil, _root_.or_false] at hp
    rcases hp with rfl | rfl | rfl | rfl | rfl | rfl | rfl | rfl
    · refine piece_of _ 64 (1024 * k.val + 896) _ o7 (k0_off87_inb k 7) (by norm_num) (by omega) _ (fun a l => ?_)
      refine (?_ : ∀ z : EReal, z = _ → _ = z) _ rfl
      intro z hz
      frame_out
      unfold_payloads
      pointwise
      simp only [hA, hM, o0, q0, o1, q1, o2, q2, o3, q3, o4, q4, o5, q5, o6, q6, o7, q7, Matrix.cons_val_zero, Matrix.cons_val_one, Matrix.cons_val_two, Matrix.cons_val, Matrix.head_cons, Matrix.tail_cons]
      simp only [YV, NV, Spec.norm, Spec.clip, Spec.lo, Spec.hi] at hz
      exact hz.symm
    · refine piece_of _ 64 (1024 * k.val + 768) _ o6 (k0_off87_inb k 6) (by norm_num) (by omega) _ (fun a l => ?_)
      refine (?_ : ∀ z : EReal, z = _ → _ = z) _ rfl
      intro z hz
      frame_out
      unfold_payloads
      pointwise
      simp only [hA, hM, o0, q0, o1, q1, o2, q2, o3, q3, o4, q4, o5, q5, o6, q6, o7, q7, Matrix.cons_val_zero, Matrix.cons_val_one, Matrix.cons_val_two, Matrix.cons_val, Matrix.head_cons, Matrix.tail_cons]
      simp only [YV, NV, Spec.norm, Spec.clip, Spec.lo, Spec.hi] at hz
      exact hz.symm
    · refine piece_of _ 64 (1024 * k.val + 640) _ o5 (k0_off87_inb k 5) (by norm_num) (by omega) _ (fun a l => ?_)
      refine (?_ : ∀ z : EReal, z = _ → _ = z) _ rfl
      intro z hz
      frame_out
      unfold_payloads
      pointwise
      simp only [hA, hM, o0, q0, o1, q1, o2, q2, o3, q3, o4, q4, o5, q5, o6, q6, o7, q7, Matrix.cons_val_zero, Matrix.cons_val_one, Matrix.cons_val_two, Matrix.cons_val, Matrix.head_cons, Matrix.tail_cons]
      simp only [YV, NV, Spec.norm, Spec.clip, Spec.lo, Spec.hi] at hz
      exact hz.symm
    · refine piece_of _ 64 (1024 * k.val + 512) _ o4 (k0_off87_inb k 4) (by norm_num) (by omega) _ (fun a l => ?_)
      refine (?_ : ∀ z : EReal, z = _ → _ = z) _ rfl
      intro z hz
      frame_out
      unfold_payloads
      pointwise
      simp only [hA, hM, o0, q0, o1, q1, o2, q2, o3, q3, o4, q4, o5, q5, o6, q6, o7, q7, Matrix.cons_val_zero, Matrix.cons_val_one, Matrix.cons_val_two, Matrix.cons_val, Matrix.head_cons, Matrix.tail_cons]
      simp only [YV, NV, Spec.norm, Spec.clip, Spec.lo, Spec.hi] at hz
      exact hz.symm
    · refine piece_of _ 64 (1024 * k.val + 384) _ o3 (k0_off87_inb k 3) (by norm_num) (by omega) _ (fun a l => ?_)
      refine (?_ : ∀ z : EReal, z = _ → _ = z) _ rfl
      intro z hz
      frame_out
      unfold_payloads
      pointwise
      simp only [hA, hM, o0, q0, o1, q1, o2, q2, o3, q3, o4, q4, o5, q5, o6, q6, o7, q7, Matrix.cons_val_zero, Matrix.cons_val_one, Matrix.cons_val_two, Matrix.cons_val, Matrix.head_cons, Matrix.tail_cons]
      simp only [YV, NV, Spec.norm, Spec.clip, Spec.lo, Spec.hi] at hz
      exact hz.symm
    · refine piece_of _ 64 (1024 * k.val + 256) _ o2 (k0_off87_inb k 2) (by norm_num) (by omega) _ (fun a l => ?_)
      refine (?_ : ∀ z : EReal, z = _ → _ = z) _ rfl
      intro z hz
      frame_out
      unfold_payloads
      pointwise
      simp only [hA, hM, o0, q0, o1, q1, o2, q2, o3, q3, o4, q4, o5, q5, o6, q6, o7, q7, Matrix.cons_val_zero, Matrix.cons_val_one, Matrix.cons_val_two, Matrix.cons_val, Matrix.head_cons, Matrix.tail_cons]
      simp only [YV, NV, Spec.norm, Spec.clip, Spec.lo, Spec.hi] at hz
      exact hz.symm
    · refine piece_of _ 64 (1024 * k.val + 128) _ o1 (k0_off87_inb k 1) (by norm_num) (by omega) _ (fun a l => ?_)
      refine (?_ : ∀ z : EReal, z = _ → _ = z) _ rfl
      intro z hz
      frame_out
      unfold_payloads
      pointwise
      simp only [hA, hM, o0, q0, o1, q1, o2, q2, o3, q3, o4, q4, o5, q5, o6, q6, o7, q7, Matrix.cons_val_zero, Matrix.cons_val_one, Matrix.cons_val_two, Matrix.cons_val, Matrix.head_cons, Matrix.tail_cons]
      simp only [YV, NV, Spec.norm, Spec.clip, Spec.lo, Spec.hi] at hz
      exact hz.symm
    · refine piece_of _ 64 (1024 * k.val + 0) _ o0 (k0_off87_inb k 0) (by norm_num) (by omega) _ (fun a l => ?_)
      refine (?_ : ∀ z : EReal, z = _ → _ = z) _ rfl
      intro z hz
      frame_out
      unfold_payloads
      pointwise
      simp only [hA, hM, o0, q0, o1, q1, o2, q2, o3, q3, o4, q4, o5, q5, o6, q6, o7, q7, Matrix.cons_val_zero, Matrix.cons_val_one, Matrix.cons_val_two, Matrix.cons_val, Matrix.head_cons, Matrix.tail_cons]
      simp only [YV, NV, Spec.norm, Spec.clip, Spec.lo, Spec.hi] at hz
      exact hz.symm
  · intro y h1 h2 h3 h4
    obtain ⟨r, hr⟩ : ∃ r : ℕ, r = ((y 2).val - 1024 * k.val) / 128 := ⟨_, rfl⟩
    have hr8 : r < 8 := by omega
    interval_cases r
    · refine ⟨_, (List.mem_cons_of_mem _ (List.mem_cons_of_mem _ (List.mem_cons_of_mem _ (List.mem_cons_of_mem _ (List.mem_cons_of_mem _ (List.mem_cons_of_mem _ (List.mem_cons_of_mem _ List.mem_cons_self))))))), ?_⟩
      exact mem_of 64 (1024 * k.val + 0) _ o0 (k0_off87_inb k 0) y h1 h2 (by omega) (by omega)
    · refine ⟨_, (List.mem_cons_of_mem _ (List.mem_cons_of_mem _ (List.mem_cons_of_mem _ (List.mem_cons_of_mem _ (List.mem_cons_of_mem _ (List.mem_cons_of_mem _ List.mem_cons_self)))))), ?_⟩
      exact mem_of 64 (1024 * k.val + 128) _ o1 (k0_off87_inb k 1) y h1 h2 (by omega) (by omega)
    · refine ⟨_, (List.mem_cons_of_mem _ (List.mem_cons_of_mem _ (List.mem_cons_of_mem _ (List.mem_cons_of_mem _ (List.mem_cons_of_mem _ List.mem_cons_self))))), ?_⟩
      exact mem_of 64 (1024 * k.val + 256) _ o2 (k0_off87_inb k 2) y h1 h2 (by omega) (by omega)
    · refine ⟨_, (List.mem_cons_of_mem _ (List.mem_cons_of_mem _ (List.mem_cons_of_mem _ (List.mem_cons_of_mem _ List.mem_cons_self)))), ?_⟩
      exact mem_of 64 (1024 * k.val + 384) _ o3 (k0_off87_inb k 3) y h1 h2 (by omega) (by omega)
    · refine ⟨_, (List.mem_cons_of_mem _ (List.mem_cons_of_mem _ (List.mem_cons_of_mem _ List.mem_cons_self))), ?_⟩
      exact mem_of 64 (1024 * k.val + 512) _ o4 (k0_off87_inb k 4) y h1 h2 (by omega) (by omega)
    · refine ⟨_, (List.mem_cons_of_mem _ (List.mem_cons_of_mem _ List.mem_cons_self)), ?_⟩
      exact mem_of 64 (1024 * k.val + 640) _ o5 (k0_off87_inb k 5) y h1 h2 (by omega) (by omega)
    · refine ⟨_, (List.mem_cons_of_mem _ List.mem_cons_self), ?_⟩
      exact mem_of 64 (1024 * k.val + 768) _ o6 (k0_off87_inb k 6) y h1 h2 (by omega) (by omega)
    · refine ⟨_, List.mem_cons_self, ?_⟩
      exact mem_of 64 (1024 * k.val + 896) _ o7 (k0_off87_inb k 7) y h1 h2 (by omega) (by omega)

/-- The state of loop 4 before a trip. -/
theorem t4_all (v69 : FVec Ideal S32x128 .f32) (v70 : Vec Ideal S32x128 .f32) (v81 v82 : Vec Ideal S32x128 .f32) (X : BufTy.Contents (Elt Ideal) arg4.view.ty) (g : BufTy.Contents (Elt Ideal) arg19.view.ty) (b : BufTy.Contents (Elt Ideal) arg20.view.ty) (A M : Fin 128 → EReal) (hA : ∀ (a : Fin 32) (l : Fin 128), v81 (ix2 a l) = A ⟨64 + a.val, by omega⟩) (hM : ∀ (a : Fin 32) (l : Fin 128), v82 (ix2 a l) = M ⟨64 + a.val, by omega⟩) (init : FVec Ideal S32x128 .f32) : ∀ n : ℕ, n ≤ k0_t4_loop.trips →
    (∀ (a : Fin 32) (l : Fin 128) (z : EReal), (st_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v69 v70 v81 v82 X g b init n).1 (ix2 a l) ≤ z
        ↔ init (ix2 a l) ≤ z ∧ ∀ t : Fin 80, t.val < 8 * n → Spec.ab (NV (arg4.view.read (Elt Ideal) X) (arg19.view.read (Elt Ideal) g) (arg20.view.read (Elt Ideal) b) A M ⟨64 + a.val, by omega⟩ ⟨128 * t.val + l.val, by omega⟩) ≤ z)
    ∧ (∀ p ∈ (st_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v69 v70 v81 v82 X g b init n).2, ∀ x, p.2 x = YV (arg4.view.read (Elt Ideal) X) (arg19.view.read (Elt Ideal) g) (arg20.view.read (Elt Ideal) b) A M (p.1.emb x))
    ∧ (∀ y : S1x128x10240.Idx, 64 ≤ (y 1).val → (y 1).val < 96 → (y 2).val < 1024 * n → ∃ p ∈ (st_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v69 v70 v81 v82 X g b init n).2, y ∈ p.1.set)
  | 0, _ => by
    refine ⟨fun a l z => ⟨fun h => ⟨h, fun t ht => absurd ht (by omega)⟩, fun h => h.1⟩, fun p hp => ?_, fun y _ _ hy => absurd hy (by omega)⟩
    exact absurd hp List.not_mem_nil
  | n + 1, hn => by
    obtain ⟨h1, h2, h3⟩ := t4_all v69 v70 v81 v82 X g b A M hA hM init n (by omega)
    have hk : n < 10 := Nat.lt_of_lt_of_le hn k0_t4_abs.2.1
    have es := st_k0_t4_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v69 v70 v81 v82 X g b init ⟨n, hn⟩
    rw [show st_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v69 v70 v81 v82 X g b init (n + 1) = _ from es]
    obtain ⟨p1, p2⟩ := t4_pieces 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v69 v70 v81 v82 X g b A M hA hM ⟨n, hn⟩ hk (st_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v69 v70 v81 v82 X g b init n).1
    refine ⟨fun a l z => ?_, fun p hp => ?_, fun y y1 y2 y3 => ?_⟩
    · exact step8 (fun q => Spec.ab (NV (arg4.view.read (Elt Ideal) X) (arg19.view.read (Elt Ideal) g) (arg20.view.read (Elt Ideal) b) A M ⟨64 + a.val, by omega⟩ q)) n hk l _ _ _ z (h1 a l z)
        (t4_max 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v69 v70 v81 v82 X g b A M hA hM ⟨n, hn⟩ hk (st_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v69 v70 v81 v82 X g b init n).1 a l)
    · rcases List.mem_append.mp hp with hp | hp
      · exact p1 p hp
      · exact h2 p hp
    · by_cases hy : (y 2).val < 1024 * n
      · obtain ⟨p, hp, hm⟩ := h3 y y1 y2 hy
        exact ⟨p, List.mem_append_right _ hp, hm⟩
      · obtain ⟨p, hp, hm⟩ := p2 y y1 y2 (by show 1024 * n ≤ _; omega) y3
        exact ⟨p, List.mem_append_left _ hp, hm⟩

theorem t4_trips : k0_t4_loop.trips = 10 := by decide +kernel

end Cert.KernelIdeal.Body

end
-- ==== Proof.KernelIdealPay.lean ====
module

public import proofs.«01_k».proof.Proof.KernelIdealLoopT5
public import proofs.«01_k».proof.Proof.KernelIdealLoopT3
public import proofs.«01_k».proof.Proof.KernelIdealLoopT4

@[expose] public section

set_option maxRecDepth 16384

noncomputable section

namespace Cert.KernelIdeal.Body

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-- A row of the block. -/
def xrow (x : Vec Ideal S1x128x10240 .bf16) (r : Fin 128) : Fin 10240 → EReal := fun k => x (ix3 ⟨0, Nat.one_pos⟩ r k)

theorem lane_fold (f : Fin 10240 → EReal) :
    ∑ l : Fin 128, ∑ t ∈ Finset.range 80, f ⟨(128 * t + l.val) % 10240, Nat.mod_lt _ (by norm_num)⟩ = ∑ k, f k := by
  rw [← Spec.sum_tiles f]
  refine Finset.sum_congr rfl fun l _ => ?_
  rw [Finset.sum_range]
  refine Finset.sum_congr rfl fun t _ => congrArg f (Fin.ext (Nat.mod_eq_of_lt ?_))
  have := t.isLt; have := l.isLt; omega

/-- The lane sums added up: a row's sum, -/
theorem sum_LaneSum (x : Vec Ideal S1x128x10240 .bf16) (r : Fin 128) : ∑ l : Fin 128, LaneSum x (ix2 r l) = ∑ k, xrow x r k :=
  lane_fold (xrow x r)

/-- and its sum of squares. -/
theorem sum_LaneSq (x : Vec Ideal S1x128x10240 .bf16) (r : Fin 128) : ∑ l : Fin 128, LaneSq x (ix2 r l) = ∑ k, xrow x r k * xrow x r k :=
  lane_fold fun k => xrow x r k * xrow x r k

theorem pay246_apply (v : Vec Ideal S128x128 .f32) (l : Fin 128) (h : 0 < 1) :
    k0_pay246 v (ix2 ⟨0, h⟩ l) = ∑ t : Fin 128, v (ix2 l t) := by
  refine (?_ : ∀ z : EReal, z = _ → _ = z) _ rfl
  intro z hz
  unfold_payloads
  pointwise
  exact hz.symm

theorem pay247_apply (v : Vec Ideal S128x128 .f32) (l : Fin 128) (h : 0 < 1) :
    k0_pay247 v (ix2 ⟨0, h⟩ l) = Ideal.div (∑ t : Fin 128, v (ix2 l t)) Spec.nLoc := by
  rw [← pay246_apply v l h]; rfl

theorem pay249_apply (v : Vec Ideal S128x128 .f32) (w : Vec Ideal S1x128 .f32) (l : Fin 128) (h : 0 < 1) :
    k0_pay249 v w (ix2 ⟨0, h⟩ l) = w (ix2 ⟨0, h⟩ l) - Ideal.div (∑ t : Fin 128, v (ix2 l t)) Spec.nLoc := by
  rw [← pay247_apply v l h]; rfl

/-- The merged mean of a lane's row. -/
theorem mean_apply (x : Vec Ideal S1x128x10240 .bf16) (pc : EReal) (w : Vec Ideal S1x128 .f32) (l : Fin 128) (h : 0 < 1) :
    k0_pay250 (LaneSum x) pc w (ix2 ⟨0, h⟩ l) = Spec.mean (Spec.meanLoc (xrow x l)) pc (w (ix2 ⟨0, h⟩ l)) := by
  unfold Spec.mean Spec.meanLoc
  rw [← sum_LaneSum, ← pay247_apply _ l h]; rfl

/-- The merged reciprocal standard deviation of a lane's row. -/
theorem rstd_apply (x : Vec Ideal S1x128x10240 .bf16) (pc : EReal) (w q : Vec Ideal S1x128 .f32) (l : Fin 128) (h : 0 < 1) :
    k0_pay252 (F := Ideal) pc (k0_pay248 (F := Ideal) pc) (k0_pay249 (LaneSum x) w) (k0_pay251 (LaneSum x) (LaneSq x) q) (ix2 ⟨0, h⟩ l)
      = Spec.rstd (Spec.meanLoc (xrow x l)) (Spec.m2Ker (xrow x l)) pc (w (ix2 ⟨0, h⟩ l)) (q (ix2 ⟨0, h⟩ l)) := by
  have e : k0_pay251 (LaneSum x) (LaneSq x) q (ix2 ⟨0, h⟩ l)
      = (k0_pay246 (LaneSq x) (ix2 ⟨0, h⟩ l) - k0_pay246 (LaneSum x) (ix2 ⟨0, h⟩ l) * k0_pay247 (LaneSum x) (ix2 ⟨0, h⟩ l)) + q (ix2 ⟨0, h⟩ l) := rfl
  unfold Spec.rstd Spec.m2Ker Spec.meanLoc
  rw [← sum_LaneSum, ← sum_LaneSq, ← pay247_apply _ l h, ← pay246_apply (LaneSum x) l h, ← pay246_apply (LaneSq x) l h, ← e]
  rfl

theorem pay255_apply (a b : EReal) (v w : FVec Ideal S1x128 .f32) (r l : Fin 128) :
    k0_pay255 (F := Ideal) a b v w (ix2 r l) = k0_pay252 (F := Ideal) a b v w (ix2 ⟨0, Nat.one_pos⟩ r) := by
  unfold k0_pay255
  generalize k0_pay252 (F := Ideal) a b v w = u
  refine (?_ : ∀ z : EReal, z = _ → _ = z) _ rfl
  intro z hz
  pointwise
  exact hz.symm

theorem pay256_apply (v : FVec Ideal S1x128 .f32) (r l : Fin 128) :
    k0_pay256 (F := Ideal) v (ix2 r l) = v (ix2 ⟨0, Nat.one_pos⟩ r) := by
  refine (?_ : ∀ z : EReal, z = _ → _ = z) _ rfl
  intro z hz
  unfold_payloads
  pointwise
  exact hz.symm

theorem pay2_apply (s : EReal) (v : Vec Ideal S128x128 .f32) (l : Fin 128) (h : 0 < 1) :
    k0_pay2 (F := Ideal) s v (ix2 ⟨0, h⟩ l) = (Finset.univ.fold max ⊥ fun t : Fin 128 => v (ix2 l t)) * s := by
  refine (?_ : ∀ z : EReal, z = _ → _ = z) _ rfl
  intro z hz
  unfold_payloads
  pointwise
  exact hz.symm

/-- The largest of a row, as the lanes and then the tiles are folded. -/
theorem fold_le (v : Vec Ideal S128x128 .f32) (l : Fin 128) (f : Fin 10240 → EReal)
    (h : ∀ t z, v (ix2 l t) ≤ z ↔ 0 ≤ z ∧ ∀ k : Fin 80, f ⟨128 * k.val + t.val, by omega⟩ ≤ z) (z : EReal) :
    (Finset.univ.fold max ⊥ fun t : Fin 128 => v (ix2 l t)) ≤ z ↔ 0 ≤ z ∧ ∀ k, f k ≤ z := by
  rw [Finset.fold_max_le]
  constructor
  · rintro ⟨-, hz⟩
    refine ⟨((h ⟨0, by omega⟩ z).mp (hz _ (Finset.mem_univ _))).1, fun k => ?_⟩
    have := ((h ⟨k.val % 128, Nat.mod_lt _ (by omega)⟩ z).mp (hz _ (Finset.mem_univ _))).2 ⟨k.val / 128, by omega⟩
    have e : (⟨128 * (k.val / 128) + k.val % 128, by omega⟩ : Fin 10240) = k := Fin.ext (by simp only; omega)
    simpa only [e] using this
  · rintro ⟨h0, hk⟩
    exact ⟨bot_le, fun t _ => (h t z).mpr ⟨h0, fun k => hk _⟩⟩

end Cert.KernelIdeal.Body
-- ==== Proof.KernelIdealCore.lean ====
module

public import proofs.«01_k».proof.Proof.KernelIdealPay
public import Idealize.ShloMosaic.Lib.WritesUnit

@[expose] public section

set_option maxRecDepth 16384

noncomputable section

namespace Cert.KernelIdeal.Body

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-- A whole rectangle's own index is the buffer's. -/
theorem idx_whole {s : Shape} {off : Fin s.rank → ℕ} (h : off = fun _ => 0) (inb : ∀ a, off a + s.size a ≤ s.size a) (j : s.Idx) :
    (Rect.unit off s.size inb).toLoadRect.idx j = j := by
  subst h
  funext a
  exact Fin.ext (by show 0 + 1 * (j a).val = (j a).val; omega)

variable {sp : Space} {κ : Kind}

/-- A load of 32 rows at row `R`. -/
theorem idx_rows (R : ℕ) (hR : R + 32 ≤ 128) (inb : ∀ a, (![R, 0] : Fin 2 → ℕ) a + S32x128.size a ≤ S128x128.size a) (a : Fin 32) (l : Fin 128) :
    (Rect.unit (s := S128x128) ![R, 0] S32x128.size inb).toLoadRect.idx (ix2 a l) = ix2 ⟨R + a.val, by omega⟩ l := by
  funext d
  match d with
  | ⟨0, _⟩ => exact Fin.ext (by show R + 1 * a.val = R + a.val; omega)
  | ⟨1, _⟩ => exact Fin.ext (by show 0 + 1 * l.val = l.val; omega)

/-- 32 rows loaded off a buffer just stored whole. -/
theorem rows_read (v : View sig κ sp S128x128 .f32) (inb) (P : S128x128.Idx → Elt Ideal .f32) (R : ℕ) (hR : R + 32 ≤ 128) (inb' : ∀ a, (![R, 0] : Fin 2 → ℕ) a + S32x128.size a ≤ S128x128.size a) (a : Fin 32) (l : Fin 128) :
    v.readCov (Val := Elt Ideal) [⟨Rect.unit (s := S128x128) ![0, 0] S128x128.size inb, P⟩] (Rect.unit (s := S128x128) ![R, 0] S32x128.size inb').toLoadRect (ix2 a l)
      = P (ix2 ⟨R + a.val, by omega⟩ l) := by
  rw [View.readCov_eq_canon']
  refine (congrArg _ (idx_rows R hR inb' a l)).trans ?_
  rw [View.canon_unit_zero (by funext d; match d with | ⟨0, _⟩ => rfl | ⟨1, _⟩ => rfl)]

/-- A buffer just stored whole. -/
theorem whole_read {s : Shape} (e : EltTy) (v : View sig κ sp s e) (f : v.ty.Contents (Elt Ideal)) {off : Fin s.rank → ℕ} (h : off = fun _ => 0) (inb : ∀ a, off a + s.size a ≤ s.size a) (P : s.Idx → Elt Ideal e) :
    v.read (Elt Ideal) (v.writes (Elt Ideal) f [⟨Rect.unit off s.size inb, P⟩]) = P := by
  rw [View.read_writes_eq_canon _ _ _ fun y => ⟨_, List.mem_singleton_self _, View.mem_set_unit_zero h inb y⟩, View.canon_unit_zero h]

/-- A whole load. -/
theorem whole_load {s : Shape} (e : EltTy) (v : View sig κ sp s e) (f : v.ty.Contents (Elt Ideal)) {off : Fin s.rank → ℕ} (h : off = fun _ => 0) (inb : ∀ a, off a + s.size a ≤ s.size a) :
    v.readAt (Elt Ideal) (Rect.unit off s.size inb).toLoadRect f = v.read (Elt Ideal) f := by
  funext j
  rw [View.readAt_apply, idx_whole h]

theorem off00 : (![0, 0] : Fin 2 → ℕ) = fun _ => 0 := by funext d; match d with | ⟨0, _⟩ => rfl | ⟨1, _⟩ => rfl

/-- Four lists of pieces of one array, each covering its strip of rows, leave the array. -/
theorem four (v : View sig κ sp S1x128x10240 .fp8e4m3) (f : v.ty.Contents (Elt Ideal)) (G : S1x128x10240.Idx → Elt Ideal .fp8e4m3) (L2 L3 L4 L5 : List (View.Piece (Elt Ideal) S1x128x10240 .fp8e4m3))
    (p2 : ∀ p ∈ L2, ∀ x, p.2 x = G (p.1.emb x))
    (p3 : ∀ p ∈ L3, ∀ x, p.2 x = G (p.1.emb x))
    (p4 : ∀ p ∈ L4, ∀ x, p.2 x = G (p.1.emb x))
    (p5 : ∀ p ∈ L5, ∀ x, p.2 x = G (p.1.emb x))
    (q2 : ∀ y : S1x128x10240.Idx, 0 ≤ (y 1).val → (y 1).val < 32 → ∃ p ∈ L2, y ∈ p.1.set)
    (q3 : ∀ y : S1x128x10240.Idx, 32 ≤ (y 1).val → (y 1).val < 64 → ∃ p ∈ L3, y ∈ p.1.set)
    (q4 : ∀ y : S1x128x10240.Idx, 64 ≤ (y 1).val → (y 1).val < 96 → ∃ p ∈ L4, y ∈ p.1.set)
    (q5 : ∀ y : S1x128x10240.Idx, 96 ≤ (y 1).val → (y 1).val < 128 → ∃ p ∈ L5, y ∈ p.1.set)
    : v.read (Elt Ideal) (v.writes (Elt Ideal) f (L5 ++ (L4 ++ (L3 ++ L2)))) = G := by
  funext y
  have hc : ∃ p ∈ (L5 ++ (L4 ++ (L3 ++ L2))), y ∈ p.1.set := by
    have h1 : (y 1).val < 128 := (y 1).isLt
    by_cases c1 : (y 1).val < 32
    · obtain ⟨p, hp, hy⟩ := q2 y (Nat.zero_le _) c1
      exact ⟨p, List.mem_append_right _ (List.mem_append_right _ (List.mem_append_right _ hp)), hy⟩
    by_cases c2 : (y 1).val < 64
    · obtain ⟨p, hp, hy⟩ := q3 y (by omega) c2
      exact ⟨p, List.mem_append_right _ (List.mem_append_right _ (List.mem_append_left _ hp)), hy⟩
    by_cases c3 : (y 1).val < 96
    · obtain ⟨p, hp, hy⟩ := q4 y (by omega) c3
      exact ⟨p, List.mem_append_right _ (List.mem_append_left _ hp), hy⟩
    · obtain ⟨p, hp, hy⟩ := q5 y (by omega) (by omega)
      exact ⟨p, List.mem_append_left _ hp, hy⟩
  rw [View.read_writes_apply_eq_canon _ _ _ _ hc]
  refine View.canon_apply_of_pieces _ _ (fun p hp => ?_) y hc
  rcases List.mem_append.mp hp with h | h
  · exact p5 p h
  rcases List.mem_append.mp h with h | h
  · exact p4 p h
  rcases List.mem_append.mp h with h | h
  · exact p3 p h
  · exact p2 p h

variable (𝒱 : Variants) (c : Dev nD) (bd : Option 𝒱.V) (i : grid0.Coords) (arg2 : Memref sig .tc .smem S1 .f32) (harg2 : arg2.IsWhole) (arg3 : Memref sig .tc .smem S1 .f32) (harg3 : arg3.IsWhole) (arg4 : Memref sig .tc .vmem S1x128x10240 .bf16) (harg4 : arg4.IsWhole) (arg5 : Memref sig .tc .vmem S1x3x640 .f32) (harg5 : arg5.IsWhole) (arg6 : Memref sig .tc .vmem S1x3x640 .f32) (harg6 : arg6.IsWhole) (arg7 : Memref sig .tc .vmem S1x10240 .f32) (harg7 : arg7.IsWhole) (arg8 : Memref sig .tc .vmem S1x10240 .f32) (harg8 : arg8.IsWhole) (arg9 : Memref sig .tc .vmem S16x128 .bf16) (harg9 : arg9.IsWhole) (arg10 : Memref sig .tc .vmem S1x128x10240 .fp8e4m3) (harg10 : arg10.IsWhole) (arg11 : Memref sig .tc .vmem S3x640 .f32) (harg11 : arg11.IsWhole) (arg12 : Memref sig .tc .vmem S3x640 .f32) (harg12 : arg12.IsWhole) (arg13 : Memref sig .tc .vmem S3x640 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S1x10240 .f32) (harg19 : arg19.IsWhole) (arg20 : Memref sig .tc .vmem S1x10240 .f32) (harg20 : arg20.IsWhole) (arg21 : Memref sig .tc .vmem S16x128 .f32) (harg21 : arg21.IsWhole) (arg22 : Memref sig .tc .vmem S16x128 .f32) (harg22 : arg22.IsWhole) (arg23 : Memref sig .tc .vmem S16x128 .f32) (harg23 : arg23.IsWhole) (arg24 : Memref sig .tc .vmem S16x128 .f32) (harg24 : arg24.IsWhole) (arg25 : Memref sig .tc .vmem S16x128 .f32) (harg25 : arg25.IsWhole)

/-- What the first loop leaves in the buffer of sums, -/
theorem v10_eq (v7 : Vec Ideal S16x128 .bf16) (h7 : ∀ j, v7 j = (1 : EReal)) (X : BufTy.Contents (Elt Ideal) arg4.view.ty) (f : BufTy.Contents (Elt Ideal) arg14.view.ty) (inb) :
    arg14.view.readAt (Elt Ideal) (Rect.unit (s := S128x128) ![0, 0] S128x128.size inb).toLoadRect (arg14.view.writes (Elt Ideal) f (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v7 X k0_t1_loop.trips).1)
      = LaneSum (arg4.view.read (Elt Ideal) X) := by
  rw [whole_load _ _ _ off00]
  funext y
  have h := (t1_all 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v7 h7 X k0_t1_loop.trips le_rfl).1
  rw [View.read_writes_apply_eq_canon _ _ _ _ (h.2 y (by rw [t1_cover]; exact (y 0).isLt))]
  exact t1_read1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v7 h7 X y

/-- and in that of the squares. -/
theorem v14_eq (v7 : Vec Ideal S16x128 .bf16) (h7 : ∀ j, v7 j = (1 : EReal)) (X : BufTy.Contents (Elt Ideal) arg4.view.ty) (f : BufTy.Contents (Elt Ideal) arg15.view.ty) (inb) :
    arg15.view.readAt (Elt Ideal) (Rect.unit (s := S128x128) ![0, 0] S128x128.size inb).toLoadRect (arg15.view.writes (Elt Ideal) f (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v7 X k0_t1_loop.trips).2)
      = LaneSq (arg4.view.read (Elt Ideal) X) := by
  rw [whole_load _ _ _ off00]
  funext y
  have h := (t1_all 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v7 h7 X k0_t1_loop.trips le_rfl).2
  rw [View.read_writes_apply_eq_canon _ _ _ _ (h.2 y (by rw [t1_cover]; exact (y 0).isLt))]
  exact t1_read2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v7 h7 X y

/-- What the four loops leave in the result's block. -/
theorem core_y (v1 : BitVec 32) (v22 : Elt Ideal .f32) (v23 : Elt Ideal .f32) (v28 v32 v33 : FVec Ideal S1x128 .f32)
    (v69 : FVec Ideal S32x128 .f32) (v70 : Vec Ideal S32x128 .f32) (v77 : FVec Ideal S32x128 .f32) (v78 : Vec Ideal S32x128 .f32) (v85 : FVec Ideal S32x128 .f32) (v86 : Vec Ideal S32x128 .f32)
    (v65 v66 v73 v74 v81 v82 v89 v90 : Vec Ideal S32x128 .f32) (X : BufTy.Contents (Elt Ideal) arg4.view.ty) (g : BufTy.Contents (Elt Ideal) arg19.view.ty) (b : BufTy.Contents (Elt Ideal) arg20.view.ty) (A M : Fin 128 → EReal)
    (hA2 : ∀ (a : Fin 32) (l : Fin 128), v65 (ix2 a l) = A ⟨0 + a.val, by omega⟩) (hM2 : ∀ (a : Fin 32) (l : Fin 128), v66 (ix2 a l) = M ⟨0 + a.val, by omega⟩)
    (hA3 : ∀ (a : Fin 32) (l : Fin 128), v73 (ix2 a l) = A ⟨32 + a.val, by omega⟩) (hM3 : ∀ (a : Fin 32) (l : Fin 128), v74 (ix2 a l) = M ⟨32 + a.val, by omega⟩)
    (hA4 : ∀ (a : Fin 32) (l : Fin 128), v81 (ix2 a l) = A ⟨64 + a.val, by omega⟩) (hM4 : ∀ (a : Fin 32) (l : Fin 128), v82 (ix2 a l) = M ⟨64 + a.val, by omega⟩)
    (hA5 : ∀ (a : Fin 32) (l : Fin 128), v89 (ix2 a l) = A ⟨96 + a.val, by omega⟩) (hM5 : ∀ (a : Fin 32) (l : Fin 128), v90 (ix2 a l) = M ⟨96 + a.val, by omega⟩)
    (f10 : BufTy.Contents (Elt Ideal) arg10.view.ty) (i2 i3 i4 i5 : FVec Ideal S32x128 .f32) :
    arg10.view.read (Elt Ideal) (arg10.view.writes (Elt Ideal) f10 ((st_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v85 v86 v89 v90 X g b i5 k0_t5_loop.trips).2 ++ ((st_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v77 v78 v81 v82 X g b i4 k0_t4_loop.trips).2 ++ ((st_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v69 v70 v73 v74 X g b i3 k0_t3_loop.trips).2 ++ (st_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v1 v22 v23 v28 v32 v33 v65 v66 X g b i2 k0_t2_loop.trips).2))))
      = YV (arg4.view.read (Elt Ideal) X) (arg19.view.read (Elt Ideal) g) (arg20.view.read (Elt Ideal) b) A M := by
  obtain ⟨-, p2, q2⟩ := t2_all 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v1 v22 v23 v28 v32 v33 v65 v66 X g b A M hA2 hM2 i2 k0_t2_loop.trips le_rfl
  obtain ⟨-, p3, q3⟩ := t3_all 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v69 v70 v73 v74 X g b A M hA3 hM3 i3 k0_t3_loop.trips le_rfl
  obtain ⟨-, p4, q4⟩ := t4_all 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v77 v78 v81 v82 X g b A M hA4 hM4 i4 k0_t4_loop.trips le_rfl
  obtain ⟨-, p5, q5⟩ := t5_all 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v85 v86 v89 v90 X g b A M hA5 hM5 i5 k0_t5_loop.trips le_rfl
  exact four arg10.view f10 _ _ _ _ _ p2 p3 p4 p5 (fun y h h' => q2 y h h' (by rw [t2_trips]; exact (y 2).isLt)) (fun y h h' => q3 y h h' (by rw [t3_trips]; exact (y 2).isLt))
    (fun y h h' => q4 y h h' (by rw [t4_trips]; exact (y 2).isLt)) (fun y h h' => q5 y h h' (by rw [t5_trips]; exact (y 2).isLt))

/-- A table of four stored strips, read back. -/
theorem strips (v : View sig κ sp S128x128 .f32) (Q : Fin 128 → Fin 128 → EReal → Prop) (p0 p1 p2 p3 : S32x128.Idx → Elt Ideal .f32) (i0 i1 i2 i3 iw)
    (h0 : ∀ (a : Fin 32) (l : Fin 128), Q ⟨0 + a.val, by omega⟩ l (p0 (ix2 a l))) (h1 : ∀ (a : Fin 32) (l : Fin 128), Q ⟨32 + a.val, by omega⟩ l (p1 (ix2 a l)))
    (h2 : ∀ (a : Fin 32) (l : Fin 128), Q ⟨64 + a.val, by omega⟩ l (p2 (ix2 a l))) (h3 : ∀ (a : Fin 32) (l : Fin 128), Q ⟨96 + a.val, by omega⟩ l (p3 (ix2 a l))) (r l : Fin 128) :
    Q r l (v.readCov (Val := Elt Ideal) [⟨Rect.unit (s := S128x128) ![96, 0] S32x128.size i3, p3⟩, ⟨Rect.unit (s := S128x128) ![64, 0] S32x128.size i2, p2⟩, ⟨Rect.unit (s := S128x128) ![32, 0] S32x128.size i1, p1⟩, ⟨Rect.unit (s := S128x128) ![0, 0] S32x128.size i0, p0⟩]
      (Rect.unit (s := S128x128) ![0, 0] S128x128.size iw).toLoadRect (ix2 r l)) := by
  have e := congrFun (View.readCov_eq_canon' v [⟨Rect.unit (s := S128x128) ![96, 0] S32x128.size i3, p3⟩, ⟨Rect.unit (s := S128x128) ![64, 0] S32x128.size i2, p2⟩, ⟨Rect.unit (s := S128x128) ![32, 0] S32x128.size i1, p1⟩, ⟨Rect.unit (s := S128x128) ![0, 0] S32x128.size i0, p0⟩]
      (Rect.unit (s := S128x128) ![0, 0] S128x128.size iw).toLoadRect) (ix2 r l)
  rw [e, idx_whole off00, ← View.read_writes_junk_apply_eq_canon v]
  by_cases c3 : 96 ≤ r.val
  · have q := View.read_writes_cons_rows_of_mem v v.junk i3 p3 [⟨Rect.unit (s := S128x128) ![64, 0] S32x128.size i2, p2⟩, ⟨Rect.unit (s := S128x128) ![32, 0] S32x128.size i1, p1⟩, ⟨Rect.unit (s := S128x128) ![0, 0] S32x128.size i0, p0⟩] (ix2 r l) (ix2 ⟨r.val - 96, by omega⟩ l) rfl (by show r.val = 96 + (r.val - 96); omega) rfl
    rw [q]
    have := h3 ⟨r.val - 96, by omega⟩ l
    rwa [show (⟨96 + (r.val - 96), by omega⟩ : Fin 128) = r from Fin.ext (by show 96 + (r.val - 96) = r.val; omega)] at this
  rw [View.read_writes_cons_rows_of_not_mem v v.junk i3 p3 _ (ix2 r l) rfl (W := 32) rfl (Or.inl (by show r.val < 96; omega))]
  by_cases c2 : 64 ≤ r.val
  · have q := View.read_writes_cons_rows_of_mem v v.junk i2 p2 [⟨Rect.unit (s := S128x128) ![32, 0] S32x128.size i1, p1⟩, ⟨Rect.unit (s := S128x128) ![0, 0] S32x128.size i0, p0⟩] (ix2 r l) (ix2 ⟨r.val - 64, by omega⟩ l) rfl (by show r.val = 64 + (r.val - 64); omega) rfl
    rw [q]
    have := h2 ⟨r.val - 64, by omega⟩ l
    rwa [show (⟨64 + (r.val - 64), by omega⟩ : Fin 128) = r from Fin.ext (by show 64 + (r.val - 64) = r.val; omega)] at this
  rw [View.read_writes_cons_rows_of_not_mem v v.junk i2 p2 _ (ix2 r l) rfl (W := 32) rfl (Or.inl (by show r.val < 64; omega))]
  by_cases c1 : 32 ≤ r.val
  · have q := View.read_writes_cons_rows_of_mem v v.junk i1 p1 [⟨Rect.unit (s := S128x128) ![0, 0] S32x128.size i0, p0⟩] (ix2 r l) (ix2 ⟨r.val - 32, by omega⟩ l) rfl (by show r.val = 32 + (r.val - 32); omega) rfl
    rw [q]
    have := h1 ⟨r.val - 32, by omega⟩ l
    rwa [show (⟨32 + (r.val - 32), by omega⟩ : Fin 128) = r from Fin.ext (by show 32 + (r.val - 32) = r.val; omega)] at this
  rw [View.read_writes_cons_rows_of_not_mem v v.junk i1 p1 _ (ix2 r l) rfl (W := 32) rfl (Or.inl (by show r.val < 32; omega))]
  have q := View.read_writes_cons_rows_of_mem v v.junk i0 p0 [] (ix2 r l) (ix2 ⟨r.val, by omega⟩ l) rfl (by show r.val = 0 + r.val; omega) rfl
  rw [q]
  have := h0 ⟨r.val, by omega⟩ l
  rwa [show (⟨0 + r.val, by omega⟩ : Fin 128) = r from Fin.ext (by show 0 + r.val = r.val; omega)] at this

/-- The largest of what the four loops met, a lane and a row at a time. -/
theorem core_amx (v1 : BitVec 32) (v22 : Elt Ideal .f32) (v23 : Elt Ideal .f32) (v28 v32 v33 : FVec Ideal S1x128 .f32)
    (v69 : FVec Ideal S32x128 .f32) (v70 : Vec Ideal S32x128 .f32) (v77 : FVec Ideal S32x128 .f32) (v78 : Vec Ideal S32x128 .f32) (v85 : FVec Ideal S32x128 .f32) (v86 : Vec Ideal S32x128 .f32)
    (v65 v66 v73 v74 v81 v82 v89 v90 : Vec Ideal S32x128 .f32) (X : BufTy.Contents (Elt Ideal) arg4.view.ty) (g : BufTy.Contents (Elt Ideal) arg19.view.ty) (b : BufTy.Contents (Elt Ideal) arg20.view.ty) (A M : Fin 128 → EReal)
    (hA2 : ∀ (a : Fin 32) (l : Fin 128), v65 (ix2 a l) = A ⟨0 + a.val, by omega⟩) (hM2 : ∀ (a : Fin 32) (l : Fin 128), v66 (ix2 a l) = M ⟨0 + a.val, by omega⟩)
    (hA3 : ∀ (a : Fin 32) (l : Fin 128), v73 (ix2 a l) = A ⟨32 + a.val, by omega⟩) (hM3 : ∀ (a : Fin 32) (l : Fin 128), v74 (ix2 a l) = M ⟨32 + a.val, by omega⟩)
    (hA4 : ∀ (a : Fin 32) (l : Fin 128), v81 (ix2 a l) = A ⟨64 + a.val, by omega⟩) (hM4 : ∀ (a : Fin 32) (l : Fin 128), v82 (ix2 a l) = M ⟨64 + a.val, by omega⟩)
    (hA5 : ∀ (a : Fin 32) (l : Fin 128), v89 (ix2 a l) = A ⟨96 + a.val, by omega⟩) (hM5 : ∀ (a : Fin 32) (l : Fin 128), v90 (ix2 a l) = M ⟨96 + a.val, by omega⟩)
    (f10 : BufTy.Contents (Elt Ideal) arg10.view.ty) (j0 j1 j2 j3 jw) (r l : Fin 128) (z : EReal) :
    arg18.view.readCov (Val := Elt Ideal) [⟨Rect.unit (s := S128x128) ![96, 0] S32x128.size j3, k0_pay1 (st_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v85 v86 v89 v90 X g b k0_pay266 k0_t5_loop.trips).1⟩, ⟨Rect.unit (s := S128x128) ![64, 0] S32x128.size j2, k0_pay265 (st_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v77 v78 v81 v82 X g b k0_pay263 k0_t4_loop.trips).1⟩,
        ⟨Rect.unit (s := S128x128) ![32, 0] S32x128.size j1, k0_pay262 (st_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v69 v70 v73 v74 X g b k0_pay260 k0_t3_loop.trips).1⟩, ⟨Rect.unit (s := S128x128) ![0, 0] S32x128.size j0, k0_pay259 (st_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v1 v22 v23 v28 v32 v33 v65 v66 X g b k0_pay257 k0_t2_loop.trips).1⟩]
      (Rect.unit (s := S128x128) ![0, 0] S128x128.size jw).toLoadRect (ix2 r l) ≤ z
      ↔ 0 ≤ z ∧ ∀ t : Fin 80, Spec.ab (NV (arg4.view.read (Elt Ideal) X) (arg19.view.read (Elt Ideal) g) (arg20.view.read (Elt Ideal) b) A M r ⟨128 * t.val + l.val, by omega⟩) ≤ z := by
  have z0 : (Ideal.ofBits .f32 0x00000000#32 : EReal) = 0 := by
    have h : ∀ y : EReal, y = Ideal.ofBits .f32 0x00000000#32 → y = 0 := by
      intro y hy
      rw [hy]
      pointwise
    exact h _ rfl
  have a2 := (t2_all 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v1 v22 v23 v28 v32 v33 v65 v66 X g b A M hA2 hM2 k0_pay257 k0_t2_loop.trips le_rfl).1
  have a3 := (t3_all 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v69 v70 v73 v74 X g b A M hA3 hM3 k0_pay260 k0_t3_loop.trips le_rfl).1
  have a4 := (t4_all 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v77 v78 v81 v82 X g b A M hA4 hM4 k0_pay263 k0_t4_loop.trips le_rfl).1
  have a5 := (t5_all 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v85 v86 v89 v90 X g b A M hA5 hM5 k0_pay266 k0_t5_loop.trips le_rfl).1
  refine strips arg18.view (fun r l w => w ≤ z ↔ 0 ≤ z ∧ ∀ t : Fin 80, Spec.ab (NV (arg4.view.read (Elt Ideal) X) (arg19.view.read (Elt Ideal) g) (arg20.view.read (Elt Ideal) b) A M r ⟨128 * t.val + l.val, by omega⟩) ≤ z) _ _ _ _ _ _ _ _ _ ?_ ?_ ?_ ?_ r l
  · intro a l
    rw [show k0_pay259 _ = _ from shapeCast_self _ _]
    refine (a2 a l z).trans (and_congr (by rw [show k0_pay257 (F := Ideal) (ix2 a l) = 0 from z0]) (forall_congr' fun t => ⟨fun h => h (by rw [t2_trips]; omega), fun h _ => h⟩))
  · intro a l
    rw [show k0_pay262 _ = _ from shapeCast_self _ _]
    refine (a3 a l z).trans (and_congr (by rw [show k0_pay260 (F := Ideal) (ix2 a l) = 0 from z0]) (forall_congr' fun t => ⟨fun h => h (by rw [t3_trips]; omega), fun h _ => h⟩))
  · intro a l
    rw [show k0_pay265 _ = _ from shapeCast_self _ _]
    refine (a4 a l z).trans (and_congr (by rw [show k0_pay263 (F := Ideal) (ix2 a l) = 0 from z0]) (forall_congr' fun t => ⟨fun h => h (by rw [t4_trips]; omega), fun h _ => h⟩))
  · intro a l
    rw [show k0_pay1 _ = _ from shapeCast_self _ _]
    refine (a5 a l z).trans (and_congr (by rw [show k0_pay266 (F := Ideal) (ix2 a l) = 0 from z0]) (forall_congr' fun t => ⟨fun h => h (by rw [t5_trips]; omega), fun h _ => h⟩))

end Cert.KernelIdeal.Body

end
-- ==== Proof.KernelIdealOut.lean ====
module

public import proofs.«01_k».proof.Proof.KernelIdealCore

@[expose] public section

set_option maxRecDepth 16384

noncomputable section

namespace Cert.KernelIdeal.Body

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-- A lane's reciprocal standard deviation and merged mean, off the block, the peer's count and the peer's two rows. -/
def AV (x : Vec Ideal S1x128x10240 .bf16) (pc : EReal) (w q : Fin 128 → EReal) : Fin 128 → EReal :=
  fun r => Spec.rstd (Spec.meanLoc (xrow x r)) (Spec.m2Ker (xrow x r)) pc (w r) (q r)
def MV (x : Vec Ideal S1x128x10240 .bf16) (pc : EReal) (w : Fin 128 → EReal) : Fin 128 → EReal :=
  fun r => Spec.mean (Spec.meanLoc (xrow x r)) pc (w r)
/-- The largest magnitude of a lane's row. -/
def XV (x : Vec Ideal S1x128x10240 .bf16) (g b : Vec Ideal S1x10240 .f32) (A M : Fin 128 → EReal) : Fin 128 → EReal :=
  fun r => Finset.univ.fold max 0 fun k => Spec.ab (NV x g b A M r k)

variable {sp : Space} {κ : Kind}

theorem one_load {sp : Space} (v : View sig κ sp S1 .f32) (f : v.ty.Contents (Elt Ideal)) (inb) (h) :
    v.readAt (Elt Ideal) (Rect.unit (s := S1) ![0] S1.size inb).toLoadRect f (Shape.Idx.first h) = v.read (Elt Ideal) f (ix1 ⟨0, Nat.one_pos⟩) := by
  rw [View.readAt_apply]
  refine congrArg _ ?_
  funext a
  match a with
  | ⟨0, _⟩ => exact Fin.ext (Nat.lt_one_iff.mp (Fin.isLt _))

theorem row_load (v : View sig κ sp S16x128 .f32) (f : v.ty.Contents (Elt Ideal)) (off : Fin 2 → ℕ) (n : ℕ) (hn : n < 16) (ho : off = ![n, 0]) (inb : ∀ a, off a + S1x128.size a ≤ S16x128.size a) (l : Fin 128) :
    v.readAt (Elt Ideal) (Rect.unit (s := S16x128) off S1x128.size inb).toLoadRect f (ix2 ⟨0, Nat.one_pos⟩ l) = v.read (Elt Ideal) f (ix2 ⟨n, hn⟩ l) := by
  subst ho
  rw [View.readAt_apply]
  refine congrArg _ ?_
  funext a
  match a with
  | ⟨0, _⟩ => exact Fin.ext (by show n + 1 * 0 = n; omega)
  | ⟨1, _⟩ => exact Fin.ext (by show 0 + 1 * l.val = l.val; omega)

/-- A table of sixteen rows after one of its rows is stored. -/
theorem row_put (v : View sig κ sp S16x128 .f32) (f : v.ty.Contents (Elt Ideal)) (off : Fin 2 → ℕ) (n : ℕ) (ho : off = ![n, 0]) (inb : ∀ a, off a + (![1, 128] : Fin 2 → ℕ) a ≤ S16x128.size a) (P : S1x128.Idx → Elt Ideal .f32) (k : Fin 16) (l : Fin 128) :
    v.read (Elt Ideal) (v.writes (Elt Ideal) f [⟨Rect.unit (s := S16x128) off ![1, 128] inb, P⟩]) (ix2 k l)
      = if k.val = n then P (ix2 ⟨0, Nat.one_pos⟩ l) else v.read (Elt Ideal) f (ix2 k l) := by
  by_cases h : k.val = n
  · rw [if_pos h]
    exact View.read_writes_cons_rows_of_mem (d := ![16, 128]) v f inb P [] (ix2 k l) (ix2 ⟨0, Nat.one_pos⟩ l) ho (by show k.val = n + 0; omega) rfl
  · rw [if_neg h, View.read_writes_cons_rows_of_not_mem (d := ![16, 128]) v f inb P [] (ix2 k l) ho (W := 1) rfl (by show k.val < n ∨ n + 1 ≤ k.val; omega)]
    rfl

variable (𝒱 : Variants) (c : Dev nD) (bd : Option 𝒱.V) (i : grid0.Coords) (arg2 : Memref sig .tc .smem S1 .f32) (harg2 : arg2.IsWhole) (arg3 : Memref sig .tc .smem S1 .f32) (harg3 : arg3.IsWhole) (arg4 : Memref sig .tc .vmem S1x128x10240 .bf16) (harg4 : arg4.IsWhole) (arg5 : Memref sig .tc .vmem S1x3x640 .f32) (harg5 : arg5.IsWhole) (arg6 : Memref sig .tc .vmem S1x3x640 .f32) (harg6 : arg6.IsWhole) (arg7 : Memref sig .tc .vmem S1x10240 .f32) (harg7 : arg7.IsWhole) (arg8 : Memref sig .tc .vmem S1x10240 .f32) (harg8 : arg8.IsWhole) (arg9 : Memref sig .tc .vmem S16x128 .bf16) (harg9 : arg9.IsWhole) (arg10 : Memref sig .tc .vmem S1x128x10240 .fp8e4m3) (harg10 : arg10.IsWhole) (arg11 : Memref sig .tc .vmem S3x640 .f32) (harg11 : arg11.IsWhole) (arg12 : Memref sig .tc .vmem S3x640 .f32) (harg12 : arg12.IsWhole) (arg13 : Memref sig .tc .vmem S3x640 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S1x10240 .f32) (harg19 : arg19.IsWhole) (arg20 : Memref sig .tc .vmem S1x10240 .f32) (harg20 : arg20.IsWhole) (arg21 : Memref sig .tc .vmem S16x128 .f32) (harg21 : arg21.IsWhole) (arg22 : Memref sig .tc .vmem S16x128 .f32) (harg22 : arg22.IsWhole) (arg23 : Memref sig .tc .vmem S16x128 .f32) (harg23 : arg23.IsWhole) (arg24 : Memref sig .tc .vmem S16x128 .f32) (harg24 : arg24.IsWhole) (arg25 : Memref sig .tc .vmem S16x128 .f32) (harg25 : arg25.IsWhole)

/-- The rows of the two spread tables: the lanes' reciprocal standard deviations -/
theorem rowA (v7 : Vec Ideal S16x128 .bf16) (h7 : ∀ j, v7 j = (1 : EReal)) (X : BufTy.Contents (Elt Ideal) arg4.view.ty) (f14 : BufTy.Contents (Elt Ideal) arg14.view.ty) (f15 : BufTy.Contents (Elt Ideal) arg15.view.ty)
    (pc : EReal) (T21 : BufTy.Contents (Elt Ideal) arg21.view.ty) (T22 : BufTy.Contents (Elt Ideal) arg22.view.ty) (off : Fin 2 → ℕ) (n : ℕ) (hn : n < 16) (ho : off = ![n, 0]) (inb inb' inb1 inb2 iw : _) (R : ℕ) (hR : R + 32 ≤ 128) (ir) (a : Fin 32) (l : Fin 128) :
    arg16.view.readCov (Val := Elt Ideal) [⟨Rect.unit (s := S128x128) ![0, 0] S128x128.size iw, k0_pay255 (F := Ideal) pc (k0_pay248 (F := Ideal) pc)
        (k0_pay249 (arg14.view.readAt (Elt Ideal) (Rect.unit (s := S128x128) ![0, 0] S128x128.size inb).toLoadRect (arg14.view.writes (Elt Ideal) f14 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v7 X k0_t1_loop.trips).1))
          (arg21.view.readAt (Elt Ideal) (Rect.unit (s := S16x128) off S1x128.size inb1).toLoadRect T21))
        (k0_pay251 (arg14.view.readAt (Elt Ideal) (Rect.unit (s := S128x128) ![0, 0] S128x128.size inb).toLoadRect (arg14.view.writes (Elt Ideal) f14 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v7 X k0_t1_loop.trips).1))
          (arg15.view.readAt (Elt Ideal) (Rect.unit (s := S128x128) ![0, 0] S128x128.size inb').toLoadRect (arg15.view.writes (Elt Ideal) f15 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v7 X k0_t1_loop.trips).2))
          (arg22.view.readAt (Elt Ideal) (Rect.unit (s := S16x128) off S1x128.size inb2).toLoadRect T22))⟩] (Rect.unit (s := S128x128) ![R, 0] S32x128.size ir).toLoadRect (ix2 a l)
      = AV (arg4.view.read (Elt Ideal) X) pc (fun r => arg21.view.read (Elt Ideal) T21 (ix2 ⟨n, hn⟩ r)) (fun r => arg22.view.read (Elt Ideal) T22 (ix2 ⟨n, hn⟩ r)) ⟨R + a.val, by omega⟩ := by
  rw [rows_read _ _ _ R hR ir a l, pay255_apply, v10_eq 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v7 h7, v14_eq 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v7 h7, rstd_apply, row_load _ _ _ n hn ho, row_load _ _ _ n hn ho]
  rfl

/-- and their merged means. -/
theorem rowM (v7 : Vec Ideal S16x128 .bf16) (h7 : ∀ j, v7 j = (1 : EReal)) (X : BufTy.Contents (Elt Ideal) arg4.view.ty) (f14 : BufTy.Contents (Elt Ideal) arg14.view.ty)
    (pc : EReal) (T21 : BufTy.Contents (Elt Ideal) arg21.view.ty) (off : Fin 2 → ℕ) (n : ℕ) (hn : n < 16) (ho : off = ![n, 0]) (inb inb1 iw : _) (R : ℕ) (hR : R + 32 ≤ 128) (ir) (a : Fin 32) (l : Fin 128) :
    arg17.view.readCov (Val := Elt Ideal) [⟨Rect.unit (s := S128x128) ![0, 0] S128x128.size iw, k0_pay256 (F := Ideal)
        (k0_pay250 (arg14.view.readAt (Elt Ideal) (Rect.unit (s := S128x128) ![0, 0] S128x128.size inb).toLoadRect (arg14.view.writes (Elt Ideal) f14 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v7 X k0_t1_loop.trips).1))
          pc (arg21.view.readAt (Elt Ideal) (Rect.unit (s := S16x128) off S1x128.size inb1).toLoadRect T21))⟩] (Rect.unit (s := S128x128) ![R, 0] S32x128.size ir).toLoadRect (ix2 a l)
      = MV (arg4.view.read (Elt Ideal) X) pc (fun r => arg21.view.read (Elt Ideal) T21 (ix2 ⟨n, hn⟩ r)) ⟨R + a.val, by omega⟩ := by
  rw [rows_read _ _ _ R hR ir a l, pay256_apply, v10_eq 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v7 h7, mean_apply, row_load _ _ _ n hn ho]
  rfl

/-- The row of means stored, -/
theorem put24 (v7 : Vec Ideal S16x128 .bf16) (h7 : ∀ j, v7 j = (1 : EReal)) (X : BufTy.Contents (Elt Ideal) arg4.view.ty) (f14 : BufTy.Contents (Elt Ideal) arg14.view.ty)
    (pc : EReal) (T21 : BufTy.Contents (Elt Ideal) arg21.view.ty) (f24 : BufTy.Contents (Elt Ideal) arg24.view.ty) (off : Fin 2 → ℕ) (n : ℕ) (hn : n < 16) (ho : off = ![n, 0]) (inb inb1 ip) (k : Fin 16) (l : Fin 128) :
    arg24.view.read (Elt Ideal) (arg24.view.writes (Elt Ideal) f24 [⟨Rect.unit (s := S16x128) off ![1, 128] ip, k0_pay253 (F := Ideal)
        (k0_pay250 (arg14.view.readAt (Elt Ideal) (Rect.unit (s := S128x128) ![0, 0] S128x128.size inb).toLoadRect (arg14.view.writes (Elt Ideal) f14 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v7 X k0_t1_loop.trips).1))
          pc (arg21.view.readAt (Elt Ideal) (Rect.unit (s := S16x128) off S1x128.size inb1).toLoadRect T21))⟩]) (ix2 k l)
      = if k.val = n then MV (arg4.view.read (Elt Ideal) X) pc (fun r => arg21.view.read (Elt Ideal) T21 (ix2 ⟨n, hn⟩ r)) l else arg24.view.read (Elt Ideal) f24 (ix2 k l) := by
  rw [row_put _ _ _ n ho, show k0_pay253 (F := Ideal) _ = _ from shapeCast_self _ _, v10_eq 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v7 h7, mean_apply, row_load _ _ _ n hn ho]
  rfl

/-- and that of the reciprocal standard deviations. -/
theorem put25 (v7 : Vec Ideal S16x128 .bf16) (h7 : ∀ j, v7 j = (1 : EReal)) (X : BufTy.Contents (Elt Ideal) arg4.view.ty) (f14 : BufTy.Contents (Elt Ideal) arg14.view.ty) (f15 : BufTy.Contents (Elt Ideal) arg15.view.ty)
    (pc : EReal) (T21 : BufTy.Contents (Elt Ideal) arg21.view.ty) (T22 : BufTy.Contents (Elt Ideal) arg22.view.ty) (f25 : BufTy.Contents (Elt Ideal) arg25.view.ty) (off : Fin 2 → ℕ) (n : ℕ) (hn : n < 16) (ho : off = ![n, 0]) (inb inb' inb1 inb2 ip) (k : Fin 16) (l : Fin 128) :
    arg25.view.read (Elt Ideal) (arg25.view.writes (Elt Ideal) f25 [⟨Rect.unit (s := S16x128) off ![1, 128] ip, k0_pay254 (F := Ideal) pc (k0_pay248 (F := Ideal) pc)
        (k0_pay249 (arg14.view.readAt (Elt Ideal) (Rect.unit (s := S128x128) ![0, 0] S128x128.size inb).toLoadRect (arg14.view.writes (Elt Ideal) f14 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v7 X k0_t1_loop.trips).1))
          (arg21.view.readAt (Elt Ideal) (Rect.unit (s := S16x128) off S1x128.size inb1).toLoadRect T21))
        (k0_pay251 (arg14.view.readAt (Elt Ideal) (Rect.unit (s := S128x128) ![0, 0] S128x128.size inb).toLoadRect (arg14.view.writes (Elt Ideal) f14 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v7 X k0_t1_loop.trips).1))
          (arg15.view.readAt (Elt Ideal) (Rect.unit (s := S128x128) ![0, 0] S128x128.size inb').toLoadRect (arg15.view.writes (Elt Ideal) f15 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v7 X k0_t1_loop.trips).2))
          (arg22.view.readAt (Elt Ideal) (Rect.unit (s := S16x128) off S1x128.size inb2).toLoadRect T22))⟩]) (ix2 k l)
      = if k.val = n then AV (arg4.view.read (Elt Ideal) X) pc (fun r => arg21.view.read (Elt Ideal) T21 (ix2 ⟨n, hn⟩ r)) (fun r => arg22.view.read (Elt Ideal) T22 (ix2 ⟨n, hn⟩ r)) l else arg25.view.read (Elt Ideal) f25 (ix2 k l) := by
  rw [row_put _ _ _ n ho, show k0_pay254 (F := Ideal) _ _ _ _ = _ from shapeCast_self _ _, v10_eq 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v7 h7, v14_eq 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v7 h7, rstd_apply, row_load _ _ _ n hn ho, row_load _ _ _ n hn ho]
  rfl

/-- The row of largest magnitudes stored. -/
theorem put23 (x : Vec Ideal S1x128x10240 .bf16) (g b : Vec Ideal S1x10240 .f32) (A M : Fin 128 → EReal) (s : EReal) (V : Vec Ideal S128x128 .f32)
    (hV : ∀ (r l : Fin 128) (z : EReal), V (ix2 r l) ≤ z ↔ 0 ≤ z ∧ ∀ t : Fin 80, Spec.ab (NV x g b A M r ⟨128 * t.val + l.val, by omega⟩) ≤ z)
    (v : View sig κ sp S16x128 .f32) (f23 : v.ty.Contents (Elt Ideal)) (off : Fin 2 → ℕ) (n : ℕ) (ho : off = ![n, 0]) (ip) (k : Fin 16) (l : Fin 128) :
    v.read (Elt Ideal) (v.writes (Elt Ideal) f23 [⟨Rect.unit (s := S16x128) off ![1, 128] ip, k0_pay2 (F := Ideal) s V⟩]) (ix2 k l)
      = if k.val = n then XV x g b A M l * s else v.read (Elt Ideal) f23 (ix2 k l) := by
  rw [row_put _ _ _ n ho, pay2_apply]
  refine congrArg (fun z : EReal => if k.val = n then z * s else v.read (Elt Ideal) f23 (ix2 k l)) ?_
  refine eq_of_forall_ge_iff fun z => ?_
  rw [fold_le V l (fun k => Spec.ab (NV x g b A M l k)) (fun t z => hV l t z) z]
  unfold XV
  rw [Finset.fold_max_le]
  simp only [Finset.mem_univ, true_imp_iff]

end Cert.KernelIdeal.Body

end
-- ==== Proof.KernelIdealRows.lean ====
module

public import proofs.«01_k».proof.Proof.KernelIdealOut

@[expose] public section

set_option maxRecDepth 16384

noncomputable section

namespace Cert.KernelIdeal.Body

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {sp sp' : Space} {κ : Kind}

/-- The peer's rows as the scratch table keeps them: row `5 b + k` is columns `128 k` to `128 k + 127` of row `b`. -/
def PG (P : Vec Ideal S1x3x640 .f32) : S16x128.Idx → Elt Ideal .f32 :=
  fun y => P (ix3 ⟨0, Nat.one_pos⟩ ⟨((y 0).val / 5) % 3, Nat.mod_lt _ (by norm_num)⟩ ⟨(128 * ((y 0).val % 5) + (y 1).val) % 640, Nat.mod_lt _ (by norm_num)⟩)

theorem cast2 (w : Vec Ideal S1x1x128 .f32) (h : S1x1x128.ShapeCasts S1x128) (h' : S1x128.ShapeCasts S1x128) (l : Fin 128) :
    shapeCast S1x128 (shapeCast S1x128 w h) h' (ix2 ⟨0, Nat.one_pos⟩ l) = w (ix3 ⟨0, Nat.one_pos⟩ ⟨0, Nat.one_pos⟩ l) := by
  refine (?_ : ∀ z : EReal, z = _ → _ = z) _ rfl
  intro z hz
  pointwise
  exact hz.symm

theorem row_step (G : S16x128.Idx → Elt Ideal .f32) (k : ℕ) (inb : ∀ a, (![k, 0] : Fin 2 → ℕ) a + (![1, 128] : Fin 2 → ℕ) a ≤ S16x128.size a) (w : S1x128.Idx → Elt Ideal .f32)
    (L : List (View.Piece (Elt Ideal) S16x128 .f32)) (v : View sig κ sp S16x128 .f32) (f : v.ty.Contents (Elt Ideal)) (r : Fin 16) (l : Fin 128) (hw : r.val = k → w (ix2 ⟨0, Nat.one_pos⟩ l) = G (ix2 r l))
    (hL : r.val ≠ k → v.read (Elt Ideal) (v.writes (Elt Ideal) f L) (ix2 r l) = G (ix2 r l)) :
    v.read (Elt Ideal) (v.writes (Elt Ideal) f (⟨Rect.unit (s := S16x128) ![k, 0] ![1, 128] inb, w⟩ :: L)) (ix2 r l) = G (ix2 r l) := by
  by_cases h : r.val = k
  · rw [View.read_writes_cons_rows_of_mem (d := ![16, 128]) v f inb w L (ix2 r l) (ix2 ⟨0, Nat.one_pos⟩ l) rfl (by show r.val = k + 0; omega) rfl]
    exact hw h
  · rw [View.read_writes_cons_rows_of_not_mem (d := ![16, 128]) v f inb w L (ix2 r l) rfl (W := 1) rfl (by show r.val < k ∨ k + 1 ≤ r.val; omega)]
    exact hL h

theorem peer_row (u : View sig κ sp S1x3x640 .f32) (F : u.ty.Contents (Elt Ideal)) (k b C : ℕ) (hb : b < 3) (hC : C + 128 ≤ 640) (hk : k / 5 = b) (hk' : 128 * (k % 5) = C) (inb : ∀ a, (![0, b, C] : Fin 3 → ℕ) a + S1x1x128.size a ≤ S1x3x640.size a)
    (h : S1x1x128.ShapeCasts S1x128) (h' : S1x128.ShapeCasts S1x128) (r : Fin 16) (l : Fin 128) (hr : r.val = k) :
    shapeCast S1x128 (shapeCast S1x128 (u.readAt (Elt Ideal) (Rect.unit (s := S1x3x640) ![0, b, C] S1x1x128.size inb).toLoadRect F) h) h' (ix2 ⟨0, Nat.one_pos⟩ l)
      = PG (u.read (Elt Ideal) F) (ix2 r l) := by
  rw [cast2, View.readAt_apply]
  unfold PG
  refine congrArg _ ?_
  funext a
  match a with
  | ⟨0, _⟩ => rfl
  | ⟨1, _⟩ => exact Fin.ext (by show b + 1 * 0 = (r.val / 5) % 3; rw [hr, hk]; omega)
  | ⟨2, _⟩ => exact Fin.ext (by show C + 1 * l.val = (128 * (r.val % 5) + l.val) % 640; rw [hr, hk']; have := l.isLt; omega)

/-- The table of the peer's rows. -/
theorem tabP (v : View sig κ sp S16x128 .f32) (f : v.ty.Contents (Elt Ideal)) (u : View sig κ sp' S1x3x640 .f32) (F : u.ty.Contents (Elt Ideal))
    i0 j0 i1 j1 i2 j2 i3 j3 i4 j4 i5 j5 i6 j6 i7 j7 i8 j8 i9 j9 i10 j10 i11 j11 i12 j12 i13 j13 i14 j14 (h : S1x1x128.ShapeCasts S1x128) (h' : S1x128.ShapeCasts S1x128) (r : Fin 16) (l : Fin 128) (hr : r.val < 15) :
    v.read (Elt Ideal) (v.writes (Elt Ideal) f [⟨Rect.unit (s := S16x128) ![14, 0] ![1, 128] i14, shapeCast S1x128 (shapeCast S1x128 (u.readAt (Elt Ideal) (Rect.unit (s := S1x3x640) ![0, 2, 512] S1x1x128.size j14).toLoadRect F) h) h'⟩,
      ⟨Rect.unit (s := S16x128) ![13, 0] ![1, 128] i13, shapeCast S1x128 (shapeCast S1x128 (u.readAt (Elt Ideal) (Rect.unit (s := S1x3x640) ![0, 2, 384] S1x1x128.size j13).toLoadRect F) h) h'⟩,
      ⟨Rect.unit (s := S16x128) ![12, 0] ![1, 128] i12, shapeCast S1x128 (shapeCast S1x128 (u.readAt (Elt Ideal) (Rect.unit (s := S1x3x640) ![0, 2, 256] S1x1x128.size j12).toLoadRect F) h) h'⟩,
      ⟨Rect.unit (s := S16x128) ![11, 0] ![1, 128] i11, shapeCast S1x128 (shapeCast S1x128 (u.readAt (Elt Ideal) (Rect.unit (s := S1x3x640) ![0, 2, 128] S1x1x128.size j11).toLoadRect F) h) h'⟩,
      ⟨Rect.unit (s := S16x128) ![10, 0] ![1, 128] i10, shapeCast S1x128 (shapeCast S1x128 (u.readAt (Elt Ideal) (Rect.unit (s := S1x3x640) ![0, 2, 0] S1x1x128.size j10).toLoadRect F) h) h'⟩,
      ⟨Rect.unit (s := S16x128) ![9, 0] ![1, 128] i9, shapeCast S1x128 (shapeCast S1x128 (u.readAt (Elt Ideal) (Rect.unit (s := S1x3x640) ![0, 1, 512] S1x1x128.size j9).toLoadRect F) h) h'⟩,
      ⟨Rect.unit (s := S16x128) ![8, 0] ![1, 128] i8, shapeCast S1x128 (shapeCast S1x128 (u.readAt (Elt Ideal) (Rect.unit (s := S1x3x640) ![0, 1, 384] S1x1x128.size j8).toLoadRect F) h) h'⟩,
      ⟨Rect.unit (s := S16x128) ![7, 0] ![1, 128] i7, shapeCast S1x128 (shapeCast S1x128 (u.readAt (Elt Ideal) (Rect.unit (s := S1x3x640) ![0, 1, 256] S1x1x128.size j7).toLoadRect F) h) h'⟩,
      ⟨Rect.unit (s := S16x128) ![6, 0] ![1, 128] i6, shapeCast S1x128 (shapeCast S1x128 (u.readAt (Elt Ideal) (Rect.unit (s := S1x3x640) ![0, 1, 128] S1x1x128.size j6).toLoadRect F) h) h'⟩,
      ⟨Rect.unit (s := S16x128) ![5, 0] ![1, 128] i5, shapeCast S1x128 (shapeCast S1x128 (u.readAt (Elt Ideal) (Rect.unit (s := S1x3x640) ![0, 1, 0] S1x1x128.size j5).toLoadRect F) h) h'⟩,
      ⟨Rect.unit (s := S16x128) ![4, 0] ![1, 128] i4, shapeCast S1x128 (shapeCast S1x128 (u.readAt (Elt Ideal) (Rect.unit (s := S1x3x640) ![0, 0, 512] S1x1x128.size j4).toLoadRect F) h) h'⟩,
      ⟨Rect.unit (s := S16x128) ![3, 0] ![1, 128] i3, shapeCast S1x128 (shapeCast S1x128 (u.readAt (Elt Ideal) (Rect.unit (s := S1x3x640) ![0, 0, 384] S1x1x128.size j3).toLoadRect F) h) h'⟩,
      ⟨Rect.unit (s := S16x128) ![2, 0] ![1, 128] i2, shapeCast S1x128 (shapeCast S1x128 (u.readAt (Elt Ideal) (Rect.unit (s := S1x3x640) ![0, 0, 256] S1x1x128.size j2).toLoadRect F) h) h'⟩,
      ⟨Rect.unit (s := S16x128) ![1, 0] ![1, 128] i1, shapeCast S1x128 (shapeCast S1x128 (u.readAt (Elt Ideal) (Rect.unit (s := S1x3x640) ![0, 0, 128] S1x1x128.size j1).toLoadRect F) h) h'⟩,
      ⟨Rect.unit (s := S16x128) ![0, 0] ![1, 128] i0, shapeCast S1x128 (shapeCast S1x128 (u.readAt (Elt Ideal) (Rect.unit (s := S1x3x640) ![0, 0, 0] S1x1x128.size j0).toLoadRect F) h) h'⟩]) (ix2 r l)
      = PG (u.read (Elt Ideal) F) (ix2 r l) := by
  refine row_step _ 14 _ _ _ v f r l (fun e => peer_row u F 14 2 512 (by omega) (by omega) (by omega) (by omega) _ _ _ r l e) fun n14 => ?_
  refine row_step _ 13 _ _ _ v f r l (fun e => peer_row u F 13 2 384 (by omega) (by omega) (by omega) (by omega) _ _ _ r l e) fun n13 => ?_
  refine row_step _ 12 _ _ _ v f r l (fun e => peer_row u F 12 2 256 (by omega) (by omega) (by omega) (by omega) _ _ _ r l e) fun n12 => ?_
  refine row_step _ 11 _ _ _ v f r l (fun e => peer_row u F 11 2 128 (by omega) (by omega) (by omega) (by omega) _ _ _ r l e) fun n11 => ?_
  refine row_step _ 10 _ _ _ v f r l (fun e => peer_row u F 10 2 0 (by omega) (by omega) (by omega) (by omega) _ _ _ r l e) fun n10 => ?_
  refine row_step _ 9 _ _ _ v f r l (fun e => peer_row u F 9 1 512 (by omega) (by omega) (by omega) (by omega) _ _ _ r l e) fun n9 => ?_
  refine row_step _ 8 _ _ _ v f r l (fun e => peer_row u F 8 1 384 (by omega) (by omega) (by omega) (by omega) _ _ _ r l e) fun n8 => ?_
  refine row_step _ 7 _ _ _ v f r l (fun e => peer_row u F 7 1 256 (by omega) (by omega) (by omega) (by omega) _ _ _ r l e) fun n7 => ?_
  refine row_step _ 6 _ _ _ v f r l (fun e => peer_row u F 6 1 128 (by omega) (by omega) (by omega) (by omega) _ _ _ r l e) fun n6 => ?_
  refine row_step _ 5 _ _ _ v f r l (fun e => peer_row u F 5 1 0 (by omega) (by omega) (by omega) (by omega) _ _ _ r l e) fun n5 => ?_
  refine row_step _ 4 _ _ _ v f r l (fun e => peer_row u F 4 0 512 (by omega) (by omega) (by omega) (by omega) _ _ _ r l e) fun n4 => ?_
  refine row_step _ 3 _ _ _ v f r l (fun e => peer_row u F 3 0 384 (by omega) (by omega) (by omega) (by omega) _ _ _ r l e) fun n3 => ?_
  refine row_step _ 2 _ _ _ v f r l (fun e => peer_row u F 2 0 256 (by omega) (by omega) (by omega) (by omega) _ _ _ r l e) fun n2 => ?_
  refine row_step _ 1 _ _ _ v f r l (fun e => peer_row u F 1 0 128 (by omega) (by omega) (by omega) (by omega) _ _ _ r l e) fun n1 => ?_
  refine row_step _ 0 _ _ _ v f r l (fun e => peer_row u F 0 0 0 (by omega) (by omega) (by omega) (by omega) _ _ _ r l e) fun n0 => ?_
  omega

/-- The result's rows off the table: row `b`, column `128 k + l` is lane `l` of row `5 b + k`. -/
def TG (T : Vec Ideal S16x128 .f32) : S3x640.Idx → Elt Ideal .f32 :=
  fun y => T (ix2 ⟨(5 * (y 0).val + (y 1).val / 128) % 16, Nat.mod_lt _ (by norm_num)⟩ ⟨(y 1).val % 128, Nat.mod_lt _ (by norm_num)⟩)

theorem tab_step (G : S3x640.Idx → Elt Ideal .f32) (k b C : ℕ) (hk : 5 * b + C / 128 = k) (hC : C % 128 = 0) (hC' : C < 640) (inb : ∀ a, (![b, C] : Fin 2 → ℕ) a + (![1, 128] : Fin 2 → ℕ) a ≤ S3x640.size a) (w : S1x128.Idx → Elt Ideal .f32)
    (L : List (View.Piece (Elt Ideal) S3x640 .f32)) (v : View sig κ sp S3x640 .f32) (f : v.ty.Contents (Elt Ideal)) (r : Fin 3) (l : Fin 640)
    (hw : ∀ h : r.val = b ∧ C ≤ l.val ∧ l.val < C + 128, w (ix2 ⟨0, Nat.one_pos⟩ ⟨l.val - C, by omega⟩) = G (ix2 r l))
    (hL : 5 * r.val + l.val / 128 ≠ k → v.read (Elt Ideal) (v.writes (Elt Ideal) f L) (ix2 r l) = G (ix2 r l)) :
    v.read (Elt Ideal) (v.writes (Elt Ideal) f (⟨Rect.unit (s := S3x640) ![b, C] ![1, 128] inb, w⟩ :: L)) (ix2 r l) = G (ix2 r l) := by
  by_cases h : r.val = b ∧ C ≤ l.val ∧ l.val < C + 128
  · rw [View.read_writes_cons_unit_of_mem v f inb w L (ix2 r l) (ix2 ⟨0, Nat.one_pos⟩ ⟨l.val - C, by omega⟩) rfl (fun a => by
      match a with
      | ⟨0, _⟩ => show r.val = b + 0; omega
      | ⟨1, _⟩ => show l.val = C + (l.val - C); omega)]
    exact hw h
  · have hn : 5 * r.val + l.val / 128 ≠ k := by have := l.isLt; omega
    by_cases h0 : r.val = b
    · rw [View.read_writes_cons_unit_of_not_mem v f inb w L (ix2 r l) rfl 1 (by show l.val < C ∨ C + 128 ≤ l.val; omega)]
      exact hL hn
    · rw [View.read_writes_cons_unit_of_not_mem v f inb w L (ix2 r l) rfl 0 (by show r.val < b ∨ b + 1 ≤ r.val; omega)]
      exact hL hn

theorem tab_row (u : View sig κ sp S16x128 .f32) (F : u.ty.Contents (Elt Ideal)) (k b C : ℕ) (hk : k < 15) (hb : 5 * b + C / 128 = k) (hC : C % 128 = 0) (inb : ∀ a, (![k, 0] : Fin 2 → ℕ) a + S1x128.size a ≤ S16x128.size a)
    (r : Fin 3) (l : Fin 640) (h : r.val = b ∧ C ≤ l.val ∧ l.val < C + 128) :
    u.readAt (Elt Ideal) (Rect.unit (s := S16x128) ![k, 0] S1x128.size inb).toLoadRect F (ix2 ⟨0, Nat.one_pos⟩ ⟨l.val - C, by omega⟩) = TG (u.read (Elt Ideal) F) (ix2 r l) := by
  rw [row_load u F ![k, 0] k (by omega) rfl]
  unfold TG
  refine congrArg _ ?_
  funext a
  match a with
  | ⟨0, _⟩ => exact Fin.ext (by show k = (5 * r.val + l.val / 128) % 16; omega)
  | ⟨1, _⟩ => exact Fin.ext (by show l.val - C = l.val % 128; omega)

/-- A result's array as the last pass copies it off the table. -/
theorem tabT (v : View sig κ sp S3x640 .f32) (f : v.ty.Contents (Elt Ideal)) (u : View sig κ sp' S16x128 .f32) (F : u.ty.Contents (Elt Ideal))
    i0 j0 i1 j1 i2 j2 i3 j3 i4 j4 i5 j5 i6 j6 i7 j7 i8 j8 i9 j9 i10 j10 i11 j11 i12 j12 i13 j13 i14 j14 (r : Fin 3) (l : Fin 640) :
    v.read (Elt Ideal) (v.writes (Elt Ideal) f [⟨Rect.unit (s := S3x640) ![2, 512] ![1, 128] i14, u.readAt (Elt Ideal) (Rect.unit (s := S16x128) ![14, 0] S1x128.size j14).toLoadRect F⟩,
      ⟨Rect.unit (s := S3x640) ![2, 384] ![1, 128] i13, u.readAt (Elt Ideal) (Rect.unit (s := S16x128) ![13, 0] S1x128.size j13).toLoadRect F⟩,
      ⟨Rect.unit (s := S3x640) ![2, 256] ![1, 128] i12, u.readAt (Elt Ideal) (Rect.unit (s := S16x128) ![12, 0] S1x128.size j12).toLoadRect F⟩,
      ⟨Rect.unit (s := S3x640) ![2, 128] ![1, 128] i11, u.readAt (Elt Ideal) (Rect.unit (s := S16x128) ![11, 0] S1x128.size j11).toLoadRect F⟩,
      ⟨Rect.unit (s := S3x640) ![2, 0] ![1, 128] i10, u.readAt (Elt Ideal) (Rect.unit (s := S16x128) ![10, 0] S1x128.size j10).toLoadRect F⟩,
      ⟨Rect.unit (s := S3x640) ![1, 512] ![1, 128] i9, u.readAt (Elt Ideal) (Rect.unit (s := S16x128) ![9, 0] S1x128.size j9).toLoadRect F⟩,
      ⟨Rect.unit (s := S3x640) ![1, 384] ![1, 128] i8, u.readAt (Elt Ideal) (Rect.unit (s := S16x128) ![8, 0] S1x128.size j8).toLoadRect F⟩,
      ⟨Rect.unit (s := S3x640) ![1, 256] ![1, 128] i7, u.readAt (Elt Ideal) (Rect.unit (s := S16x128) ![7, 0] S1x128.size j7).toLoadRect F⟩,
      ⟨Rect.unit (s := S3x640) ![1, 128] ![1, 128] i6, u.readAt (Elt Ideal) (Rect.unit (s := S16x128) ![6, 0] S1x128.size j6).toLoadRect F⟩,
      ⟨Rect.unit (s := S3x640) ![1, 0] ![1, 128] i5, u.readAt (Elt Ideal) (Rect.unit (s := S16x128) ![5, 0] S1x128.size j5).toLoadRect F⟩,
      ⟨Rect.unit (s := S3x640) ![0, 512] ![1, 128] i4, u.readAt (Elt Ideal) (Rect.unit (s := S16x128) ![4, 0] S1x128.size j4).toLoadRect F⟩,
      ⟨Rect.unit (s := S3x640) ![0, 384] ![1, 128] i3, u.readAt (Elt Ideal) (Rect.unit (s := S16x128) ![3, 0] S1x128.size j3).toLoadRect F⟩,
      ⟨Rect.unit (s := S3x640) ![0, 256] ![1, 128] i2, u.readAt (Elt Ideal) (Rect.unit (s := S16x128) ![2, 0] S1x128.size j2).toLoadRect F⟩,
      ⟨Rect.unit (s := S3x640) ![0, 128] ![1, 128] i1, u.readAt (Elt Ideal) (Rect.unit (s := S16x128) ![1, 0] S1x128.size j1).toLoadRect F⟩,
      ⟨Rect.unit (s := S3x640) ![0, 0] ![1, 128] i0, u.readAt (Elt Ideal) (Rect.unit (s := S16x128) ![0, 0] S1x128.size j0).toLoadRect F⟩]) (ix2 r l)
      = TG (u.read (Elt Ideal) F) (ix2 r l) := by
  refine tab_step _ 14 2 512 (by omega) (by omega) (by omega) _ _ _ v f r l (fun e => tab_row u F 14 2 512 (by omega) (by omega) (by omega) _ r l e) fun n14 => ?_
  refine tab_step _ 13 2 384 (by omega) (by omega) (by omega) _ _ _ v f r l (fun e => tab_row u F 13 2 384 (by omega) (by omega) (by omega) _ r l e) fun n13 => ?_
  refine tab_step _ 12 2 256 (by omega) (by omega) (by omega) _ _ _ v f r l (fun e => tab_row u F 12 2 256 (by omega) (by omega) (by omega) _ r l e) fun n12 => ?_
  refine tab_step _ 11 2 128 (by omega) (by omega) (by omega) _ _ _ v f r l (fun e => tab_row u F 11 2 128 (by omega) (by omega) (by omega) _ r l e) fun n11 => ?_
  refine tab_step _ 10 2 0 (by omega) (by omega) (by omega) _ _ _ v f r l (fun e => tab_row u F 10 2 0 (by omega) (by omega) (by omega) _ r l e) fun n10 => ?_
  refine tab_step _ 9 1 512 (by omega) (by omega) (by omega) _ _ _ v f r l (fun e => tab_row u F 9 1 512 (by omega) (by omega) (by omega) _ r l e) fun n9 => ?_
  refine tab_step _ 8 1 384 (by omega) (by omega) (by omega) _ _ _ v f r l (fun e => tab_row u F 8 1 384 (by omega) (by omega) (by omega) _ r l e) fun n8 => ?_
  refine tab_step _ 7 1 256 (by omega) (by omega) (by omega) _ _ _ v f r l (fun e => tab_row u F 7 1 256 (by omega) (by omega) (by omega) _ r l e) fun n7 => ?_
  refine tab_step _ 6 1 128 (by omega) (by omega) (by omega) _ _ _ v f r l (fun e => tab_row u F 6 1 128 (by omega) (by omega) (by omega) _ r l e) fun n6 => ?_
  refine tab_step _ 5 1 0 (by omega) (by omega) (by omega) _ _ _ v f r l (fun e => tab_row u F 5 1 0 (by omega) (by omega) (by omega) _ r l e) fun n5 => ?_
  refine tab_step _ 4 0 512 (by omega) (by omega) (by omega) _ _ _ v f r l (fun e => tab_row u F 4 0 512 (by omega) (by omega) (by omega) _ r l e) fun n4 => ?_
  refine tab_step _ 3 0 384 (by omega) (by omega) (by omega) _ _ _ v f r l (fun e => tab_row u F 3 0 384 (by omega) (by omega) (by omega) _ r l e) fun n3 => ?_
  refine tab_step _ 2 0 256 (by omega) (by omega) (by omega) _ _ _ v f r l (fun e => tab_row u F 2 0 256 (by omega) (by omega) (by omega) _ r l e) fun n2 => ?_
  refine tab_step _ 1 0 128 (by omega) (by omega) (by omega) _ _ _ v f r l (fun e => tab_row u F 1 0 128 (by omega) (by omega) (by omega) _ r l e) fun n1 => ?_
  refine tab_step _ 0 0 0 (by omega) (by omega) (by omega) _ _ _ v f r l (fun e => tab_row u F 0 0 0 (by omega) (by omega) (by omega) _ r l e) fun n0 => ?_
  have := r.isLt
  have := l.isLt
  omega

theorem one_eq : (Ideal.ofBits .f32 0x3F800000#32 : EReal) = 1 := by
  have h : ∀ y : EReal, y = Ideal.ofBits .f32 0x3F800000#32 → y = 1 := by
    intro y hy
    rw [hy]
    pointwise
  exact h _ rfl

theorem pay3_apply (s : EReal) (v : Vec Ideal S1x10240 .f32) (j : S1x10240.Idx) : k0_pay3 (k0_pay237 (F := Ideal) s) v j = v j * Ideal.div 1 s := by
  rw [← one_eq]
  unfold k0_pay3
  rw [shapeCast_self, shapeCast_self]
  rfl
theorem pay4_apply (s : EReal) (v : Vec Ideal S1x10240 .f32) (j : S1x10240.Idx) : k0_pay4 (k0_pay237 (F := Ideal) s) v j = v j * Ideal.div 1 s := by
  rw [← one_eq]
  unfold k0_pay4
  rw [shapeCast_self, shapeCast_self]
  rfl

end Cert.KernelIdeal.Body

end
-- ==== Proof.KernelIdealBodyA.lean ====
module

public import proofs.«01_k».proof.Proof.KernelIdealRunA
public import proofs.«01_k».proof.Proof.KernelIdealRows

@[expose] public section

set_option maxRecDepth 16384

noncomputable section

namespace Cert.KernelIdeal.Body

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable (c : Dev nD) (i : grid0.Coords) (arg2 : Memref sig .tc .smem S1 .f32) (harg2 : arg2.IsWhole) (arg3 : Memref sig .tc .smem S1 .f32) (harg3 : arg3.IsWhole) (arg4 : Memref sig .tc .vmem S1x128x10240 .bf16) (harg4 : arg4.IsWhole) (arg5 : Memref sig .tc .vmem S1x3x640 .f32) (harg5 : arg5.IsWhole) (arg6 : Memref sig .tc .vmem S1x3x640 .f32) (harg6 : arg6.IsWhole) (arg7 : Memref sig .tc .vmem S1x10240 .f32) (harg7 : arg7.IsWhole) (arg8 : Memref sig .tc .vmem S1x10240 .f32) (harg8 : arg8.IsWhole) (arg9 : Memref sig .tc .vmem S16x128 .bf16) (harg9 : arg9.IsWhole) (arg10 : Memref sig .tc .vmem S1x128x10240 .fp8e4m3) (harg10 : arg10.IsWhole) (arg11 : Memref sig .tc .vmem S3x640 .f32) (harg11 : arg11.IsWhole) (arg12 : Memref sig .tc .vmem S3x640 .f32) (harg12 : arg12.IsWhole) (arg13 : Memref sig .tc .vmem S3x640 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S1x10240 .f32) (harg19 : arg19.IsWhole) (arg20 : Memref sig .tc .vmem S1x10240 .f32) (harg20 : arg20.IsWhole) (arg21 : Memref sig .tc .vmem S16x128 .f32) (harg21 : arg21.IsWhole) (arg22 : Memref sig .tc .vmem S16x128 .f32) (harg22 : arg22.IsWhole) (arg23 : Memref sig .tc .vmem S16x128 .f32) (harg23 : arg23.IsWhole) (arg24 : Memref sig .tc .vmem S16x128 .f32) (harg24 : arg24.IsWhole) (arg25 : Memref sig .tc .vmem S16x128 .f32) (harg25 : arg25.IsWhole)

theorem load9A (f9 : BufTy.Contents (Elt Ideal) arg9.view.ty) (h9 : ∀ j, arg9.view.read (Elt Ideal) f9 j = (1 : EReal)) (inb) (j) :
    arg9.view.readAt (Elt Ideal) (Rect.unit (s := S16x128) ![0, 0] S16x128.size inb).toLoadRect f9 j = (1 : EReal) := by
  rw [whole_load _ _ _ off00]; exact h9 j

section rows

variable (hc1 : k0_cond1 i) (hc2 : ¬ k0_cond2 i = 1#1) (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (f17 : BufTy.Contents (Elt Ideal) arg17.view.ty) (f18 : BufTy.Contents (Elt Ideal) arg18.view.ty) (f19 : BufTy.Contents (Elt Ideal) arg19.view.ty) (f20 : BufTy.Contents (Elt Ideal) arg20.view.ty) (f21 : BufTy.Contents (Elt Ideal) arg21.view.ty) (f22 : BufTy.Contents (Elt Ideal) arg22.view.ty) (f23 : BufTy.Contents (Elt Ideal) arg23.view.ty) (f24 : BufTy.Contents (Elt Ideal) arg24.view.ty) (f25 : BufTy.Contents (Elt Ideal) arg25.view.ty)
    (h9 : ∀ j, arg9.view.read (Elt Ideal) f9 j = (1 : EReal)) (n : ℕ) (hn : n < 16) (ho : k0_off82 i = ![n, 0])
    (T21 : BufTy.Contents (Elt Ideal) arg21.view.ty) (T22 : BufTy.Contents (Elt Ideal) arg22.view.ty) (h25 : runA.sl.v25 (F := Ideal) i arg5 arg21 f5 f21 = arg21.view.readAt (Elt Ideal) (Rect.unit (s := S16x128) (k0_off82 i) S1x128.size (k0_off82_inb i)).toLoadRect T21)
    (h27 : runA.sl.v27 (F := Ideal) i arg6 arg22 f6 f22 = arg22.view.readAt (Elt Ideal) (Rect.unit (s := S16x128) (k0_off82 i) S1x128.size (k0_off82_inb i)).toLoadRect T22)
include hc1 hc2 f2 f3 f4 f5 f6 f7 f8 f9 f10 f11 f12 f13 f14 f15 f16 f17 f18 f19 f20 f21 f22 f23 f24 f25 h9 n hn ho T21 T22 h25 h27

theorem rowA_A_0 (a : Fin 32) (l : Fin 128) :
    runA.sl.v65 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 f3 f4 f5 f6 f9 f14 f15 f21 f22 (ix2 a l) = (AV (arg4.view.read (Elt Ideal) f4) (arg3.view.read (Elt Ideal) f3 (ix1 ⟨0, Nat.one_pos⟩)) (fun r => arg21.view.read (Elt Ideal) T21 (ix2 ⟨n, hn⟩ r)) (fun r => arg22.view.read (Elt Ideal) T22 (ix2 ⟨n, hn⟩ r))) ⟨0 + a.val, by omega⟩ := by
  unfold runA.sl.v65 runA.sl.H16_1 runA.sl.r_3 runA.sl.r_5
  rw [h25, h27]
  have h := rowA Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 _ (load9A arg9 f9 h9 inb_S16x128_S16x128_0_0) f4 f14 f15 (arg3.view.readAt (Elt Ideal) (Rect.unit (s := S1) ![0] S1.size inb_S1_S1_0).toLoadRect f3 (Shape.Idx.first (by decide))) T21 T22 (k0_off82 i) n hn ho inb_S128x128_S128x128_0_0 inb_S128x128_S128x128_0_0 (k0_off82_inb i) (k0_off82_inb i) inb_S128x128_S128x128_0_0 0 (by omega) inb_S128x128_S32x128_0_0 a l
  exact h.trans (by rw [one_load])

theorem rowM_A_0 (a : Fin 32) (l : Fin 128) :
    runA.sl.v66 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 f3 f4 f5 f9 f14 f21 (ix2 a l) = (MV (arg4.view.read (Elt Ideal) f4) (arg3.view.read (Elt Ideal) f3 (ix1 ⟨0, Nat.one_pos⟩)) (fun r => arg21.view.read (Elt Ideal) T21 (ix2 ⟨n, hn⟩ r))) ⟨0 + a.val, by omega⟩ := by
  unfold runA.sl.v66 runA.sl.H17_1 runA.sl.r_4
  rw [h25]
  have h := rowM Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 _ (load9A arg9 f9 h9 inb_S16x128_S16x128_0_0) f4 f14 (arg3.view.readAt (Elt Ideal) (Rect.unit (s := S1) ![0] S1.size inb_S1_S1_0).toLoadRect f3 (Shape.Idx.first (by decide))) T21 (k0_off82 i) n hn ho inb_S128x128_S128x128_0_0 (k0_off82_inb i) inb_S128x128_S128x128_0_0 0 (by omega) inb_S128x128_S32x128_0_0 a l
  exact h.trans (by rw [one_load])

theorem rowA_A_32 (a : Fin 32) (l : Fin 128) :
    runA.sl.v73 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 f3 f4 f5 f6 f9 f14 f15 f21 f22 (ix2 a l) = (AV (arg4.view.read (Elt Ideal) f4) (arg3.view.read (Elt Ideal) f3 (ix1 ⟨0, Nat.one_pos⟩)) (fun r => arg21.view.read (Elt Ideal) T21 (ix2 ⟨n, hn⟩ r)) (fun r => arg22.view.read (Elt Ideal) T22 (ix2 ⟨n, hn⟩ r))) ⟨32 + a.val, by omega⟩ := by
  unfold runA.sl.v73 runA.sl.H16_1 runA.sl.r_3 runA.sl.r_5
  rw [h25, h27]
  have h := rowA Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 _ (load9A arg9 f9 h9 inb_S16x128_S16x128_0_0) f4 f14 f15 (arg3.view.readAt (Elt Ideal) (Rect.unit (s := S1) ![0] S1.size inb_S1_S1_0).toLoadRect f3 (Shape.Idx.first (by decide))) T21 T22 (k0_off82 i) n hn ho inb_S128x128_S128x128_0_0 inb_S128x128_S128x128_0_0 (k0_off82_inb i) (k0_off82_inb i) inb_S128x128_S128x128_0_0 32 (by omega) inb_S128x128_S32x128_32_0 a l
  exact h.trans (by rw [one_load])

theorem rowM_A_32 (a : Fin 32) (l : Fin 128) :
    runA.sl.v74 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 f3 f4 f5 f9 f14 f21 (ix2 a l) = (MV (arg4.view.read (Elt Ideal) f4) (arg3.view.read (Elt Ideal) f3 (ix1 ⟨0, Nat.one_pos⟩)) (fun r => arg21.view.read (Elt Ideal) T21 (ix2 ⟨n, hn⟩ r))) ⟨32 + a.val, by omega⟩ := by
  unfold runA.sl.v74 runA.sl.H17_1 runA.sl.r_4
  rw [h25]
  have h := rowM Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 _ (load9A arg9 f9 h9 inb_S16x128_S16x128_0_0) f4 f14 (arg3.view.readAt (Elt Ideal) (Rect.unit (s := S1) ![0] S1.size inb_S1_S1_0).toLoadRect f3 (Shape.Idx.first (by decide))) T21 (k0_off82 i) n hn ho inb_S128x128_S128x128_0_0 (k0_off82_inb i) inb_S128x128_S128x128_0_0 32 (by omega) inb_S128x128_S32x128_32_0 a l
  exact h.trans (by rw [one_load])

theorem rowA_A_64 (a : Fin 32) (l : Fin 128) :
    runA.sl.v81 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 f3 f4 f5 f6 f9 f14 f15 f21 f22 (ix2 a l) = (AV (arg4.view.read (Elt Ideal) f4) (arg3.view.read (Elt Ideal) f3 (ix1 ⟨0, Nat.one_pos⟩)) (fun r => arg21.view.read (Elt Ideal) T21 (ix2 ⟨n, hn⟩ r)) (fun r => arg22.view.read (Elt Ideal) T22 (ix2 ⟨n, hn⟩ r))) ⟨64 + a.val, by omega⟩ := by
  unfold runA.sl.v81 runA.sl.H16_1 runA.sl.r_3 runA.sl.r_5
  rw [h25, h27]
  have h := rowA Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 _ (load9A arg9 f9 h9 inb_S16x128_S16x128_0_0) f4 f14 f15 (arg3.view.readAt (Elt Ideal) (Rect.unit (s := S1) ![0] S1.size inb_S1_S1_0).toLoadRect f3 (Shape.Idx.first (by decide))) T21 T22 (k0_off82 i) n hn ho inb_S128x128_S128x128_0_0 inb_S128x128_S128x128_0_0 (k0_off82_inb i) (k0_off82_inb i) inb_S128x128_S128x128_0_0 64 (by omega) inb_S128x128_S32x128_64_0 a l
  exact h.trans (by rw [one_load])

theorem rowM_A_64 (a : Fin 32) (l : Fin 128) :
    runA.sl.v82 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 f3 f4 f5 f9 f14 f21 (ix2 a l) = (MV (arg4.view.read (Elt Ideal) f4) (arg3.view.read (Elt Ideal) f3 (ix1 ⟨0, Nat.one_pos⟩)) (fun r => arg21.view.read (Elt Ideal) T21 (ix2 ⟨n, hn⟩ r))) ⟨64 + a.val, by omega⟩ := by
  unfold runA.sl.v82 runA.sl.H17_1 runA.sl.r_4
  rw [h25]
  have h := rowM Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 _ (load9A arg9 f9 h9 inb_S16x128_S16x128_0_0) f4 f14 (arg3.view.readAt (Elt Ideal) (Rect.unit (s := S1) ![0] S1.size inb_S1_S1_0).toLoadRect f3 (Shape.Idx.first (by decide))) T21 (k0_off82 i) n hn ho inb_S128x128_S128x128_0_0 (k0_off82_inb i) inb_S128x128_S128x128_0_0 64 (by omega) inb_S128x128_S32x128_64_0 a l
  exact h.trans (by rw [one_load])

theorem rowA_A_96 (a : Fin 32) (l : Fin 128) :
    runA.sl.v89 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 f3 f4 f5 f6 f9 f14 f15 f21 f22 (ix2 a l) = (AV (arg4.view.read (Elt Ideal) f4) (arg3.view.read (Elt Ideal) f3 (ix1 ⟨0, Nat.one_pos⟩)) (fun r => arg21.view.read (Elt Ideal) T21 (ix2 ⟨n, hn⟩ r)) (fun r => arg22.view.read (Elt Ideal) T22 (ix2 ⟨n, hn⟩ r))) ⟨96 + a.val, by omega⟩ := by
  unfold runA.sl.v89 runA.sl.H16_1 runA.sl.r_3 runA.sl.r_5
  rw [h25, h27]
  have h := rowA Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 _ (load9A arg9 f9 h9 inb_S16x128_S16x128_0_0) f4 f14 f15 (arg3.view.readAt (Elt Ideal) (Rect.unit (s := S1) ![0] S1.size inb_S1_S1_0).toLoadRect f3 (Shape.Idx.first (by decide))) T21 T22 (k0_off82 i) n hn ho inb_S128x128_S128x128_0_0 inb_S128x128_S128x128_0_0 (k0_off82_inb i) (k0_off82_inb i) inb_S128x128_S128x128_0_0 96 (by omega) inb_S128x128_S32x128_96_0 a l
  exact h.trans (by rw [one_load])

theorem rowM_A_96 (a : Fin 32) (l : Fin 128) :
    runA.sl.v90 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 f3 f4 f5 f9 f14 f21 (ix2 a l) = (MV (arg4.view.read (Elt Ideal) f4) (arg3.view.read (Elt Ideal) f3 (ix1 ⟨0, Nat.one_pos⟩)) (fun r => arg21.view.read (Elt Ideal) T21 (ix2 ⟨n, hn⟩ r))) ⟨96 + a.val, by omega⟩ := by
  unfold runA.sl.v90 runA.sl.H17_1 runA.sl.r_4
  rw [h25]
  have h := rowM Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 _ (load9A arg9 f9 h9 inb_S16x128_S16x128_0_0) f4 f14 (arg3.view.readAt (Elt Ideal) (Rect.unit (s := S1) ![0] S1.size inb_S1_S1_0).toLoadRect f3 (Shape.Idx.first (by decide))) T21 (k0_off82 i) n hn ho inb_S128x128_S128x128_0_0 (k0_off82_inb i) inb_S128x128_S128x128_0_0 96 (by omega) inb_S128x128_S32x128_96_0 a l
  exact h.trans (by rw [one_load])

/-- The block of the result after the pass, -/
theorem out10_A :
    arg10.view.read (Elt Ideal) (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25).1 = YV (arg4.view.read (Elt Ideal) f4) (arg19.view.read (Elt Ideal) (arg19.view.writes (Elt Ideal) arg19.view.junk (runA.sl.H19_1 (F := Ideal) arg2 arg7 f2 f7))) (arg20.view.read (Elt Ideal) (arg20.view.writes (Elt Ideal) arg20.view.junk (runA.sl.H20_1 (F := Ideal) arg2 arg8 f2 f8))) (AV (arg4.view.read (Elt Ideal) f4) (arg3.view.read (Elt Ideal) f3 (ix1 ⟨0, Nat.one_pos⟩)) (fun r => arg21.view.read (Elt Ideal) T21 (ix2 ⟨n, hn⟩ r)) (fun r => arg22.view.read (Elt Ideal) T22 (ix2 ⟨n, hn⟩ r))) (MV (arg4.view.read (Elt Ideal) f4) (arg3.view.read (Elt Ideal) f3 (ix1 ⟨0, Nat.one_pos⟩)) (fun r => arg21.view.read (Elt Ideal) T21 (ix2 ⟨n, hn⟩ r))) := by
  have hA0 := rowA_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25 h9 n hn ho T21 T22 h25 h27
  have hM0 := rowM_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25 h9 n hn ho T21 T22 h25 h27
  have hA1 := rowA_A_32 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25 h9 n hn ho T21 T22 h25 h27
  have hM1 := rowM_A_32 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25 h9 n hn ho T21 T22 h25 h27
  have hA2 := rowA_A_64 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25 h9 n hn ho T21 T22 h25 h27
  have hM2 := rowM_A_64 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25 h9 n hn ho T21 T22 h25 h27
  have hA3 := rowA_A_96 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25 h9 n hn ho T21 T22 h25 h27
  have hM3 := rowM_A_96 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25 h9 n hn ho T21 T22 h25 h27
  revert hA0 hM0 hA1 hM1 hA2 hM2 hA3 hM3
  generalize (AV (arg4.view.read (Elt Ideal) f4) (arg3.view.read (Elt Ideal) f3 (ix1 ⟨0, Nat.one_pos⟩)) (fun r => arg21.view.read (Elt Ideal) T21 (ix2 ⟨n, hn⟩ r)) (fun r => arg22.view.read (Elt Ideal) T22 (ix2 ⟨n, hn⟩ r))) = A
  generalize (MV (arg4.view.read (Elt Ideal) f4) (arg3.view.read (Elt Ideal) f3 (ix1 ⟨0, Nat.one_pos⟩)) (fun r => arg21.view.read (Elt Ideal) T21 (ix2 ⟨n, hn⟩ r))) = M
  intro hA0 hM0 hA1 hM1 hA2 hM2 hA3 hM3
  unfold runA
  dsimp only
  exact core_y Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 _ _ _ _ _ _ _ _ _ _ _ _ _ _ _ _ _ _ _ _ f4 _ _ A M hA0 hM0 hA1 hM1 hA2 hM2 hA3 hM3 f10 _ _ _ _

theorem amx_A (r l : Fin 128) (z : EReal) :
    runA.sl.v97 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 f2 f3 f4 f5 f6 f7 f8 f9 f14 f15 f18 f21 f22 (ix2 r l) ≤ z ↔ 0 ≤ z ∧ ∀ t : Fin 80, Spec.ab (NV (arg4.view.read (Elt Ideal) f4) (arg19.view.read (Elt Ideal) (arg19.view.writes (Elt Ideal) arg19.view.junk (runA.sl.H19_1 (F := Ideal) arg2 arg7 f2 f7))) (arg20.view.read (Elt Ideal) (arg20.view.writes (Elt Ideal) arg20.view.junk (runA.sl.H20_1 (F := Ideal) arg2 arg8 f2 f8))) (AV (arg4.view.read (Elt Ideal) f4) (arg3.view.read (Elt Ideal) f3 (ix1 ⟨0, Nat.one_pos⟩)) (fun r => arg21.view.read (Elt Ideal) T21 (ix2 ⟨n, hn⟩ r)) (fun r => arg22.view.read (Elt Ideal) T22 (ix2 ⟨n, hn⟩ r))) (MV (arg4.view.read (Elt Ideal) f4) (arg3.view.read (Elt Ideal) f3 (ix1 ⟨0, Nat.one_pos⟩)) (fun r => arg21.view.read (Elt Ideal) T21 (ix2 ⟨n, hn⟩ r))) r ⟨128 * t.val + l.val, by omega⟩) ≤ z := by
  have hA0 := rowA_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25 h9 n hn ho T21 T22 h25 h27
  have hM0 := rowM_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25 h9 n hn ho T21 T22 h25 h27
  have hA1 := rowA_A_32 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25 h9 n hn ho T21 T22 h25 h27
  have hM1 := rowM_A_32 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25 h9 n hn ho T21 T22 h25 h27
  have hA2 := rowA_A_64 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25 h9 n hn ho T21 T22 h25 h27
  have hM2 := rowM_A_64 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25 h9 n hn ho T21 T22 h25 h27
  have hA3 := rowA_A_96 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25 h9 n hn ho T21 T22 h25 h27
  have hM3 := rowM_A_96 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25 h9 n hn ho T21 T22 h25 h27
  revert hA0 hM0 hA1 hM1 hA2 hM2 hA3 hM3
  generalize (AV (arg4.view.read (Elt Ideal) f4) (arg3.view.read (Elt Ideal) f3 (ix1 ⟨0, Nat.one_pos⟩)) (fun r => arg21.view.read (Elt Ideal) T21 (ix2 ⟨n, hn⟩ r)) (fun r => arg22.view.read (Elt Ideal) T22 (ix2 ⟨n, hn⟩ r))) = A
  generalize (MV (arg4.view.read (Elt Ideal) f4) (arg3.view.read (Elt Ideal) f3 (ix1 ⟨0, Nat.one_pos⟩)) (fun r => arg21.view.read (Elt Ideal) T21 (ix2 ⟨n, hn⟩ r))) = M
  intro hA0 hM0 hA1 hM1 hA2 hM2 hA3 hM3
  unfold runA.sl.v97 runA.sl.H18_4 runA.sl.r_6 runA.sl.r_8
  exact core_amx Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 _ _ _ _ _ _ _ _ _ _ _ _ _ _ _ _ _ _ _ _ f4 _ _ A M hA0 hM0 hA1 hM1 hA2 hM2 hA3 hM3 f10 _ _ _ _ _ r l z

/-- the table of largest magnitudes, -/
theorem out23_A (k : Fin 16) (l : Fin 128) :
    arg23.view.read (Elt Ideal) (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25).2.2.2.2.2.2.2.2.2.2.1 (ix2 k l) = if k.val = n then XV (arg4.view.read (Elt Ideal) f4) (arg19.view.read (Elt Ideal) (arg19.view.writes (Elt Ideal) arg19.view.junk (runA.sl.H19_1 (F := Ideal) arg2 arg7 f2 f7))) (arg20.view.read (Elt Ideal) (arg20.view.writes (Elt Ideal) arg20.view.junk (runA.sl.H20_1 (F := Ideal) arg2 arg8 f2 f8))) (AV (arg4.view.read (Elt Ideal) f4) (arg3.view.read (Elt Ideal) f3 (ix1 ⟨0, Nat.one_pos⟩)) (fun r => arg21.view.read (Elt Ideal) T21 (ix2 ⟨n, hn⟩ r)) (fun r => arg22.view.read (Elt Ideal) T22 (ix2 ⟨n, hn⟩ r))) (MV (arg4.view.read (Elt Ideal) f4) (arg3.view.read (Elt Ideal) f3 (ix1 ⟨0, Nat.one_pos⟩)) (fun r => arg21.view.read (Elt Ideal) T21 (ix2 ⟨n, hn⟩ r))) l * (arg2.view.read (Elt Ideal) f2 (ix1 ⟨0, Nat.one_pos⟩)) else arg23.view.read (Elt Ideal) f23 (ix2 k l) := by
  have h := put23 (arg4.view.read (Elt Ideal) f4) (arg19.view.read (Elt Ideal) (arg19.view.writes (Elt Ideal) arg19.view.junk (runA.sl.H19_1 (F := Ideal) arg2 arg7 f2 f7))) (arg20.view.read (Elt Ideal) (arg20.view.writes (Elt Ideal) arg20.view.junk (runA.sl.H20_1 (F := Ideal) arg2 arg8 f2 f8))) (AV (arg4.view.read (Elt Ideal) f4) (arg3.view.read (Elt Ideal) f3 (ix1 ⟨0, Nat.one_pos⟩)) (fun r => arg21.view.read (Elt Ideal) T21 (ix2 ⟨n, hn⟩ r)) (fun r => arg22.view.read (Elt Ideal) T22 (ix2 ⟨n, hn⟩ r))) (MV (arg4.view.read (Elt Ideal) f4) (arg3.view.read (Elt Ideal) f3 (ix1 ⟨0, Nat.one_pos⟩)) (fun r => arg21.view.read (Elt Ideal) T21 (ix2 ⟨n, hn⟩ r))) (arg2.view.readAt (Elt Ideal) (Rect.unit (s := S1) ![0] S1.size inb_S1_S1_0).toLoadRect f2 (Shape.Idx.first (by decide))) _
    (amx_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25 h9 n hn ho T21 T22 h25 h27) arg23.view f23 (k0_off82 i) n ho (k0_off82_inb i) k l
  exact h.trans (by rw [one_load])

/-- of means -/
theorem out24_A (k : Fin 16) (l : Fin 128) :
    arg24.view.read (Elt Ideal) (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25).2.2.2.2.2.2.2.2.2.2.2.1 (ix2 k l) = if k.val = n then (MV (arg4.view.read (Elt Ideal) f4) (arg3.view.read (Elt Ideal) f3 (ix1 ⟨0, Nat.one_pos⟩)) (fun r => arg21.view.read (Elt Ideal) T21 (ix2 ⟨n, hn⟩ r))) l else arg24.view.read (Elt Ideal) f24 (ix2 k l) := by
  unfold runA
  dsimp only
  unfold runA.sl.r_4
  rw [h25]
  have h := put24 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 _ (load9A arg9 f9 h9 inb_S16x128_S16x128_0_0) f4 f14 (arg3.view.readAt (Elt Ideal) (Rect.unit (s := S1) ![0] S1.size inb_S1_S1_0).toLoadRect f3 (Shape.Idx.first (by decide))) T21 f24 (k0_off82 i) n hn ho inb_S128x128_S128x128_0_0 (k0_off82_inb i) (k0_off82_inb i) k l
  exact h.trans (by rw [one_load])

/-- and of reciprocal standard deviations. -/
theorem out25_A (k : Fin 16) (l : Fin 128) :
    arg25.view.read (Elt Ideal) (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25).2.2.2.2.2.2.2.2.2.2.2.2.1 (ix2 k l) = if k.val = n then (AV (arg4.view.read (Elt Ideal) f4) (arg3.view.read (Elt Ideal) f3 (ix1 ⟨0, Nat.one_pos⟩)) (fun r => arg21.view.read (Elt Ideal) T21 (ix2 ⟨n, hn⟩ r)) (fun r => arg22.view.read (Elt Ideal) T22 (ix2 ⟨n, hn⟩ r))) l else arg25.view.read (Elt Ideal) f25 (ix2 k l) := by
  unfold runA
  dsimp only
  unfold runA.sl.r_3 runA.sl.r_5
  rw [h25, h27]
  have h := put25 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 _ (load9A arg9 f9 h9 inb_S16x128_S16x128_0_0) f4 f14 f15 (arg3.view.readAt (Elt Ideal) (Rect.unit (s := S1) ![0] S1.size inb_S1_S1_0).toLoadRect f3 (Shape.Idx.first (by decide))) T21 T22 f25 (k0_off82 i) n hn ho inb_S128x128_S128x128_0_0 inb_S128x128_S128x128_0_0 (k0_off82_inb i) (k0_off82_inb i) (k0_off82_inb i) k l
  exact h.trans (by rw [one_load])

end rows

theorem congr4 {α β γ δ ε : Type} (f : α → β → γ → δ → ε) {a a' : α} {b b' : β} {c c' : γ} {d d' : δ} (h1 : a = a') (h2 : b = b') (h3 : c = c') (h4 : d = d') : f a b c d = f a' b' c' d' := by
  subst h1 h2 h3 h4; rfl

section fin

variable (hc1 : k0_cond1 i) (hc2 : ¬ k0_cond2 i = 1#1) (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (f17 : BufTy.Contents (Elt Ideal) arg17.view.ty) (f18 : BufTy.Contents (Elt Ideal) arg18.view.ty) (f19 : BufTy.Contents (Elt Ideal) arg19.view.ty) (f20 : BufTy.Contents (Elt Ideal) arg20.view.ty) (f21 : BufTy.Contents (Elt Ideal) arg21.view.ty) (f22 : BufTy.Contents (Elt Ideal) arg22.view.ty) (f23 : BufTy.Contents (Elt Ideal) arg23.view.ty) (f24 : BufTy.Contents (Elt Ideal) arg24.view.ty) (f25 : BufTy.Contents (Elt Ideal) arg25.view.ty)
include hc1 hc2 f2 f3 f4 f5 f6 f7 f8 f9 f10 f11 f12 f13 f14 f15 f16 f17 f18 f19 f20 f21 f22 f23 f24 f25

theorem out21_A (r : Fin 16) (l : Fin 128) (hr : r.val < 15) :
    arg21.view.read (Elt Ideal) (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25).2.2.2.2.2.2.2.2.1 (ix2 r l) = PG (arg5.view.read (Elt Ideal) f5) (ix2 r l) := by
  unfold runA
  dsimp only
  exact tabP arg21.view f21 arg5.view f5 _ _ _ _ _ _ _ _ _ _ _ _ _ _ _ _ _ _ _ _ _ _ _ _ _ _ _ _ _ _ _ _ r l hr

theorem load21_A : runA.sl.v25 (F := Ideal) i arg5 arg21 f5 f21 = arg21.view.readAt (Elt Ideal) (Rect.unit (s := S16x128) (k0_off82 i) S1x128.size (k0_off82_inb i)).toLoadRect (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25).2.2.2.2.2.2.2.2.1 := by
  unfold runA
  dsimp only
  unfold runA.sl.v25
  rfl

theorem out22_A (r : Fin 16) (l : Fin 128) (hr : r.val < 15) :
    arg22.view.read (Elt Ideal) (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25).2.2.2.2.2.2.2.2.2.1 (ix2 r l) = PG (arg6.view.read (Elt Ideal) f6) (ix2 r l) := by
  unfold runA
  dsimp only
  exact tabP arg22.view f22 arg6.view f6 _ _ _ _ _ _ _ _ _ _ _ _ _ _ _ _ _ _ _ _ _ _ _ _ _ _ _ _ _ _ _ _ r l hr

theorem load22_A : runA.sl.v27 (F := Ideal) i arg6 arg22 f6 f22 = arg22.view.readAt (Elt Ideal) (Rect.unit (s := S16x128) (k0_off82 i) S1x128.size (k0_off82_inb i)).toLoadRect (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25).2.2.2.2.2.2.2.2.2.1 := by
  unfold runA
  dsimp only
  unfold runA.sl.v27
  rfl

theorem tab19_A : arg19.view.read (Elt Ideal) (arg19.view.writes (Elt Ideal) arg19.view.junk (runA.sl.H19_1 (F := Ideal) arg2 arg7 f2 f7)) = fun j => arg7.view.read (Elt Ideal) f7 j * Ideal.div 1 (arg2.view.read (Elt Ideal) f2 (ix1 ⟨0, Nat.one_pos⟩)) := by
  unfold runA.sl.H19_1
  rw [whole_read _ _ _ off00]
  funext j
  rw [pay3_apply, whole_load _ _ _ off00]
  unfold runA.sl.r
  rw [one_load]

theorem out19_A : arg19.view.read (Elt Ideal) (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25).2.2.2.2.2.2.1 = fun j => arg7.view.read (Elt Ideal) f7 j * Ideal.div 1 (arg2.view.read (Elt Ideal) f2 (ix1 ⟨0, Nat.one_pos⟩)) := by
  refine Eq.trans ?_ (tab19_A i arg2 arg3 arg4 arg5 arg6 arg7 arg8 arg9 arg10 arg11 arg12 arg13 arg14 arg15 arg16 arg17 arg18 arg19 arg20 arg21 arg22 arg23 arg24 arg25 hc1 hc2 f2 f3 f4 f5 f6 f7 f8 f9 f10 f11 f12 f13 f14 f15 f16 f17 f18 f19 f20 f21 f22 f23 f24 f25)
  unfold runA
  dsimp only

theorem tab20_A : arg20.view.read (Elt Ideal) (arg20.view.writes (Elt Ideal) arg20.view.junk (runA.sl.H20_1 (F := Ideal) arg2 arg8 f2 f8)) = fun j => arg8.view.read (Elt Ideal) f8 j * Ideal.div 1 (arg2.view.read (Elt Ideal) f2 (ix1 ⟨0, Nat.one_pos⟩)) := by
  unfold runA.sl.H20_1
  rw [whole_read _ _ _ off00]
  funext j
  rw [pay4_apply, whole_load _ _ _ off00]
  unfold runA.sl.r
  rw [one_load]

theorem out20_A : arg20.view.read (Elt Ideal) (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25).2.2.2.2.2.2.2.1 = fun j => arg8.view.read (Elt Ideal) f8 j * Ideal.div 1 (arg2.view.read (Elt Ideal) f2 (ix1 ⟨0, Nat.one_pos⟩)) := by
  refine Eq.trans ?_ (tab20_A i arg2 arg3 arg4 arg5 arg6 arg7 arg8 arg9 arg10 arg11 arg12 arg13 arg14 arg15 arg16 arg17 arg18 arg19 arg20 arg21 arg22 arg23 arg24 arg25 hc1 hc2 f2 f3 f4 f5 f6 f7 f8 f9 f10 f11 f12 f13 f14 f15 f16 f17 f18 f19 f20 f21 f22 f23 f24 f25)
  unfold runA
  dsimp only

variable (h9 : ∀ j, arg9.view.read (Elt Ideal) f9 j = (1 : EReal)) (n : ℕ) (hn : n < 16) (ho : k0_off82 i = ![n, 0]) (h15 : n < 15)
include h9 n hn ho h15

theorem eW : (fun r => arg21.view.read (Elt Ideal) (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25).2.2.2.2.2.2.2.2.1 (ix2 ⟨n, hn⟩ r)) = (fun r => PG (arg5.view.read (Elt Ideal) f5) (ix2 ⟨n, hn⟩ r)) :=
  funext fun r => out21_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25 ⟨n, hn⟩ r h15
theorem eQ : (fun r => arg22.view.read (Elt Ideal) (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25).2.2.2.2.2.2.2.2.2.1 (ix2 ⟨n, hn⟩ r)) = (fun r => PG (arg6.view.read (Elt Ideal) f6) (ix2 ⟨n, hn⟩ r)) :=
  funext fun r => out22_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25 ⟨n, hn⟩ r h15

theorem fin10_A  :
    arg10.view.read (Elt Ideal) (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25).1 = YV (arg4.view.read (Elt Ideal) f4) (fun j => arg7.view.read (Elt Ideal) f7 j * Ideal.div 1 (arg2.view.read (Elt Ideal) f2 (ix1 ⟨0, Nat.one_pos⟩))) (fun j => arg8.view.read (Elt Ideal) f8 j * Ideal.div 1 (arg2.view.read (Elt Ideal) f2 (ix1 ⟨0, Nat.one_pos⟩))) (AV (arg4.view.read (Elt Ideal) f4) (arg3.view.read (Elt Ideal) f3 (ix1 ⟨0, Nat.one_pos⟩)) (fun r => PG (arg5.view.read (Elt Ideal) f5) (ix2 ⟨n, hn⟩ r)) (fun r => PG (arg6.view.read (Elt Ideal) f6) (ix2 ⟨n, hn⟩ r))) (MV (arg4.view.read (Elt Ideal) f4) (arg3.view.read (Elt Ideal) f3 (ix1 ⟨0, Nat.one_pos⟩)) (fun r => PG (arg5.view.read (Elt Ideal) f5) (ix2 ⟨n, hn⟩ r))) := by
  have h := out10_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25 h9 n hn ho _ _ (load21_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25) (load22_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25)
  exact h.trans (congr4 (fun (g b : Vec Ideal S1x10240 .f32) (w q : Fin 128 → EReal) => YV (arg4.view.read (Elt Ideal) f4) g b (AV (arg4.view.read (Elt Ideal) f4) (arg3.view.read (Elt Ideal) f3 (ix1 ⟨0, Nat.one_pos⟩)) w q) (MV (arg4.view.read (Elt Ideal) f4) (arg3.view.read (Elt Ideal) f3 (ix1 ⟨0, Nat.one_pos⟩)) w)) (tab19_A i arg2 arg3 arg4 arg5 arg6 arg7 arg8 arg9 arg10 arg11 arg12 arg13 arg14 arg15 arg16 arg17 arg18 arg19 arg20 arg21 arg22 arg23 arg24 arg25 hc1 hc2 f2 f3 f4 f5 f6 f7 f8 f9 f10 f11 f12 f13 f14 f15 f16 f17 f18 f19 f20 f21 f22 f23 f24 f25) (tab20_A i arg2 arg3 arg4 arg5 arg6 arg7 arg8 arg9 arg10 arg11 arg12 arg13 arg14 arg15 arg16 arg17 arg18 arg19 arg20 arg21 arg22 arg23 arg24 arg25 hc1 hc2 f2 f3 f4 f5 f6 f7 f8 f9 f10 f11 f12 f13 f14 f15 f16 f17 f18 f19 f20 f21 f22 f23 f24 f25) (eW c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25 h9 n hn ho h15) (eQ c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25 h9 n hn ho h15))

theorem fin23_A (k : Fin 16) (l : Fin 128) :
    arg23.view.read (Elt Ideal) (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25).2.2.2.2.2.2.2.2.2.2.1 (ix2 k l) = if k.val = n then XV (arg4.view.read (Elt Ideal) f4) (fun j => arg7.view.read (Elt Ideal) f7 j * Ideal.div 1 (arg2.view.read (Elt Ideal) f2 (ix1 ⟨0, Nat.one_pos⟩))) (fun j => arg8.view.read (Elt Ideal) f8 j * Ideal.div 1 (arg2.view.read (Elt Ideal) f2 (ix1 ⟨0, Nat.one_pos⟩))) (AV (arg4.view.read (Elt Ideal) f4) (arg3.view.read (Elt Ideal) f3 (ix1 ⟨0, Nat.one_pos⟩)) (fun r => PG (arg5.view.read (Elt Ideal) f5) (ix2 ⟨n, hn⟩ r)) (fun r => PG (arg6.view.read (Elt Ideal) f6) (ix2 ⟨n, hn⟩ r))) (MV (arg4.view.read (Elt Ideal) f4) (arg3.view.read (Elt Ideal) f3 (ix1 ⟨0, Nat.one_pos⟩)) (fun r => PG (arg5.view.read (Elt Ideal) f5) (ix2 ⟨n, hn⟩ r))) l * (arg2.view.read (Elt Ideal) f2 (ix1 ⟨0, Nat.one_pos⟩)) else arg23.view.read (Elt Ideal) f23 (ix2 k l) := by
  have h := out23_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25 h9 n hn ho _ _ (load21_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25) (load22_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25) k l
  exact h.trans (congr4 (fun (g b : Vec Ideal S1x10240 .f32) (w q : Fin 128 → EReal) => if k.val = n then XV (arg4.view.read (Elt Ideal) f4) g b (AV (arg4.view.read (Elt Ideal) f4) (arg3.view.read (Elt Ideal) f3 (ix1 ⟨0, Nat.one_pos⟩)) w q) (MV (arg4.view.read (Elt Ideal) f4) (arg3.view.read (Elt Ideal) f3 (ix1 ⟨0, Nat.one_pos⟩)) w) l * (arg2.view.read (Elt Ideal) f2 (ix1 ⟨0, Nat.one_pos⟩)) else arg23.view.read (Elt Ideal) f23 (ix2 k l)) (tab19_A i arg2 arg3 arg4 arg5 arg6 arg7 arg8 arg9 arg10 arg11 arg12 arg13 arg14 arg15 arg16 arg17 arg18 arg19 arg20 arg21 arg22 arg23 arg24 arg25 hc1 hc2 f2 f3 f4 f5 f6 f7 f8 f9 f10 f11 f12 f13 f14 f15 f16 f17 f18 f19 f20 f21 f22 f23 f24 f25) (tab20_A i arg2 arg3 arg4 arg5 arg6 arg7 arg8 arg9 arg10 arg11 arg12 arg13 arg14 arg15 arg16 arg17 arg18 arg19 arg20 arg21 arg22 arg23 arg24 arg25 hc1 hc2 f2 f3 f4 f5 f6 f7 f8 f9 f10 f11 f12 f13 f14 f15 f16 f17 f18 f19 f20 f21 f22 f23 f24 f25) (eW c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25 h9 n hn ho h15) (eQ c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25 h9 n hn ho h15))

theorem fin24_A (k : Fin 16) (l : Fin 128) :
    arg24.view.read (Elt Ideal) (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25).2.2.2.2.2.2.2.2.2.2.2.1 (ix2 k l) = if k.val = n then (MV (arg4.view.read (Elt Ideal) f4) (arg3.view.read (Elt Ideal) f3 (ix1 ⟨0, Nat.one_pos⟩)) (fun r => PG (arg5.view.read (Elt Ideal) f5) (ix2 ⟨n, hn⟩ r))) l else arg24.view.read (Elt Ideal) f24 (ix2 k l) := by
  have h := out24_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25 h9 n hn ho _ _ (load21_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25) (load22_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25) k l
  exact h.trans (congr4 (fun (g b : Vec Ideal S1x10240 .f32) (w q : Fin 128 → EReal) => if k.val = n then (MV (arg4.view.read (Elt Ideal) f4) (arg3.view.read (Elt Ideal) f3 (ix1 ⟨0, Nat.one_pos⟩)) w) l else arg24.view.read (Elt Ideal) f24 (ix2 k l)) (tab19_A i arg2 arg3 arg4 arg5 arg6 arg7 arg8 arg9 arg10 arg11 arg12 arg13 arg14 arg15 arg16 arg17 arg18 arg19 arg20 arg21 arg22 arg23 arg24 arg25 hc1 hc2 f2 f3 f4 f5 f6 f7 f8 f9 f10 f11 f12 f13 f14 f15 f16 f17 f18 f19 f20 f21 f22 f23 f24 f25) (tab20_A i arg2 arg3 arg4 arg5 arg6 arg7 arg8 arg9 arg10 arg11 arg12 arg13 arg14 arg15 arg16 arg17 arg18 arg19 arg20 arg21 arg22 arg23 arg24 arg25 hc1 hc2 f2 f3 f4 f5 f6 f7 f8 f9 f10 f11 f12 f13 f14 f15 f16 f17 f18 f19 f20 f21 f22 f23 f24 f25) (eW c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25 h9 n hn ho h15) (eQ c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25 h9 n hn ho h15))

theorem fin25_A (k : Fin 16) (l : Fin 128) :
    arg25.view.read (Elt Ideal) (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25).2.2.2.2.2.2.2.2.2.2.2.2.1 (ix2 k l) = if k.val = n then (AV (arg4.view.read (Elt Ideal) f4) (arg3.view.read (Elt Ideal) f3 (ix1 ⟨0, Nat.one_pos⟩)) (fun r => PG (arg5.view.read (Elt Ideal) f5) (ix2 ⟨n, hn⟩ r)) (fun r => PG (arg6.view.read (Elt Ideal) f6) (ix2 ⟨n, hn⟩ r))) l else arg25.view.read (Elt Ideal) f25 (ix2 k l) := by
  have h := out25_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25 h9 n hn ho _ _ (load21_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25) (load22_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25) k l
  exact h.trans (congr4 (fun (g b : Vec Ideal S1x10240 .f32) (w q : Fin 128 → EReal) => if k.val = n then (AV (arg4.view.read (Elt Ideal) f4) (arg3.view.read (Elt Ideal) f3 (ix1 ⟨0, Nat.one_pos⟩)) w q) l else arg25.view.read (Elt Ideal) f25 (ix2 k l)) (tab19_A i arg2 arg3 arg4 arg5 arg6 arg7 arg8 arg9 arg10 arg11 arg12 arg13 arg14 arg15 arg16 arg17 arg18 arg19 arg20 arg21 arg22 arg23 arg24 arg25 hc1 hc2 f2 f3 f4 f5 f6 f7 f8 f9 f10 f11 f12 f13 f14 f15 f16 f17 f18 f19 f20 f21 f22 f23 f24 f25) (tab20_A i arg2 arg3 arg4 arg5 arg6 arg7 arg8 arg9 arg10 arg11 arg12 arg13 arg14 arg15 arg16 arg17 arg18 arg19 arg20 arg21 arg22 arg23 arg24 arg25 hc1 hc2 f2 f3 f4 f5 f6 f7 f8 f9 f10 f11 f12 f13 f14 f15 f16 f17 f18 f19 f20 f21 f22 f23 f24 f25) (eW c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25 h9 n hn ho h15) (eQ c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25 h9 n hn ho h15))

end fin

end Cert.KernelIdeal.Body

end
-- ==== Proof.KernelIdealBodyB.lean ====
module

public import proofs.«01_k».proof.Proof.KernelIdealRunB
public import proofs.«01_k».proof.Proof.KernelIdealOut

@[expose] public section

set_option maxRecDepth 16384

noncomputable section

namespace Cert.KernelIdeal.Body

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable (c : Dev nD) (i : grid0.Coords) (arg2 : Memref sig .tc .smem S1 .f32) (harg2 : arg2.IsWhole) (arg3 : Memref sig .tc .smem S1 .f32) (harg3 : arg3.IsWhole) (arg4 : Memref sig .tc .vmem S1x128x10240 .bf16) (harg4 : arg4.IsWhole) (arg5 : Memref sig .tc .vmem S1x3x640 .f32) (harg5 : arg5.IsWhole) (arg6 : Memref sig .tc .vmem S1x3x640 .f32) (harg6 : arg6.IsWhole) (arg7 : Memref sig .tc .vmem S1x10240 .f32) (harg7 : arg7.IsWhole) (arg8 : Memref sig .tc .vmem S1x10240 .f32) (harg8 : arg8.IsWhole) (arg9 : Memref sig .tc .vmem S16x128 .bf16) (harg9 : arg9.IsWhole) (arg10 : Memref sig .tc .vmem S1x128x10240 .fp8e4m3) (harg10 : arg10.IsWhole) (arg11 : Memref sig .tc .vmem S3x640 .f32) (harg11 : arg11.IsWhole) (arg12 : Memref sig .tc .vmem S3x640 .f32) (harg12 : arg12.IsWhole) (arg13 : Memref sig .tc .vmem S3x640 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S1x10240 .f32) (harg19 : arg19.IsWhole) (arg20 : Memref sig .tc .vmem S1x10240 .f32) (harg20 : arg20.IsWhole) (arg21 : Memref sig .tc .vmem S16x128 .f32) (harg21 : arg21.IsWhole) (arg22 : Memref sig .tc .vmem S16x128 .f32) (harg22 : arg22.IsWhole) (arg23 : Memref sig .tc .vmem S16x128 .f32) (harg23 : arg23.IsWhole) (arg24 : Memref sig .tc .vmem S16x128 .f32) (harg24 : arg24.IsWhole) (arg25 : Memref sig .tc .vmem S16x128 .f32) (harg25 : arg25.IsWhole)

theorem load9B (f9 : BufTy.Contents (Elt Ideal) arg9.view.ty) (h9 : ∀ j, arg9.view.read (Elt Ideal) f9 j = (1 : EReal)) (inb) (j) :
    arg9.view.readAt (Elt Ideal) (Rect.unit (s := S16x128) ![0, 0] S16x128.size inb).toLoadRect f9 j = (1 : EReal) := by
  rw [whole_load _ _ _ off00]; exact h9 j

variable (hc1 : ¬ k0_cond1 i) (hc2 : ¬ k0_cond2 i = 1#1) (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (f17 : BufTy.Contents (Elt Ideal) arg17.view.ty) (f18 : BufTy.Contents (Elt Ideal) arg18.view.ty) (f19 : BufTy.Contents (Elt Ideal) arg19.view.ty) (f20 : BufTy.Contents (Elt Ideal) arg20.view.ty) (f21 : BufTy.Contents (Elt Ideal) arg21.view.ty) (f22 : BufTy.Contents (Elt Ideal) arg22.view.ty) (f23 : BufTy.Contents (Elt Ideal) arg23.view.ty) (f24 : BufTy.Contents (Elt Ideal) arg24.view.ty) (f25 : BufTy.Contents (Elt Ideal) arg25.view.ty)
    (h9 : ∀ j, arg9.view.read (Elt Ideal) f9 j = (1 : EReal)) (n : ℕ) (hn : n < 16) (ho : k0_off82 i = ![n, 0])
include hc1 hc2 f2 f3 f4 f5 f6 f7 f8 f9 f10 f11 f12 f13 f14 f15 f16 f17 f18 f19 f20 f21 f22 f23 f24 f25 h9 n hn ho

theorem rowA_B_0 (a : Fin 32) (l : Fin 128) :
    runB.sl.v65 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 f3 f4 f9 f14 f15 f21 f22 (ix2 a l) = (AV (arg4.view.read (Elt Ideal) f4) (arg3.view.read (Elt Ideal) f3 (ix1 ⟨0, Nat.one_pos⟩)) (fun r => arg21.view.read (Elt Ideal) f21 (ix2 ⟨n, hn⟩ r)) (fun r => arg22.view.read (Elt Ideal) f22 (ix2 ⟨n, hn⟩ r))) ⟨0 + a.val, by omega⟩ := by
  have h := rowA Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 _ (load9B arg9 f9 h9 inb_S16x128_S16x128_0_0) f4 f14 f15 (arg3.view.readAt (Elt Ideal) (Rect.unit (s := S1) ![0] S1.size inb_S1_S1_0).toLoadRect f3 (Shape.Idx.first (by decide))) f21 f22 (k0_off82 i) n hn ho inb_S128x128_S128x128_0_0 inb_S128x128_S128x128_0_0 (k0_off82_inb i) (k0_off82_inb i) inb_S128x128_S128x128_0_0 0 (by omega) inb_S128x128_S32x128_0_0 a l
  exact h.trans (by rw [one_load])

theorem rowM_B_0 (a : Fin 32) (l : Fin 128) :
    runB.sl.v66 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 f3 f4 f9 f14 f21 (ix2 a l) = (MV (arg4.view.read (Elt Ideal) f4) (arg3.view.read (Elt Ideal) f3 (ix1 ⟨0, Nat.one_pos⟩)) (fun r => arg21.view.read (Elt Ideal) f21 (ix2 ⟨n, hn⟩ r))) ⟨0 + a.val, by omega⟩ := by
  have h := rowM Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 _ (load9B arg9 f9 h9 inb_S16x128_S16x128_0_0) f4 f14 (arg3.view.readAt (Elt Ideal) (Rect.unit (s := S1) ![0] S1.size inb_S1_S1_0).toLoadRect f3 (Shape.Idx.first (by decide))) f21 (k0_off82 i) n hn ho inb_S128x128_S128x128_0_0 (k0_off82_inb i) inb_S128x128_S128x128_0_0 0 (by omega) inb_S128x128_S32x128_0_0 a l
  exact h.trans (by rw [one_load])

theorem rowA_B_32 (a : Fin 32) (l : Fin 128) :
    runB.sl.v73 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 f3 f4 f9 f14 f15 f21 f22 (ix2 a l) = (AV (arg4.view.read (Elt Ideal) f4) (arg3.view.read (Elt Ideal) f3 (ix1 ⟨0, Nat.one_pos⟩)) (fun r => arg21.view.read (Elt Ideal) f21 (ix2 ⟨n, hn⟩ r)) (fun r => arg22.view.read (Elt Ideal) f22 (ix2 ⟨n, hn⟩ r))) ⟨32 + a.val, by omega⟩ := by
  have h := rowA Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 _ (load9B arg9 f9 h9 inb_S16x128_S16x128_0_0) f4 f14 f15 (arg3.view.readAt (Elt Ideal) (Rect.unit (s := S1) ![0] S1.size inb_S1_S1_0).toLoadRect f3 (Shape.Idx.first (by decide))) f21 f22 (k0_off82 i) n hn ho inb_S128x128_S128x128_0_0 inb_S128x128_S128x128_0_0 (k0_off82_inb i) (k0_off82_inb i) inb_S128x128_S128x128_0_0 32 (by omega) inb_S128x128_S32x128_32_0 a l
  exact h.trans (by rw [one_load])

theorem rowM_B_32 (a : Fin 32) (l : Fin 128) :
    runB.sl.v74 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 f3 f4 f9 f14 f21 (ix2 a l) = (MV (arg4.view.read (Elt Ideal) f4) (arg3.view.read (Elt Ideal) f3 (ix1 ⟨0, Nat.one_pos⟩)) (fun r => arg21.view.read (Elt Ideal) f21 (ix2 ⟨n, hn⟩ r))) ⟨32 + a.val, by omega⟩ := by
  have h := rowM Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 _ (load9B arg9 f9 h9 inb_S16x128_S16x128_0_0) f4 f14 (arg3.view.readAt (Elt Ideal) (Rect.unit (s := S1) ![0] S1.size inb_S1_S1_0).toLoadRect f3 (Shape.Idx.first (by decide))) f21 (k0_off82 i) n hn ho inb_S128x128_S128x128_0_0 (k0_off82_inb i) inb_S128x128_S128x128_0_0 32 (by omega) inb_S128x128_S32x128_32_0 a l
  exact h.trans (by rw [one_load])

theorem rowA_B_64 (a : Fin 32) (l : Fin 128) :
    runB.sl.v81 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 f3 f4 f9 f14 f15 f21 f22 (ix2 a l) = (AV (arg4.view.read (Elt Ideal) f4) (arg3.view.read (Elt Ideal) f3 (ix1 ⟨0, Nat.one_pos⟩)) (fun r => arg21.view.read (Elt Ideal) f21 (ix2 ⟨n, hn⟩ r)) (fun r => arg22.view.read (Elt Ideal) f22 (ix2 ⟨n, hn⟩ r))) ⟨64 + a.val, by omega⟩ := by
  have h := rowA Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 _ (load9B arg9 f9 h9 inb_S16x128_S16x128_0_0) f4 f14 f15 (arg3.view.readAt (Elt Ideal) (Rect.unit (s := S1) ![0] S1.size inb_S1_S1_0).toLoadRect f3 (Shape.Idx.first (by decide))) f21 f22 (k0_off82 i) n hn ho inb_S128x128_S128x128_0_0 inb_S128x128_S128x128_0_0 (k0_off82_inb i) (k0_off82_inb i) inb_S128x128_S128x128_0_0 64 (by omega) inb_S128x128_S32x128_64_0 a l
  exact h.trans (by rw [one_load])

theorem rowM_B_64 (a : Fin 32) (l : Fin 128) :
    runB.sl.v82 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 f3 f4 f9 f14 f21 (ix2 a l) = (MV (arg4.view.read (Elt Ideal) f4) (arg3.view.read (Elt Ideal) f3 (ix1 ⟨0, Nat.one_pos⟩)) (fun r => arg21.view.read (Elt Ideal) f21 (ix2 ⟨n, hn⟩ r))) ⟨64 + a.val, by omega⟩ := by
  have h := rowM Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 _ (load9B arg9 f9 h9 inb_S16x128_S16x128_0_0) f4 f14 (arg3.view.readAt (Elt Ideal) (Rect.unit (s := S1) ![0] S1.size inb_S1_S1_0).toLoadRect f3 (Shape.Idx.first (by decide))) f21 (k0_off82 i) n hn ho inb_S128x128_S128x128_0_0 (k0_off82_inb i) inb_S128x128_S128x128_0_0 64 (by omega) inb_S128x128_S32x128_64_0 a l
  exact h.trans (by rw [one_load])

theorem rowA_B_96 (a : Fin 32) (l : Fin 128) :
    runB.sl.v89 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 f3 f4 f9 f14 f15 f21 f22 (ix2 a l) = (AV (arg4.view.read (Elt Ideal) f4) (arg3.view.read (Elt Ideal) f3 (ix1 ⟨0, Nat.one_pos⟩)) (fun r => arg21.view.read (Elt Ideal) f21 (ix2 ⟨n, hn⟩ r)) (fun r => arg22.view.read (Elt Ideal) f22 (ix2 ⟨n, hn⟩ r))) ⟨96 + a.val, by omega⟩ := by
  have h := rowA Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 _ (load9B arg9 f9 h9 inb_S16x128_S16x128_0_0) f4 f14 f15 (arg3.view.readAt (Elt Ideal) (Rect.unit (s := S1) ![0] S1.size inb_S1_S1_0).toLoadRect f3 (Shape.Idx.first (by decide))) f21 f22 (k0_off82 i) n hn ho inb_S128x128_S128x128_0_0 inb_S128x128_S128x128_0_0 (k0_off82_inb i) (k0_off82_inb i) inb_S128x128_S128x128_0_0 96 (by omega) inb_S128x128_S32x128_96_0 a l
  exact h.trans (by rw [one_load])

theorem rowM_B_96 (a : Fin 32) (l : Fin 128) :
    runB.sl.v90 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 f3 f4 f9 f14 f21 (ix2 a l) = (MV (arg4.view.read (Elt Ideal) f4) (arg3.view.read (Elt Ideal) f3 (ix1 ⟨0, Nat.one_pos⟩)) (fun r => arg21.view.read (Elt Ideal) f21 (ix2 ⟨n, hn⟩ r))) ⟨96 + a.val, by omega⟩ := by
  have h := rowM Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 _ (load9B arg9 f9 h9 inb_S16x128_S16x128_0_0) f4 f14 (arg3.view.readAt (Elt Ideal) (Rect.unit (s := S1) ![0] S1.size inb_S1_S1_0).toLoadRect f3 (Shape.Idx.first (by decide))) f21 (k0_off82 i) n hn ho inb_S128x128_S128x128_0_0 (k0_off82_inb i) inb_S128x128_S128x128_0_0 96 (by omega) inb_S128x128_S32x128_96_0 a l
  exact h.trans (by rw [one_load])

/-- The block of the result after the pass, -/
theorem out10_B :
    arg10.view.read (Elt Ideal) (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25).1 = YV (arg4.view.read (Elt Ideal) f4) (arg19.view.read (Elt Ideal) f19) (arg20.view.read (Elt Ideal) f20) (AV (arg4.view.read (Elt Ideal) f4) (arg3.view.read (Elt Ideal) f3 (ix1 ⟨0, Nat.one_pos⟩)) (fun r => arg21.view.read (Elt Ideal) f21 (ix2 ⟨n, hn⟩ r)) (fun r => arg22.view.read (Elt Ideal) f22 (ix2 ⟨n, hn⟩ r))) (MV (arg4.view.read (Elt Ideal) f4) (arg3.view.read (Elt Ideal) f3 (ix1 ⟨0, Nat.one_pos⟩)) (fun r => arg21.view.read (Elt Ideal) f21 (ix2 ⟨n, hn⟩ r))) := by
  have hA0 := rowA_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25 h9 n hn ho
  have hM0 := rowM_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25 h9 n hn ho
  have hA1 := rowA_B_32 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25 h9 n hn ho
  have hM1 := rowM_B_32 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25 h9 n hn ho
  have hA2 := rowA_B_64 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25 h9 n hn ho
  have hM2 := rowM_B_64 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25 h9 n hn ho
  have hA3 := rowA_B_96 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25 h9 n hn ho
  have hM3 := rowM_B_96 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25 h9 n hn ho
  revert hA0 hM0 hA1 hM1 hA2 hM2 hA3 hM3
  generalize (AV (arg4.view.read (Elt Ideal) f4) (arg3.view.read (Elt Ideal) f3 (ix1 ⟨0, Nat.one_pos⟩)) (fun r => arg21.view.read (Elt Ideal) f21 (ix2 ⟨n, hn⟩ r)) (fun r => arg22.view.read (Elt Ideal) f22 (ix2 ⟨n, hn⟩ r))) = A
  generalize (MV (arg4.view.read (Elt Ideal) f4) (arg3.view.read (Elt Ideal) f3 (ix1 ⟨0, Nat.one_pos⟩)) (fun r => arg21.view.read (Elt Ideal) f21 (ix2 ⟨n, hn⟩ r))) = M
  intro hA0 hM0 hA1 hM1 hA2 hM2 hA3 hM3
  unfold runB
  dsimp only
  exact core_y Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 _ _ _ _ _ _ _ _ _ _ _ _ _ _ _ _ _ _ _ _ f4 _ _ A M hA0 hM0 hA1 hM1 hA2 hM2 hA3 hM3 f10 _ _ _ _

theorem amx_B (r l : Fin 128) (z : EReal) :
    runB.sl.v97 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 f3 f4 f9 f14 f15 f18 f19 f20 f21 f22 (ix2 r l) ≤ z ↔ 0 ≤ z ∧ ∀ t : Fin 80, Spec.ab (NV (arg4.view.read (Elt Ideal) f4) (arg19.view.read (Elt Ideal) f19) (arg20.view.read (Elt Ideal) f20) (AV (arg4.view.read (Elt Ideal) f4) (arg3.view.read (Elt Ideal) f3 (ix1 ⟨0, Nat.one_pos⟩)) (fun r => arg21.view.read (Elt Ideal) f21 (ix2 ⟨n, hn⟩ r)) (fun r => arg22.view.read (Elt Ideal) f22 (ix2 ⟨n, hn⟩ r))) (MV (arg4.view.read (Elt Ideal) f4) (arg3.view.read (Elt Ideal) f3 (ix1 ⟨0, Nat.one_pos⟩)) (fun r => arg21.view.read (Elt Ideal) f21 (ix2 ⟨n, hn⟩ r))) r ⟨128 * t.val + l.val, by omega⟩) ≤ z := by
  have hA0 := rowA_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25 h9 n hn ho
  have hM0 := rowM_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25 h9 n hn ho
  have hA1 := rowA_B_32 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25 h9 n hn ho
  have hM1 := rowM_B_32 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25 h9 n hn ho
  have hA2 := rowA_B_64 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25 h9 n hn ho
  have hM2 := rowM_B_64 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25 h9 n hn ho
  have hA3 := rowA_B_96 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25 h9 n hn ho
  have hM3 := rowM_B_96 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25 h9 n hn ho
  revert hA0 hM0 hA1 hM1 hA2 hM2 hA3 hM3
  generalize (AV (arg4.view.read (Elt Ideal) f4) (arg3.view.read (Elt Ideal) f3 (ix1 ⟨0, Nat.one_pos⟩)) (fun r => arg21.view.read (Elt Ideal) f21 (ix2 ⟨n, hn⟩ r)) (fun r => arg22.view.read (Elt Ideal) f22 (ix2 ⟨n, hn⟩ r))) = A
  generalize (MV (arg4.view.read (Elt Ideal) f4) (arg3.view.read (Elt Ideal) f3 (ix1 ⟨0, Nat.one_pos⟩)) (fun r => arg21.view.read (Elt Ideal) f21 (ix2 ⟨n, hn⟩ r))) = M
  intro hA0 hM0 hA1 hM1 hA2 hM2 hA3 hM3
  unfold runB.sl.v97 runB.sl.H18_4 runB.sl.r_6 runB.sl.r_8
  exact core_amx Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 _ _ _ _ _ _ _ _ _ _ _ _ _ _ _ _ _ _ _ _ f4 _ _ A M hA0 hM0 hA1 hM1 hA2 hM2 hA3 hM3 f10 _ _ _ _ _ r l z

/-- the table of largest magnitudes, -/
theorem out23_B (k : Fin 16) (l : Fin 128) :
    arg23.view.read (Elt Ideal) (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25).2.2.2.2.2.2.1 (ix2 k l) = if k.val = n then XV (arg4.view.read (Elt Ideal) f4) (arg19.view.read (Elt Ideal) f19) (arg20.view.read (Elt Ideal) f20) (AV (arg4.view.read (Elt Ideal) f4) (arg3.view.read (Elt Ideal) f3 (ix1 ⟨0, Nat.one_pos⟩)) (fun r => arg21.view.read (Elt Ideal) f21 (ix2 ⟨n, hn⟩ r)) (fun r => arg22.view.read (Elt Ideal) f22 (ix2 ⟨n, hn⟩ r))) (MV (arg4.view.read (Elt Ideal) f4) (arg3.view.read (Elt Ideal) f3 (ix1 ⟨0, Nat.one_pos⟩)) (fun r => arg21.view.read (Elt Ideal) f21 (ix2 ⟨n, hn⟩ r))) l * (arg2.view.read (Elt Ideal) f2 (ix1 ⟨0, Nat.one_pos⟩)) else arg23.view.read (Elt Ideal) f23 (ix2 k l) := by
  have h := put23 (arg4.view.read (Elt Ideal) f4) (arg19.view.read (Elt Ideal) f19) (arg20.view.read (Elt Ideal) f20) (AV (arg4.view.read (Elt Ideal) f4) (arg3.view.read (Elt Ideal) f3 (ix1 ⟨0, Nat.one_pos⟩)) (fun r => arg21.view.read (Elt Ideal) f21 (ix2 ⟨n, hn⟩ r)) (fun r => arg22.view.read (Elt Ideal) f22 (ix2 ⟨n, hn⟩ r))) (MV (arg4.view.read (Elt Ideal) f4) (arg3.view.read (Elt Ideal) f3 (ix1 ⟨0, Nat.one_pos⟩)) (fun r => arg21.view.read (Elt Ideal) f21 (ix2 ⟨n, hn⟩ r))) (arg2.view.readAt (Elt Ideal) (Rect.unit (s := S1) ![0] S1.size inb_S1_S1_0).toLoadRect f2 (Shape.Idx.first (by decide))) _
    (amx_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25 h9 n hn ho) arg23.view f23 (k0_off82 i) n ho (k0_off82_inb i) k l
  exact h.trans (by rw [one_load])

/-- of means -/
theorem out24_B (k : Fin 16) (l : Fin 128) :
    arg24.view.read (Elt Ideal) (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25).2.2.2.2.2.2.2.1 (ix2 k l) = if k.val = n then (MV (arg4.view.read (Elt Ideal) f4) (arg3.view.read (Elt Ideal) f3 (ix1 ⟨0, Nat.one_pos⟩)) (fun r => arg21.view.read (Elt Ideal) f21 (ix2 ⟨n, hn⟩ r))) l else arg24.view.read (Elt Ideal) f24 (ix2 k l) := by
  have h := put24 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 _ (load9B arg9 f9 h9 inb_S16x128_S16x128_0_0) f4 f14 (arg3.view.readAt (Elt Ideal) (Rect.unit (s := S1) ![0] S1.size inb_S1_S1_0).toLoadRect f3 (Shape.Idx.first (by decide))) f21 f24 (k0_off82 i) n hn ho inb_S128x128_S128x128_0_0 (k0_off82_inb i) (k0_off82_inb i) k l
  exact h.trans (by rw [one_load])

/-- and of reciprocal standard deviations. -/
theorem out25_B (k : Fin 16) (l : Fin 128) :
    arg25.view.read (Elt Ideal) (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25).2.2.2.2.2.2.2.2.1 (ix2 k l) = if k.val = n then (AV (arg4.view.read (Elt Ideal) f4) (arg3.view.read (Elt Ideal) f3 (ix1 ⟨0, Nat.one_pos⟩)) (fun r => arg21.view.read (Elt Ideal) f21 (ix2 ⟨n, hn⟩ r)) (fun r => arg22.view.read (Elt Ideal) f22 (ix2 ⟨n, hn⟩ r))) l else arg25.view.read (Elt Ideal) f25 (ix2 k l) := by
  have h := put25 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 _ (load9B arg9 f9 h9 inb_S16x128_S16x128_0_0) f4 f14 f15 (arg3.view.readAt (Elt Ideal) (Rect.unit (s := S1) ![0] S1.size inb_S1_S1_0).toLoadRect f3 (Shape.Idx.first (by decide))) f21 f22 f25 (k0_off82 i) n hn ho inb_S128x128_S128x128_0_0 inb_S128x128_S128x128_0_0 (k0_off82_inb i) (k0_off82_inb i) (k0_off82_inb i) k l
  exact h.trans (by rw [one_load])

end Cert.KernelIdeal.Body

end
-- ==== Proof.KernelIdealBodyC.lean ====
module

public import proofs.«01_k».proof.Proof.KernelIdealRunC
public import proofs.«01_k».proof.Proof.KernelIdealRows

@[expose] public section

set_option maxRecDepth 16384

noncomputable section

namespace Cert.KernelIdeal.Body

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable (c : Dev nD) (i : grid0.Coords) (arg2 : Memref sig .tc .smem S1 .f32) (harg2 : arg2.IsWhole) (arg3 : Memref sig .tc .smem S1 .f32) (harg3 : arg3.IsWhole) (arg4 : Memref sig .tc .vmem S1x128x10240 .bf16) (harg4 : arg4.IsWhole) (arg5 : Memref sig .tc .vmem S1x3x640 .f32) (harg5 : arg5.IsWhole) (arg6 : Memref sig .tc .vmem S1x3x640 .f32) (harg6 : arg6.IsWhole) (arg7 : Memref sig .tc .vmem S1x10240 .f32) (harg7 : arg7.IsWhole) (arg8 : Memref sig .tc .vmem S1x10240 .f32) (harg8 : arg8.IsWhole) (arg9 : Memref sig .tc .vmem S16x128 .bf16) (harg9 : arg9.IsWhole) (arg10 : Memref sig .tc .vmem S1x128x10240 .fp8e4m3) (harg10 : arg10.IsWhole) (arg11 : Memref sig .tc .vmem S3x640 .f32) (harg11 : arg11.IsWhole) (arg12 : Memref sig .tc .vmem S3x640 .f32) (harg12 : arg12.IsWhole) (arg13 : Memref sig .tc .vmem S3x640 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S1x10240 .f32) (harg19 : arg19.IsWhole) (arg20 : Memref sig .tc .vmem S1x10240 .f32) (harg20 : arg20.IsWhole) (arg21 : Memref sig .tc .vmem S16x128 .f32) (harg21 : arg21.IsWhole) (arg22 : Memref sig .tc .vmem S16x128 .f32) (harg22 : arg22.IsWhole) (arg23 : Memref sig .tc .vmem S16x128 .f32) (harg23 : arg23.IsWhole) (arg24 : Memref sig .tc .vmem S16x128 .f32) (harg24 : arg24.IsWhole) (arg25 : Memref sig .tc .vmem S16x128 .f32) (harg25 : arg25.IsWhole)

theorem load9C (f9 : BufTy.Contents (Elt Ideal) arg9.view.ty) (h9 : ∀ j, arg9.view.read (Elt Ideal) f9 j = (1 : EReal)) (inb) (j) :
    arg9.view.readAt (Elt Ideal) (Rect.unit (s := S16x128) ![0, 0] S16x128.size inb).toLoadRect f9 j = (1 : EReal) := by
  rw [whole_load _ _ _ off00]; exact h9 j

variable (hc1 : ¬ k0_cond1 i) (hc2 : k0_cond2 i = 1#1) (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (f17 : BufTy.Contents (Elt Ideal) arg17.view.ty) (f18 : BufTy.Contents (Elt Ideal) arg18.view.ty) (f19 : BufTy.Contents (Elt Ideal) arg19.view.ty) (f20 : BufTy.Contents (Elt Ideal) arg20.view.ty) (f21 : BufTy.Contents (Elt Ideal) arg21.view.ty) (f22 : BufTy.Contents (Elt Ideal) arg22.view.ty) (f23 : BufTy.Contents (Elt Ideal) arg23.view.ty) (f24 : BufTy.Contents (Elt Ideal) arg24.view.ty) (f25 : BufTy.Contents (Elt Ideal) arg25.view.ty)
    (h9 : ∀ j, arg9.view.read (Elt Ideal) f9 j = (1 : EReal)) (n : ℕ) (hn : n < 16) (ho : k0_off82 i = ![n, 0])
include hc1 hc2 f2 f3 f4 f5 f6 f7 f8 f9 f10 f11 f12 f13 f14 f15 f16 f17 f18 f19 f20 f21 f22 f23 f24 f25 h9 n hn ho

theorem rowA_C_0 (a : Fin 32) (l : Fin 128) :
    runC.sl.v65 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 f3 f4 f9 f14 f15 f21 f22 (ix2 a l) = (AV (arg4.view.read (Elt Ideal) f4) (arg3.view.read (Elt Ideal) f3 (ix1 ⟨0, Nat.one_pos⟩)) (fun r => arg21.view.read (Elt Ideal) f21 (ix2 ⟨n, hn⟩ r)) (fun r => arg22.view.read (Elt Ideal) f22 (ix2 ⟨n, hn⟩ r))) ⟨0 + a.val, by omega⟩ := by
  have h := rowA Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 _ (load9C arg9 f9 h9 inb_S16x128_S16x128_0_0) f4 f14 f15 (arg3.view.readAt (Elt Ideal) (Rect.unit (s := S1) ![0] S1.size inb_S1_S1_0).toLoadRect f3 (Shape.Idx.first (by decide))) f21 f22 (k0_off82 i) n hn ho inb_S128x128_S128x128_0_0 inb_S128x128_S128x128_0_0 (k0_off82_inb i) (k0_off82_inb i) inb_S128x128_S128x128_0_0 0 (by omega) inb_S128x128_S32x128_0_0 a l
  exact h.trans (by rw [one_load])

theorem rowM_C_0 (a : Fin 32) (l : Fin 128) :
    runC.sl.v66 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 f3 f4 f9 f14 f21 (ix2 a l) = (MV (arg4.view.read (Elt Ideal) f4) (arg3.view.read (Elt Ideal) f3 (ix1 ⟨0, Nat.one_pos⟩)) (fun r => arg21.view.read (Elt Ideal) f21 (ix2 ⟨n, hn⟩ r))) ⟨0 + a.val, by omega⟩ := by
  have h := rowM Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 _ (load9C arg9 f9 h9 inb_S16x128_S16x128_0_0) f4 f14 (arg3.view.readAt (Elt Ideal) (Rect.unit (s := S1) ![0] S1.size inb_S1_S1_0).toLoadRect f3 (Shape.Idx.first (by decide))) f21 (k0_off82 i) n hn ho inb_S128x128_S128x128_0_0 (k0_off82_inb i) inb_S128x128_S128x128_0_0 0 (by omega) inb_S128x128_S32x128_0_0 a l
  exact h.trans (by rw [one_load])

theorem rowA_C_32 (a : Fin 32) (l : Fin 128) :
    runC.sl.v73 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 f3 f4 f9 f14 f15 f21 f22 (ix2 a l) = (AV (arg4.view.read (Elt Ideal) f4) (arg3.view.read (Elt Ideal) f3 (ix1 ⟨0, Nat.one_pos⟩)) (fun r => arg21.view.read (Elt Ideal) f21 (ix2 ⟨n, hn⟩ r)) (fun r => arg22.view.read (Elt Ideal) f22 (ix2 ⟨n, hn⟩ r))) ⟨32 + a.val, by omega⟩ := by
  have h := rowA Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 _ (load9C arg9 f9 h9 inb_S16x128_S16x128_0_0) f4 f14 f15 (arg3.view.readAt (Elt Ideal) (Rect.unit (s := S1) ![0] S1.size inb_S1_S1_0).toLoadRect f3 (Shape.Idx.first (by decide))) f21 f22 (k0_off82 i) n hn ho inb_S128x128_S128x128_0_0 inb_S128x128_S128x128_0_0 (k0_off82_inb i) (k0_off82_inb i) inb_S128x128_S128x128_0_0 32 (by omega) inb_S128x128_S32x128_32_0 a l
  exact h.trans (by rw [one_load])

theorem rowM_C_32 (a : Fin 32) (l : Fin 128) :
    runC.sl.v74 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 f3 f4 f9 f14 f21 (ix2 a l) = (MV (arg4.view.read (Elt Ideal) f4) (arg3.view.read (Elt Ideal) f3 (ix1 ⟨0, Nat.one_pos⟩)) (fun r => arg21.view.read (Elt Ideal) f21 (ix2 ⟨n, hn⟩ r))) ⟨32 + a.val, by omega⟩ := by
  have h := rowM Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 _ (load9C arg9 f9 h9 inb_S16x128_S16x128_0_0) f4 f14 (arg3.view.readAt (Elt Ideal) (Rect.unit (s := S1) ![0] S1.size inb_S1_S1_0).toLoadRect f3 (Shape.Idx.first (by decide))) f21 (k0_off82 i) n hn ho inb_S128x128_S128x128_0_0 (k0_off82_inb i) inb_S128x128_S128x128_0_0 32 (by omega) inb_S128x128_S32x128_32_0 a l
  exact h.trans (by rw [one_load])

theorem rowA_C_64 (a : Fin 32) (l : Fin 128) :
    runC.sl.v81 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 f3 f4 f9 f14 f15 f21 f22 (ix2 a l) = (AV (arg4.view.read (Elt Ideal) f4) (arg3.view.read (Elt Ideal) f3 (ix1 ⟨0, Nat.one_pos⟩)) (fun r => arg21.view.read (Elt Ideal) f21 (ix2 ⟨n, hn⟩ r)) (fun r => arg22.view.read (Elt Ideal) f22 (ix2 ⟨n, hn⟩ r))) ⟨64 + a.val, by omega⟩ := by
  have h := rowA Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 _ (load9C arg9 f9 h9 inb_S16x128_S16x128_0_0) f4 f14 f15 (arg3.view.readAt (Elt Ideal) (Rect.unit (s := S1) ![0] S1.size inb_S1_S1_0).toLoadRect f3 (Shape.Idx.first (by decide))) f21 f22 (k0_off82 i) n hn ho inb_S128x128_S128x128_0_0 inb_S128x128_S128x128_0_0 (k0_off82_inb i) (k0_off82_inb i) inb_S128x128_S128x128_0_0 64 (by omega) inb_S128x128_S32x128_64_0 a l
  exact h.trans (by rw [one_load])

theorem rowM_C_64 (a : Fin 32) (l : Fin 128) :
    runC.sl.v82 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 f3 f4 f9 f14 f21 (ix2 a l) = (MV (arg4.view.read (Elt Ideal) f4) (arg3.view.read (Elt Ideal) f3 (ix1 ⟨0, Nat.one_pos⟩)) (fun r => arg21.view.read (Elt Ideal) f21 (ix2 ⟨n, hn⟩ r))) ⟨64 + a.val, by omega⟩ := by
  have h := rowM Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 _ (load9C arg9 f9 h9 inb_S16x128_S16x128_0_0) f4 f14 (arg3.view.readAt (Elt Ideal) (Rect.unit (s := S1) ![0] S1.size inb_S1_S1_0).toLoadRect f3 (Shape.Idx.first (by decide))) f21 (k0_off82 i) n hn ho inb_S128x128_S128x128_0_0 (k0_off82_inb i) inb_S128x128_S128x128_0_0 64 (by omega) inb_S128x128_S32x128_64_0 a l
  exact h.trans (by rw [one_load])

theorem rowA_C_96 (a : Fin 32) (l : Fin 128) :
    runC.sl.v89 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 f3 f4 f9 f14 f15 f21 f22 (ix2 a l) = (AV (arg4.view.read (Elt Ideal) f4) (arg3.view.read (Elt Ideal) f3 (ix1 ⟨0, Nat.one_pos⟩)) (fun r => arg21.view.read (Elt Ideal) f21 (ix2 ⟨n, hn⟩ r)) (fun r => arg22.view.read (Elt Ideal) f22 (ix2 ⟨n, hn⟩ r))) ⟨96 + a.val, by omega⟩ := by
  have h := rowA Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 _ (load9C arg9 f9 h9 inb_S16x128_S16x128_0_0) f4 f14 f15 (arg3.view.readAt (Elt Ideal) (Rect.unit (s := S1) ![0] S1.size inb_S1_S1_0).toLoadRect f3 (Shape.Idx.first (by decide))) f21 f22 (k0_off82 i) n hn ho inb_S128x128_S128x128_0_0 inb_S128x128_S128x128_0_0 (k0_off82_inb i) (k0_off82_inb i) inb_S128x128_S128x128_0_0 96 (by omega) inb_S128x128_S32x128_96_0 a l
  exact h.trans (by rw [one_load])

theorem rowM_C_96 (a : Fin 32) (l : Fin 128) :
    runC.sl.v90 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 f3 f4 f9 f14 f21 (ix2 a l) = (MV (arg4.view.read (Elt Ideal) f4) (arg3.view.read (Elt Ideal) f3 (ix1 ⟨0, Nat.one_pos⟩)) (fun r => arg21.view.read (Elt Ideal) f21 (ix2 ⟨n, hn⟩ r))) ⟨96 + a.val, by omega⟩ := by
  have h := rowM Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 _ (load9C arg9 f9 h9 inb_S16x128_S16x128_0_0) f4 f14 (arg3.view.readAt (Elt Ideal) (Rect.unit (s := S1) ![0] S1.size inb_S1_S1_0).toLoadRect f3 (Shape.Idx.first (by decide))) f21 (k0_off82 i) n hn ho inb_S128x128_S128x128_0_0 (k0_off82_inb i) inb_S128x128_S128x128_0_0 96 (by omega) inb_S128x128_S32x128_96_0 a l
  exact h.trans (by rw [one_load])

/-- The block of the result after the pass, -/
theorem out10_C :
    arg10.view.read (Elt Ideal) (runC (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25).1 = YV (arg4.view.read (Elt Ideal) f4) (arg19.view.read (Elt Ideal) f19) (arg20.view.read (Elt Ideal) f20) (AV (arg4.view.read (Elt Ideal) f4) (arg3.view.read (Elt Ideal) f3 (ix1 ⟨0, Nat.one_pos⟩)) (fun r => arg21.view.read (Elt Ideal) f21 (ix2 ⟨n, hn⟩ r)) (fun r => arg22.view.read (Elt Ideal) f22 (ix2 ⟨n, hn⟩ r))) (MV (arg4.view.read (Elt Ideal) f4) (arg3.view.read (Elt Ideal) f3 (ix1 ⟨0, Nat.one_pos⟩)) (fun r => arg21.view.read (Elt Ideal) f21 (ix2 ⟨n, hn⟩ r))) := by
  have hA0 := rowA_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25 h9 n hn ho
  have hM0 := rowM_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25 h9 n hn ho
  have hA1 := rowA_C_32 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25 h9 n hn ho
  have hM1 := rowM_C_32 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25 h9 n hn ho
  have hA2 := rowA_C_64 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25 h9 n hn ho
  have hM2 := rowM_C_64 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25 h9 n hn ho
  have hA3 := rowA_C_96 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25 h9 n hn ho
  have hM3 := rowM_C_96 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25 h9 n hn ho
  revert hA0 hM0 hA1 hM1 hA2 hM2 hA3 hM3
  generalize (AV (arg4.view.read (Elt Ideal) f4) (arg3.view.read (Elt Ideal) f3 (ix1 ⟨0, Nat.one_pos⟩)) (fun r => arg21.view.read (Elt Ideal) f21 (ix2 ⟨n, hn⟩ r)) (fun r => arg22.view.read (Elt Ideal) f22 (ix2 ⟨n, hn⟩ r))) = A
  generalize (MV (arg4.view.read (Elt Ideal) f4) (arg3.view.read (Elt Ideal) f3 (ix1 ⟨0, Nat.one_pos⟩)) (fun r => arg21.view.read (Elt Ideal) f21 (ix2 ⟨n, hn⟩ r))) = M
  intro hA0 hM0 hA1 hM1 hA2 hM2 hA3 hM3
  unfold runC
  dsimp only
  exact core_y Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 _ _ _ _ _ _ _ _ _ _ _ _ _ _ _ _ _ _ _ _ f4 _ _ A M hA0 hM0 hA1 hM1 hA2 hM2 hA3 hM3 f10 _ _ _ _

theorem amx_C (r l : Fin 128) (z : EReal) :
    runC.sl.v97 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 f3 f4 f9 f14 f15 f18 f19 f20 f21 f22 (ix2 r l) ≤ z ↔ 0 ≤ z ∧ ∀ t : Fin 80, Spec.ab (NV (arg4.view.read (Elt Ideal) f4) (arg19.view.read (Elt Ideal) f19) (arg20.view.read (Elt Ideal) f20) (AV (arg4.view.read (Elt Ideal) f4) (arg3.view.read (Elt Ideal) f3 (ix1 ⟨0, Nat.one_pos⟩)) (fun r => arg21.view.read (Elt Ideal) f21 (ix2 ⟨n, hn⟩ r)) (fun r => arg22.view.read (Elt Ideal) f22 (ix2 ⟨n, hn⟩ r))) (MV (arg4.view.read (Elt Ideal) f4) (arg3.view.read (Elt Ideal) f3 (ix1 ⟨0, Nat.one_pos⟩)) (fun r => arg21.view.read (Elt Ideal) f21 (ix2 ⟨n, hn⟩ r))) r ⟨128 * t.val + l.val, by omega⟩) ≤ z := by
  have hA0 := rowA_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25 h9 n hn ho
  have hM0 := rowM_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25 h9 n hn ho
  have hA1 := rowA_C_32 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25 h9 n hn ho
  have hM1 := rowM_C_32 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25 h9 n hn ho
  have hA2 := rowA_C_64 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25 h9 n hn ho
  have hM2 := rowM_C_64 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25 h9 n hn ho
  have hA3 := rowA_C_96 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25 h9 n hn ho
  have hM3 := rowM_C_96 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25 h9 n hn ho
  revert hA0 hM0 hA1 hM1 hA2 hM2 hA3 hM3
  generalize (AV (arg4.view.read (Elt Ideal) f4) (arg3.view.read (Elt Ideal) f3 (ix1 ⟨0, Nat.one_pos⟩)) (fun r => arg21.view.read (Elt Ideal) f21 (ix2 ⟨n, hn⟩ r)) (fun r => arg22.view.read (Elt Ideal) f22 (ix2 ⟨n, hn⟩ r))) = A
  generalize (MV (arg4.view.read (Elt Ideal) f4) (arg3.view.read (Elt Ideal) f3 (ix1 ⟨0, Nat.one_pos⟩)) (fun r => arg21.view.read (Elt Ideal) f21 (ix2 ⟨n, hn⟩ r))) = M
  intro hA0 hM0 hA1 hM1 hA2 hM2 hA3 hM3
  unfold runC.sl.v97 runC.sl.H18_4 runC.sl.r_6 runC.sl.r_8
  exact core_amx Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 _ _ _ _ _ _ _ _ _ _ _ _ _ _ _ _ _ _ _ _ f4 _ _ A M hA0 hM0 hA1 hM1 hA2 hM2 hA3 hM3 f10 _ _ _ _ _ r l z

/-- the table of largest magnitudes, -/
theorem out23_C (k : Fin 16) (l : Fin 128) :
    arg23.view.read (Elt Ideal) (runC (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25).2.2.2.2.2.2.2.2.2.1 (ix2 k l) = if k.val = n then XV (arg4.view.read (Elt Ideal) f4) (arg19.view.read (Elt Ideal) f19) (arg20.view.read (Elt Ideal) f20) (AV (arg4.view.read (Elt Ideal) f4) (arg3.view.read (Elt Ideal) f3 (ix1 ⟨0, Nat.one_pos⟩)) (fun r => arg21.view.read (Elt Ideal) f21 (ix2 ⟨n, hn⟩ r)) (fun r => arg22.view.read (Elt Ideal) f22 (ix2 ⟨n, hn⟩ r))) (MV (arg4.view.read (Elt Ideal) f4) (arg3.view.read (Elt Ideal) f3 (ix1 ⟨0, Nat.one_pos⟩)) (fun r => arg21.view.read (Elt Ideal) f21 (ix2 ⟨n, hn⟩ r))) l * (arg2.view.read (Elt Ideal) f2 (ix1 ⟨0, Nat.one_pos⟩)) else arg23.view.read (Elt Ideal) f23 (ix2 k l) := by
  have h := put23 (arg4.view.read (Elt Ideal) f4) (arg19.view.read (Elt Ideal) f19) (arg20.view.read (Elt Ideal) f20) (AV (arg4.view.read (Elt Ideal) f4) (arg3.view.read (Elt Ideal) f3 (ix1 ⟨0, Nat.one_pos⟩)) (fun r => arg21.view.read (Elt Ideal) f21 (ix2 ⟨n, hn⟩ r)) (fun r => arg22.view.read (Elt Ideal) f22 (ix2 ⟨n, hn⟩ r))) (MV (arg4.view.read (Elt Ideal) f4) (arg3.view.read (Elt Ideal) f3 (ix1 ⟨0, Nat.one_pos⟩)) (fun r => arg21.view.read (Elt Ideal) f21 (ix2 ⟨n, hn⟩ r))) (arg2.view.readAt (Elt Ideal) (Rect.unit (s := S1) ![0] S1.size inb_S1_S1_0).toLoadRect f2 (Shape.Idx.first (by decide))) _
    (amx_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25 h9 n hn ho) arg23.view f23 (k0_off82 i) n ho (k0_off82_inb i) k l
  exact h.trans (by rw [one_load])

/-- of means -/
theorem out24_C (k : Fin 16) (l : Fin 128) :
    arg24.view.read (Elt Ideal) (runC (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25).2.2.2.2.2.2.2.2.2.2.1 (ix2 k l) = if k.val = n then (MV (arg4.view.read (Elt Ideal) f4) (arg3.view.read (Elt Ideal) f3 (ix1 ⟨0, Nat.one_pos⟩)) (fun r => arg21.view.read (Elt Ideal) f21 (ix2 ⟨n, hn⟩ r))) l else arg24.view.read (Elt Ideal) f24 (ix2 k l) := by
  have h := put24 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 _ (load9C arg9 f9 h9 inb_S16x128_S16x128_0_0) f4 f14 (arg3.view.readAt (Elt Ideal) (Rect.unit (s := S1) ![0] S1.size inb_S1_S1_0).toLoadRect f3 (Shape.Idx.first (by decide))) f21 f24 (k0_off82 i) n hn ho inb_S128x128_S128x128_0_0 (k0_off82_inb i) (k0_off82_inb i) k l
  exact h.trans (by rw [one_load])

/-- and of reciprocal standard deviations. -/
theorem out25_C (k : Fin 16) (l : Fin 128) :
    arg25.view.read (Elt Ideal) (runC (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25).2.2.2.2.2.2.2.2.2.2.2.1 (ix2 k l) = if k.val = n then (AV (arg4.view.read (Elt Ideal) f4) (arg3.view.read (Elt Ideal) f3 (ix1 ⟨0, Nat.one_pos⟩)) (fun r => arg21.view.read (Elt Ideal) f21 (ix2 ⟨n, hn⟩ r)) (fun r => arg22.view.read (Elt Ideal) f22 (ix2 ⟨n, hn⟩ r))) l else arg25.view.read (Elt Ideal) f25 (ix2 k l) := by
  have h := put25 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 _ (load9C arg9 f9 h9 inb_S16x128_S16x128_0_0) f4 f14 f15 (arg3.view.readAt (Elt Ideal) (Rect.unit (s := S1) ![0] S1.size inb_S1_S1_0).toLoadRect f3 (Shape.Idx.first (by decide))) f21 f22 f25 (k0_off82 i) n hn ho inb_S128x128_S128x128_0_0 inb_S128x128_S128x128_0_0 (k0_off82_inb i) (k0_off82_inb i) (k0_off82_inb i) k l
  exact h.trans (by rw [one_load])

theorem out11_C (r : Fin 3) (l : Fin 640) :
    arg11.view.read (Elt Ideal) (runC (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25).2.1 (ix2 r l) = TG (arg23.view.read (Elt Ideal) (runC (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25).2.2.2.2.2.2.2.2.2.1) (ix2 r l) := by
  unfold runC
  dsimp only
  exact tabT arg11.view f11 arg23.view _ _ _ _ _ _ _ _ _ _ _ _ _ _ _ _ _ _ _ _ _ _ _ _ _ _ _ _ _ _ _ r l

theorem out12_C (r : Fin 3) (l : Fin 640) :
    arg12.view.read (Elt Ideal) (runC (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25).2.2.1 (ix2 r l) = TG (arg24.view.read (Elt Ideal) (runC (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25).2.2.2.2.2.2.2.2.2.2.1) (ix2 r l) := by
  unfold runC
  dsimp only
  exact tabT arg12.view f12 arg24.view _ _ _ _ _ _ _ _ _ _ _ _ _ _ _ _ _ _ _ _ _ _ _ _ _ _ _ _ _ _ _ r l

theorem out13_C (r : Fin 3) (l : Fin 640) :
    arg13.view.read (Elt Ideal) (runC (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25).2.2.2.1 (ix2 r l) = TG (arg25.view.read (Elt Ideal) (runC (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25).2.2.2.2.2.2.2.2.2.2.2.1) (ix2 r l) := by
  unfold runC
  dsimp only
  exact tabT arg13.view f13 arg25.view _ _ _ _ _ _ _ _ _ _ _ _ _ _ _ _ _ _ _ _ _ _ _ _ _ _ _ _ _ _ _ r l

end Cert.KernelIdeal.Body

end
-- ==== Proof.KernelIdealStep.lean ====
/- One pass of the body: the tables it keeps from point to point, and the block it writes. -/
module

public import proofs.«01_k».proof.Proof.KernelIdealBodyA
public import proofs.«01_k».proof.Proof.KernelIdealBodyB
public import proofs.«01_k».proof.Proof.KernelIdealBodyC

@[expose] public section

set_option maxRecDepth 16384

noncomputable section

namespace Cert.KernelIdeal.Body

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-- A table of 16 rows and 128 lanes. -/
abbrev Tab := Fin 16 → Fin 128 → EReal

/-- What the buffers hold before point `n`: after the first point the scaled weight and bias and the gathered peer statistics;
    and the rows `k < n` of the three result tables. -/
def Inv (gg bb : Vec Ideal S1x10240 .f32) (WT QT AT MT RT : Tab) (n : ℕ) (g b : Vec Ideal S1x10240 .f32) (w q a u v : Vec Ideal S16x128 .f32) : Prop :=
  (0 < n → g = gg ∧ b = bb ∧ (∀ (k : Fin 16) (l : Fin 128), k.val < 15 → w (ix2 k l) = WT k l) ∧ ∀ (k : Fin 16) (l : Fin 128), k.val < 15 → q (ix2 k l) = QT k l)
  ∧ ∀ (k : Fin 16) (l : Fin 128), k.val < n → a (ix2 k l) = AT k l ∧ u (ix2 k l) = MT k l ∧ v (ix2 k l) = RT k l

/-- The scratch buffers, the carried ones at contents with the property. -/
def scrI (c : Dev nD) (arg14 : Memref sig .tc .vmem S128x128 .f32) (arg15 : Memref sig .tc .vmem S128x128 .f32) (arg16 : Memref sig .tc .vmem S128x128 .f32) (arg17 : Memref sig .tc .vmem S128x128 .f32) (arg18 : Memref sig .tc .vmem S128x128 .f32) (arg19 : Memref sig .tc .vmem S1x10240 .f32) (arg20 : Memref sig .tc .vmem S1x10240 .f32) (arg21 : Memref sig .tc .vmem S16x128 .f32) (arg22 : Memref sig .tc .vmem S16x128 .f32) (arg23 : Memref sig .tc .vmem S16x128 .f32) (arg24 : Memref sig .tc .vmem S16x128 .f32) (arg25 : Memref sig .tc .vmem S16x128 .f32)
    (P : Vec Ideal S1x10240 .f32 → Vec Ideal S1x10240 .f32 → Vec Ideal S16x128 .f32 → Vec Ideal S16x128 .f32 → Vec Ideal S16x128 .f32 → Vec Ideal S16x128 .f32 → Vec Ideal S16x128 .f32 → Prop) : sProp (MT nD τ sig Unit (Elt Ideal) ℕ (UR sig nD τ) ℕ) :=
  iprop(∃ g b w q a u v, (∃ f, arg14.view.loc (c : Thread nD τ) ↦[arg14.view.set]{fullShare} f) ∗ (∃ f, arg15.view.loc (c : Thread nD τ) ↦[arg15.view.set]{fullShare} f) ∗ (∃ f, arg16.view.loc (c : Thread nD τ) ↦[arg16.view.set]{fullShare} f) ∗ (∃ f, arg17.view.loc (c : Thread nD τ) ↦[arg17.view.set]{fullShare} f) ∗ (∃ f, arg18.view.loc (c : Thread nD τ) ↦[arg18.view.set]{fullShare} f)
    ∗ owns (c : Thread nD τ) arg19 fullShare g ∗ owns (c : Thread nD τ) arg20 fullShare b ∗ owns (c : Thread nD τ) arg21 fullShare w ∗ owns (c : Thread nD τ) arg22 fullShare q ∗ owns (c : Thread nD τ) arg23 fullShare a ∗ owns (c : Thread nD τ) arg24 fullShare u ∗ owns (c : Thread nD τ) arg25 fullShare v ∗ ⌜P g b w q a u v⌝)

section pure
variable {gg bb : Vec Ideal S1x10240 .f32} {WT QT AT MT RT : Tab} {n : ℕ} {g b : Vec Ideal S1x10240 .f32} {w q a u v a' u' v' : Vec Ideal S16x128 .f32}
variable (X : Vec Ideal S1x128x10240 .bf16) (pc ys : EReal) (hn : n < 16) (h15 : n < 15)
variable (hAT : ∀ l, AT ⟨n, hn⟩ l = XV X gg bb (AV X pc (WT ⟨n, hn⟩) (QT ⟨n, hn⟩)) (MV X pc (WT ⟨n, hn⟩)) l * ys)
  (hMT : ∀ l, MT ⟨n, hn⟩ l = MV X pc (WT ⟨n, hn⟩) l) (hRT : ∀ l, RT ⟨n, hn⟩ l = AV X pc (WT ⟨n, hn⟩) (QT ⟨n, hn⟩) l)

/-- The three tables gain row `n`. -/
theorem rows_next (h : ∀ (k : Fin 16) (l : Fin 128), k.val < n → a (ix2 k l) = AT k l ∧ u (ix2 k l) = MT k l ∧ v (ix2 k l) = RT k l)
    (ha : ∀ k l, a' (ix2 k l) = if k.val = n then AT ⟨n, hn⟩ l else a (ix2 k l)) (hu : ∀ k l, u' (ix2 k l) = if k.val = n then MT ⟨n, hn⟩ l else u (ix2 k l))
    (hv : ∀ k l, v' (ix2 k l) = if k.val = n then RT ⟨n, hn⟩ l else v (ix2 k l)) (k : Fin 16) (l : Fin 128) (hk : k.val < n + 1) :
    a' (ix2 k l) = AT k l ∧ u' (ix2 k l) = MT k l ∧ v' (ix2 k l) = RT k l := by
  rw [ha, hu, hv]
  by_cases e : k.val = n
  · have : k = ⟨n, hn⟩ := Fin.ext e
    subst this
    simp
  · simp only [if_neg e]
    exact h k l (by omega)

include hAT hMT hRT h15 in
theorem inv_step (h0 : 0 < n) (hi : Inv gg bb WT QT AT MT RT n g b w q a u v)
    (ha : ∀ k l, a' (ix2 k l) = if k.val = n then XV X g b (AV X pc (fun r => w (ix2 ⟨n, hn⟩ r)) (fun r => q (ix2 ⟨n, hn⟩ r))) (MV X pc (fun r => w (ix2 ⟨n, hn⟩ r))) l * ys else a (ix2 k l))
    (hu : ∀ k l, u' (ix2 k l) = if k.val = n then MV X pc (fun r => w (ix2 ⟨n, hn⟩ r)) l else u (ix2 k l))
    (hv : ∀ k l, v' (ix2 k l) = if k.val = n then AV X pc (fun r => w (ix2 ⟨n, hn⟩ r)) (fun r => q (ix2 ⟨n, hn⟩ r)) l else v (ix2 k l)) :
    Inv gg bb WT QT AT MT RT (n + 1) g b w q a' u' v' := by
  obtain ⟨h1, h2⟩ := hi
  obtain ⟨rfl, rfl, hw, hq⟩ := h1 h0
  rw [show (fun r => w (ix2 ⟨n, hn⟩ r)) = WT ⟨n, hn⟩ from funext fun r => hw _ _ h15, show (fun r => q (ix2 ⟨n, hn⟩ r)) = QT ⟨n, hn⟩ from funext fun r => hq _ _ h15] at *
  exact ⟨fun _ => ⟨rfl, rfl, hw, hq⟩, rows_next hn h2 (fun k l => by rw [ha, hAT]) (fun k l => by rw [hu, hMT]) (fun k l => by rw [hv, hRT])⟩

include hAT hMT hRT in
theorem Inv_first (hn0 : n = 0) (g0 b0 : Vec Ideal S1x10240 .f32) (W Q : Fin 128 → EReal) (hg0 : gg = g0) (hb0 : bb = b0) (hW : W = WT ⟨n, hn⟩) (hQ : Q = QT ⟨n, hn⟩)
    (hg : g = g0) (hb : b = b0) (hw : ∀ (k : Fin 16) (l : Fin 128), k.val < 15 → w (ix2 k l) = WT k l) (hq : ∀ (k : Fin 16) (l : Fin 128), k.val < 15 → q (ix2 k l) = QT k l)
    (ha : ∀ k l, a' (ix2 k l) = if k.val = n then XV X g0 b0 (AV X pc W Q) (MV X pc W) l * ys else a (ix2 k l))
    (hu : ∀ k l, u' (ix2 k l) = if k.val = n then MV X pc W l else u (ix2 k l))
    (hv : ∀ k l, v' (ix2 k l) = if k.val = n then AV X pc W Q l else v (ix2 k l)) :
    Inv gg bb WT QT AT MT RT (n + 1) g b w q a' u' v' := by
  subst hg0 hb0 hW hQ
  exact ⟨fun _ => ⟨hg, hb, hw, hq⟩, rows_next (a := a) (u := u) (v := v) hn (fun k l h => absurd h (by omega)) (fun k l => by rw [ha, hAT]) (fun k l => by rw [hu, hMT]) (fun k l => by rw [hv, hRT])⟩

theorem y_first (g0 b0 : Vec Ideal S1x10240 .f32) (W Q : Fin 128 → EReal) (hg0 : gg = g0) (hb0 : bb = b0) (hW : W = WT ⟨n, hn⟩) (hQ : Q = QT ⟨n, hn⟩) :
    YV X g0 b0 (AV X pc W Q) (MV X pc W) = YV X gg bb (AV X pc (WT ⟨n, hn⟩) (QT ⟨n, hn⟩)) (MV X pc (WT ⟨n, hn⟩)) := by
  subst hg0 hb0 hW hQ
  rfl

include h15 in
theorem y_step (h0 : 0 < n) (hi : Inv gg bb WT QT AT MT RT n g b w q a u v) :
    YV X g b (AV X pc (fun r => w (ix2 ⟨n, hn⟩ r)) (fun r => q (ix2 ⟨n, hn⟩ r))) (MV X pc (fun r => w (ix2 ⟨n, hn⟩ r)))
      = YV X gg bb (AV X pc (WT ⟨n, hn⟩) (QT ⟨n, hn⟩)) (MV X pc (WT ⟨n, hn⟩)) := by
  obtain ⟨rfl, rfl, hw, hq⟩ := hi.1 h0
  rw [show (fun r => w (ix2 ⟨n, hn⟩ r)) = WT ⟨n, hn⟩ from funext fun r => hw _ _ h15, show (fun r => q (ix2 ⟨n, hn⟩ r)) = QT ⟨n, hn⟩ from funext fun r => hq _ _ h15]

/-- A result read off the table after the last point. -/
theorem tab_read (Z : Tab) (z : Vec Ideal S16x128 .f32) (y : Vec Ideal S3x640 .f32) (h : ∀ (k : Fin 16) (l : Fin 128), k.val < 15 → z (ix2 k l) = Z k l)
    (hy : ∀ (r : Fin 3) (l : Fin 640), y (ix2 r l) = TG z (ix2 r l)) : y = TG (fun j => Z (j 0) (j 1)) := by
  funext j
  rw [eq_ix2 j]
  refine (hy _ _).trans ?_
  unfold TG
  have h0 : (j 0).val < 3 := (j 0).isLt
  have h1 : (j 1).val < 640 := (j 1).isLt
  have key : ∀ A B : ℕ, A < 3 → B < 640 → (5 * A + B / 128) % 16 < 15 := by
    intro A B hA hB
    have : B / 128 ≤ 4 := by omega
    rw [Nat.mod_eq_of_lt (by omega)]; omega
  exact h _ _ (key _ _ h0 h1)

end pure

variable (c : Dev nD) (i : grid0.Coords) (arg2 : Memref sig .tc .smem S1 .f32) (harg2 : arg2.IsWhole) (arg3 : Memref sig .tc .smem S1 .f32) (harg3 : arg3.IsWhole) (arg4 : Memref sig .tc .vmem S1x128x10240 .bf16) (harg4 : arg4.IsWhole) (arg5 : Memref sig .tc .vmem S1x3x640 .f32) (harg5 : arg5.IsWhole) (arg6 : Memref sig .tc .vmem S1x3x640 .f32) (harg6 : arg6.IsWhole) (arg7 : Memref sig .tc .vmem S1x10240 .f32) (harg7 : arg7.IsWhole) (arg8 : Memref sig .tc .vmem S1x10240 .f32) (harg8 : arg8.IsWhole) (arg9 : Memref sig .tc .vmem S16x128 .bf16) (harg9 : arg9.IsWhole) (arg10 : Memref sig .tc .vmem S1x128x10240 .fp8e4m3) (harg10 : arg10.IsWhole) (arg11 : Memref sig .tc .vmem S3x640 .f32) (harg11 : arg11.IsWhole) (arg12 : Memref sig .tc .vmem S3x640 .f32) (harg12 : arg12.IsWhole) (arg13 : Memref sig .tc .vmem S3x640 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S1x10240 .f32) (harg19 : arg19.IsWhole) (arg20 : Memref sig .tc .vmem S1x10240 .f32) (harg20 : arg20.IsWhole) (arg21 : Memref sig .tc .vmem S16x128 .f32) (harg21 : arg21.IsWhole) (arg22 : Memref sig .tc .vmem S16x128 .f32) (harg22 : arg22.IsWhole) (arg23 : Memref sig .tc .vmem S16x128 .f32) (harg23 : arg23.IsWhole) (arg24 : Memref sig .tc .vmem S16x128 .f32) (harg24 : arg24.IsWhole) (arg25 : Memref sig .tc .vmem S16x128 .f32) (harg25 : arg25.IsWhole)
variable (x2 : Vec Ideal S1 .f32) (x3 : Vec Ideal S1 .f32) (x4 : Vec Ideal S1x128x10240 .bf16) (x5 : Vec Ideal S1x3x640 .f32) (x6 : Vec Ideal S1x3x640 .f32) (x7 : Vec Ideal S1x10240 .f32) (x8 : Vec Ideal S1x10240 .f32) (x9 : Vec Ideal S16x128 .bf16)
  (h9 : ∀ j, x9 j = (1 : EReal)) (n : ℕ) (hn : n < 16) (ho : k0_off82 i = ![n, 0]) (h15 : n < 15)
  (gg bb : Vec Ideal S1x10240 .f32) (WT QT AT MT RT : Tab)
  (hAT : ∀ l, AT ⟨n, hn⟩ l = XV x4 gg bb (AV x4 (x3 (ix1 ⟨0, Nat.one_pos⟩)) (WT ⟨n, hn⟩) (QT ⟨n, hn⟩)) (MV x4 (x3 (ix1 ⟨0, Nat.one_pos⟩)) (WT ⟨n, hn⟩)) l * x2 (ix1 ⟨0, Nat.one_pos⟩))
  (hMT : ∀ l, MT ⟨n, hn⟩ l = MV x4 (x3 (ix1 ⟨0, Nat.one_pos⟩)) (WT ⟨n, hn⟩) l) (hRT : ∀ l, RT ⟨n, hn⟩ l = AV x4 (x3 (ix1 ⟨0, Nat.one_pos⟩)) (WT ⟨n, hn⟩) (QT ⟨n, hn⟩) l)
  (d11 d12 d13 : Vec Ideal S3x640 .f32) (E : Set ℕ) (K : PUnit → sProp (Idealize.ShloMosaic.MT nD τ sig Unit (Elt Ideal) ℕ (UR sig nD τ) ℕ))

set_option maxHeartbeats 1600000 in
include h9 ho h15 hAT hMT hRT in
theorem stepA (hc1 : k0_cond1 i) (hc2 : ¬ k0_cond2 i = 1#1)
    (hn0 : n = 0) (hgg : gg = fun j => x7 j * Ideal.div 1 (x2 (ix1 ⟨0, Nat.one_pos⟩))) (hbb : bb = fun j => x8 j * Ideal.div 1 (x2 (ix1 ⟨0, Nat.one_pos⟩))) (hWT : ∀ k l, WT k l = PG x5 (ix2 k l)) (hQT : ∀ k l, QT k l = PG x6 (ix2 k l)) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ owns (c : Thread nD τ) arg11 fullShare d11 ∗ owns (c : Thread nD τ) arg12 fullShare d12 ∗ owns (c : Thread nD τ) arg13 fullShare d13 ∗ scrI c arg14 arg15 arg16 arg17 arg18 arg19 arg20 arg21 arg22 arg23 arg24 arg25 (Inv gg bb WT QT AT MT RT n)
      ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (YV x4 gg bb (AV x4 (x3 (ix1 ⟨0, Nat.one_pos⟩)) (WT ⟨n, hn⟩) (QT ⟨n, hn⟩)) (MV x4 (x3 (ix1 ⟨0, Nat.one_pos⟩)) (WT ⟨n, hn⟩))) ∗ owns (c : Thread nD τ) arg11 fullShare d11 ∗ owns (c : Thread nD τ) arg12 fullShare d12 ∗ owns (c : Thread nD τ) arg13 fullShare d13 ∗ scrI c arg14 arg15 arg16 arg17 arg18 arg19 arg20 arg21 arg22 arg23 arg24 arg25 (Inv gg bb WT QT AT MT RT (n + 1))) -∗ K PUnit.unit))
      ⊢ wp frame (wpE (defs₀ (F := Ideal)) Variants.none c none) E (cc0_tp_layernorm i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  unfold scrI owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%f13, %hf13, H13⟩, ⟨%g, %b, %w, %q, %a, %u, %v, ⟨%f14, H14⟩, ⟨%f15, H15⟩, ⟨%f16, H16⟩, ⟨%f17, H17⟩, ⟨%f18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, %hi⟩, Hk⟩
  subst hf2 hf3 hf4 hf5 hf6 hf7 hf8 hf9 hf11 hf12 hf13 hf19 hf20 hf21 hf22 hf23 hf24 hf25
  have hW : (fun r => PG (arg5.view.read (Elt Ideal) f5) (ix2 ⟨n, hn⟩ r)) = WT ⟨n, hn⟩ := funext fun r => (hWT _ _).symm
  have hQ : (fun r => PG (arg6.view.read (Elt Ideal) f6) (ix2 ⟨n, hn⟩ r)) = QT ⟨n, hn⟩ := funext fun r => (hQT _ _).symm
  have e10 := (fin10_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25 h9 n hn ho h15).trans (y_first (arg4.view.read (Elt Ideal) f4) (arg3.view.read (Elt Ideal) f3 (ix1 ⟨0, Nat.one_pos⟩)) hn _ _ _ _ hgg hbb hW hQ)
  have hI := Inv_first (a := arg23.view.read (Elt Ideal) f23) (u := arg24.view.read (Elt Ideal) f24) (v := arg25.view.read (Elt Ideal) f25) (arg4.view.read (Elt Ideal) f4) (arg3.view.read (Elt Ideal) f3 (ix1 ⟨0, Nat.one_pos⟩)) (arg2.view.read (Elt Ideal) f2 (ix1 ⟨0, Nat.one_pos⟩)) hn hAT hMT hRT hn0 _ _ _ _ hgg hbb hW hQ
    (out19_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25) (out20_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25)
    (fun k l h => (out21_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25 k l h).trans (hWT k l).symm) (fun k l h => (out22_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25 k l h).trans (hQT k l).symm)
    (fin23_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25 h9 n hn ho h15) (fin24_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25 h9 n hn ho h15) (fin25_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25 h9 n hn ho h15)
  iapply ((runA c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 hc1 hc2 f2 f3 f4 f5 f6 f7 f8 f9 f10 f11 f12 f13 f14 f15 f16 f17 f18 f19 f20 f21 f22 f23 f24 f25).2.2.2.2.2.2.2.2.2.2.2.2.2 E K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iintro ⟨H2, H3, H4, H5, H6, H7, H8, H9, H10, H11, H12, H13, H14, H15, H16, H17, H18, H19, H20, H21, H22, H23, H24, H25⟩
  iapply Hk
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [H9]
  · iexists _; isplitr; · ipureintro; rfl
    iexact H9
  isplitl [H10]
  · iexists _; isplitr; swap; · iexact H10
    ipureintro; exact e10
  isplitl [H11]
  · iexists _; isplitr; swap; · iexact H11
    ipureintro; rfl
  isplitl [H12]
  · iexists _; isplitr; swap; · iexact H12
    ipureintro; rfl
  isplitl [H13]
  · iexists _; isplitr; swap; · iexact H13
    ipureintro; rfl
  iexists _; iexists _; iexists _; iexists _; iexists _; iexists _; iexists _
  isplitl [H14]; · iexists _; iexact H14
  isplitl [H15]; · iexists _; iexact H15
  isplitl [H16]; · iexists _; iexact H16
  isplitl [H17]; · iexists _; iexact H17
  isplitl [H18]; · iexists _; iexact H18
  isplitl [H19]
  · iexists _; isplitr; swap; · iexact H19
    ipureintro; rfl
  isplitl [H20]
  · iexists _; isplitr; swap; · iexact H20
    ipureintro; rfl
  isplitl [H21]
  · iexists _; isplitr; swap; · iexact H21
    ipureintro; rfl
  isplitl [H22]
  · iexists _; isplitr; swap; · iexact H22
    ipureintro; rfl
  isplitl [H23]
  · iexists _; isplitr; swap; · iexact H23
    ipureintro; rfl
  isplitl [H24]
  · iexists _; isplitr; swap; · iexact H24
    ipureintro; rfl
  isplitl [H25]
  · iexists _; isplitr; swap; · iexact H25
    ipureintro; rfl
  ipureintro; exact hI

set_option maxHeartbeats 1600000 in
include h9 ho h15 hAT hMT hRT in
theorem stepB (hc1 : ¬ k0_cond1 i) (hc2 : ¬ k0_cond2 i = 1#1) (h0 : 0 < n) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ owns (c : Thread nD τ) arg11 fullShare d11 ∗ owns (c : Thread nD τ) arg12 fullShare d12 ∗ owns (c : Thread nD τ) arg13 fullShare d13 ∗ scrI c arg14 arg15 arg16 arg17 arg18 arg19 arg20 arg21 arg22 arg23 arg24 arg25 (Inv gg bb WT QT AT MT RT n)
      ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (YV x4 gg bb (AV x4 (x3 (ix1 ⟨0, Nat.one_pos⟩)) (WT ⟨n, hn⟩) (QT ⟨n, hn⟩)) (MV x4 (x3 (ix1 ⟨0, Nat.one_pos⟩)) (WT ⟨n, hn⟩))) ∗ owns (c : Thread nD τ) arg11 fullShare d11 ∗ owns (c : Thread nD τ) arg12 fullShare d12 ∗ owns (c : Thread nD τ) arg13 fullShare d13 ∗ scrI c arg14 arg15 arg16 arg17 arg18 arg19 arg20 arg21 arg22 arg23 arg24 arg25 (Inv gg bb WT QT AT MT RT (n + 1))) -∗ K PUnit.unit))
      ⊢ wp frame (wpE (defs₀ (F := Ideal)) Variants.none c none) E (cc0_tp_layernorm i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  unfold scrI owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%f13, %hf13, H13⟩, ⟨%g, %b, %w, %q, %a, %u, %v, ⟨%f14, H14⟩, ⟨%f15, H15⟩, ⟨%f16, H16⟩, ⟨%f17, H17⟩, ⟨%f18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, %hi⟩, Hk⟩
  subst hf2 hf3 hf4 hf5 hf6 hf7 hf8 hf9 hf11 hf12 hf13 hf19 hf20 hf21 hf22 hf23 hf24 hf25
  have e10 := (out10_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25 h9 n hn ho).trans (y_step (arg4.view.read (Elt Ideal) f4) (arg3.view.read (Elt Ideal) f3 (ix1 ⟨0, Nat.one_pos⟩)) hn h15 h0 hi)
  have hI := inv_step (arg4.view.read (Elt Ideal) f4) (arg3.view.read (Elt Ideal) f3 (ix1 ⟨0, Nat.one_pos⟩)) (arg2.view.read (Elt Ideal) f2 (ix1 ⟨0, Nat.one_pos⟩)) hn h15 hAT hMT hRT h0 hi (out23_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25 h9 n hn ho) (out24_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25 h9 n hn ho) (out25_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25 h9 n hn ho)
  iapply ((runB c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 hc1 hc2 f2 f3 f4 f5 f6 f7 f8 f9 f10 f11 f12 f13 f14 f15 f16 f17 f18 f19 f20 f21 f22 f23 f24 f25).2.2.2.2.2.2.2.2.2 E K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iintro ⟨H2, H3, H4, H5, H6, H7, H8, H9, H10, H11, H12, H13, H14, H15, H16, H17, H18, H19, H20, H21, H22, H23, H24, H25⟩
  iapply Hk
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [H9]
  · iexists _; isplitr; · ipureintro; rfl
    iexact H9
  isplitl [H10]
  · iexists _; isplitr; swap; · iexact H10
    ipureintro; exact e10
  isplitl [H11]
  · iexists _; isplitr; swap; · iexact H11
    ipureintro; rfl
  isplitl [H12]
  · iexists _; isplitr; swap; · iexact H12
    ipureintro; rfl
  isplitl [H13]
  · iexists _; isplitr; swap; · iexact H13
    ipureintro; rfl
  iexists _; iexists _; iexists _; iexists _; iexists _; iexists _; iexists _
  isplitl [H14]; · iexists _; iexact H14
  isplitl [H15]; · iexists _; iexact H15
  isplitl [H16]; · iexists _; iexact H16
  isplitl [H17]; · iexists _; iexact H17
  isplitl [H18]; · iexists _; iexact H18
  isplitl [H19]
  · iexists _; isplitr; swap; · iexact H19
    ipureintro; rfl
  isplitl [H20]
  · iexists _; isplitr; swap; · iexact H20
    ipureintro; rfl
  isplitl [H21]
  · iexists _; isplitr; swap; · iexact H21
    ipureintro; rfl
  isplitl [H22]
  · iexists _; isplitr; swap; · iexact H22
    ipureintro; rfl
  isplitl [H23]
  · iexists _; isplitr; swap; · iexact H23
    ipureintro; rfl
  isplitl [H24]
  · iexists _; isplitr; swap; · iexact H24
    ipureintro; rfl
  isplitl [H25]
  · iexists _; isplitr; swap; · iexact H25
    ipureintro; rfl
  ipureintro; exact hI

set_option maxHeartbeats 1600000 in
include h9 ho h15 hAT hMT hRT in
theorem stepC (hc1 : ¬ k0_cond1 i) (hc2 : k0_cond2 i = 1#1) (h14 : n = 14) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ owns (c : Thread nD τ) arg11 fullShare d11 ∗ owns (c : Thread nD τ) arg12 fullShare d12 ∗ owns (c : Thread nD τ) arg13 fullShare d13 ∗ scrI c arg14 arg15 arg16 arg17 arg18 arg19 arg20 arg21 arg22 arg23 arg24 arg25 (Inv gg bb WT QT AT MT RT n)
      ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (YV x4 gg bb (AV x4 (x3 (ix1 ⟨0, Nat.one_pos⟩)) (WT ⟨n, hn⟩) (QT ⟨n, hn⟩)) (MV x4 (x3 (ix1 ⟨0, Nat.one_pos⟩)) (WT ⟨n, hn⟩))) ∗ owns (c : Thread nD τ) arg11 fullShare (TG (fun j => AT (j 0) (j 1))) ∗ owns (c : Thread nD τ) arg12 fullShare (TG (fun j => MT (j 0) (j 1))) ∗ owns (c : Thread nD τ) arg13 fullShare (TG (fun j => RT (j 0) (j 1))) ∗ scrI c arg14 arg15 arg16 arg17 arg18 arg19 arg20 arg21 arg22 arg23 arg24 arg25 (Inv gg bb WT QT AT MT RT (n + 1))) -∗ K PUnit.unit))
      ⊢ wp frame (wpE (defs₀ (F := Ideal)) Variants.none c none) E (cc0_tp_layernorm i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  unfold scrI owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%f13, %hf13, H13⟩, ⟨%g, %b, %w, %q, %a, %u, %v, ⟨%f14, H14⟩, ⟨%f15, H15⟩, ⟨%f16, H16⟩, ⟨%f17, H17⟩, ⟨%f18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, %hi⟩, Hk⟩
  subst hf2 hf3 hf4 hf5 hf6 hf7 hf8 hf9 hf11 hf12 hf13 hf19 hf20 hf21 hf22 hf23 hf24 hf25
  have h0 : 0 < n := by omega
  have e10 := (out10_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25 h9 n hn ho).trans (y_step (arg4.view.read (Elt Ideal) f4) (arg3.view.read (Elt Ideal) f3 (ix1 ⟨0, Nat.one_pos⟩)) hn h15 h0 hi)
  have hI := inv_step (arg4.view.read (Elt Ideal) f4) (arg3.view.read (Elt Ideal) f3 (ix1 ⟨0, Nat.one_pos⟩)) (arg2.view.read (Elt Ideal) f2 (ix1 ⟨0, Nat.one_pos⟩)) hn h15 hAT hMT hRT h0 hi (out23_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25 h9 n hn ho) (out24_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25 h9 n hn ho) (out25_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25 h9 n hn ho)
  have e11 := tab_read AT _ _ (fun k l h => (hI.2 k l (by omega)).1) (out11_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25 h9 n hn ho)
  have e12 := tab_read MT _ _ (fun k l h => (hI.2 k l (by omega)).2.1) (out12_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25 h9 n hn ho)
  have e13 := tab_read RT _ _ (fun k l h => (hI.2 k l (by omega)).2.2) (out13_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 f2 f3 f4 f5 f6 f7 f8 f9 f10 f11 f12 f13 f14 f15 f16 f17 f18 f19 f20 f21 f22 f23 f24 f25 h9 n hn ho)
  iapply ((runC c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 hc1 hc2 f2 f3 f4 f5 f6 f7 f8 f9 f10 f11 f12 f13 f14 f15 f16 f17 f18 f19 f20 f21 f22 f23 f24 f25).2.2.2.2.2.2.2.2.2.2.2.2 E K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iintro ⟨H2, H3, H4, H5, H6, H7, H8, H9, H10, H11, H12, H13, H14, H15, H16, H17, H18, H19, H20, H21, H22, H23, H24, H25⟩
  iapply Hk
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [H9]
  · iexists _; isplitr; · ipureintro; rfl
    iexact H9
  isplitl [H10]
  · iexists _; isplitr; swap; · iexact H10
    ipureintro; exact e10
  isplitl [H11]
  · iexists _; isplitr; swap; · iexact H11
    ipureintro; exact e11
  isplitl [H12]
  · iexists _; isplitr; swap; · iexact H12
    ipureintro; exact e12
  isplitl [H13]
  · iexists _; isplitr; swap; · iexact H13
    ipureintro; exact e13
  iexists _; iexists _; iexists _; iexists _; iexists _; iexists _; iexists _
  isplitl [H14]; · iexists _; iexact H14
  isplitl [H15]; · iexists _; iexact H15
  isplitl [H16]; · iexists _; iexact H16
  isplitl [H17]; · iexists _; iexact H17
  isplitl [H18]; · iexists _; iexact H18
  isplitl [H19]
  · iexists _; isplitr; swap; · iexact H19
    ipureintro; rfl
  isplitl [H20]
  · iexists _; isplitr; swap; · iexact H20
    ipureintro; rfl
  isplitl [H21]
  · iexists _; isplitr; swap; · iexact H21
    ipureintro; rfl
  isplitl [H22]
  · iexists _; isplitr; swap; · iexact H22
    ipureintro; rfl
  isplitl [H23]
  · iexists _; isplitr; swap; · iexact H23
    ipureintro; rfl
  isplitl [H24]
  · iexists _; isplitr; swap; · iexact H24
    ipureintro; rfl
  isplitl [H25]
  · iexists _; isplitr; swap; · iexact H25
    ipureintro; rfl
  ipureintro; exact hI

end Cert.KernelIdeal.Body

end
-- ==== Proof.KernelIdealEntry.lean ====
/- The arrays the kernel reads, block by block. -/
module

public import proofs.«01_k».proof.Proof.KernelIdealRows
public import proofs.«01_k».proof.Proof.Gen.KernelIdeal.Frame
public import Idealize.ShloMosaic.Lib.Pipeline.ValueKit
public import Idealize.ShloMosaic.Lib.Claim

@[expose] public section

set_option maxRecDepth 16384

noncomputable section

namespace Cert.KernelIdeal.Body

open Cert.KernelIdeal Cert.KernelIdeal.Gen Idealize.ShloMosaic Idealize.ShloMosaic.TcCoe Idealize.ShloMosaic.Tactic Idealize.SL.Sem

variable (m : (ℓ : Loc nD τ sig) → Buf (Elt Ideal) ℓ)

theorem idx_val : ∀ t : Fin cfg0.N, win0_0.index t = ![0] ∧ win0_1.index t = ![0] ∧ win0_2.index t = ![t.val / 5, t.val % 5, 0] ∧ win0_3.index t = ![0, 0, 0]
    ∧ win0_4.index t = ![0, 0, 0] ∧ win0_5.index t = ![0, 0] ∧ win0_6.index t = ![0, 0] ∧ win0_7.index t = ![0, 0] ∧ win0_8.index t = ![t.val / 5, t.val % 5, 0]
    ∧ win0_9.index t = ![0, 0] ∧ win0_10.index t = ![0, 0] ∧ win0_11.index t = ![0, 0] :=
  (by decide +kernel : ∀ t : Fin grid0.N, _)

theorem V_main_v0 (c : Dev nD) : V m c main_v0 = (broadcastInDim S16x128 ![] bcast_S_S16x128 (constant (F := Ideal) S_ .bf16 0x3F80#16)) := by
  unfold V; after_results; try rfl

theorem V_main_v1 (c : Dev nD) (k : Fin 10240) : (show Vec Ideal S1x10240 .f32 from V m c main_v1) (ix2 ⟨0, Nat.one_pos⟩ k) = (show Vec Ideal S10240 .f32 from m ((c : Thread nD τ).loc main_arg4)) (ix1 k) := by
  have : V m c main_v1 = shapeCast S1x10240 (show Vec Ideal S10240 .f32 from m ((c : Thread nD τ).loc main_arg4)) shapeCasts_S10240_S1x10240 := by
    unfold V; after_results; try rfl
  rw [this]
  pointwise
  blk_ext

theorem V_main_v2 (c : Dev nD) (k : Fin 10240) : (show Vec Ideal S1x10240 .f32 from V m c main_v2) (ix2 ⟨0, Nat.one_pos⟩ k) = (show Vec Ideal S10240 .f32 from m ((c : Thread nD τ).loc main_arg5)) (ix1 k) := by
  have : V m c main_v2 = shapeCast S1x10240 (show Vec Ideal S10240 .f32 from m ((c : Thread nD τ).loc main_arg5)) shapeCasts_S10240_S1x10240 := by
    unfold V; after_results; try rfl
  rw [this]
  pointwise
  blk_ext

/-- The block of ones. -/
theorem ones (c : Dev nD) (t : Fin cfg0.N) (j : S16x128.Idx) : (show Vec Ideal S16x128 .bf16 from iblk m c 7 t) j = (1 : EReal) := by
  have h : ∀ j, (show Vec Ideal S16x128 .bf16 from V m c main_v0) j = (1 : EReal) := by
    intro j
    rw [V_main_v0]
    pointwise
  exact h _

theorem blk0 (c : Dev nD) (t : Fin cfg0.N) : (show Vec Ideal S1 .f32 from iblk m c 0 t) (ix1 ⟨0, Nat.one_pos⟩) = m ((c : Thread nD τ).loc main_arg6) (ix1 0) := by
  blk_point [iblk, V, idx_val t]
theorem blk1 (c : Dev nD) (t : Fin cfg0.N) : (show Vec Ideal S1 .f32 from iblk m c 1 t) (ix1 ⟨0, Nat.one_pos⟩) = m ((c : Thread nD τ).loc main_arg1) (ix1 0) := by
  blk_point [iblk, V, idx_val t]
theorem blk2 (c : Dev nD) (t : Fin cfg0.N) (r : Fin 128) (k : Fin 10240) (b : Fin 3) (s : Fin 640) (hb : b.val = t.val / 5) (hs : s.val = 128 * (t.val % 5) + r.val) :
    (show Vec Ideal S1x128x10240 .bf16 from iblk m c 2 t) (ix3 ⟨0, Nat.one_pos⟩ r k) = m ((c : Thread nD τ).loc main_arg0) (ix3 b s k) := by
  blk_point [iblk, V, idx_val t]
theorem blk3 (c : Dev nD) (t : Fin cfg0.N) : (iblk m c 3 t : Vec Ideal S1x3x640 .f32) = m ((c : Thread nD τ).loc main_arg2) := by
  funext j
  blk_point [iblk, V, idx_val t]
theorem blk4 (c : Dev nD) (t : Fin cfg0.N) : (iblk m c 4 t : Vec Ideal S1x3x640 .f32) = m ((c : Thread nD τ).loc main_arg3) := by
  funext j
  blk_point [iblk, V, idx_val t]
theorem blk5 (c : Dev nD) (t : Fin cfg0.N) (k : Fin 10240) : (show Vec Ideal S1x10240 .f32 from iblk m c 5 t) (ix2 ⟨0, Nat.one_pos⟩ k) = m ((c : Thread nD τ).loc main_arg4) (ix1 k) := by
  refine Eq.trans ?_ (V_main_v1 m c k)
  blk_point [iblk, idx_val t]
theorem blk6 (c : Dev nD) (t : Fin cfg0.N) (k : Fin 10240) : (show Vec Ideal S1x10240 .f32 from iblk m c 6 t) (ix2 ⟨0, Nat.one_pos⟩ k) = m ((c : Thread nD τ).loc main_arg5) (ix1 k) := by
  refine Eq.trans ?_ (V_main_v2 m c k)
  blk_point [iblk, idx_val t]

end Cert.KernelIdeal.Body

end
-- ==== Proof.KernelIdealValue.lean ====
/- The run of the kernel with its four results named. -/
module

public import proofs.«01_k».proof.Proof.KernelIdealStep
public import proofs.«01_k».proof.Proof.KernelIdealEntry
public import proofs.«01_k».proof.Proof.KernelIdealFrame
public import Idealize.ShloMosaic.Lib.Pipeline.ValueKit

@[expose] public section

set_option maxRecDepth 16384

noncomputable section

namespace Cert.KernelIdeal.Body

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat Cfg Window BodyObligation cellOf)

variable (m : (ℓ : Loc nD τ sig) → Buf (Elt Ideal) ℓ) (ρ : Dev nD → PrngReg)

/-- The grid point a table row belongs to. -/
def pt (k : Fin 16) : Fin cfg0.N := (⟨k.val % 15, Nat.mod_lt _ (by norm_num)⟩ : Fin 15)

theorem pt_of (t : Fin cfg0.N) (h : t.val < 16) : pt ⟨t.val, h⟩ = t :=
  Fin.ext (Nat.mod_eq_of_lt (show t.val < 15 from t.isLt))

/-- The scale at a point, -/
def SC (c : Dev nD) (k : Fin 16) : EReal := (show Vec Ideal S1 .f32 from iblk m c 0 (pt k)) (ix1 ⟨0, Nat.one_pos⟩)
/-- the number of peers, -/
def PC (c : Dev nD) (k : Fin 16) : EReal := (show Vec Ideal S1 .f32 from iblk m c 1 (pt k)) (ix1 ⟨0, Nat.one_pos⟩)
/-- the block of rows, -/
def XB (c : Dev nD) (k : Fin 16) : Vec Ideal S1x128x10240 .bf16 := iblk m c 2 (pt k)
/-- the scaled weight -/
def GG (c : Dev nD) : Vec Ideal S1x10240 .f32 := fun j => (show Vec Ideal S1x10240 .f32 from iblk m c 5 t0_0) j * Ideal.div 1 ((show Vec Ideal S1 .f32 from iblk m c 0 t0_0) (ix1 ⟨0, Nat.one_pos⟩))
/-- and bias, -/
def BB (c : Dev nD) : Vec Ideal S1x10240 .f32 := fun j => (show Vec Ideal S1x10240 .f32 from iblk m c 6 t0_0) j * Ideal.div 1 ((show Vec Ideal S1 .f32 from iblk m c 0 t0_0) (ix1 ⟨0, Nat.one_pos⟩))
/-- the peers' means -/
def WT (c : Dev nD) : Tab := fun k l => PG (iblk m c 3 t0_0) (ix2 k l)
/-- and second moments, -/
def QT (c : Dev nD) : Tab := fun k l => PG (iblk m c 4 t0_0) (ix2 k l)
/-- the reciprocal deviations, -/
def RT (c : Dev nD) : Tab := fun k => AV (XB m c k) (PC m c k) (WT m c k) (QT m c k)
/-- the means -/
def MT' (c : Dev nD) : Tab := fun k => MV (XB m c k) (PC m c k) (WT m c k)
/-- and the largest magnitudes. -/
def AT (c : Dev nD) : Tab := fun k l => XV (XB m c k) (GG m c) (BB m c) (RT m c k) (MT' m c k) l * SC m c k
/-- The block written at a point. -/
def YB (c : Dev nD) (k : Fin 16) : Vec Ideal S1x128x10240 .fp8e4m3 := YV (XB m c k) (GG m c) (BB m c) (RT m c k) (MT' m c k)

/-- A table as the result array it fills. -/
def res (Z : Tab) : Vec Ideal S3x640 .f32 := TG (fun j => Z (j 0) (j 1))

/-- What the scratch buffers hold before point `n`. -/
def scrAt (c : Dev nD) (n : ℕ) : sProp (MT nD τ sig Unit (Elt Ideal) ℕ (UR sig nD τ) ℕ) :=
  scrI c (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) (Memref.whole cc0_scratch9) (Memref.whole cc0_scratch10) (Memref.whole cc0_scratch11) (Inv (GG m c) (BB m c) (WT m c) (QT m c) (AT m c) (MT' m c) (RT m c) n)

/-- The proof data: each input's buffer stays at its block, the results are as named, the scratch buffers are tracked. -/
def vdats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => YB m c ⟨t.val, Nat.lt_of_lt_of_le (show t.val < 15 from t.isLt) (by norm_num)⟩
    | ⟨9, _⟩ => res (AT m c)
    | ⟨10, _⟩ => res (MT' m c)
    | ⟨11, _⟩ => res (RT m c)
  Φ t := iprop(scrAt m c t.val ∗ ∃ r, prngReg c r)
  q _ := fullShare
  owed _ := 0

theorem vA_eq (c : Dev nD) (w : Fin cfg0.W) : (vdats m 0 c).A w = V m c (Pipeline.arrRef spec0 w) := by
  dsimp only [vdats]
theorem vΦ_castSucc (c : Dev nD) (t : Fin cfg0.N) : (vdats m 0 c).Φ t.castSucc = iprop(scrAt m c t.val ∗ ∃ r, prngReg c r) := by
  dsimp only [vdats]; exact Pipeline.Dat.Φ_castSucc (fun n _ => (iprop(scrAt m c n ∗ ∃ r, prngReg c r) : sProp (MT nD τ sig Unit (Elt Ideal) ℕ (UR sig nD τ) ℕ))) t
theorem vΦ_succ (c : Dev nD) (t : Fin cfg0.N) : (vdats m 0 c).Φ t.succ = iprop(scrAt m c (t.val + 1) ∗ ∃ r, prngReg c r) := by
  dsimp only [vdats]; rfl
theorem vafter_0 (c : Dev nD) (t : Fin cfg0.N) : (vdats m 0 c).after 0 t = iblk m c 0 t := by dsimp only [vdats]
theorem vbefore_0 (c : Dev nD) (t : Fin cfg0.N) (d) : (vdats m 0 c).before 0 t d = iblk m c 0 t :=
  before0_0_of m (vdats m 0 c) (vA_eq m c 0) (vafter_0 m c) t d
theorem vafter_1 (c : Dev nD) (t : Fin cfg0.N) : (vdats m 0 c).after 1 t = iblk m c 1 t := by dsimp only [vdats]
theorem vbefore_1 (c : Dev nD) (t : Fin cfg0.N) (d) : (vdats m 0 c).before 1 t d = iblk m c 1 t :=
  before0_1_of m (vdats m 0 c) (vA_eq m c 1) (vafter_1 m c) t d
theorem vafter_2 (c : Dev nD) (t : Fin cfg0.N) : (vdats m 0 c).after 2 t = iblk m c 2 t := by dsimp only [vdats]
theorem vbefore_2 (c : Dev nD) (t : Fin cfg0.N) (d) : (vdats m 0 c).before 2 t d = iblk m c 2 t :=
  before0_2_of m (vdats m 0 c) (vA_eq m c 2) (vafter_2 m c) t d
theorem vafter_3 (c : Dev nD) (t : Fin cfg0.N) : (vdats m 0 c).after 3 t = iblk m c 3 t := by dsimp only [vdats]
theorem vbefore_3 (c : Dev nD) (t : Fin cfg0.N) (d) : (vdats m 0 c).before 3 t d = iblk m c 3 t :=
  before0_3_of m (vdats m 0 c) (vA_eq m c 3) (vafter_3 m c) t d
theorem vafter_4 (c : Dev nD) (t : Fin cfg0.N) : (vdats m 0 c).after 4 t = iblk m c 4 t := by dsimp only [vdats]
theorem vbefore_4 (c : Dev nD) (t : Fin cfg0.N) (d) : (vdats m 0 c).before 4 t d = iblk m c 4 t :=
  before0_4_of m (vdats m 0 c) (vA_eq m c 4) (vafter_4 m c) t d
theorem vafter_5 (c : Dev nD) (t : Fin cfg0.N) : (vdats m 0 c).after 5 t = iblk m c 5 t := by dsimp only [vdats]
theorem vbefore_5 (c : Dev nD) (t : Fin cfg0.N) (d) : (vdats m 0 c).before 5 t d = iblk m c 5 t :=
  before0_5_of m (vdats m 0 c) (vA_eq m c 5) (vafter_5 m c) t d
theorem vafter_6 (c : Dev nD) (t : Fin cfg0.N) : (vdats m 0 c).after 6 t = iblk m c 6 t := by dsimp only [vdats]
theorem vbefore_6 (c : Dev nD) (t : Fin cfg0.N) (d) : (vdats m 0 c).before 6 t d = iblk m c 6 t :=
  before0_6_of m (vdats m 0 c) (vA_eq m c 6) (vafter_6 m c) t d
theorem vafter_7 (c : Dev nD) (t : Fin cfg0.N) : (vdats m 0 c).after 7 t = iblk m c 7 t := by dsimp only [vdats]
theorem vbefore_7 (c : Dev nD) (t : Fin cfg0.N) (d) : (vdats m 0 c).before 7 t d = iblk m c 7 t :=
  before0_7_of m (vdats m 0 c) (vA_eq m c 7) (vafter_7 m c) t d
theorem vafter_8 (c : Dev nD) (t : Fin cfg0.N) (h : t.val < 16) : (vdats m 0 c).after 8 t = YB m c ⟨t.val, h⟩ := by dsimp only [vdats]
theorem vafter_9 (c : Dev nD) (t : Fin cfg0.N) : (vdats m 0 c).after 9 t = res (AT m c) := by dsimp only [vdats]
theorem vafter_10 (c : Dev nD) (t : Fin cfg0.N) : (vdats m 0 c).after 10 t = res (MT' m c) := by dsimp only [vdats]
theorem vafter_11 (c : Dev nD) (t : Fin cfg0.N) : (vdats m 0 c).after 11 t = res (RT m c) := by dsimp only [vdats]

/-- The rows of the gathered tables a point reads are `t`'s. -/
theorem off_t : ∀ t : Fin cfg0.N, k0_off82 (grid0.coords t) = ![t.val, 0] := by
  intro t
  rw [k0_off82_eq]
  have h : ∀ t : Fin 15, 5 * (grid0.coords t 0).val + (grid0.coords t 1).val = t.val := by decide +kernel
  rw [show 5 * (grid0.coords t 0).val + (grid0.coords t 1).val = t.val from h t]

/-- What the body is called with at point `t`, -/
def vbodyPre (c : Dev nD) (t : Fin cfg0.N) : sProp (MT nD τ sig Unit (Elt Ideal) ℕ (UR sig nD τ) ℕ) :=
  iprop((vdats m 0 c).Φ t.castSucc ∗ (vdats m 0 c).owesAt () t.castSucc
    ∗ (∃ d, owns (c : Thread nD τ) (st0_0 t) fullShare ((vdats m 0 c).before 0 t d)) ∗ (∃ d, owns (c : Thread nD τ) (st0_1 t) fullShare ((vdats m 0 c).before 1 t d)) ∗ (∃ d, owns (c : Thread nD τ) (st0_2 t) fullShare ((vdats m 0 c).before 2 t d)) ∗ (∃ d, owns (c : Thread nD τ) (st0_3 t) fullShare ((vdats m 0 c).before 3 t d)) ∗ (∃ d, owns (c : Thread nD τ) (st0_4 t) fullShare ((vdats m 0 c).before 4 t d)) ∗ (∃ d, owns (c : Thread nD τ) (st0_5 t) fullShare ((vdats m 0 c).before 5 t d)) ∗ (∃ d, owns (c : Thread nD τ) (st0_6 t) fullShare ((vdats m 0 c).before 6 t d)) ∗ (∃ d, owns (c : Thread nD τ) (st0_7 t) fullShare ((vdats m 0 c).before 7 t d)) ∗ (∃ d, owns (c : Thread nD τ) (st0_8 t) fullShare ((vdats m 0 c).before 8 t d)) ∗ (∃ d, owns (c : Thread nD τ) (st0_9 t) fullShare ((vdats m 0 c).before 9 t d)) ∗ (∃ d, owns (c : Thread nD τ) (st0_10 t) fullShare ((vdats m 0 c).before 10 t d)) ∗ (∃ d, owns (c : Thread nD τ) (st0_11 t) fullShare ((vdats m 0 c).before 11 t d)))

/-- and what it returns. -/
def vbodyPost (c : Dev nD) (t : Fin cfg0.N) : sProp (MT nD τ sig Unit (Elt Ideal) ℕ (UR sig nD τ) ℕ) :=
  iprop((vdats m 0 c).Φ t.succ ∗ (vdats m 0 c).owesAt () t.succ
    ∗ owns (c : Thread nD τ) (st0_0 t) fullShare ((vdats m 0 c).after 0 t) ∗ owns (c : Thread nD τ) (st0_1 t) fullShare ((vdats m 0 c).after 1 t) ∗ owns (c : Thread nD τ) (st0_2 t) fullShare ((vdats m 0 c).after 2 t) ∗ owns (c : Thread nD τ) (st0_3 t) fullShare ((vdats m 0 c).after 3 t) ∗ owns (c : Thread nD τ) (st0_4 t) fullShare ((vdats m 0 c).after 4 t) ∗ owns (c : Thread nD τ) (st0_5 t) fullShare ((vdats m 0 c).after 5 t) ∗ owns (c : Thread nD τ) (st0_6 t) fullShare ((vdats m 0 c).after 6 t) ∗ owns (c : Thread nD τ) (st0_7 t) fullShare ((vdats m 0 c).after 7 t) ∗ owns (c : Thread nD τ) (st0_8 t) fullShare ((vdats m 0 c).after 8 t) ∗ (vdats m 0 c).leavesExact 9 t ∗ (vdats m 0 c).leavesExact 10 t ∗ (vdats m 0 c).leavesExact 11 t)

theorem idle_9 : ∀ t : Fin cfg0.N, cfg0.idle 9 (grid0.coords t) = !(k0_cond2 (grid0.coords t) == 1#1) := fun _ => rfl
theorem flush_9 (t : Fin cfg0.N) (h : t.val ≠ 14) : (cfg0.win 9).flush t = false := by
  rcases hf : (cfg0.win 9).flush t with _ | _
  · rfl
  · exact absurd ((flush0_9 t).mp hf) (by have : t.val < 15 := t.isLt; omega)
theorem leaves_lt_9 (c : Dev nD) (t : Fin cfg0.N) (h : t.val ≠ 14) : (vdats m 0 c).leavesExact 9 t = iprop((∃ d, owns (c : Thread nD τ) (st0_9 t) fullShare ((vdats m 0 c).before 9 t d))) :=
  Dat.leavesExact_idle _ 9 t (by rw [show cfg0.idle 9 (cfg0.grid.coords t) = _ from idle_9 t]; simp [mt (cond2_iff t).mp h]) (flush_9 t h)
theorem leaves_last_9 (c : Dev nD) (t : Fin cfg0.N) (h : t.val = 14) : (vdats m 0 c).leavesExact 9 t = owns (c : Thread nD τ) (st0_9 t) fullShare ((vdats m 0 c).after 9 t) := by
  unfold Dat.leavesExact
  rw [show cfg0.idle 9 (cfg0.grid.coords t) = false from (idle_9 t).trans (by simp [(cond2_iff t).mpr h])]
theorem idle_10 : ∀ t : Fin cfg0.N, cfg0.idle 10 (grid0.coords t) = !(k0_cond2 (grid0.coords t) == 1#1) := fun _ => rfl
theorem flush_10 (t : Fin cfg0.N) (h : t.val ≠ 14) : (cfg0.win 10).flush t = false := by
  rcases hf : (cfg0.win 10).flush t with _ | _
  · rfl
  · exact absurd ((flush0_10 t).mp hf) (by have : t.val < 15 := t.isLt; omega)
theorem leaves_lt_10 (c : Dev nD) (t : Fin cfg0.N) (h : t.val ≠ 14) : (vdats m 0 c).leavesExact 10 t = iprop((∃ d, owns (c : Thread nD τ) (st0_10 t) fullShare ((vdats m 0 c).before 10 t d))) :=
  Dat.leavesExact_idle _ 10 t (by rw [show cfg0.idle 10 (cfg0.grid.coords t) = _ from idle_10 t]; simp [mt (cond2_iff t).mp h]) (flush_10 t h)
theorem leaves_last_10 (c : Dev nD) (t : Fin cfg0.N) (h : t.val = 14) : (vdats m 0 c).leavesExact 10 t = owns (c : Thread nD τ) (st0_10 t) fullShare ((vdats m 0 c).after 10 t) := by
  unfold Dat.leavesExact
  rw [show cfg0.idle 10 (cfg0.grid.coords t) = false from (idle_10 t).trans (by simp [(cond2_iff t).mpr h])]
theorem idle_11 : ∀ t : Fin cfg0.N, cfg0.idle 11 (grid0.coords t) = !(k0_cond2 (grid0.coords t) == 1#1) := fun _ => rfl
theorem flush_11 (t : Fin cfg0.N) (h : t.val ≠ 14) : (cfg0.win 11).flush t = false := by
  rcases hf : (cfg0.win 11).flush t with _ | _
  · rfl
  · exact absurd ((flush0_11 t).mp hf) (by have : t.val < 15 := t.isLt; omega)
theorem leaves_lt_11 (c : Dev nD) (t : Fin cfg0.N) (h : t.val ≠ 14) : (vdats m 0 c).leavesExact 11 t = iprop((∃ d, owns (c : Thread nD τ) (st0_11 t) fullShare ((vdats m 0 c).before 11 t d))) :=
  Dat.leavesExact_idle _ 11 t (by rw [show cfg0.idle 11 (cfg0.grid.coords t) = _ from idle_11 t]; simp [mt (cond2_iff t).mp h]) (flush_11 t h)
theorem leaves_last_11 (c : Dev nD) (t : Fin cfg0.N) (h : t.val = 14) : (vdats m 0 c).leavesExact 11 t = owns (c : Thread nD τ) (st0_11 t) fullShare ((vdats m 0 c).after 11 t) := by
  unfold Dat.leavesExact
  rw [show cfg0.idle 11 (cfg0.grid.coords t) = false from (idle_11 t).trans (by simp [(cond2_iff t).mpr h])]

theorem hAT (c : Dev nD) (t : Fin cfg0.N) (h : t.val < 16) (l : Fin 128) : AT m c ⟨t.val, h⟩ l = XV (iblk m c 2 t) (GG m c) (BB m c) (AV (iblk m c 2 t) ((show Vec Ideal S1 .f32 from iblk m c 1 t) (ix1 ⟨0, Nat.one_pos⟩)) (WT m c ⟨t.val, h⟩) (QT m c ⟨t.val, h⟩)) (MV (iblk m c 2 t) ((show Vec Ideal S1 .f32 from iblk m c 1 t) (ix1 ⟨0, Nat.one_pos⟩)) (WT m c ⟨t.val, h⟩)) l * ((show Vec Ideal S1 .f32 from iblk m c 0 t) (ix1 ⟨0, Nat.one_pos⟩)) := by
  unfold AT RT MT' XB PC SC; rw [pt_of]
theorem hMT (c : Dev nD) (t : Fin cfg0.N) (h : t.val < 16) (l : Fin 128) : MT' m c ⟨t.val, h⟩ l = (MV (iblk m c 2 t) ((show Vec Ideal S1 .f32 from iblk m c 1 t) (ix1 ⟨0, Nat.one_pos⟩)) (WT m c ⟨t.val, h⟩)) l := by
  unfold MT' XB PC; rw [pt_of]
theorem hRT (c : Dev nD) (t : Fin cfg0.N) (h : t.val < 16) (l : Fin 128) : RT m c ⟨t.val, h⟩ l = (AV (iblk m c 2 t) ((show Vec Ideal S1 .f32 from iblk m c 1 t) (ix1 ⟨0, Nat.one_pos⟩)) (WT m c ⟨t.val, h⟩) (QT m c ⟨t.val, h⟩)) l := by
  unfold RT XB PC; rw [pt_of]
theorem YB_eq (c : Dev nD) (t : Fin cfg0.N) (h : t.val < 16) : YB m c ⟨t.val, h⟩ = YV (iblk m c 2 t) (GG m c) (BB m c) (AV (iblk m c 2 t) ((show Vec Ideal S1 .f32 from iblk m c 1 t) (ix1 ⟨0, Nat.one_pos⟩)) (WT m c ⟨t.val, h⟩) (QT m c ⟨t.val, h⟩)) (MV (iblk m c 2 t) ((show Vec Ideal S1 .f32 from iblk m c 1 t) (ix1 ⟨0, Nat.one_pos⟩)) (WT m c ⟨t.val, h⟩)) := by
  unfold YB RT MT' XB PC; rw [pt_of]

theorem t_first (t : Fin cfg0.N) (h : t.val = 0) : t = t0_0 := Fin.ext h
theorem gg_t (c : Dev nD) (t : Fin cfg0.N) (h : t.val = 0) : GG m c = fun j => (show Vec Ideal S1x10240 .f32 from iblk m c 5 t) j * Ideal.div 1 ((show Vec Ideal S1 .f32 from iblk m c 0 t) (ix1 ⟨0, Nat.one_pos⟩)) := by rw [t_first t h]; rfl
theorem bb_t (c : Dev nD) (t : Fin cfg0.N) (h : t.val = 0) : BB m c = fun j => (show Vec Ideal S1x10240 .f32 from iblk m c 6 t) j * Ideal.div 1 ((show Vec Ideal S1 .f32 from iblk m c 0 t) (ix1 ⟨0, Nat.one_pos⟩)) := by rw [t_first t h]; rfl
theorem wt_t (c : Dev nD) (t : Fin cfg0.N) (h : t.val = 0) (k : Fin 16) (l : Fin 128) : WT m c k l = PG (iblk m c 3 t) (ix2 k l) := by rw [t_first t h]; rfl
theorem qt_t (c : Dev nD) (t : Fin cfg0.N) (h : t.val = 0) (k : Fin 16) (l : Fin 128) : QT m c k l = PG (iblk m c 4 t) (ix2 k l) := by rw [t_first t h]; rfl

set_option maxHeartbeats 1600000 in
theorem vsoundA (c : Dev nD) (t : Fin cfg0.N) (hA : t.val = 0) :
    vbodyPre m c t ⊢ wp Idealize.ShloMosaic.frame (wpE (defs₀ (F := Ideal)) Variants.none c none) Set.univ (bodyAt0 t) (fun _ => vbodyPost m c t) := by
  have ht : t.val < 15 := t.isLt
  have hc1 := (cond1_iff t).mpr hA
  have hc2 : ¬ k0_cond2 (grid0.coords t) = 1#1 := fun h => by have := (cond2_iff t).mp h; omega
  unfold vbodyPre vbodyPost bodyAt0
  rw [leaves_lt_9 m c t (by omega), leaves_lt_10 m c t (by omega), leaves_lt_11 m c t (by omega)]
  simp only [vbefore_0, vbefore_1, vbefore_2, vbefore_3, vbefore_4, vbefore_5, vbefore_6, vbefore_7]
  rw [show (vdats m 0 c).owesAt () t.succ = (vdats m 0 c).owesAt () t.castSucc from rfl, vΦ_castSucc, vΦ_succ,
    vafter_0, vafter_1, vafter_2, vafter_3, vafter_4, vafter_5, vafter_6, vafter_7, vafter_8 m c t (by omega)]
  unfold scrAt
  iintro ⟨⟨HS, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (stepA c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (hstage0_10 ((cfg0.slots t 10).cast nbuf0_10)) _ (hstage0_11 ((cfg0.slots t 11).cast nbuf0_11)) _ (Memref.isWhole_whole cc0_scratch0) _ (Memref.isWhole_whole cc0_scratch1) _ (Memref.isWhole_whole cc0_scratch2) _ (Memref.isWhole_whole cc0_scratch3) _ (Memref.isWhole_whole cc0_scratch4) _ (Memref.isWhole_whole cc0_scratch5) _ (Memref.isWhole_whole cc0_scratch6) _ (Memref.isWhole_whole cc0_scratch7) _ (Memref.isWhole_whole cc0_scratch8) _ (Memref.isWhole_whole cc0_scratch9) _ (Memref.isWhole_whole cc0_scratch10) _ (Memref.isWhole_whole cc0_scratch11) (iblk m c 0 t) (iblk m c 1 t) (iblk m c 2 t) (iblk m c 3 t) (iblk m c 4 t) (iblk m c 5 t) (iblk m c 6 t) (iblk m c 7 t) (ones m c t) t.val (by omega) (off_t t) ht (GG m c) (BB m c) (WT m c) (QT m c) (AT m c) (MT' m c) (RT m c)
    (fun l => hAT m c t _ l) (fun l => hMT m c t _ l) (fun l => hRT m c t _ l) _ _ _ Set.univ _ hc1 hc2 hA (gg_t m c t hA) (bb_t m c t hA) (fun k l => wt_t m c t hA k l) (fun k l => qt_t m c t hA k l))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [H10]; · iexact H10
  isplitl [H11]; · iexact H11
  isplitl [HS]; · iexact HS
  iintro ⟨H0, H1, H2, H3, H4, H5, H6, H7, H8, H9, H10, H11, HS⟩
  isplitl [HS HR]
  · isplitl [HS]; · iexact HS
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · rw [YB_eq m c t (by omega)]; iexact H8
  isplitl [H9]; · iexists _; iexact H9
  isplitl [H10]; · iexists _; iexact H10
  iexists _; iexact H11

set_option maxHeartbeats 1600000 in
theorem vsoundB (c : Dev nD) (t : Fin cfg0.N) (hA : t.val ≠ 0) (hC : t.val ≠ 14) :
    vbodyPre m c t ⊢ wp Idealize.ShloMosaic.frame (wpE (defs₀ (F := Ideal)) Variants.none c none) Set.univ (bodyAt0 t) (fun _ => vbodyPost m c t) := by
  have ht : t.val < 15 := t.isLt
  have hc1 : ¬ k0_cond1 (grid0.coords t) := fun h => hA ((cond1_iff t).mp h)
  have hc2 : ¬ k0_cond2 (grid0.coords t) = 1#1 := fun h => hC ((cond2_iff t).mp h)
  unfold vbodyPre vbodyPost bodyAt0
  rw [leaves_lt_9 m c t hC, leaves_lt_10 m c t hC, leaves_lt_11 m c t hC]
  simp only [vbefore_0, vbefore_1, vbefore_2, vbefore_3, vbefore_4, vbefore_5, vbefore_6, vbefore_7]
  rw [show (vdats m 0 c).owesAt () t.succ = (vdats m 0 c).owesAt () t.castSucc from rfl, vΦ_castSucc, vΦ_succ,
    vafter_0, vafter_1, vafter_2, vafter_3, vafter_4, vafter_5, vafter_6, vafter_7, vafter_8 m c t (by omega)]
  unfold scrAt
  iintro ⟨⟨HS, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (stepB c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (hstage0_10 ((cfg0.slots t 10).cast nbuf0_10)) _ (hstage0_11 ((cfg0.slots t 11).cast nbuf0_11)) _ (Memref.isWhole_whole cc0_scratch0) _ (Memref.isWhole_whole cc0_scratch1) _ (Memref.isWhole_whole cc0_scratch2) _ (Memref.isWhole_whole cc0_scratch3) _ (Memref.isWhole_whole cc0_scratch4) _ (Memref.isWhole_whole cc0_scratch5) _ (Memref.isWhole_whole cc0_scratch6) _ (Memref.isWhole_whole cc0_scratch7) _ (Memref.isWhole_whole cc0_scratch8) _ (Memref.isWhole_whole cc0_scratch9) _ (Memref.isWhole_whole cc0_scratch10) _ (Memref.isWhole_whole cc0_scratch11) (iblk m c 0 t) (iblk m c 1 t) (iblk m c 2 t) (iblk m c 3 t) (iblk m c 4 t) (iblk m c 5 t) (iblk m c 6 t) (iblk m c 7 t) (ones m c t) t.val (by omega) (off_t t) ht (GG m c) (BB m c) (WT m c) (QT m c) (AT m c) (MT' m c) (RT m c)
    (fun l => hAT m c t _ l) (fun l => hMT m c t _ l) (fun l => hRT m c t _ l) _ _ _ Set.univ _ hc1 hc2 (by omega))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [H10]; · iexact H10
  isplitl [H11]; · iexact H11
  isplitl [HS]; · iexact HS
  iintro ⟨H0, H1, H2, H3, H4, H5, H6, H7, H8, H9, H10, H11, HS⟩
  isplitl [HS HR]
  · isplitl [HS]; · iexact HS
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · rw [YB_eq m c t (by omega)]; iexact H8
  isplitl [H9]; · iexists _; iexact H9
  isplitl [H10]; · iexists _; iexact H10
  iexists _; iexact H11

set_option maxHeartbeats 1600000 in
theorem vsoundC (c : Dev nD) (t : Fin cfg0.N) (hC : t.val = 14) :
    vbodyPre m c t ⊢ wp Idealize.ShloMosaic.frame (wpE (defs₀ (F := Ideal)) Variants.none c none) Set.univ (bodyAt0 t) (fun _ => vbodyPost m c t) := by
  have ht : t.val < 15 := t.isLt
  have hc1 : ¬ k0_cond1 (grid0.coords t) := fun h => by have := (cond1_iff t).mp h; omega
  have hc2 := (cond2_iff t).mpr hC
  unfold vbodyPre vbodyPost bodyAt0
  rw [leaves_last_9 m c t hC, leaves_last_10 m c t hC, leaves_last_11 m c t hC]
  simp only [vbefore_0, vbefore_1, vbefore_2, vbefore_3, vbefore_4, vbefore_5, vbefore_6, vbefore_7]
  rw [show (vdats m 0 c).owesAt () t.succ = (vdats m 0 c).owesAt () t.castSucc from rfl, vΦ_castSucc, vΦ_succ,
    vafter_0, vafter_1, vafter_2, vafter_3, vafter_4, vafter_5, vafter_6, vafter_7, vafter_8 m c t (by omega), vafter_9, vafter_10, vafter_11]
  unfold scrAt
  iintro ⟨⟨HS, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (stepC c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (hstage0_10 ((cfg0.slots t 10).cast nbuf0_10)) _ (hstage0_11 ((cfg0.slots t 11).cast nbuf0_11)) _ (Memref.isWhole_whole cc0_scratch0) _ (Memref.isWhole_whole cc0_scratch1) _ (Memref.isWhole_whole cc0_scratch2) _ (Memref.isWhole_whole cc0_scratch3) _ (Memref.isWhole_whole cc0_scratch4) _ (Memref.isWhole_whole cc0_scratch5) _ (Memref.isWhole_whole cc0_scratch6) _ (Memref.isWhole_whole cc0_scratch7) _ (Memref.isWhole_whole cc0_scratch8) _ (Memref.isWhole_whole cc0_scratch9) _ (Memref.isWhole_whole cc0_scratch10) _ (Memref.isWhole_whole cc0_scratch11) (iblk m c 0 t) (iblk m c 1 t) (iblk m c 2 t) (iblk m c 3 t) (iblk m c 4 t) (iblk m c 5 t) (iblk m c 6 t) (iblk m c 7 t) (ones m c t) t.val (by omega) (off_t t) ht (GG m c) (BB m c) (WT m c) (QT m c) (AT m c) (MT' m c) (RT m c)
    (fun l => hAT m c t _ l) (fun l => hMT m c t _ l) (fun l => hRT m c t _ l) _ _ _ Set.univ _ hc1 hc2 hC)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [H10]; · iexact H10
  isplitl [H11]; · iexact H11
  isplitl [HS]; · iexact HS
  iintro ⟨H0, H1, H2, H3, H4, H5, H6, H7, H8, H9, H10, H11, HS⟩
  isplitl [HS HR]
  · isplitl [HS]; · iexact HS
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · rw [YB_eq m c t (by omega)]; iexact H8
  isplitl [H9]; · iexact H9
  isplitl [H10]; · iexact H10
  iexact H11

theorem vsound (c : Dev nD) (t : Fin cfg0.N) :
    vbodyPre m c t ⊢ wp Idealize.ShloMosaic.frame (wpE (defs₀ (F := Ideal)) Variants.none c none) Set.univ (bodyAt0 t) (fun _ => vbodyPost m c t) := by
  by_cases hA : t.val = 0
  · exact vsoundA m c t hA
  · by_cases hC : t.val = 14
    · exact vsoundC m c t hC
    · exact vsoundB m c t hA hC

theorem vbody_obligation (c : Dev nD) : BodyObligation (vdats m 0 c) (defs₀ (F := Ideal)) Variants.none () Set.univ := fun t => by
  rw [bigSep_W0, bigSep_W0, defs₀_row]
  exact triple_restated (vsound m c t) rfl .rfl fun _ => .rfl

/-- At the start the scratch buffers hold anything. -/
theorem vin (c : Dev nD) : Pipeline.ΦA spec0 c ⊢ (vdats m 0 c).Φ 0 := by
  rw [show (vdats m 0 c).Φ 0 = iprop(scrAt m c 0 ∗ ∃ r, prngReg c r) from rfl]
  unfold Pipeline.ΦA scrAt scrI owns
  rw [scopedRest0_eq]
  iintro ⟨⟨⟨%s0, S0⟩, ⟨%s1, S1⟩, ⟨%s2, S2⟩, ⟨%s3, S3⟩, ⟨%s4, S4⟩, ⟨%s5, S5⟩, ⟨%s6, S6⟩, ⟨%s7, S7⟩, ⟨%s8, S8⟩, ⟨%s9, S9⟩, ⟨%s10, S10⟩, ⟨%s11, S11⟩⟩, HR⟩
  isplitr [HR]
  · iexists _; iexists _; iexists _; iexists _; iexists _; iexists _; iexists _
    isplitl [S0]
    · iexists _; rw [(Memref.isWhole_whole cc0_scratch0).set_eq_univ]; iexact S0
    isplitl [S1]
    · iexists _; rw [(Memref.isWhole_whole cc0_scratch1).set_eq_univ]; iexact S1
    isplitl [S2]
    · iexists _; rw [(Memref.isWhole_whole cc0_scratch2).set_eq_univ]; iexact S2
    isplitl [S3]
    · iexists _; rw [(Memref.isWhole_whole cc0_scratch3).set_eq_univ]; iexact S3
    isplitl [S4]
    · iexists _; rw [(Memref.isWhole_whole cc0_scratch4).set_eq_univ]; iexact S4
    isplitl [S5]
    · iexists s5; isplitr; swap; · rw [(Memref.isWhole_whole cc0_scratch5).set_eq_univ]; iexact S5
      ipureintro; rfl
    isplitl [S6]
    · iexists s6; isplitr; swap; · rw [(Memref.isWhole_whole cc0_scratch6).set_eq_univ]; iexact S6
      ipureintro; rfl
    isplitl [S7]
    · iexists s7; isplitr; swap; · rw [(Memref.isWhole_whole cc0_scratch7).set_eq_univ]; iexact S7
      ipureintro; rfl
    isplitl [S8]
    · iexists s8; isplitr; swap; · rw [(Memref.isWhole_whole cc0_scratch8).set_eq_univ]; iexact S8
      ipureintro; rfl
    isplitl [S9]
    · iexists s9; isplitr; swap; · rw [(Memref.isWhole_whole cc0_scratch9).set_eq_univ]; iexact S9
      ipureintro; rfl
    isplitl [S10]
    · iexists s10; isplitr; swap; · rw [(Memref.isWhole_whole cc0_scratch10).set_eq_univ]; iexact S10
      ipureintro; rfl
    isplitl [S11]
    · iexists s11; isplitr; swap; · rw [(Memref.isWhole_whole cc0_scratch11).set_eq_univ]; iexact S11
      ipureintro; rfl
    ipureintro; exact ⟨fun h => absurd h (lt_irrefl 0), fun k l h => absurd h (Nat.not_lt_zero _)⟩
  · iexact HR

/-- At the end they are handed back. -/
theorem vout (c : Dev nD) : (vdats m 0 c).Φ (Fin.last cfg0.N) ⊢ Pipeline.ΦA spec0 c := by
  rw [show (vdats m 0 c).Φ (Fin.last cfg0.N) = iprop(scrAt m c 15 ∗ ∃ r, prngReg c r) from rfl]
  unfold Pipeline.ΦA scrAt scrI owns
  rw [scopedRest0_eq]
  iintro ⟨⟨%g, %b, %w, %q, %a, %u, %v, ⟨%s0, S0⟩, ⟨%s1, S1⟩, ⟨%s2, S2⟩, ⟨%s3, S3⟩, ⟨%s4, S4⟩, ⟨%s5, -, S5⟩, ⟨%s6, -, S6⟩, ⟨%s7, -, S7⟩, ⟨%s8, -, S8⟩, ⟨%s9, -, S9⟩, ⟨%s10, -, S10⟩, ⟨%s11, -, S11⟩, -⟩, HR⟩
  isplitr [HR]
  · isplitl [S0]
    · iexists _; rw [← (Memref.isWhole_whole cc0_scratch0).set_eq_univ]; iexact S0
    isplitl [S1]
    · iexists _; rw [← (Memref.isWhole_whole cc0_scratch1).set_eq_univ]; iexact S1
    isplitl [S2]
    · iexists _; rw [← (Memref.isWhole_whole cc0_scratch2).set_eq_univ]; iexact S2
    isplitl [S3]
    · iexists _; rw [← (Memref.isWhole_whole cc0_scratch3).set_eq_univ]; iexact S3
    isplitl [S4]
    · iexists _; rw [← (Memref.isWhole_whole cc0_scratch4).set_eq_univ]; iexact S4
    isplitl [S5]
    · iexists _; rw [← (Memref.isWhole_whole cc0_scratch5).set_eq_univ]; iexact S5
    isplitl [S6]
    · iexists _; rw [← (Memref.isWhole_whole cc0_scratch6).set_eq_univ]; iexact S6
    isplitl [S7]
    · iexists _; rw [← (Memref.isWhole_whole cc0_scratch7).set_eq_univ]; iexact S7
    isplitl [S8]
    · iexists _; rw [← (Memref.isWhole_whole cc0_scratch8).set_eq_univ]; iexact S8
    isplitl [S9]
    · iexists _; rw [← (Memref.isWhole_whole cc0_scratch9).set_eq_univ]; iexact S9
    isplitl [S10]
    · iexists _; rw [← (Memref.isWhole_whole cc0_scratch10).set_eq_univ]; iexact S10
    iexists _; rw [← (Memref.isWhole_whole cc0_scratch11).set_eq_univ]; iexact S11
  · iexact HR

set_option backward.isDefEq.respectTransparency.types false in
/-- The launch: every run ends, each array at what the proof data say. -/
theorem vrun_main : θ_run defs (onTc (τ := τ) (main (F := Ideal))) (s₀ m ρ)
    (fun r => Pipeline.FramePost cfgs (vdats m) 0 (V m) r ∧ r.2.sem = fun _ => 0) :=
  Pipeline.θ_run_frame_track (Q' := _) cfgs (vdats m) (0 : Fin 1) launch0 defs₀ Variants.none m ρ main
    (hbody := fun c => (vbody_obligation m c).loose) (hshare := fun c => (vdats m 0 c).share_full fun _ => rfl)
    (howed := fun _ _ => rfl) (V := V m) (hmain := hmain m Variants.none) (hA := vA_eq m) (hin := vin m) (hout := vout m)

end Cert.KernelIdeal.Body

end
-- ==== Proof.KernelIdealFinal.lean ====
/- The kernel's four result arrays, read at an index, over the arguments. -/
module

public import proofs.«01_k».proof.Proof.KernelIdealValue

@[expose] public section

set_option maxRecDepth 16384

noncomputable section

namespace Cert.KernelIdeal.Body

open Cert.KernelIdeal Cert.KernelIdeal.Gen Idealize.ShloMosaic Idealize.ShloMosaic.TcCoe Idealize.ShloMosaic.Tactic Idealize.SL.Sem
open Idealize.ShloMosaic.Pipeline (Dat)

variable (m : (ℓ : Loc nD τ sig) → Buf (Elt Ideal) ℓ) (ρ : Dev nD → PrngReg)

/-- The table row of row `s` of batch `b`, -/
def kOf (b : Fin 3) (s : Fin 640) : Fin 16 := ⟨5 * b.val + s.val / 128, by omega⟩
/-- and its lane. -/
def lOf (s : Fin 640) : Fin 128 := ⟨s.val % 128, Nat.mod_lt _ (by norm_num)⟩

theorem pt_kOf (b : Fin 3) (s : Fin 640) : (pt (kOf b s)).val = 5 * b.val + s.val / 128 := by
  have : 5 * b.val + s.val / 128 < 15 := by have : s.val / 128 ≤ 4 := by omega
                                            omega
  exact Nat.mod_eq_of_lt this

theorem res_apply (Z : Tab) (b : Fin 3) (s : Fin 640) : res Z (ix2 b s) = Z (kOf b s) (lOf s) := by
  have : 5 * b.val + s.val / 128 < 16 := by have : s.val / 128 ≤ 4 := by omega
                                            omega
  unfold res TG kOf lOf
  exact congrArg₂ Z (Fin.ext (Nat.mod_eq_of_lt this)) rfl

/-- The arguments. -/
abbrev aX (c : Dev nD) : Vec Ideal S3x640x10240 .bf16 := m ((c : Thread nD τ).loc main_arg0)
abbrev aPc (c : Dev nD) : Vec Ideal S1 .f32 := m ((c : Thread nD τ).loc main_arg1)
abbrev aPm (c : Dev nD) : Vec Ideal S1x3x640 .f32 := m ((c : Thread nD τ).loc main_arg2)
abbrev aP2 (c : Dev nD) : Vec Ideal S1x3x640 .f32 := m ((c : Thread nD τ).loc main_arg3)
abbrev aGa (c : Dev nD) : Vec Ideal S10240 .f32 := m ((c : Thread nD τ).loc main_arg4)
abbrev aBe (c : Dev nD) : Vec Ideal S10240 .f32 := m ((c : Thread nD τ).loc main_arg5)
abbrev aYs (c : Dev nD) : Vec Ideal S1 .f32 := m ((c : Thread nD τ).loc main_arg6)

theorem SC_eq (c : Dev nD) (k : Fin 16) : SC m c k = aYs m c (ix1 0) := blk0 m c _
theorem PC_eq (c : Dev nD) (k : Fin 16) : PC m c k = aPc m c (ix1 0) := blk1 m c _
theorem GG_eq (c : Dev nD) (q : Fin 10240) : GG m c (ix2 ⟨0, Nat.one_pos⟩ q) = aGa m c (ix1 q) * Ideal.div 1 (aYs m c (ix1 0)) := by
  unfold GG
  rw [blk0, blk5]
theorem BB_eq (c : Dev nD) (q : Fin 10240) : BB m c (ix2 ⟨0, Nat.one_pos⟩ q) = aBe m c (ix1 q) * Ideal.div 1 (aYs m c (ix1 0)) := by
  unfold BB
  rw [blk0, blk6]
theorem PG_eq (P : Vec Ideal S1x3x640 .f32) (b : Fin 3) (s : Fin 640) : PG P (ix2 (kOf b s) (lOf s)) = P (ix3 0 b s) := by
  have hs : s.val / 128 ≤ 4 := by omega
  unfold PG
  refine congrArg P ?_
  have h1 : (⟨((kOf b s).val / 5) % 3, Nat.mod_lt _ (by norm_num)⟩ : Fin 3) = b := Fin.ext (by unfold kOf; show (5 * b.val + s.val / 128) / 5 % 3 = b.val; omega)
  have h2 : (⟨(128 * ((kOf b s).val % 5) + (lOf s).val) % 640, Nat.mod_lt _ (by norm_num)⟩ : Fin 640) = s :=
    Fin.ext (by unfold kOf lOf; show (128 * ((5 * b.val + s.val / 128) % 5) + s.val % 128) % 640 = s.val; omega)
  exact congrArg₂ (ix3 (0 : Fin 1)) h1 h2
theorem WT_eq (c : Dev nD) (b : Fin 3) (s : Fin 640) : WT m c (kOf b s) (lOf s) = aPm m c (ix3 0 b s) := by
  unfold WT
  rw [blk3]
  exact PG_eq _ b s
theorem QT_eq (c : Dev nD) (b : Fin 3) (s : Fin 640) : QT m c (kOf b s) (lOf s) = aP2 m c (ix3 0 b s) := by
  unfold QT
  rw [blk4]
  exact PG_eq _ b s
theorem XB_eq (c : Dev nD) (b : Fin 3) (s : Fin 640) (q : Fin 10240) : XB m c (kOf b s) (ix3 ⟨0, Nat.one_pos⟩ (lOf s) q) = aX m c (ix3 b s q) := by
  have hs : s.val / 128 ≤ 4 := by omega
  have h := pt_kOf b s
  exact blk2 m c _ _ _ _ _ (by rw [h]; omega) (by rw [h]; unfold lOf; show s.val = 128 * ((5 * b.val + s.val / 128) % 5) + s.val % 128; omega)
theorem xrow_eq (c : Dev nD) (b : Fin 3) (s : Fin 640) : xrow (XB m c (kOf b s)) (lOf s) = Spec.row (aX m c) b s :=
  funext fun q => XB_eq m c b s q

/-- The means are the reference's. -/
theorem MT_at (c : Dev nD) (b : Fin 3) (s : Fin 640) : MT' m c (kOf b s) (lOf s) = Spec.MEAN (aX m c) (aPc m c) (aPm m c) b s := by
  unfold MT' MV Spec.MEAN
  rw [xrow_eq, PC_eq, WT_eq]

section finite
variable (c : Dev nD) (hx : ∀ j, aX m c j ≠ ⊤ ∧ aX m c j ≠ ⊥)
include hx

/-- The reciprocal deviations are the reference's when the input is finite. -/
theorem RT_at (b : Fin 3) (s : Fin 640) : RT m c (kOf b s) (lOf s) = Spec.RSTD (aX m c) (aPc m c) (aPm m c) (aP2 m c) b s := by
  unfold RT AV Spec.RSTD
  rw [xrow_eq, PC_eq, WT_eq, QT_eq, Spec.m2_eq (Spec.row (aX m c) b s) fun k => hx _]

variable (y : ℝ) (hy : 0 < y) (hys : aYs m c (ix1 0) = (y : EReal))
include hy hys

/-- A normalised element, scaled beforehand, is the reference's divided by the scale. -/
theorem NV_at (b : Fin 3) (s : Fin 640) (q : Fin 10240) :
    NV (XB m c (kOf b s)) (GG m c) (BB m c) (RT m c (kOf b s)) (MT' m c (kOf b s)) (lOf s) q
      = Ideal.div (Spec.NORM (aX m c) (aPc m c) (aPm m c) (aP2 m c) (aGa m c) (aBe m c) b s q) (y : EReal) := by
  unfold NV
  rw [XB_eq, GG_eq, BB_eq, RT_at m c hx, MT_at, hys, Spec.norm_scaled hy]
  rfl

/-- The largest magnitudes are the reference's. -/
theorem AT_at (b : Fin 3) (s : Fin 640) :
    AT m c (kOf b s) (lOf s) = Finset.univ.fold max ⊥ fun q => Spec.ab (Spec.NORM (aX m c) (aPc m c) (aPm m c) (aP2 m c) (aGa m c) (aBe m c) b s q) := by
  unfold AT XV
  rw [SC_eq, hys]
  refine Spec.amax_eq hy _ _ fun z => ?_
  simp only [NV_at m c hx y hy hys]
  rw [Finset.fold_max_le]
  simp

/-- The quantised elements are the reference's. -/
theorem YB_at (b : Fin 3) (s : Fin 640) (q : Fin 10240) :
    YB m c (kOf b s) (ix3 ⟨0, Nat.one_pos⟩ (lOf s) q)
      = Spec.clip (Ideal.div (Spec.NORM (aX m c) (aPc m c) (aPm m c) (aP2 m c) (aGa m c) (aBe m c) b s q) (aYs m c (ix1 0))) := by
  rw [hys]
  exact congrArg Spec.clip (NV_at m c hx y hy hys b s q)

end finite

/-- The array of the quantised blocks. -/
def YR (c : Dev nD) : Vec Ideal S3x640x10240 .fp8e4m3 := fun i => YB m c (kOf (i 0) (i 1)) (ix3 ⟨0, Nat.one_pos⟩ (lOf (i 1)) (i 2))

theorem YR_at (c : Dev nD) (t : Nat) (y : S1x128x10240.Idx) (i : S3x640x10240.Idx) (k : Fin 16) (ht : t < 15) (hk : k.val = t)
    (e0 : (i 0).val = t / 5) (e1 : (i 1).val = 128 * (t % 5) + (y 1).val) (e2 : (i 2).val = (y 2).val) : YR m c i = YB m c k y := by
  have y1 : (y 1).val < 128 := (y 1).isLt
  unfold YR
  have h1 : kOf (i 0) (i 1) = k := Fin.ext (by unfold kOf; show 5 * (i 0).val + (i 1).val / 128 = k.val; omega)
  have h2 : ix3 ⟨0, Nat.one_pos⟩ (lOf (i 1)) (i 2) = y := by
    funext a
    fin_cases a
    · exact Subsingleton.elim (α := Fin 1) _ _
    · exact Fin.ext (by show (i 1).val % 128 = (y 1).val; omega)
    · exact Fin.ext e2
  exact congrArg₂ (YB m c) h1 h2

theorem final8 (c : Dev nD) : (vdats m 0 c).arrAt 8 (cfgs 0).N = YR m c := by
  refine (vdats m 0 c).arrAt_eq_of_covers 8 _ (by decide +kernel) fun t hf y => ?_
  have ht : t.val < 15 := t.isLt
  blk_simp
  rw [vafter_8 m c t (by omega)]
  have e0 : (((win0_8.blk t).view.emb y) 0).val = t.val / 5 := by
    blk_simp [idx_val t]
  have e1 : (((win0_8.blk t).view.emb y) 1).val = 128 * (t.val % 5) + (y 1).val := by
    blk_simp [idx_val t]; omega
  have e2 : (((win0_8.blk t).view.emb y) 2).val = (y 2).val := by
    blk_simp [idx_val t]
  exact (YR_at m c _ y _ ⟨t.val, by omega⟩ ht rfl e0 e1 e2).symm

theorem final9 (c : Dev nD) : (vdats m 0 c).arrAt 9 (cfgs 0).N = res (AT m c) := by
  refine (vdats m 0 c).arrAt_eq_of_covers 9 _ (by decide +kernel) fun t hf y => ?_
  blk_simp
  rw [vafter_9]
  blk_ext [idx_val t]

theorem final10 (c : Dev nD) : (vdats m 0 c).arrAt 10 (cfgs 0).N = res (MT' m c) := by
  refine (vdats m 0 c).arrAt_eq_of_covers 10 _ (by decide +kernel) fun t hf y => ?_
  blk_simp
  rw [vafter_10]
  blk_ext [idx_val t]

theorem final11 (c : Dev nD) : (vdats m 0 c).arrAt 11 (cfgs 0).N = res (RT m c) := by
  refine (vdats m 0 c).arrAt_eq_of_covers 11 _ (by decide +kernel) fun t hf y => ?_
  blk_simp
  rw [vafter_11]
  blk_ext [idx_val t]

/-- The run with the four results named, the arguments unchanged. -/
theorem run_value : θ_run defs (onTc (τ := τ) (main (F := Ideal))) ⟨m, fun _ => 0, ρ⟩ (fun r => ∀ c : Dev nD,
      r.2.mem ((c.tc : Thread nD τ).loc main_v3_0) = YR m c
      ∧ r.2.mem ((c.tc : Thread nD τ).loc main_v3_1) = res (AT m c)
      ∧ r.2.mem ((c.tc : Thread nD τ).loc main_v3_2) = res (MT' m c)
      ∧ r.2.mem ((c.tc : Thread nD τ).loc main_v3_3) = res (RT m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨
      ((h.1 c).1 8).trans (final8 m c), ((h.1 c).1 9).trans (final9 m c), ((h.1 c).1 10).trans (final10 m c), ((h.1 c).1 11).trans (final11 m c),
      ((h.1 c).1 2).trans (((vdats m 0 c).arrAt_in 2 rfl _).trans ((vA_eq m c 2).trans (V_main_arg0 m c))),
      ((h.1 c).1 1).trans (((vdats m 0 c).arrAt_in 1 rfl _).trans ((vA_eq m c 1).trans (V_main_arg1 m c))),
      ((h.1 c).1 3).trans (((vdats m 0 c).arrAt_in 3 rfl _).trans ((vA_eq m c 3).trans (V_main_arg2 m c))),
      ((h.1 c).1 4).trans (((vdats m 0 c).arrAt_in 4 rfl _).trans ((vA_eq m c 4).trans (V_main_arg3 m c))),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).1 0).trans (((vdats m 0 c).arrAt_in 0 rfl _).trans ((vA_eq m c 0).trans (V_main_arg6 m c)))⟩) (vrun_main m ρ)

end Cert.KernelIdeal.Body

end
-- ==== Proof.PreFacts.lean ====
/- What the precondition says of the arguments: the input is finite, the scale a positive real number. -/
module

public import proofs.«01_k».proof.Defs
public import Idealize.ShloMosaic.Lib.ReduceAll
public import proofs.«01_k».proof.Proof.Spec

@[expose] public section

noncomputable section

namespace Cert.Pre_finite_input

open Idealize.ShloMosaic

/-- The shape relations the precondition's operations take. -/
theorem facts : Facts where
  bcast_S_S3x640x10240 := by decide
  reducesTo_S3x640x10240_S_d0_1_2 := by decide
  h_S_ := by decide
  shapeCasts_S1_S_ := by decide

/-- A conjunction of two bits is 1 when both are. -/
theorem and_one {a b : BitVec 1} (h : a &&& b = 1#1) : a = 1#1 ∧ b = 1#1 := by
  revert a b; decide

/-- The bit patterns of the two infinities and of zero. -/
theorem top_bf16 : Ideal.ofBits .bf16 0x7F80#16 = ⊤ := by
  simp [Ideal.ofBits, Ideal.ieee]
theorem top_f32 : Ideal.ofBits .f32 0x7F800000#32 = ⊤ := by
  simp [Ideal.ofBits, Ideal.ieee]

theorem of_fn [Facts] (x : FVec Ideal S3x640x10240 .bf16) (pc : FVec Ideal S1 .f32) (pm p2 : FVec Ideal S1x3x640 .f32) (ga be : FVec Ideal S10240 .f32)
    (ys : FVec Ideal S1 .f32) (h : fn (F := Ideal) x pc pm p2 ga be ys = fun _ => 1#1) :
    (∀ j, x j ≠ ⊤ ∧ x j ≠ ⊥) ∧ ∃ y : ℝ, 0 < y ∧ ys (ValueIdx.ix1 0) = (y : EReal) := by
  have h0 := congrFun h (fun i => i.elim0)
  dsimp only [fn] at h0
  obtain ⟨h1, h2⟩ := and_one h0
  obtain ⟨h3, h4⟩ := and_one h1
  constructor
  · intro j
    have h5 : Ideal.cmp .olt (max (x j) (-(x j))) (Ideal.ofBits .bf16 0x7F80#16) = 1#1 := Host.reduce_andi_all _ _ _ _ _ h3 j
    rw [top_bf16] at h5
    constructor <;> intro e <;> rw [e] at h5 <;> simp [Ideal.cmp] at h5
  · have e : shapeCast S_ ys Facts.shapeCasts_S1_S_ (fun i => i.elim0) = ys (ValueIdx.ix1 0) :=
      congrArg ys (funext fun a => Fin.ext (by have h1 := (Fin.fin_one_eq_zero a); subst h1; exact (Nat.lt_one_iff.1 (Fin.isLt _)).trans rfl))
    have h5 : Ideal.cmp .ogt (shapeCast S_ ys Facts.shapeCasts_S1_S_ (fun i => i.elim0)) (Ideal.ofBits .f32 0x00000000#32) = 1#1 := h4
    have h6 : Ideal.cmp .olt (shapeCast S_ ys Facts.shapeCasts_S1_S_ (fun i => i.elim0)) (Ideal.ofBits .f32 0x7F800000#32) = 1#1 := h2
    rw [e] at h5 h6
    rw [IdealRules.sign_bit.ideal_zero] at h5
    rw [top_f32] at h6
    generalize ys (ValueIdx.ix1 0) = v at h5 h6
    change EReal at v
    induction v using EReal.rec with
    | bot => simp [Ideal.cmp] at h5
    | top => simp [Ideal.cmp] at h6
    | coe r => exact ⟨r, by by_contra hr; simp [Ideal.cmp, hr] at h5, rfl⟩

end Cert.Pre_finite_input

end
-- ==== Proof.Algebraic.lean ====
/- The value claim: on extended reals the kernel and the reference leave the same four arrays. -/
module

public import proofs.«01_k».proof.Proof.KernelIdealFinal
public import proofs.«01_k».proof.Proof.PreFacts
public import proofs.«01_k».proof.Proof.RefValue

@[expose] public section

set_option maxRecDepth 16384

noncomputable section

namespace Cert.Values

open Idealize.ShloMosaic Idealize.ShloMosaic.TcCoe Idealize.ShloMosaic.Tactic Idealize.SL.Sem

section arrays
open Cert.KernelIdeal (S3x640x10240 S3x640 S1x3x640 S10240 S1)
variable (x : Vec Ideal S3x640x10240 .bf16) (pc : Vec Ideal S1 .f32) (pm p2 : Vec Ideal S1x3x640 .f32) (ga be : Vec Ideal S10240 .f32) (ys : Vec Ideal S1 .f32)

/-- The quantised output, -/
def yArr : Vec Ideal S3x640x10240 .fp8e4m3 := fun i => Spec.clip (Ideal.div (Spec.NORM x pc pm p2 ga be (i 0) (i 1) (i 2)) (ys (ix1 0)))
/-- the largest magnitude of each row, -/
def aArr : Vec Ideal S3x640 .f32 := fun i => Finset.univ.fold max ⊥ fun q => Spec.ab (Spec.NORM x pc pm p2 ga be (i 0) (i 1) q)
/-- the mean of each row, -/
def mArr : Vec Ideal S3x640 .f32 := fun i => Spec.MEAN x pc pm (i 0) (i 1)
/-- and its reciprocal deviation. -/
def rArr : Vec Ideal S3x640 .f32 := fun i => Spec.RSTD x pc pm p2 (i 0) (i 1)

end arrays

section kernel
open Cert.KernelIdeal Cert.KernelIdeal.Body
variable (m : (ℓ : Loc Cert.KernelIdeal.nD Cert.KernelIdeal.τ Cert.KernelIdeal.sig) → Buf (Elt Ideal) ℓ) (c : Dev Cert.KernelIdeal.nD)

theorem ker_m : res (MT' m c) = mArr (aX m c) (aPc m c) (aPm m c) := by
  funext i
  rw [eq_ix2 i]
  exact (res_apply _ _ _).trans (MT_at m c _ _)

variable (hx : ∀ j, aX m c j ≠ ⊤ ∧ aX m c j ≠ ⊥)
include hx

theorem ker_r : res (RT m c) = rArr (aX m c) (aPc m c) (aPm m c) (aP2 m c) := by
  funext i
  rw [eq_ix2 i]
  exact (res_apply _ _ _).trans (RT_at m c hx _ _)

variable (y : ℝ) (hy : 0 < y) (hys : aYs m c (ix1 0) = (y : EReal))
include hy hys

theorem ker_a : res (AT m c) = aArr (aX m c) (aPc m c) (aPm m c) (aP2 m c) (aGa m c) (aBe m c) := by
  funext i
  rw [eq_ix2 i]
  exact (res_apply _ _ _).trans (AT_at m c hx y hy hys _ _)

theorem ker_y : YR m c = yArr (aX m c) (aPc m c) (aPm m c) (aP2 m c) (aGa m c) (aBe m c) (aYs m c) := by
  funext i
  unfold YR yArr
  exact YB_at m c hx y hy hys (i 0) (i 1) (i 2)

end kernel

section reference
open Cert.ReferenceIdeal Cert.ReferenceIdeal.Body
variable [Cert.ReferenceIdeal.Facts] (x : Vec Ideal S3x640x10240 .bf16) (pc : Vec Ideal S1 .f32) (pm p2 : Vec Ideal S1x3x640 .f32) (ga be : Vec Ideal S10240 .f32)
  (ys : Vec Ideal S1 .f32)

theorem ref_y : tCodes x pc pm p2 ga be ys = yArr x pc pm p2 ga be ys := by
  funext i
  rw [eq_ix3 i]
  exact codes_apply x pc pm p2 ga be ys _ _ _

theorem ref_a : tAmax x pc pm p2 ga be = aArr x pc pm p2 ga be := by
  funext i
  rw [eq_ix2 i]
  exact amax_apply x pc pm p2 ga be _ _

theorem ref_m : tMean x pc pm = mArr x pc pm := by
  funext i
  rw [eq_ix2 i]
  exact mean_apply x pc pm _ _

theorem ref_r : tRstd x pc pm p2 = rArr x pc pm p2 := by
  funext i
  rw [eq_ix2 i]
  exact rstd_apply x pc pm p2 _ _

end reference

section same
open Cert.KernelIdeal (S3x640x10240 S3x640 S1x3x640 S10240 S1)
variable {x x' : Vec Ideal S3x640x10240 .bf16} {pc pc' : Vec Ideal S1 .f32} {pm pm' p2 p2' : Vec Ideal S1x3x640 .f32} {ga ga' be be' : Vec Ideal S10240 .f32}
  {ys ys' : Vec Ideal S1 .f32} (h0 : x' = x) (h1 : pc' = pc) (h2 : pm' = pm) (h3 : p2' = p2) (h4 : ga' = ga) (h5 : be' = be) (h6 : ys' = ys)
include h0 h1 h2

theorem m_congr : mArr x' pc' pm' = mArr x pc pm := by subst h0 h1 h2; rfl
include h3
theorem r_congr : rArr x' pc' pm' p2' = rArr x pc pm p2 := by subst h0 h1 h2 h3; rfl
include h4 h5
theorem a_congr : aArr x' pc' pm' p2' ga' be' = aArr x pc pm p2 ga be := by subst h0 h1 h2 h3 h4 h5; rfl
include h6
theorem y_congr : yArr x' pc' pm' p2' ga' be' ys' = yArr x pc pm p2 ga be ys := by subst h0 h1 h2 h3 h4 h5 h6; rfl

end same

open Cert.KernelIdeal.Body (aX aPc aPm aP2 aGa aBe aYs) in
/-- The two programs agree on every input the precondition admits. -/
theorem algebraic : Cert.algebraic_KernelIdeal_ReferenceIdeal_pre_finite_input (hKernelIdeal := Cert.KernelIdeal.Gen.facts)
    (hReferenceIdeal := Cert.ReferenceIdeal.Body.facts) (hPre_finite_input := Cert.Pre_finite_input.facts) := by
  intro m g m' g' hpre harg
  have hp := fun c => @Cert.Pre_finite_input.of_fn Cert.Pre_finite_input.facts _ _ _ _ _ _ _ (hpre c)
  refine ⟨fun c => yArr (aX m c) (aPc m c) (aPm m c) (aP2 m c) (aGa m c) (aBe m c) (aYs m c), fun c => aArr (aX m c) (aPc m c) (aPm m c) (aP2 m c) (aGa m c) (aBe m c),
    fun c => mArr (aX m c) (aPc m c) (aPm m c), fun c => rArr (aX m c) (aPc m c) (aPm m c) (aP2 m c), ?_, ?_⟩
  · refine (θ_run Cert.KernelIdeal.defs _ _).mono (fun r h c => ?_) (Cert.KernelIdeal.Body.run_value m g)
    obtain ⟨hx, y, hy, hys⟩ := hp c
    obtain ⟨k0, k1, k2, k3, k⟩ := h c
    exact ⟨k0.trans (ker_y m c hx y hy hys), k1.trans (ker_a m c hx y hy hys), k2.trans (ker_m m c), k3.trans (ker_r m c hx), k⟩
  · haveI := Cert.ReferenceIdeal.Body.facts
    refine (θ_run Cert.ReferenceIdeal.defs _ _).mono (fun r h c => ?_) (Cert.ReferenceIdeal.Body.results m' g')
    obtain ⟨k0, k1, k2, k3, k⟩ := h c
    obtain ⟨h0, h1, h2, h3, h4, h5, h6⟩ := harg c
    exact ⟨k0.trans ((ref_y _ _ _ _ _ _ _).trans (y_congr h0 h1 h2 h3 h4 h5 h6)), k1.trans ((ref_a _ _ _ _ _ _).trans (a_congr h0 h1 h2 h3 h4 h5)),
      k2.trans ((ref_m _ _ _).trans (m_congr h0 h1 h2)), k3.trans ((ref_r _ _ _ _).trans (r_congr h0 h1 h2 h3)), k⟩

end Cert.Values

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.KernelFrame
public import proofs.«01_k».proof.Proof.KernelIdealFrame
public import proofs.«01_k».proof.Proof.RefValue
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Body.facts, Cert.Pre_finite_input.facts,
  fun m ρ _ => Cert.Kernel.Body.frame m ρ, fun m ρ _ => Cert.KernelIdeal.Body.frame m ρ, fun m ρ _ => Cert.KernelIdeal.Body.frame m ρ,
  fun m ρ _ => @Cert.ReferenceIdeal.Body.frame Cert.ReferenceIdeal.Body.facts m ρ, fun m ρ _ => @Cert.ReferenceIdeal.Body.frame Cert.ReferenceIdeal.Body.facts m ρ, trivial, Cert.Values.algebraic⟩

end Cert.Proof

end
